-- ==== Defs.lean ====
def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_KernelDaIdeal_finite_da [hPre_finite_da : Cert.Pre_finite_da.Facts] (m : (ℓ : Loc Cert.KernelDaIdeal.nD Cert.KernelDaIdeal.τ Cert.KernelDaIdeal.sig) → Buf (Elt Ideal) ℓ) : Prop :=
  ∀ c : Dev Cert.KernelDaIdeal.nD,
    (Cert.Pre_finite_da.fn (F := Ideal) (m ((c.tc : Thread Cert.KernelDaIdeal.nD Cert.KernelDaIdeal.τ).loc Cert.KernelDaIdeal.main_arg0)) (m ((c.tc : Thread Cert.KernelDaIdeal.nD Cert.KernelDaIdeal.τ).loc Cert.KernelDaIdeal.main_arg1)) (m ((c.tc : Thread Cert.KernelDaIdeal.nD Cert.KernelDaIdeal.τ).loc Cert.KernelDaIdeal.main_arg2)) (m ((c.tc : Thread Cert.KernelDaIdeal.nD Cert.KernelDaIdeal.τ).loc Cert.KernelDaIdeal.main_arg3))) = (fun _ => 1#1)

def Pre_ReferenceDaIdeal (m : (ℓ : Loc Cert.ReferenceDaIdeal.nD Cert.ReferenceDaIdeal.τ Cert.ReferenceDaIdeal.sig) → Buf (Elt Ideal) ℓ) : Prop :=
  True

def Pre_ReferenceDaIdeal_finite_da [hPre_finite_da : Cert.Pre_finite_da.Facts] (m : (ℓ : Loc Cert.ReferenceDaIdeal.nD Cert.ReferenceDaIdeal.τ Cert.ReferenceDaIdeal.sig) → Buf (Elt Ideal) ℓ) : Prop :=
  ∀ c : Dev Cert.ReferenceDaIdeal.nD,
    (Cert.Pre_finite_da.fn (F := Ideal) (m ((c.tc : Thread Cert.ReferenceDaIdeal.nD Cert.ReferenceDaIdeal.τ).loc Cert.ReferenceDaIdeal.main_arg0)) (m ((c.tc : Thread Cert.ReferenceDaIdeal.nD Cert.ReferenceDaIdeal.τ).loc Cert.ReferenceDaIdeal.main_arg1)) (m ((c.tc : Thread Cert.ReferenceDaIdeal.nD Cert.ReferenceDaIdeal.τ).loc Cert.ReferenceDaIdeal.main_arg2)) (m ((c.tc : Thread Cert.ReferenceDaIdeal.nD Cert.ReferenceDaIdeal.τ).loc Cert.ReferenceDaIdeal.main_arg3))) = (fun _ => 1#1)

def Pre_KernelDwout (m : (ℓ : Loc Cert.KernelDwout.nD Cert.KernelDwout.τ Cert.KernelDwout.sig) → Buf (Elt Bits) ℓ) : Prop :=
  True

def Pre_KernelDwoutIdeal (m : (ℓ : Loc Cert.KernelDwoutIdeal.nD Cert.KernelDwoutIdeal.τ Cert.KernelDwoutIdeal.sig) → Buf (Elt Ideal) ℓ) : Prop :=
  True

def Pre_ReferenceDwoutIdeal (m : (ℓ : Loc Cert.ReferenceDwoutIdeal.nD Cert.ReferenceDwoutIdeal.τ Cert.ReferenceDwoutIdeal.sig) → Buf (Elt Ideal) ℓ) : Prop :=
  True

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelSwiglu (m : (ℓ : Loc Cert.KernelSwiglu.nD Cert.KernelSwiglu.τ Cert.KernelSwiglu.sig) → Buf (Elt Bits) ℓ) : Prop :=
  True

def Pre_KernelSwigluIdeal (m : (ℓ : Loc Cert.KernelSwigluIdeal.nD Cert.KernelSwigluIdeal.τ Cert.KernelSwigluIdeal.sig) → Buf (Elt Ideal) ℓ) : Prop :=
  True

def Pre_ReferenceSwigluIdeal (m : (ℓ : Loc Cert.ReferenceSwigluIdeal.nD Cert.ReferenceSwigluIdeal.τ Cert.ReferenceSwigluIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def Pre_KernelXa (m : (ℓ : Loc Cert.KernelXa.nD Cert.KernelXa.τ Cert.KernelXa.sig) → Buf (Elt Bits) ℓ) : Prop :=
  True

def Pre_KernelXaIdeal (m : (ℓ : Loc Cert.KernelXaIdeal.nD Cert.KernelXaIdeal.τ Cert.KernelXaIdeal.sig) → Buf (Elt Ideal) ℓ) : Prop :=
  True

def Pre_KernelXaIdeal_finite_xa [hPre_finite_xa : Cert.Pre_finite_xa.Facts] (m : (ℓ : Loc Cert.KernelXaIdeal.nD Cert.KernelXaIdeal.τ Cert.KernelXaIdeal.sig) → Buf (Elt Ideal) ℓ) : Prop :=
  ∀ c : Dev Cert.KernelXaIdeal.nD,
    (Cert.Pre_finite_xa.fn (F := Ideal) (m ((c.tc : Thread Cert.KernelXaIdeal.nD Cert.KernelXaIdeal.τ).loc Cert.KernelXaIdeal.main_arg0)) (m ((c.tc : Thread Cert.KernelXaIdeal.nD Cert.KernelXaIdeal.τ).loc Cert.KernelXaIdeal.main_arg1)) (m ((c.tc : Thread Cert.KernelXaIdeal.nD Cert.KernelXaIdeal.τ).loc Cert.KernelXaIdeal.main_arg2)) (m ((c.tc : Thread Cert.KernelXaIdeal.nD Cert.KernelXaIdeal.τ).loc Cert.KernelXaIdeal.main_arg3))) = (fun _ => 1#1)

def Pre_ReferenceXaIdeal (m : (ℓ : Loc Cert.ReferenceXaIdeal.nD Cert.ReferenceXaIdeal.τ Cert.ReferenceXaIdeal.sig) → Buf (Elt Ideal) ℓ) : Prop :=
  True

def Pre_ReferenceXaIdeal_finite_xa [hPre_finite_xa : Cert.Pre_finite_xa.Facts] (m : (ℓ : Loc Cert.ReferenceXaIdeal.nD Cert.ReferenceXaIdeal.τ Cert.ReferenceXaIdeal.sig) → Buf (Elt Ideal) ℓ) : Prop :=
  ∀ c : Dev Cert.ReferenceXaIdeal.nD,
    (Cert.Pre_finite_xa.fn (F := Ideal) (m ((c.tc : Thread Cert.ReferenceXaIdeal.nD Cert.ReferenceXaIdeal.τ).loc Cert.ReferenceXaIdeal.main_arg0)) (m ((c.tc : Thread Cert.ReferenceXaIdeal.nD Cert.ReferenceXaIdeal.τ).loc Cert.ReferenceXaIdeal.main_arg1)) (m ((c.tc : Thread Cert.ReferenceXaIdeal.nD Cert.ReferenceXaIdeal.τ).loc Cert.ReferenceXaIdeal.main_arg2)) (m ((c.tc : Thread Cert.ReferenceXaIdeal.nD Cert.ReferenceXaIdeal.τ).loc Cert.ReferenceXaIdeal.main_arg3))) = (fun _ => 1#1)

def Pre_KernelXf (m : (ℓ : Loc Cert.KernelXf.nD Cert.KernelXf.τ Cert.KernelXf.sig) → Buf (Elt Bits) ℓ) : Prop :=
  True

def Pre_KernelXfIdeal (m : (ℓ : Loc Cert.KernelXfIdeal.nD Cert.KernelXfIdeal.τ Cert.KernelXfIdeal.sig) → Buf (Elt Ideal) ℓ) : Prop :=
  True

def Pre_ReferenceXfIdeal (m : (ℓ : Loc Cert.ReferenceXfIdeal.nD Cert.ReferenceXfIdeal.τ Cert.ReferenceXfIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelDgate (m : (ℓ : Loc Cert.KernelDgate.nD Cert.KernelDgate.τ Cert.KernelDgate.sig) → Buf (Elt Bits) ℓ) : Prop :=
  True

def Pre_KernelDgateIdeal (m : (ℓ : Loc Cert.KernelDgateIdeal.nD Cert.KernelDgateIdeal.τ Cert.KernelDgateIdeal.sig) → Buf (Elt Ideal) ℓ) : Prop :=
  True

def Pre_KernelDgateIdeal_finite_dgate [hPre_finite_dgate : Cert.Pre_finite_dgate.Facts] (m : (ℓ : Loc Cert.KernelDgateIdeal.nD Cert.KernelDgateIdeal.τ Cert.KernelDgateIdeal.sig) → Buf (Elt Ideal) ℓ) : Prop :=
  ∀ c : Dev Cert.KernelDgateIdeal.nD,
    (Cert.Pre_finite_dgate.fn (F := Ideal) (m ((c.tc : Thread Cert.KernelDgateIdeal.nD Cert.KernelDgateIdeal.τ).loc Cert.KernelDgateIdeal.main_arg0)) (m ((c.tc : Thread Cert.KernelDgateIdeal.nD Cert.KernelDgateIdeal.τ).loc Cert.KernelDgateIdeal.main_arg1)) (m ((c.tc : Thread Cert.KernelDgateIdeal.nD Cert.KernelDgateIdeal.τ).loc Cert.KernelDgateIdeal.main_arg2)) (m ((c.tc : Thread Cert.KernelDgateIdeal.nD Cert.KernelDgateIdeal.τ).loc Cert.KernelDgateIdeal.main_arg3))) = (fun _ => 1#1)

def Pre_ReferenceDgateIdeal (m : (ℓ : Loc Cert.ReferenceDgateIdeal.nD Cert.ReferenceDgateIdeal.τ Cert.ReferenceDgateIdeal.sig) → Buf (Elt Ideal) ℓ) : Prop :=
  True

def Pre_ReferenceDgateIdeal_finite_dgate [hPre_finite_dgate : Cert.Pre_finite_dgate.Facts] (m : (ℓ : Loc Cert.ReferenceDgateIdeal.nD Cert.ReferenceDgateIdeal.τ Cert.ReferenceDgateIdeal.sig) → Buf (Elt Ideal) ℓ) : Prop :=
  ∀ c : Dev Cert.ReferenceDgateIdeal.nD,
    (Cert.Pre_finite_dgate.fn (F := Ideal) (m ((c.tc : Thread Cert.ReferenceDgateIdeal.nD Cert.ReferenceDgateIdeal.τ).loc Cert.ReferenceDgateIdeal.main_arg0)) (m ((c.tc : Thread Cert.ReferenceDgateIdeal.nD Cert.ReferenceDgateIdeal.τ).loc Cert.ReferenceDgateIdeal.main_arg1)) (m ((c.tc : Thread Cert.ReferenceDgateIdeal.nD Cert.ReferenceDgateIdeal.τ).loc Cert.ReferenceDgateIdeal.main_arg2)) (m ((c.tc : Thread Cert.ReferenceDgateIdeal.nD Cert.ReferenceDgateIdeal.τ).loc Cert.ReferenceDgateIdeal.main_arg3))) = (fun _ => 1#1)

def Pre_KernelAbin (m : (ℓ : Loc Cert.KernelAbin.nD Cert.KernelAbin.τ Cert.KernelAbin.sig) → Buf (Elt Bits) ℓ) : Prop :=
  True

def Pre_KernelAbinIdeal (m : (ℓ : Loc Cert.KernelAbinIdeal.nD Cert.KernelAbinIdeal.τ Cert.KernelAbinIdeal.sig) → Buf (Elt Ideal) ℓ) : Prop :=
  True

def Pre_ReferenceAbinIdeal (m : (ℓ : Loc Cert.ReferenceAbinIdeal.nD Cert.ReferenceAbinIdeal.τ Cert.ReferenceAbinIdeal.sig) → Buf (Elt Ideal) ℓ) : Prop :=
  True

def Pre_KernelDnin (m : (ℓ : Loc Cert.KernelDnin.nD Cert.KernelDnin.τ Cert.KernelDnin.sig) → Buf (Elt Bits) ℓ) : Prop :=
  True

def Pre_KernelDninIdeal (m : (ℓ : Loc Cert.KernelDninIdeal.nD Cert.KernelDninIdeal.τ Cert.KernelDninIdeal.sig) → Buf (Elt Ideal) ℓ) : Prop :=
  True

def Pre_ReferenceDninIdeal (m : (ℓ : Loc Cert.ReferenceDninIdeal.nD Cert.ReferenceDninIdeal.τ Cert.ReferenceDninIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelAbdwin (m : (ℓ : Loc Cert.KernelAbdwin.nD Cert.KernelAbdwin.τ Cert.KernelAbdwin.sig) → Buf (Elt Bits) ℓ) : Prop :=
  True

def Pre_KernelAbdwinIdeal (m : (ℓ : Loc Cert.KernelAbdwinIdeal.nD Cert.KernelAbdwinIdeal.τ Cert.KernelAbdwinIdeal.sig) → Buf (Elt Ideal) ℓ) : Prop :=
  True

def Pre_ReferenceAbdwinIdeal (m : (ℓ : Loc Cert.ReferenceAbdwinIdeal.nD Cert.ReferenceAbdwinIdeal.τ Cert.ReferenceAbdwinIdeal.sig) → Buf (Elt Ideal) ℓ) : Prop :=
  True

def Pre_KernelDndwin1 (m : (ℓ : Loc Cert.KernelDndwin1.nD Cert.KernelDndwin1.τ Cert.KernelDndwin1.sig) → Buf (Elt Bits) ℓ) : Prop :=
  True

def Pre_KernelDndwin1Ideal (m : (ℓ : Loc Cert.KernelDndwin1Ideal.nD Cert.KernelDndwin1Ideal.τ Cert.KernelDndwin1Ideal.sig) → Buf (Elt Ideal) ℓ) : Prop :=
  True

def Pre_ReferenceDndwin1Ideal (m : (ℓ : Loc Cert.ReferenceDndwin1Ideal.nD Cert.ReferenceDndwin1Ideal.τ Cert.ReferenceDndwin1Ideal.sig) → Buf (Elt Ideal) ℓ) : Prop :=
  True

def Pre_KernelDndwin2 (m : (ℓ : Loc Cert.KernelDndwin2.nD Cert.KernelDndwin2.τ Cert.KernelDndwin2.sig) → Buf (Elt Bits) ℓ) : Prop :=
  True

def Pre_KernelDndwin2Ideal (m : (ℓ : Loc Cert.KernelDndwin2Ideal.nD Cert.KernelDndwin2Ideal.τ Cert.KernelDndwin2Ideal.sig) → Buf (Elt Ideal) ℓ) : Prop :=
  True

def Pre_ReferenceDndwin2Ideal (m : (ℓ : Loc Cert.ReferenceDndwin2Ideal.nD Cert.ReferenceDndwin2Ideal.τ Cert.ReferenceDndwin2Ideal.sig) → Buf (Elt Ideal) ℓ) : Prop :=
  True

def Pre_KernelDndwin3 (m : (ℓ : Loc Cert.KernelDndwin3.nD Cert.KernelDndwin3.τ Cert.KernelDndwin3.sig) → Buf (Elt Bits) ℓ) : Prop :=
  True

def Pre_KernelDndwin3Ideal (m : (ℓ : Loc Cert.KernelDndwin3Ideal.nD Cert.KernelDndwin3Ideal.τ Cert.KernelDndwin3Ideal.sig) → Buf (Elt Ideal) ℓ) : Prop :=
  True

def Pre_ReferenceDndwin3Ideal (m : (ℓ : Loc Cert.ReferenceDndwin3Ideal.nD Cert.ReferenceDndwin3Ideal.τ Cert.ReferenceDndwin3Ideal.sig) → Buf (Elt Ideal) ℓ) : Prop :=
  True

def Pre_KernelDwkv (m : (ℓ : Loc Cert.KernelDwkv.nD Cert.KernelDwkv.τ Cert.KernelDwkv.sig) → Buf (Elt Bits) ℓ) : Prop :=
  True

def Pre_KernelDwkvIdeal (m : (ℓ : Loc Cert.KernelDwkvIdeal.nD Cert.KernelDwkvIdeal.τ Cert.KernelDwkvIdeal.sig) → Buf (Elt Ideal) ℓ) : Prop :=
  True

def Pre_ReferenceDwkvIdeal (m : (ℓ : Loc Cert.ReferenceDwkvIdeal.nD Cert.ReferenceDwkvIdeal.τ Cert.ReferenceDwkvIdeal.sig) → Buf (Elt Ideal) ℓ) : Prop :=
  True

def Pre_KernelDmh (m : (ℓ : Loc Cert.KernelDmh.nD Cert.KernelDmh.τ Cert.KernelDmh.sig) → Buf (Elt Bits) ℓ) : Prop :=
  True

def Pre_KernelDmhIdeal (m : (ℓ : Loc Cert.KernelDmhIdeal.nD Cert.KernelDmhIdeal.τ Cert.KernelDmhIdeal.sig) → Buf (Elt Ideal) ℓ) : Prop :=
  True

def Pre_ReferenceDmhIdeal (m : (ℓ : Loc Cert.ReferenceDmhIdeal.nD Cert.ReferenceDmhIdeal.τ Cert.ReferenceDmhIdeal.sig) → Buf (Elt Ideal) ℓ) : Prop :=
  True

def Pre_KernelAbdh (m : (ℓ : Loc Cert.KernelAbdh.nD Cert.KernelAbdh.τ Cert.KernelAbdh.sig) → Buf (Elt Bits) ℓ) : Prop :=
  True

def Pre_KernelAbdhIdeal (m : (ℓ : Loc Cert.KernelAbdhIdeal.nD Cert.KernelAbdhIdeal.τ Cert.KernelAbdhIdeal.sig) → Buf (Elt Ideal) ℓ) : Prop :=
  True

def Pre_ReferenceAbdhIdeal (m : (ℓ : Loc Cert.ReferenceAbdhIdeal.nD Cert.ReferenceAbdhIdeal.τ Cert.ReferenceAbdhIdeal.sig) → Buf (Elt Ideal) ℓ) : Prop :=
  True

def Pre_KernelXdh (m : (ℓ : Loc Cert.KernelXdh.nD Cert.KernelXdh.τ Cert.KernelXdh.sig) → Buf (Elt Bits) ℓ) : Prop :=
  True

def Pre_KernelXdhIdeal (m : (ℓ : Loc Cert.KernelXdhIdeal.nD Cert.KernelXdhIdeal.τ Cert.KernelXdhIdeal.sig) → Buf (Elt Ideal) ℓ) : Prop :=
  True

def Pre_ReferenceXdhIdeal (m : (ℓ : Loc Cert.ReferenceXdhIdeal.nD Cert.ReferenceXdhIdeal.τ Cert.ReferenceXdhIdeal.sig) → Buf (Elt Ideal) ℓ) : Prop :=
  True

def Pre_KernelDndh1 (m : (ℓ : Loc Cert.KernelDndh1.nD Cert.KernelDndh1.τ Cert.KernelDndh1.sig) → Buf (Elt Bits) ℓ) : Prop :=
  True

def Pre_KernelDndh1Ideal (m : (ℓ : Loc Cert.KernelDndh1Ideal.nD Cert.KernelDndh1Ideal.τ Cert.KernelDndh1Ideal.sig) → Buf (Elt Ideal) ℓ) : Prop :=
  True

def Pre_ReferenceDndh1Ideal (m : (ℓ : Loc Cert.ReferenceDndh1Ideal.nD Cert.ReferenceDndh1Ideal.τ Cert.ReferenceDndh1Ideal.sig) → Buf (Elt Ideal) ℓ) : Prop :=
  True

def Pre_KernelDndh2 (m : (ℓ : Loc Cert.KernelDndh2.nD Cert.KernelDndh2.τ Cert.KernelDndh2.sig) → Buf (Elt Bits) ℓ) : Prop :=
  True

def Pre_KernelDndh2Ideal (m : (ℓ : Loc Cert.KernelDndh2Ideal.nD Cert.KernelDndh2Ideal.τ Cert.KernelDndh2Ideal.sig) → Buf (Elt Ideal) ℓ) : Prop :=
  True

def Pre_ReferenceDndh2Ideal (m : (ℓ : Loc Cert.ReferenceDndh2Ideal.nD Cert.ReferenceDndh2Ideal.τ Cert.ReferenceDndh2Ideal.sig) → Buf (Elt Ideal) ℓ) : Prop :=
  True

def Pre_KernelDndh3 (m : (ℓ : Loc Cert.KernelDndh3.nD Cert.KernelDndh3.τ Cert.KernelDndh3.sig) → Buf (Elt Bits) ℓ) : Prop :=
  True

def Pre_KernelDndh3Ideal (m : (ℓ : Loc Cert.KernelDndh3Ideal.nD Cert.KernelDndh3Ideal.τ Cert.KernelDndh3Ideal.sig) → Buf (Elt Ideal) ℓ) : Prop :=
  True

def Pre_ReferenceDndh3Ideal (m : (ℓ : Loc Cert.ReferenceDndh3Ideal.nD Cert.ReferenceDndh3Ideal.τ Cert.ReferenceDndh3Ideal.sig) → Buf (Elt Ideal) ℓ) : Prop :=
  True

def Pre_KernelMnorm (m : (ℓ : Loc Cert.KernelMnorm.nD Cert.KernelMnorm.τ Cert.KernelMnorm.sig) → Buf (Elt Bits) ℓ) : Prop :=
  True

def Pre_KernelMnormIdeal (m : (ℓ : Loc Cert.KernelMnormIdeal.nD Cert.KernelMnormIdeal.τ Cert.KernelMnormIdeal.sig) → Buf (Elt Ideal) ℓ) : Prop :=
  True

def Pre_ReferenceMnormIdeal (m : (ℓ : Loc Cert.ReferenceMnormIdeal.nD Cert.ReferenceMnormIdeal.τ Cert.ReferenceMnormIdeal.sig) → Buf (Elt Ideal) ℓ) : Prop :=
  True

def Pre_KernelDmnorm (m : (ℓ : Loc Cert.KernelDmnorm.nD Cert.KernelDmnorm.τ Cert.KernelDmnorm.sig) → Buf (Elt Bits) ℓ) : Prop :=
  True

def Pre_KernelDmnormIdeal (m : (ℓ : Loc Cert.KernelDmnormIdeal.nD Cert.KernelDmnormIdeal.τ Cert.KernelDmnormIdeal.sig) → Buf (Elt Ideal) ℓ) : Prop :=
  True

def Pre_ReferenceDmnormIdeal (m : (ℓ : Loc Cert.ReferenceDmnormIdeal.nD Cert.ReferenceDmnormIdeal.τ Cert.ReferenceDmnormIdeal.sig) → Buf (Elt Ideal) ℓ) : Prop :=
  True

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1)
      ∧ r.2.mem ((c.tc : Thread Cert.KernelDa.nD Cert.KernelDa.τ).loc Cert.KernelDa.main_arg2) = m ((c.tc : Thread Cert.KernelDa.nD Cert.KernelDa.τ).loc Cert.KernelDa.main_arg2)
      ∧ r.2.mem ((c.tc : Thread Cert.KernelDa.nD Cert.KernelDa.τ).loc Cert.KernelDa.main_arg3) = m ((c.tc : Thread Cert.KernelDa.nD Cert.KernelDa.τ).loc Cert.KernelDa.main_arg3))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
      ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2)
      ∧ r.2.mem ((c.tc : Thread Cert.KernelDaIdeal.nD Cert.KernelDaIdeal.τ).loc Cert.KernelDaIdeal.main_arg3) = m ((c.tc : Thread Cert.KernelDaIdeal.nD Cert.KernelDaIdeal.τ).loc Cert.KernelDaIdeal.main_arg3))
      ∧ r.2.sem = fun _ => 0)

def quiescent_KernelDaIdeal_pre_finite_da [hKernelDaIdeal : Cert.KernelDaIdeal.Facts] [hPre_finite_da : Cert.Pre_finite_da.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal_finite_da m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
      ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2)
      ∧ r.2.mem ((c.tc : Thread Cert.KernelDaIdeal.nD Cert.KernelDaIdeal.τ).loc Cert.KernelDaIdeal.main_arg3) = m ((c.tc : Thread Cert.KernelDaIdeal.nD Cert.KernelDaIdeal.τ).loc Cert.KernelDaIdeal.main_arg3))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1)
      ∧ r.2.mem ((c.tc : Thread Cert.ReferenceDaIdeal.nD Cert.ReferenceDaIdeal.τ).loc Cert.ReferenceDaIdeal.main_arg2) = m ((c.tc : Thread Cert.ReferenceDaIdeal.nD Cert.ReferenceDaIdeal.τ).loc Cert.ReferenceDaIdeal.main_arg2)
      ∧ r.2.mem ((c.tc : Thread Cert.ReferenceDaIdeal.nD Cert.ReferenceDaIdeal.τ).loc Cert.ReferenceDaIdeal.main_arg3) = m ((c.tc : Thread Cert.ReferenceDaIdeal.nD Cert.ReferenceDaIdeal.τ).loc Cert.ReferenceDaIdeal.main_arg3))
      ∧ r.2.sem = fun _ => 0)

def quiescent_ReferenceDaIdeal_pre_finite_da [hReferenceDaIdeal : Cert.ReferenceDaIdeal.Facts] [hPre_finite_da : Cert.Pre_finite_da.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal_finite_da m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1)
      ∧ r.2.mem ((c.tc : Thread Cert.ReferenceDaIdeal.nD Cert.ReferenceDaIdeal.τ).loc Cert.ReferenceDaIdeal.main_arg2) = m ((c.tc : Thread Cert.ReferenceDaIdeal.nD Cert.ReferenceDaIdeal.τ).loc Cert.ReferenceDaIdeal.main_arg2)
      ∧ r.2.mem ((c.tc : Thread Cert.ReferenceDaIdeal.nD Cert.ReferenceDaIdeal.τ).loc Cert.ReferenceDaIdeal.main_arg3) = m ((c.tc : Thread Cert.ReferenceDaIdeal.nD Cert.ReferenceDaIdeal.τ).loc Cert.ReferenceDaIdeal.main_arg3))
      ∧ r.2.sem = fun _ => 0)

def quiescent_KernelDwout [hKernelDwout : Cert.KernelDwout.Facts] : Prop :=
  ∀ (m : (ℓ : Loc Cert.KernelDwout.nD Cert.KernelDwout.τ Cert.KernelDwout.sig) → Buf (Elt Bits) ℓ) (g : Dev Cert.KernelDwout.nD → PrngReg), Pre_KernelDwout m →
    θ_run (Cert.KernelDwout.defs (F := Bits)) (onTc (τ := Cert.KernelDwout.τ) (Cert.KernelDwout.main (F := Bits))) ⟨m, fun _ => 0, g⟩ (fun r => (∀ c : Dev Cert.KernelDwout.nD,
      r.2.mem ((c.tc : Thread Cert.KernelDwout.nD Cert.KernelDwout.τ).loc Cert.KernelDwout.main_arg0) = m ((c.tc : Thread Cert.KernelDwout.nD Cert.KernelDwout.τ).loc Cert.KernelDwout.main_arg0)
      ∧ r.2.mem ((c.tc : Thread Cert.KernelDwout.nD Cert.KernelDwout.τ).loc Cert.KernelDwout.main_arg1) = m ((c.tc : Thread Cert.KernelDwout.nD Cert.KernelDwout.τ).loc Cert.KernelDwout.main_arg1))
      ∧ r.2.sem = fun _ => 0)

def quiescent_KernelDwoutIdeal [hKernelDwoutIdeal : Cert.KernelDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg), Pre_KernelDwoutIdeal m →
    θ_run (Cert.KernelDwoutIdeal.defs (F := Ideal)) (onTc (τ := Cert.KernelDwoutIdeal.τ) (Cert.KernelDwoutIdeal.main (F := Ideal))) ⟨m, fun _ => 0, g⟩ (fun r => (∀ c : Dev Cert.KernelDwoutIdeal.nD,
      r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
      ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ r.2.sem = fun _ => 0)

def quiescent_ReferenceDwoutIdeal [hReferenceDwoutIdeal : Cert.ReferenceDwoutIdeal.Facts] : Prop :=
  ∀ (m : (ℓ : Loc Cert.ReferenceDwoutIdeal.nD Cert.ReferenceDwoutIdeal.τ Cert.ReferenceDwoutIdeal.sig) → Buf (Elt Ideal) ℓ) (g : Dev Cert.ReferenceDwoutIdeal.nD → PrngReg), Pre_ReferenceDwoutIdeal m →
    θ_run (Cert.ReferenceDwoutIdeal.defs (F := Ideal)) (onTc (τ := Cert.ReferenceDwoutIdeal.τ) (Cert.ReferenceDwoutIdeal.main (F := Ideal))) ⟨m, fun _ => 0, g⟩ (fun r => (∀ c : Dev Cert.ReferenceDwoutIdeal.nD,
      r.2.mem ((c.tc : Thread Cert.ReferenceDwoutIdeal.nD Cert.ReferenceDwoutIdeal.τ).loc Cert.ReferenceDwoutIdeal.main_arg0) = m ((c.tc : Thread Cert.ReferenceDwoutIdeal.nD Cert.ReferenceDwoutIdeal.τ).loc Cert.ReferenceDwoutIdeal.main_arg0)
      ∧ r.2.mem ((c.tc : Thread Cert.ReferenceDwoutIdeal.nD Cert.ReferenceDwoutIdeal.τ).loc Cert.ReferenceDwoutIdeal.main_arg1) = m ((c.tc : Thread Cert.ReferenceDwoutIdeal.nD Cert.ReferenceDwoutIdeal.τ).loc Cert.ReferenceDwoutIdeal.main_arg1))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4))
      ∧ r.2.sem = fun _ => 0)

def quiescent_KernelSwiglu [hKernelSwiglu : Cert.KernelSwiglu.Facts] : Prop :=
  ∀ (m : (ℓ : Loc Cert.KernelSwiglu.nD Cert.KernelSwiglu.τ Cert.KernelSwiglu.sig) → Buf (Elt Bits) ℓ) (g : Dev Cert.KernelSwiglu.nD → PrngReg), Pre_KernelSwiglu m →
    θ_run (Cert.KernelSwiglu.defs (F := Bits)) (onTc (τ := Cert.KernelSwiglu.τ) (Cert.KernelSwiglu.main (F := Bits))) ⟨m, fun _ => 0, g⟩ (fun r => (∀ c : Dev Cert.KernelSwiglu.nD,
      r.2.mem ((c.tc : Thread Cert.KernelSwiglu.nD Cert.KernelSwiglu.τ).loc Cert.KernelSwiglu.main_arg0) = m ((c.tc : Thread Cert.KernelSwiglu.nD Cert.KernelSwiglu.τ).loc Cert.KernelSwiglu.main_arg0)
      ∧ r.2.mem ((c.tc : Thread Cert.KernelSwiglu.nD Cert.KernelSwiglu.τ).loc Cert.KernelSwiglu.main_arg1) = m ((c.tc : Thread Cert.KernelSwiglu.nD Cert.KernelSwiglu.τ).loc Cert.KernelSwiglu.main_arg1))
      ∧ r.2.sem = fun _ => 0)

def quiescent_KernelSwigluIdeal [hKernelSwigluIdeal : Cert.KernelSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1))
      ∧ r.2.sem = fun _ => 0)

def quiescent_ReferenceSwigluIdeal [hReferenceSwigluIdeal : Cert.ReferenceSwigluIdeal.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1))
      ∧ r.2.sem = fun _ => 0)

def quiescent_KernelXa [hKernelXa : Cert.KernelXa.Facts] : Prop :=
  ∀ (m : (ℓ : Loc Cert.KernelXa.nD Cert.KernelXa.τ Cert.KernelXa.sig) → Buf (Elt Bits) ℓ) (g : Dev Cert.KernelXa.nD → PrngReg), Pre_KernelXa m →
    θ_run (Cert.KernelXa.defs (F := Bits)) (onTc (τ := Cert.KernelXa.τ) (Cert.KernelXa.main (F := Bits))) ⟨m, fun _ => 0, g⟩ (fun r => (∀ c : Dev Cert.KernelXa.nD,
      r.2.mem ((c.tc : Thread Cert.KernelXa.nD Cert.KernelXa.τ).loc Cert.KernelXa.main_arg0) = m ((c.tc : Thread Cert.KernelXa.nD Cert.KernelXa.τ).loc Cert.KernelXa.main_arg0)
      ∧ r.2.mem ((c.tc : Thread Cert.KernelXa.nD Cert.KernelXa.τ).loc Cert.KernelXa.main_arg1) = m ((c.tc : Thread Cert.KernelXa.nD Cert.KernelXa.τ).loc Cert.KernelXa.main_arg1)
      ∧ r.2.mem ((c.tc : Thread Cert.KernelXa.nD Cert.KernelXa.τ).loc Cert.KernelXa.main_arg2) = m ((c.tc : Thread Cert.KernelXa.nD Cert.KernelXa.τ).loc Cert.KernelXa.main_arg2)
      ∧ r.2.mem ((c.tc : Thread Cert.KernelXa.nD Cert.KernelXa.τ).loc Cert.KernelXa.main_arg3) = m ((c.tc : Thread Cert.KernelXa.nD Cert.KernelXa.τ).loc Cert.KernelXa.main_arg3))
      ∧ r.2.sem = fun _ => 0)

def quiescent_KernelXaIdeal [hKernelXaIdeal : Cert.KernelXaIdeal.Facts] : Prop :=
  ∀ (m : (ℓ : Loc Cert.KernelXaIdeal.nD Cert.KernelXaIdeal.τ Cert.KernelXaIdeal.sig) → Buf (Elt Ideal) ℓ) (g : Dev Cert.KernelXaIdeal.nD → PrngReg), Pre_KernelXaIdeal m →
    θ_run (Cert.KernelXaIdeal.defs (F := Ideal)) (onTc (τ := Cert.KernelXaIdeal.τ) (Cert.KernelXaIdeal.main (F := Ideal))) ⟨m, fun _ => 0, g⟩ (fun r => (∀ c : Dev Cert.KernelXaIdeal.nD,
      r.2.mem ((c.tc : Thread Cert.KernelXaIdeal.nD Cert.KernelXaIdeal.τ).loc Cert.KernelXaIdeal.main_arg0) = m ((c.tc : Thread Cert.KernelXaIdeal.nD Cert.KernelXaIdeal.τ).loc Cert.KernelXaIdeal.main_arg0)
      ∧ r.2.mem ((c.tc : Thread Cert.KernelXaIdeal.nD Cert.KernelXaIdeal.τ).loc Cert.KernelXaIdeal.main_arg1) = m ((c.tc : Thread Cert.KernelXaIdeal.nD Cert.KernelXaIdeal.τ).loc Cert.KernelXaIdeal.main_arg1)
      ∧ r.2.mem ((c.tc : Thread Cert.KernelXaIdeal.nD Cert.KernelXaIdeal.τ).loc Cert.KernelXaIdeal.main_arg2) = m ((c.tc : Thread Cert.KernelXaIdeal.nD Cert.KernelXaIdeal.τ).loc Cert.KernelXaIdeal.main_arg2)
      ∧ r.2.mem ((c.tc : Thread Cert.KernelXaIdeal.nD Cert.KernelXaIdeal.τ).loc Cert.KernelXaIdeal.main_arg3) = m ((c.tc : Thread Cert.KernelXaIdeal.nD Cert.KernelXaIdeal.τ).loc Cert.KernelXaIdeal.main_arg3))
      ∧ r.2.sem = fun _ => 0)

def quiescent_KernelXaIdeal_pre_finite_xa [hKernelXaIdeal : Cert.KernelXaIdeal.Facts] [hPre_finite_xa : Cert.Pre_finite_xa.Facts] : Prop :=
  ∀ (m : (ℓ : Loc Cert.KernelXaIdeal.nD Cert.KernelXaIdeal.τ Cert.KernelXaIdeal.sig) → Buf (Elt Ideal) ℓ) (g : Dev Cert.KernelXaIdeal.nD → PrngReg), Pre_KernelXaIdeal_finite_xa m →
    θ_run (Cert.KernelXaIdeal.defs (F := Ideal)) (onTc (τ := Cert.KernelXaIdeal.τ) (Cert.KernelXaIdeal.main (F := Ideal))) ⟨m, fun _ => 0, g⟩ (fun r => (∀ c : Dev Cert.KernelXaIdeal.nD,
      r.2.mem ((c.tc : Thread Cert.KernelXaIdeal.nD Cert.KernelXaIdeal.τ).loc Cert.KernelXaIdeal.main_arg0) = m ((c.tc : Thread Cert.KernelXaIdeal.nD Cert.KernelXaIdeal.τ).loc Cert.KernelXaIdeal.main_arg0)
      ∧ r.2.mem ((c.tc : Thread Cert.KernelXaIdeal.nD Cert.KernelXaIdeal.τ).loc Cert.KernelXaIdeal.main_arg1) = m ((c.tc : Thread Cert.KernelXaIdeal.nD Cert.KernelXaIdeal.τ).loc Cert.KernelXaIdeal.main_arg1)
      ∧ r.2.mem ((c.tc : Thread Cert.KernelXaIdeal.nD Cert.KernelXaIdeal.τ).loc Cert.KernelXaIdeal.main_arg2) = m ((c.tc : Thread Cert.KernelXaIdeal.nD Cert.KernelXaIdeal.τ).loc Cert.KernelXaIdeal.main_arg2)
      ∧ r.2.mem ((c.tc : Thread Cert.KernelXaIdeal.nD Cert.KernelXaIdeal.τ).loc Cert.KernelXaIdeal.main_arg3) = m ((c.tc : Thread Cert.KernelXaIdeal.nD Cert.KernelXaIdeal.τ).loc Cert.KernelXaIdeal.main_arg3))
      ∧ r.2.sem = fun _ => 0)

def quiescent_ReferenceXaIdeal [hReferenceXaIdeal : Cert.ReferenceXaIdeal.Facts] : Prop :=
  ∀ (m : (ℓ : Loc Cert.ReferenceXaIdeal.nD Cert.ReferenceXaIdeal.τ Cert.ReferenceXaIdeal.sig) → Buf (Elt Ideal) ℓ) (g : Dev Cert.ReferenceXaIdeal.nD → PrngReg), Pre_ReferenceXaIdeal m →
    θ_run (Cert.ReferenceXaIdeal.defs (F := Ideal)) (onTc (τ := Cert.ReferenceXaIdeal.τ) (Cert.ReferenceXaIdeal.main (F := Ideal))) ⟨m, fun _ => 0, g⟩ (fun r => (∀ c : Dev Cert.ReferenceXaIdeal.nD,
      r.2.mem ((c.tc : Thread Cert.ReferenceXaIdeal.nD Cert.ReferenceXaIdeal.τ).loc Cert.ReferenceXaIdeal.main_arg0) = m ((c.tc : Thread Cert.ReferenceXaIdeal.nD Cert.ReferenceXaIdeal.τ).loc Cert.ReferenceXaIdeal.main_arg0)
      ∧ r.2.mem ((c.tc : Thread Cert.ReferenceXaIdeal.nD Cert.ReferenceXaIdeal.τ).loc Cert.ReferenceXaIdeal.main_arg1) = m ((c.tc : Thread Cert.ReferenceXaIdeal.nD Cert.ReferenceXaIdeal.τ).loc Cert.ReferenceXaIdeal.main_arg1)
      ∧ r.2.mem ((c.tc : Thread Cert.ReferenceXaIdeal.nD Cert.ReferenceXaIdeal.τ).loc Cert.ReferenceXaIdeal.main_arg2) = m ((c.tc : Thread Cert.ReferenceXaIdeal.nD Cert.ReferenceXaIdeal.τ).loc Cert.ReferenceXaIdeal.main_arg2)
      ∧ r.2.mem ((c.tc : Thread Cert.ReferenceXaIdeal.nD Cert.ReferenceXaIdeal.τ).loc Cert.ReferenceXaIdeal.main_arg3) = m ((c.tc : Thread Cert.ReferenceXaIdeal.nD Cert.ReferenceXaIdeal.τ).loc Cert.ReferenceXaIdeal.main_arg3))
      ∧ r.2.sem = fun _ => 0)

def quiescent_ReferenceXaIdeal_pre_finite_xa [hReferenceXaIdeal : Cert.ReferenceXaIdeal.Facts] [hPre_finite_xa : Cert.Pre_finite_xa.Facts] : Prop :=
  ∀ (m : (ℓ : Loc Cert.ReferenceXaIdeal.nD Cert.ReferenceXaIdeal.τ Cert.ReferenceXaIdeal.sig) → Buf (Elt Ideal) ℓ) (g : Dev Cert.ReferenceXaIdeal.nD → PrngReg), Pre_ReferenceXaIdeal_finite_xa m →
    θ_run (Cert.ReferenceXaIdeal.defs (F := Ideal)) (onTc (τ := Cert.ReferenceXaIdeal.τ) (Cert.ReferenceXaIdeal.main (F := Ideal))) ⟨m, fun _ => 0, g⟩ (fun r => (∀ c : Dev Cert.ReferenceXaIdeal.nD,
      r.2.mem ((c.tc : Thread Cert.ReferenceXaIdeal.nD Cert.ReferenceXaIdeal.τ).loc Cert.ReferenceXaIdeal.main_arg0) = m ((c.tc : Thread Cert.ReferenceXaIdeal.nD Cert.ReferenceXaIdeal.τ).loc Cert.ReferenceXaIdeal.main_arg0)
      ∧ r.2.mem ((c.tc : Thread Cert.ReferenceXaIdeal.nD Cert.ReferenceXaIdeal.τ).loc Cert.ReferenceXaIdeal.main_arg1) = m ((c.tc : Thread Cert.ReferenceXaIdeal.nD Cert.ReferenceXaIdeal.τ).loc Cert.ReferenceXaIdeal.main_arg1)
      ∧ r.2.mem ((c.tc : Thread Cert.ReferenceXaIdeal.nD Cert.ReferenceXaIdeal.τ).loc Cert.ReferenceXaIdeal.main_arg2) = m ((c.tc : Thread Cert.ReferenceXaIdeal.nD Cert.ReferenceXaIdeal.τ).loc Cert.ReferenceXaIdeal.main_arg2)
      ∧ r.2.mem ((c.tc : Thread Cert.ReferenceXaIdeal.nD Cert.ReferenceXaIdeal.τ).loc Cert.ReferenceXaIdeal.main_arg3) = m ((c.tc : Thread Cert.ReferenceXaIdeal.nD Cert.ReferenceXaIdeal.τ).loc Cert.ReferenceXaIdeal.main_arg3))
      ∧ r.2.sem = fun _ => 0)

def quiescent_KernelXf [hKernelXf : Cert.KernelXf.Facts] : Prop :=
  ∀ (m : (ℓ : Loc Cert.KernelXf.nD Cert.KernelXf.τ Cert.KernelXf.sig) → Buf (Elt Bits) ℓ) (g : Dev Cert.KernelXf.nD → PrngReg), Pre_KernelXf m →
    θ_run (Cert.KernelXf.defs (F := Bits)) (onTc (τ := Cert.KernelXf.τ) (Cert.KernelXf.main (F := Bits))) ⟨m, fun _ => 0, g⟩ (fun r => (∀ c : Dev Cert.KernelXf.nD,
      r.2.mem ((c.tc : Thread Cert.KernelXf.nD Cert.KernelXf.τ).loc Cert.KernelXf.main_arg0) = m ((c.tc : Thread Cert.KernelXf.nD Cert.KernelXf.τ).loc Cert.KernelXf.main_arg0)
      ∧ r.2.mem ((c.tc : Thread Cert.KernelXf.nD Cert.KernelXf.τ).loc Cert.KernelXf.main_arg1) = m ((c.tc : Thread Cert.KernelXf.nD Cert.KernelXf.τ).loc Cert.KernelXf.main_arg1)
      ∧ r.2.mem ((c.tc : Thread Cert.KernelXf.nD Cert.KernelXf.τ).loc Cert.KernelXf.main_arg2) = m ((c.tc : Thread Cert.KernelXf.nD Cert.KernelXf.τ).loc Cert.KernelXf.main_arg2))
      ∧ r.2.sem = fun _ => 0)

def quiescent_KernelXfIdeal [hKernelXfIdeal : Cert.KernelXfIdeal.Facts] : Prop :=
  ∀ (m : (ℓ : Loc Cert.KernelXfIdeal.nD Cert.KernelXfIdeal.τ Cert.KernelXfIdeal.sig) → Buf (Elt Ideal) ℓ) (g : Dev Cert.KernelXfIdeal.nD → PrngReg), Pre_KernelXfIdeal m →
    θ_run (Cert.KernelXfIdeal.defs (F := Ideal)) (onTc (τ := Cert.KernelXfIdeal.τ) (Cert.KernelXfIdeal.main (F := Ideal))) ⟨m, fun _ => 0, g⟩ (fun r => (∀ c : Dev Cert.KernelXfIdeal.nD,
      r.2.mem ((c.tc : Thread Cert.KernelXfIdeal.nD Cert.KernelXfIdeal.τ).loc Cert.KernelXfIdeal.main_arg0) = m ((c.tc : Thread Cert.KernelXfIdeal.nD Cert.KernelXfIdeal.τ).loc Cert.KernelXfIdeal.main_arg0)
      ∧ r.2.mem ((c.tc : Thread Cert.KernelXfIdeal.nD Cert.KernelXfIdeal.τ).loc Cert.KernelXfIdeal.main_arg1) = m ((c.tc : Thread Cert.KernelXfIdeal.nD Cert.KernelXfIdeal.τ).loc Cert.KernelXfIdeal.main_arg1)
      ∧ r.2.mem ((c.tc : Thread Cert.KernelXfIdeal.nD Cert.KernelXfIdeal.τ).loc Cert.KernelXfIdeal.main_arg2) = m ((c.tc : Thread Cert.KernelXfIdeal.nD Cert.KernelXfIdeal.τ).loc Cert.KernelXfIdeal.main_arg2))
      ∧ r.2.sem = fun _ => 0)

def quiescent_ReferenceXfIdeal [hReferenceXfIdeal : Cert.ReferenceXfIdeal.Facts] : Prop :=
  ∀ (m : (ℓ : Loc Cert.ReferenceXfIdeal.nD Cert.ReferenceXfIdeal.τ Cert.ReferenceXfIdeal.sig) → Buf (Elt Ideal) ℓ) (g : Dev Cert.ReferenceXfIdeal.nD → PrngReg), Pre_ReferenceXfIdeal m →
    θ_run (Cert.ReferenceXfIdeal.defs (F := Ideal)) (onTc (τ := Cert.ReferenceXfIdeal.τ) (Cert.ReferenceXfIdeal.main (F := Ideal))) ⟨m, fun _ => 0, g⟩ (fun r => (∀ c : Dev Cert.ReferenceXfIdeal.nD,
      r.2.mem ((c.tc : Thread Cert.ReferenceXfIdeal.nD Cert.ReferenceXfIdeal.τ).loc Cert.ReferenceXfIdeal.main_arg0) = m ((c.tc : Thread Cert.ReferenceXfIdeal.nD Cert.ReferenceXfIdeal.τ).loc Cert.ReferenceXfIdeal.main_arg0)
      ∧ r.2.mem ((c.tc : Thread Cert.ReferenceXfIdeal.nD Cert.ReferenceXfIdeal.τ).loc Cert.ReferenceXfIdeal.main_arg1) = m ((c.tc : Thread Cert.ReferenceXfIdeal.nD Cert.ReferenceXfIdeal.τ).loc Cert.ReferenceXfIdeal.main_arg1)
      ∧ r.2.mem ((c.tc : Thread Cert.ReferenceXfIdeal.nD Cert.ReferenceXfIdeal.τ).loc Cert.ReferenceXfIdeal.main_arg2) = m ((c.tc : Thread Cert.ReferenceXfIdeal.nD Cert.ReferenceXfIdeal.τ).loc Cert.ReferenceXfIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelDgate [hKernelDgate : Cert.KernelDgate.Facts] : Prop :=
  ∀ (m : (ℓ : Loc Cert.KernelDgate.nD Cert.KernelDgate.τ Cert.KernelDgate.sig) → Buf (Elt Bits) ℓ) (g : Dev Cert.KernelDgate.nD → PrngReg), Pre_KernelDgate m →
    θ_run (Cert.KernelDgate.defs (F := Bits)) (onTc (τ := Cert.KernelDgate.τ) (Cert.KernelDgate.main (F := Bits))) ⟨m, fun _ => 0, g⟩ (fun r => (∀ c : Dev Cert.KernelDgate.nD,
      r.2.mem ((c.tc : Thread Cert.KernelDgate.nD Cert.KernelDgate.τ).loc Cert.KernelDgate.main_arg0) = m ((c.tc : Thread Cert.KernelDgate.nD Cert.KernelDgate.τ).loc Cert.KernelDgate.main_arg0)
      ∧ r.2.mem ((c.tc : Thread Cert.KernelDgate.nD Cert.KernelDgate.τ).loc Cert.KernelDgate.main_arg1) = m ((c.tc : Thread Cert.KernelDgate.nD Cert.KernelDgate.τ).loc Cert.KernelDgate.main_arg1)
      ∧ r.2.mem ((c.tc : Thread Cert.KernelDgate.nD Cert.KernelDgate.τ).loc Cert.KernelDgate.main_arg2) = m ((c.tc : Thread Cert.KernelDgate.nD Cert.KernelDgate.τ).loc Cert.KernelDgate.main_arg2)
      ∧ r.2.mem ((c.tc : Thread Cert.KernelDgate.nD Cert.KernelDgate.τ).loc Cert.KernelDgate.main_arg3) = m ((c.tc : Thread Cert.KernelDgate.nD Cert.KernelDgate.τ).loc Cert.KernelDgate.main_arg3))
      ∧ r.2.sem = fun _ => 0)

def quiescent_KernelDgateIdeal [hKernelDgateIdeal : Cert.KernelDgateIdeal.Facts] : Prop :=
  ∀ (m : (ℓ : Loc Cert.KernelDgateIdeal.nD Cert.KernelDgateIdeal.τ Cert.KernelDgateIdeal.sig) → Buf (Elt Ideal) ℓ) (g : Dev Cert.KernelDgateIdeal.nD → PrngReg), Pre_KernelDgateIdeal m →
    θ_run (Cert.KernelDgateIdeal.defs (F := Ideal)) (onTc (τ := Cert.KernelDgateIdeal.τ) (Cert.KernelDgateIdeal.main (F := Ideal))) ⟨m, fun _ => 0, g⟩ (fun r => (∀ c : Dev Cert.KernelDgateIdeal.nD,
      r.2.mem ((c.tc : Thread Cert.KernelDgateIdeal.nD Cert.KernelDgateIdeal.τ).loc Cert.KernelDgateIdeal.main_arg0) = m ((c.tc : Thread Cert.KernelDgateIdeal.nD Cert.KernelDgateIdeal.τ).loc Cert.KernelDgateIdeal.main_arg0)
      ∧ r.2.mem ((c.tc : Thread Cert.KernelDgateIdeal.nD Cert.KernelDgateIdeal.τ).loc Cert.KernelDgateIdeal.main_arg1) = m ((c.tc : Thread Cert.KernelDgateIdeal.nD Cert.KernelDgateIdeal.τ).loc Cert.KernelDgateIdeal.main_arg1)
      ∧ r.2.mem ((c.tc : Thread Cert.KernelDgateIdeal.nD Cert.KernelDgateIdeal.τ).loc Cert.KernelDgateIdeal.main_arg2) = m ((c.tc : Thread Cert.KernelDgateIdeal.nD Cert.KernelDgateIdeal.τ).loc Cert.KernelDgateIdeal.main_arg2)
      ∧ r.2.mem ((c.tc : Thread Cert.KernelDgateIdeal.nD Cert.KernelDgateIdeal.τ).loc Cert.KernelDgateIdeal.main_arg3) = m ((c.tc : Thread Cert.KernelDgateIdeal.nD Cert.KernelDgateIdeal.τ).loc Cert.KernelDgateIdeal.main_arg3))
      ∧ r.2.sem = fun _ => 0)

def quiescent_KernelDgateIdeal_pre_finite_dgate [hKernelDgateIdeal : Cert.KernelDgateIdeal.Facts] [hPre_finite_dgate : Cert.Pre_finite_dgate.Facts] : Prop :=
  ∀ (m : (ℓ : Loc Cert.KernelDgateIdeal.nD Cert.KernelDgateIdeal.τ Cert.KernelDgateIdeal.sig) → Buf (Elt Ideal) ℓ) (g : Dev Cert.KernelDgateIdeal.nD → PrngReg), Pre_KernelDgateIdeal_finite_dgate m →
    θ_run (Cert.KernelDgateIdeal.defs (F := Ideal)) (onTc (τ := Cert.KernelDgateIdeal.τ) (Cert.KernelDgateIdeal.main (F := Ideal))) ⟨m, fun _ => 0, g⟩ (fun r => (∀ c : Dev Cert.KernelDgateIdeal.nD,
      r.2.mem ((c.tc : Thread Cert.KernelDgateIdeal.nD Cert.KernelDgateIdeal.τ).loc Cert.KernelDgateIdeal.main_arg0) = m ((c.tc : Thread Cert.KernelDgateIdeal.nD Cert.KernelDgateIdeal.τ).loc Cert.KernelDgateIdeal.main_arg0)
      ∧ r.2.mem ((c.tc : Thread Cert.KernelDgateIdeal.nD Cert.KernelDgateIdeal.τ).loc Cert.KernelDgateIdeal.main_arg1) = m ((c.tc : Thread Cert.KernelDgateIdeal.nD Cert.KernelDgateIdeal.τ).loc Cert.KernelDgateIdeal.main_arg1)
      ∧ r.2.mem ((c.tc : Thread Cert.KernelDgateIdeal.nD Cert.KernelDgateIdeal.τ).loc Cert.KernelDgateIdeal.main_arg2) = m ((c.tc : Thread Cert.KernelDgateIdeal.nD Cert.KernelDgateIdeal.τ).loc Cert.KernelDgateIdeal.main_arg2)
      ∧ r.2.mem ((c.tc : Thread Cert.KernelDgateIdeal.nD Cert.KernelDgateIdeal.τ).loc Cert.KernelDgateIdeal.main_arg3) = m ((c.tc : Thread Cert.KernelDgateIdeal.nD Cert.KernelDgateIdeal.τ).loc Cert.KernelDgateIdeal.main_arg3))
      ∧ r.2.sem = fun _ => 0)

def quiescent_ReferenceDgateIdeal [hReferenceDgateIdeal : Cert.ReferenceDgateIdeal.Facts] : Prop :=
  ∀ (m : (ℓ : Loc Cert.ReferenceDgateIdeal.nD Cert.ReferenceDgateIdeal.τ Cert.ReferenceDgateIdeal.sig) → Buf (Elt Ideal) ℓ) (g : Dev Cert.ReferenceDgateIdeal.nD → PrngReg), Pre_ReferenceDgateIdeal m →
    θ_run (Cert.ReferenceDgateIdeal.defs (F := Ideal)) (onTc (τ := Cert.ReferenceDgateIdeal.τ) (Cert.ReferenceDgateIdeal.main (F := Ideal))) ⟨m, fun _ => 0, g⟩ (fun r => (∀ c : Dev Cert.ReferenceDgateIdeal.nD,
      r.2.mem ((c.tc : Thread Cert.ReferenceDgateIdeal.nD Cert.ReferenceDgateIdeal.τ).loc Cert.ReferenceDgateIdeal.main_arg0) = m ((c.tc : Thread Cert.ReferenceDgateIdeal.nD Cert.ReferenceDgateIdeal.τ).loc Cert.ReferenceDgateIdeal.main_arg0)
      ∧ r.2.mem ((c.tc : Thread Cert.ReferenceDgateIdeal.nD Cert.ReferenceDgateIdeal.τ).loc Cert.ReferenceDgateIdeal.main_arg1) = m ((c.tc : Thread Cert.ReferenceDgateIdeal.nD Cert.ReferenceDgateIdeal.τ).loc Cert.ReferenceDgateIdeal.main_arg1)
      ∧ r.2.mem ((c.tc : Thread Cert.ReferenceDgateIdeal.nD Cert.ReferenceDgateIdeal.τ).loc Cert.ReferenceDgateIdeal.main_arg2) = m ((c.tc : Thread Cert.ReferenceDgateIdeal.nD Cert.ReferenceDgateIdeal.τ).loc Cert.ReferenceDgateIdeal.main_arg2)
      ∧ r.2.mem ((c.tc : Thread Cert.ReferenceDgateIdeal.nD Cert.ReferenceDgateIdeal.τ).loc Cert.ReferenceDgateIdeal.main_arg3) = m ((c.tc : Thread Cert.ReferenceDgateIdeal.nD Cert.ReferenceDgateIdeal.τ).loc Cert.ReferenceDgateIdeal.main_arg3))
      ∧ r.2.sem = fun _ => 0)

def quiescent_ReferenceDgateIdeal_pre_finite_dgate [hReferenceDgateIdeal : Cert.ReferenceDgateIdeal.Facts] [hPre_finite_dgate : Cert.Pre_finite_dgate.Facts] : Prop :=
  ∀ (m : (ℓ : Loc Cert.ReferenceDgateIdeal.nD Cert.ReferenceDgateIdeal.τ Cert.ReferenceDgateIdeal.sig) → Buf (Elt Ideal) ℓ) (g : Dev Cert.ReferenceDgateIdeal.nD → PrngReg), Pre_ReferenceDgateIdeal_finite_dgate m →
    θ_run (Cert.ReferenceDgateIdeal.defs (F := Ideal)) (onTc (τ := Cert.ReferenceDgateIdeal.τ) (Cert.ReferenceDgateIdeal.main (F := Ideal))) ⟨m, fun _ => 0, g⟩ (fun r => (∀ c : Dev Cert.ReferenceDgateIdeal.nD,
      r.2.mem ((c.tc : Thread Cert.ReferenceDgateIdeal.nD Cert.ReferenceDgateIdeal.τ).loc Cert.ReferenceDgateIdeal.main_arg0) = m ((c.tc : Thread Cert.ReferenceDgateIdeal.nD Cert.ReferenceDgateIdeal.τ).loc Cert.ReferenceDgateIdeal.main_arg0)
      ∧ r.2.mem ((c.tc : Thread Cert.ReferenceDgateIdeal.nD Cert.ReferenceDgateIdeal.τ).loc Cert.ReferenceDgateIdeal.main_arg1) = m ((c.tc : Thread Cert.ReferenceDgateIdeal.nD Cert.ReferenceDgateIdeal.τ).loc Cert.ReferenceDgateIdeal.main_arg1)
      ∧ r.2.mem ((c.tc : Thread Cert.ReferenceDgateIdeal.nD Cert.ReferenceDgateIdeal.τ).loc Cert.ReferenceDgateIdeal.main_arg2) = m ((c.tc : Thread Cert.ReferenceDgateIdeal.nD Cert.ReferenceDgateIdeal.τ).loc Cert.ReferenceDgateIdeal.main_arg2)
      ∧ r.2.mem ((c.tc : Thread Cert.ReferenceDgateIdeal.nD Cert.ReferenceDgateIdeal.τ).loc Cert.ReferenceDgateIdeal.main_arg3) = m ((c.tc : Thread Cert.ReferenceDgateIdeal.nD Cert.ReferenceDgateIdeal.τ).loc Cert.ReferenceDgateIdeal.main_arg3))
      ∧ r.2.sem = fun _ => 0)

def quiescent_KernelAbin [hKernelAbin : Cert.KernelAbin.Facts] : Prop :=
  ∀ (m : (ℓ : Loc Cert.KernelAbin.nD Cert.KernelAbin.τ Cert.KernelAbin.sig) → Buf (Elt Bits) ℓ) (g : Dev Cert.KernelAbin.nD → PrngReg), Pre_KernelAbin m →
    θ_run (Cert.KernelAbin.defs (F := Bits)) (onTc (τ := Cert.KernelAbin.τ) (Cert.KernelAbin.main (F := Bits))) ⟨m, fun _ => 0, g⟩ (fun r => (∀ c : Dev Cert.KernelAbin.nD,
      r.2.mem ((c.tc : Thread Cert.KernelAbin.nD Cert.KernelAbin.τ).loc Cert.KernelAbin.main_arg0) = m ((c.tc : Thread Cert.KernelAbin.nD Cert.KernelAbin.τ).loc Cert.KernelAbin.main_arg0)
      ∧ r.2.mem ((c.tc : Thread Cert.KernelAbin.nD Cert.KernelAbin.τ).loc Cert.KernelAbin.main_arg1) = m ((c.tc : Thread Cert.KernelAbin.nD Cert.KernelAbin.τ).loc Cert.KernelAbin.main_arg1))
      ∧ r.2.sem = fun _ => 0)

def quiescent_KernelAbinIdeal [hKernelAbinIdeal : Cert.KernelAbinIdeal.Facts] : Prop :=
  ∀ (m : (ℓ : Loc Cert.KernelAbinIdeal.nD Cert.KernelAbinIdeal.τ Cert.KernelAbinIdeal.sig) → Buf (Elt Ideal) ℓ) (g : Dev Cert.KernelAbinIdeal.nD → PrngReg), Pre_KernelAbinIdeal m →
    θ_run (Cert.KernelAbinIdeal.defs (F := Ideal)) (onTc (τ := Cert.KernelAbinIdeal.τ) (Cert.KernelAbinIdeal.main (F := Ideal))) ⟨m, fun _ => 0, g⟩ (fun r => (∀ c : Dev Cert.KernelAbinIdeal.nD,
      r.2.mem ((c.tc : Thread Cert.KernelAbinIdeal.nD Cert.KernelAbinIdeal.τ).loc Cert.KernelAbinIdeal.main_arg0) = m ((c.tc : Thread Cert.KernelAbinIdeal.nD Cert.KernelAbinIdeal.τ).loc Cert.KernelAbinIdeal.main_arg0)
      ∧ r.2.mem ((c.tc : Thread Cert.KernelAbinIdeal.nD Cert.KernelAbinIdeal.τ).loc Cert.KernelAbinIdeal.main_arg1) = m ((c.tc : Thread Cert.KernelAbinIdeal.nD Cert.KernelAbinIdeal.τ).loc Cert.KernelAbinIdeal.main_arg1))
      ∧ r.2.sem = fun _ => 0)

def quiescent_ReferenceAbinIdeal [hReferenceAbinIdeal : Cert.ReferenceAbinIdeal.Facts] : Prop :=
  ∀ (m : (ℓ : Loc Cert.ReferenceAbinIdeal.nD Cert.ReferenceAbinIdeal.τ Cert.ReferenceAbinIdeal.sig) → Buf (Elt Ideal) ℓ) (g : Dev Cert.ReferenceAbinIdeal.nD → PrngReg), Pre_ReferenceAbinIdeal m →
    θ_run (Cert.ReferenceAbinIdeal.defs (F := Ideal)) (onTc (τ := Cert.ReferenceAbinIdeal.τ) (Cert.ReferenceAbinIdeal.main (F := Ideal))) ⟨m, fun _ => 0, g⟩ (fun r => (∀ c : Dev Cert.ReferenceAbinIdeal.nD,
      r.2.mem ((c.tc : Thread Cert.ReferenceAbinIdeal.nD Cert.ReferenceAbinIdeal.τ).loc Cert.ReferenceAbinIdeal.main_arg0) = m ((c.tc : Thread Cert.ReferenceAbinIdeal.nD Cert.ReferenceAbinIdeal.τ).loc Cert.ReferenceAbinIdeal.main_arg0)
      ∧ r.2.mem ((c.tc : Thread Cert.ReferenceAbinIdeal.nD Cert.ReferenceAbinIdeal.τ).loc Cert.ReferenceAbinIdeal.main_arg1) = m ((c.tc : Thread Cert.ReferenceAbinIdeal.nD Cert.ReferenceAbinIdeal.τ).loc Cert.ReferenceAbinIdeal.main_arg1))
      ∧ r.2.sem = fun _ => 0)

def quiescent_KernelDnin [hKernelDnin : Cert.KernelDnin.Facts] : Prop :=
  ∀ (m : (ℓ : Loc Cert.KernelDnin.nD Cert.KernelDnin.τ Cert.KernelDnin.sig) → Buf (Elt Bits) ℓ) (g : Dev Cert.KernelDnin.nD → PrngReg), Pre_KernelDnin m →
    θ_run (Cert.KernelDnin.defs (F := Bits)) (onTc (τ := Cert.KernelDnin.τ) (Cert.KernelDnin.main (F := Bits))) ⟨m, fun _ => 0, g⟩ (fun r => (∀ c : Dev Cert.KernelDnin.nD,
      r.2.mem ((c.tc : Thread Cert.KernelDnin.nD Cert.KernelDnin.τ).loc Cert.KernelDnin.main_arg0) = m ((c.tc : Thread Cert.KernelDnin.nD Cert.KernelDnin.τ).loc Cert.KernelDnin.main_arg0)
      ∧ r.2.mem ((c.tc : Thread Cert.KernelDnin.nD Cert.KernelDnin.τ).loc Cert.KernelDnin.main_arg1) = m ((c.tc : Thread Cert.KernelDnin.nD Cert.KernelDnin.τ).loc Cert.KernelDnin.main_arg1))
      ∧ r.2.sem = fun _ => 0)

def quiescent_KernelDninIdeal [hKernelDninIdeal : Cert.KernelDninIdeal.Facts] : Prop :=
  ∀ (m : (ℓ : Loc Cert.KernelDninIdeal.nD Cert.KernelDninIdeal.τ Cert.KernelDninIdeal.sig) → Buf (Elt Ideal) ℓ) (g : Dev Cert.KernelDninIdeal.nD → PrngReg), Pre_KernelDninIdeal m →
    θ_run (Cert.KernelDninIdeal.defs (F := Ideal)) (onTc (τ := Cert.KernelDninIdeal.τ) (Cert.KernelDninIdeal.main (F := Ideal))) ⟨m, fun _ => 0, g⟩ (fun r => (∀ c : Dev Cert.KernelDninIdeal.nD,
      r.2.mem ((c.tc : Thread Cert.KernelDninIdeal.nD Cert.KernelDninIdeal.τ).loc Cert.KernelDninIdeal.main_arg0) = m ((c.tc : Thread Cert.KernelDninIdeal.nD Cert.KernelDninIdeal.τ).loc Cert.KernelDninIdeal.main_arg0)
      ∧ r.2.mem ((c.tc : Thread Cert.KernelDninIdeal.nD Cert.KernelDninIdeal.τ).loc Cert.KernelDninIdeal.main_arg1) = m ((c.tc : Thread Cert.KernelDninIdeal.nD Cert.KernelDninIdeal.τ).loc Cert.KernelDninIdeal.main_arg1))
      ∧ r.2.sem = fun _ => 0)

def quiescent_ReferenceDninIdeal [hReferenceDninIdeal : Cert.ReferenceDninIdeal.Facts] : Prop :=
  ∀ (m : (ℓ : Loc Cert.ReferenceDninIdeal.nD Cert.ReferenceDninIdeal.τ Cert.ReferenceDninIdeal.sig) → Buf (Elt Ideal) ℓ) (g : Dev Cert.ReferenceDninIdeal.nD → PrngReg), Pre_ReferenceDninIdeal m →
    θ_run (Cert.ReferenceDninIdeal.defs (F := Ideal)) (onTc (τ := Cert.ReferenceDninIdeal.τ) (Cert.ReferenceDninIdeal.main (F := Ideal))) ⟨m, fun _ => 0, g⟩ (fun r => (∀ c : Dev Cert.ReferenceDninIdeal.nD,
      r.2.mem ((c.tc : Thread Cert.ReferenceDninIdeal.nD Cert.ReferenceDninIdeal.τ).loc Cert.ReferenceDninIdeal.main_arg0) = m ((c.tc : Thread Cert.ReferenceDninIdeal.nD Cert.ReferenceDninIdeal.τ).loc Cert.ReferenceDninIdeal.main_arg0)
      ∧ r.2.mem ((c.tc : Thread Cert.ReferenceDninIdeal.nD Cert.ReferenceDninIdeal.τ).loc Cert.ReferenceDninIdeal.main_arg1) = m ((c.tc : Thread Cert.ReferenceDninIdeal.nD Cert.ReferenceDninIdeal.τ).loc Cert.ReferenceDninIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelAbdwin [hKernelAbdwin : Cert.KernelAbdwin.Facts] : Prop :=
  ∀ (m : (ℓ : Loc Cert.KernelAbdwin.nD Cert.KernelAbdwin.τ Cert.KernelAbdwin.sig) → Buf (Elt Bits) ℓ) (g : Dev Cert.KernelAbdwin.nD → PrngReg), Pre_KernelAbdwin m →
    θ_run (Cert.KernelAbdwin.defs (F := Bits)) (onTc (τ := Cert.KernelAbdwin.τ) (Cert.KernelAbdwin.main (F := Bits))) ⟨m, fun _ => 0, g⟩ (fun r => (∀ c : Dev Cert.KernelAbdwin.nD,
      r.2.mem ((c.tc : Thread Cert.KernelAbdwin.nD Cert.KernelAbdwin.τ).loc Cert.KernelAbdwin.main_arg0) = m ((c.tc : Thread Cert.KernelAbdwin.nD Cert.KernelAbdwin.τ).loc Cert.KernelAbdwin.main_arg0)
      ∧ r.2.mem ((c.tc : Thread Cert.KernelAbdwin.nD Cert.KernelAbdwin.τ).loc Cert.KernelAbdwin.main_arg1) = m ((c.tc : Thread Cert.KernelAbdwin.nD Cert.KernelAbdwin.τ).loc Cert.KernelAbdwin.main_arg1))
      ∧ r.2.sem = fun _ => 0)

def quiescent_KernelAbdwinIdeal [hKernelAbdwinIdeal : Cert.KernelAbdwinIdeal.Facts] : Prop :=
  ∀ (m : (ℓ : Loc Cert.KernelAbdwinIdeal.nD Cert.KernelAbdwinIdeal.τ Cert.KernelAbdwinIdeal.sig) → Buf (Elt Ideal) ℓ) (g : Dev Cert.KernelAbdwinIdeal.nD → PrngReg), Pre_KernelAbdwinIdeal m →
    θ_run (Cert.KernelAbdwinIdeal.defs (F := Ideal)) (onTc (τ := Cert.KernelAbdwinIdeal.τ) (Cert.KernelAbdwinIdeal.main (F := Ideal))) ⟨m, fun _ => 0, g⟩ (fun r => (∀ c : Dev Cert.KernelAbdwinIdeal.nD,
      r.2.mem ((c.tc : Thread Cert.KernelAbdwinIdeal.nD Cert.KernelAbdwinIdeal.τ).loc Cert.KernelAbdwinIdeal.main_arg0) = m ((c.tc : Thread Cert.KernelAbdwinIdeal.nD Cert.KernelAbdwinIdeal.τ).loc Cert.KernelAbdwinIdeal.main_arg0)
      ∧ r.2.mem ((c.tc : Thread Cert.KernelAbdwinIdeal.nD Cert.KernelAbdwinIdeal.τ).loc Cert.KernelAbdwinIdeal.main_arg1) = m ((c.tc : Thread Cert.KernelAbdwinIdeal.nD Cert.KernelAbdwinIdeal.τ).loc Cert.KernelAbdwinIdeal.main_arg1))
      ∧ r.2.sem = fun _ => 0)

def quiescent_ReferenceAbdwinIdeal [hReferenceAbdwinIdeal : Cert.ReferenceAbdwinIdeal.Facts] : Prop :=
  ∀ (m : (ℓ : Loc Cert.ReferenceAbdwinIdeal.nD Cert.ReferenceAbdwinIdeal.τ Cert.ReferenceAbdwinIdeal.sig) → Buf (Elt Ideal) ℓ) (g : Dev Cert.ReferenceAbdwinIdeal.nD → PrngReg), Pre_ReferenceAbdwinIdeal m →
    θ_run (Cert.ReferenceAbdwinIdeal.defs (F := Ideal)) (onTc (τ := Cert.ReferenceAbdwinIdeal.τ) (Cert.ReferenceAbdwinIdeal.main (F := Ideal))) ⟨m, fun _ => 0, g⟩ (fun r => (∀ c : Dev Cert.ReferenceAbdwinIdeal.nD,
      r.2.mem ((c.tc : Thread Cert.ReferenceAbdwinIdeal.nD Cert.ReferenceAbdwinIdeal.τ).loc Cert.ReferenceAbdwinIdeal.main_arg0) = m ((c.tc : Thread Cert.ReferenceAbdwinIdeal.nD Cert.ReferenceAbdwinIdeal.τ).loc Cert.ReferenceAbdwinIdeal.main_arg0)
      ∧ r.2.mem ((c.tc : Thread Cert.ReferenceAbdwinIdeal.nD Cert.ReferenceAbdwinIdeal.τ).loc Cert.ReferenceAbdwinIdeal.main_arg1) = m ((c.tc : Thread Cert.ReferenceAbdwinIdeal.nD Cert.ReferenceAbdwinIdeal.τ).loc Cert.ReferenceAbdwinIdeal.main_arg1))
      ∧ r.2.sem = fun _ => 0)

def quiescent_KernelDndwin1 [hKernelDndwin1 : Cert.KernelDndwin1.Facts] : Prop :=
  ∀ (m : (ℓ : Loc Cert.KernelDndwin1.nD Cert.KernelDndwin1.τ Cert.KernelDndwin1.sig) → Buf (Elt Bits) ℓ) (g : Dev Cert.KernelDndwin1.nD → PrngReg), Pre_KernelDndwin1 m →
    θ_run (Cert.KernelDndwin1.defs (F := Bits)) (onTc (τ := Cert.KernelDndwin1.τ) (Cert.KernelDndwin1.main (F := Bits))) ⟨m, fun _ => 0, g⟩ (fun r => (∀ c : Dev Cert.KernelDndwin1.nD,
      r.2.mem ((c.tc : Thread Cert.KernelDndwin1.nD Cert.KernelDndwin1.τ).loc Cert.KernelDndwin1.main_arg0) = m ((c.tc : Thread Cert.KernelDndwin1.nD Cert.KernelDndwin1.τ).loc Cert.KernelDndwin1.main_arg0)
      ∧ r.2.mem ((c.tc : Thread Cert.KernelDndwin1.nD Cert.KernelDndwin1.τ).loc Cert.KernelDndwin1.main_arg1) = m ((c.tc : Thread Cert.KernelDndwin1.nD Cert.KernelDndwin1.τ).loc Cert.KernelDndwin1.main_arg1))
      ∧ r.2.sem = fun _ => 0)

def quiescent_KernelDndwin1Ideal [hKernelDndwin1Ideal : Cert.KernelDndwin1Ideal.Facts] : Prop :=
  ∀ (m : (ℓ : Loc Cert.KernelDndwin1Ideal.nD Cert.KernelDndwin1Ideal.τ Cert.KernelDndwin1Ideal.sig) → Buf (Elt Ideal) ℓ) (g : Dev Cert.KernelDndwin1Ideal.nD → PrngReg), Pre_KernelDndwin1Ideal m →
    θ_run (Cert.KernelDndwin1Ideal.defs (F := Ideal)) (onTc (τ := Cert.KernelDndwin1Ideal.τ) (Cert.KernelDndwin1Ideal.main (F := Ideal))) ⟨m, fun _ => 0, g⟩ (fun r => (∀ c : Dev Cert.KernelDndwin1Ideal.nD,
      r.2.mem ((c.tc : Thread Cert.KernelDndwin1Ideal.nD Cert.KernelDndwin1Ideal.τ).loc Cert.KernelDndwin1Ideal.main_arg0) = m ((c.tc : Thread Cert.KernelDndwin1Ideal.nD Cert.KernelDndwin1Ideal.τ).loc Cert.KernelDndwin1Ideal.main_arg0)
      ∧ r.2.mem ((c.tc : Thread Cert.KernelDndwin1Ideal.nD Cert.KernelDndwin1Ideal.τ).loc Cert.KernelDndwin1Ideal.main_arg1) = m ((c.tc : Thread Cert.KernelDndwin1Ideal.nD Cert.KernelDndwin1Ideal.τ).loc Cert.KernelDndwin1Ideal.main_arg1))
      ∧ r.2.sem = fun _ => 0)

def quiescent_ReferenceDndwin1Ideal [hReferenceDndwin1Ideal : Cert.ReferenceDndwin1Ideal.Facts] : Prop :=
  ∀ (m : (ℓ : Loc Cert.ReferenceDndwin1Ideal.nD Cert.ReferenceDndwin1Ideal.τ Cert.ReferenceDndwin1Ideal.sig) → Buf (Elt Ideal) ℓ) (g : Dev Cert.ReferenceDndwin1Ideal.nD → PrngReg), Pre_ReferenceDndwin1Ideal m →
    θ_run (Cert.ReferenceDndwin1Ideal.defs (F := Ideal)) (onTc (τ := Cert.ReferenceDndwin1Ideal.τ) (Cert.ReferenceDndwin1Ideal.main (F := Ideal))) ⟨m, fun _ => 0, g⟩ (fun r => (∀ c : Dev Cert.ReferenceDndwin1Ideal.nD,
      r.2.mem ((c.tc : Thread Cert.ReferenceDndwin1Ideal.nD Cert.ReferenceDndwin1Ideal.τ).loc Cert.ReferenceDndwin1Ideal.main_arg0) = m ((c.tc : Thread Cert.ReferenceDndwin1Ideal.nD Cert.ReferenceDndwin1Ideal.τ).loc Cert.ReferenceDndwin1Ideal.main_arg0)
      ∧ r.2.mem ((c.tc : Thread Cert.ReferenceDndwin1Ideal.nD Cert.ReferenceDndwin1Ideal.τ).loc Cert.ReferenceDndwin1Ideal.main_arg1) = m ((c.tc : Thread Cert.ReferenceDndwin1Ideal.nD Cert.ReferenceDndwin1Ideal.τ).loc Cert.ReferenceDndwin1Ideal.main_arg1))
      ∧ r.2.sem = fun _ => 0)

def quiescent_KernelDndwin2 [hKernelDndwin2 : Cert.KernelDndwin2.Facts] : Prop :=
  ∀ (m : (ℓ : Loc Cert.KernelDndwin2.nD Cert.KernelDndwin2.τ Cert.KernelDndwin2.sig) → Buf (Elt Bits) ℓ) (g : Dev Cert.KernelDndwin2.nD → PrngReg), Pre_KernelDndwin2 m →
    θ_run (Cert.KernelDndwin2.defs (F := Bits)) (onTc (τ := Cert.KernelDndwin2.τ) (Cert.KernelDndwin2.main (F := Bits))) ⟨m, fun _ => 0, g⟩ (fun r => (∀ c : Dev Cert.KernelDndwin2.nD,
      r.2.mem ((c.tc : Thread Cert.KernelDndwin2.nD Cert.KernelDndwin2.τ).loc Cert.KernelDndwin2.main_arg0) = m ((c.tc : Thread Cert.KernelDndwin2.nD Cert.KernelDndwin2.τ).loc Cert.KernelDndwin2.main_arg0)
      ∧ r.2.mem ((c.tc : Thread Cert.KernelDndwin2.nD Cert.KernelDndwin2.τ).loc Cert.KernelDndwin2.main_arg1) = m ((c.tc : Thread Cert.KernelDndwin2.nD Cert.KernelDndwin2.τ).loc Cert.KernelDndwin2.main_arg1))
      ∧ r.2.sem = fun _ => 0)

def quiescent_KernelDndwin2Ideal [hKernelDndwin2Ideal : Cert.KernelDndwin2Ideal.Facts] : Prop :=
  ∀ (m : (ℓ : Loc Cert.KernelDndwin2Ideal.nD Cert.KernelDndwin2Ideal.τ Cert.KernelDndwin2Ideal.sig) → Buf (Elt Ideal) ℓ) (g : Dev Cert.KernelDndwin2Ideal.nD → PrngReg), Pre_KernelDndwin2Ideal m →
    θ_run (Cert.KernelDndwin2Ideal.defs (F := Ideal)) (onTc (τ := Cert.KernelDndwin2Ideal.τ) (Cert.KernelDndwin2Ideal.main (F := Ideal))) ⟨m, fun _ => 0, g⟩ (fun r => (∀ c : Dev Cert.KernelDndwin2Ideal.nD,
      r.2.mem ((c.tc : Thread Cert.KernelDndwin2Ideal.nD Cert.KernelDndwin2Ideal.τ).loc Cert.KernelDndwin2Ideal.main_arg0) = m ((c.tc : Thread Cert.KernelDndwin2Ideal.nD Cert.KernelDndwin2Ideal.τ).loc Cert.KernelDndwin2Ideal.main_arg0)
      ∧ r.2.mem ((c.tc : Thread Cert.KernelDndwin2Ideal.nD Cert.KernelDndwin2Ideal.τ).loc Cert.KernelDndwin2Ideal.main_arg1) = m ((c.tc : Thread Cert.KernelDndwin2Ideal.nD Cert.KernelDndwin2Ideal.τ).loc Cert.KernelDndwin2Ideal.main_arg1))
      ∧ r.2.sem = fun _ => 0)

def quiescent_ReferenceDndwin2Ideal [hReferenceDndwin2Ideal : Cert.ReferenceDndwin2Ideal.Facts] : Prop :=
  ∀ (m : (ℓ : Loc Cert.ReferenceDndwin2Ideal.nD Cert.ReferenceDndwin2Ideal.τ Cert.ReferenceDndwin2Ideal.sig) → Buf (Elt Ideal) ℓ) (g : Dev Cert.ReferenceDndwin2Ideal.nD → PrngReg), Pre_ReferenceDndwin2Ideal m →
    θ_run (Cert.ReferenceDndwin2Ideal.defs (F := Ideal)) (onTc (τ := Cert.ReferenceDndwin2Ideal.τ) (Cert.ReferenceDndwin2Ideal.main (F := Ideal))) ⟨m, fun _ => 0, g⟩ (fun r => (∀ c : Dev Cert.ReferenceDndwin2Ideal.nD,
      r.2.mem ((c.tc : Thread Cert.ReferenceDndwin2Ideal.nD Cert.ReferenceDndwin2Ideal.τ).loc Cert.ReferenceDndwin2Ideal.main_arg0) = m ((c.tc : Thread Cert.ReferenceDndwin2Ideal.nD Cert.ReferenceDndwin2Ideal.τ).loc Cert.ReferenceDndwin2Ideal.main_arg0)
      ∧ r.2.mem ((c.tc : Thread Cert.ReferenceDndwin2Ideal.nD Cert.ReferenceDndwin2Ideal.τ).loc Cert.ReferenceDndwin2Ideal.main_arg1) = m ((c.tc : Thread Cert.ReferenceDndwin2Ideal.nD Cert.ReferenceDndwin2Ideal.τ).loc Cert.ReferenceDndwin2Ideal.main_arg1))
      ∧ r.2.sem = fun _ => 0)

def quiescent_KernelDndwin3 [hKernelDndwin3 : Cert.KernelDndwin3.Facts] : Prop :=
  ∀ (m : (ℓ : Loc Cert.KernelDndwin3.nD Cert.KernelDndwin3.τ Cert.KernelDndwin3.sig) → Buf (Elt Bits) ℓ) (g : Dev Cert.KernelDndwin3.nD → PrngReg), Pre_KernelDndwin3 m →
    θ_run (Cert.KernelDndwin3.defs (F := Bits)) (onTc (τ := Cert.KernelDndwin3.τ) (Cert.KernelDndwin3.main (F := Bits))) ⟨m, fun _ => 0, g⟩ (fun r => (∀ c : Dev Cert.KernelDndwin3.nD,
      r.2.mem ((c.tc : Thread Cert.KernelDndwin3.nD Cert.KernelDndwin3.τ).loc Cert.KernelDndwin3.main_arg0) = m ((c.tc : Thread Cert.KernelDndwin3.nD Cert.KernelDndwin3.τ).loc Cert.KernelDndwin3.main_arg0)
      ∧ r.2.mem ((c.tc : Thread Cert.KernelDndwin3.nD Cert.KernelDndwin3.τ).loc Cert.KernelDndwin3.main_arg1) = m ((c.tc : Thread Cert.KernelDndwin3.nD Cert.KernelDndwin3.τ).loc Cert.KernelDndwin3.main_arg1))
      ∧ r.2.sem = fun _ => 0)

def quiescent_KernelDndwin3Ideal [hKernelDndwin3Ideal : Cert.KernelDndwin3Ideal.Facts] : Prop :=
  ∀ (m : (ℓ : Loc Cert.KernelDndwin3Ideal.nD Cert.KernelDndwin3Ideal.τ Cert.KernelDndwin3Ideal.sig) → Buf (Elt Ideal) ℓ) (g : Dev Cert.KernelDndwin3Ideal.nD → PrngReg), Pre_KernelDndwin3Ideal m →
    θ_run (Cert.KernelDndwin3Ideal.defs (F := Ideal)) (onTc (τ := Cert.KernelDndwin3Ideal.τ) (Cert.KernelDndwin3Ideal.main (F := Ideal))) ⟨m, fun _ => 0, g⟩ (fun r => (∀ c : Dev Cert.KernelDndwin3Ideal.nD,
      r.2.mem ((c.tc : Thread Cert.KernelDndwin3Ideal.nD Cert.KernelDndwin3Ideal.τ).loc Cert.KernelDndwin3Ideal.main_arg0) = m ((c.tc : Thread Cert.KernelDndwin3Ideal.nD Cert.KernelDndwin3Ideal.τ).loc Cert.KernelDndwin3Ideal.main_arg0)
      ∧ r.2.mem ((c.tc : Thread Cert.KernelDndwin3Ideal.nD Cert.KernelDndwin3Ideal.τ).loc Cert.KernelDndwin3Ideal.main_arg1) = m ((c.tc : Thread Cert.KernelDndwin3Ideal.nD Cert.KernelDndwin3Ideal.τ).loc Cert.KernelDndwin3Ideal.main_arg1))
      ∧ r.2.sem = fun _ => 0)

def quiescent_ReferenceDndwin3Ideal [hReferenceDndwin3Ideal : Cert.ReferenceDndwin3Ideal.Facts] : Prop :=
  ∀ (m : (ℓ : Loc Cert.ReferenceDndwin3Ideal.nD Cert.ReferenceDndwin3Ideal.τ Cert.ReferenceDndwin3Ideal.sig) → Buf (Elt Ideal) ℓ) (g : Dev Cert.ReferenceDndwin3Ideal.nD → PrngReg), Pre_ReferenceDndwin3Ideal m →
    θ_run (Cert.ReferenceDndwin3Ideal.defs (F := Ideal)) (onTc (τ := Cert.ReferenceDndwin3Ideal.τ) (Cert.ReferenceDndwin3Ideal.main (F := Ideal))) ⟨m, fun _ => 0, g⟩ (fun r => (∀ c : Dev Cert.ReferenceDndwin3Ideal.nD,
      r.2.mem ((c.tc : Thread Cert.ReferenceDndwin3Ideal.nD Cert.ReferenceDndwin3Ideal.τ).loc Cert.ReferenceDndwin3Ideal.main_arg0) = m ((c.tc : Thread Cert.ReferenceDndwin3Ideal.nD Cert.ReferenceDndwin3Ideal.τ).loc Cert.ReferenceDndwin3Ideal.main_arg0)
      ∧ r.2.mem ((c.tc : Thread Cert.ReferenceDndwin3Ideal.nD Cert.ReferenceDndwin3Ideal.τ).loc Cert.ReferenceDndwin3Ideal.main_arg1) = m ((c.tc : Thread Cert.ReferenceDndwin3Ideal.nD Cert.ReferenceDndwin3Ideal.τ).loc Cert.ReferenceDndwin3Ideal.main_arg1))
      ∧ r.2.sem = fun _ => 0)

def quiescent_KernelDwkv [hKernelDwkv : Cert.KernelDwkv.Facts] : Prop :=
  ∀ (m : (ℓ : Loc Cert.KernelDwkv.nD Cert.KernelDwkv.τ Cert.KernelDwkv.sig) → Buf (Elt Bits) ℓ) (g : Dev Cert.KernelDwkv.nD → PrngReg), Pre_KernelDwkv m →
    θ_run (Cert.KernelDwkv.defs (F := Bits)) (onTc (τ := Cert.KernelDwkv.τ) (Cert.KernelDwkv.main (F := Bits))) ⟨m, fun _ => 0, g⟩ (fun r => (∀ c : Dev Cert.KernelDwkv.nD,
      r.2.mem ((c.tc : Thread Cert.KernelDwkv.nD Cert.KernelDwkv.τ).loc Cert.KernelDwkv.main_arg0) = m ((c.tc : Thread Cert.KernelDwkv.nD Cert.KernelDwkv.τ).loc Cert.KernelDwkv.main_arg0)
      ∧ r.2.mem ((c.tc : Thread Cert.KernelDwkv.nD Cert.KernelDwkv.τ).loc Cert.KernelDwkv.main_arg1) = m ((c.tc : Thread Cert.KernelDwkv.nD Cert.KernelDwkv.τ).loc Cert.KernelDwkv.main_arg1))
      ∧ r.2.sem = fun _ => 0)

def quiescent_KernelDwkvIdeal [hKernelDwkvIdeal : Cert.KernelDwkvIdeal.Facts] : Prop :=
  ∀ (m : (ℓ : Loc Cert.KernelDwkvIdeal.nD Cert.KernelDwkvIdeal.τ Cert.KernelDwkvIdeal.sig) → Buf (Elt Ideal) ℓ) (g : Dev Cert.KernelDwkvIdeal.nD → PrngReg), Pre_KernelDwkvIdeal m →
    θ_run (Cert.KernelDwkvIdeal.defs (F := Ideal)) (onTc (τ := Cert.KernelDwkvIdeal.τ) (Cert.KernelDwkvIdeal.main (F := Ideal))) ⟨m, fun _ => 0, g⟩ (fun r => (∀ c : Dev Cert.KernelDwkvIdeal.nD,
      r.2.mem ((c.tc : Thread Cert.KernelDwkvIdeal.nD Cert.KernelDwkvIdeal.τ).loc Cert.KernelDwkvIdeal.main_arg0) = m ((c.tc : Thread Cert.KernelDwkvIdeal.nD Cert.KernelDwkvIdeal.τ).loc Cert.KernelDwkvIdeal.main_arg0)
      ∧ r.2.mem ((c.tc : Thread Cert.KernelDwkvIdeal.nD Cert.KernelDwkvIdeal.τ).loc Cert.KernelDwkvIdeal.main_arg1) = m ((c.tc : Thread Cert.KernelDwkvIdeal.nD Cert.KernelDwkvIdeal.τ).loc Cert.KernelDwkvIdeal.main_arg1))
      ∧ r.2.sem = fun _ => 0)

def quiescent_ReferenceDwkvIdeal [hReferenceDwkvIdeal : Cert.ReferenceDwkvIdeal.Facts] : Prop :=
  ∀ (m : (ℓ : Loc Cert.ReferenceDwkvIdeal.nD Cert.ReferenceDwkvIdeal.τ Cert.ReferenceDwkvIdeal.sig) → Buf (Elt Ideal) ℓ) (g : Dev Cert.ReferenceDwkvIdeal.nD → PrngReg), Pre_ReferenceDwkvIdeal m →
    θ_run (Cert.ReferenceDwkvIdeal.defs (F := Ideal)) (onTc (τ := Cert.ReferenceDwkvIdeal.τ) (Cert.ReferenceDwkvIdeal.main (F := Ideal))) ⟨m, fun _ => 0, g⟩ (fun r => (∀ c : Dev Cert.ReferenceDwkvIdeal.nD,
      r.2.mem ((c.tc : Thread Cert.ReferenceDwkvIdeal.nD Cert.ReferenceDwkvIdeal.τ).loc Cert.ReferenceDwkvIdeal.main_arg0) = m ((c.tc : Thread Cert.ReferenceDwkvIdeal.nD Cert.ReferenceDwkvIdeal.τ).loc Cert.ReferenceDwkvIdeal.main_arg0)
      ∧ r.2.mem ((c.tc : Thread Cert.ReferenceDwkvIdeal.nD Cert.ReferenceDwkvIdeal.τ).loc Cert.ReferenceDwkvIdeal.main_arg1) = m ((c.tc : Thread Cert.ReferenceDwkvIdeal.nD Cert.ReferenceDwkvIdeal.τ).loc Cert.ReferenceDwkvIdeal.main_arg1))
      ∧ r.2.sem = fun _ => 0)

def quiescent_KernelDmh [hKernelDmh : Cert.KernelDmh.Facts] : Prop :=
  ∀ (m : (ℓ : Loc Cert.KernelDmh.nD Cert.KernelDmh.τ Cert.KernelDmh.sig) → Buf (Elt Bits) ℓ) (g : Dev Cert.KernelDmh.nD → PrngReg), Pre_KernelDmh m →
    θ_run (Cert.KernelDmh.defs (F := Bits)) (onTc (τ := Cert.KernelDmh.τ) (Cert.KernelDmh.main (F := Bits))) ⟨m, fun _ => 0, g⟩ (fun r => (∀ c : Dev Cert.KernelDmh.nD,
      r.2.mem ((c.tc : Thread Cert.KernelDmh.nD Cert.KernelDmh.τ).loc Cert.KernelDmh.main_arg0) = m ((c.tc : Thread Cert.KernelDmh.nD Cert.KernelDmh.τ).loc Cert.KernelDmh.main_arg0)
      ∧ r.2.mem ((c.tc : Thread Cert.KernelDmh.nD Cert.KernelDmh.τ).loc Cert.KernelDmh.main_arg1) = m ((c.tc : Thread Cert.KernelDmh.nD Cert.KernelDmh.τ).loc Cert.KernelDmh.main_arg1))
      ∧ r.2.sem = fun _ => 0)

def quiescent_KernelDmhIdeal [hKernelDmhIdeal : Cert.KernelDmhIdeal.Facts] : Prop :=
  ∀ (m : (ℓ : Loc Cert.KernelDmhIdeal.nD Cert.KernelDmhIdeal.τ Cert.KernelDmhIdeal.sig) → Buf (Elt Ideal) ℓ) (g : Dev Cert.KernelDmhIdeal.nD → PrngReg), Pre_KernelDmhIdeal m →
    θ_run (Cert.KernelDmhIdeal.defs (F := Ideal)) (onTc (τ := Cert.KernelDmhIdeal.τ) (Cert.KernelDmhIdeal.main (F := Ideal))) ⟨m, fun _ => 0, g⟩ (fun r => (∀ c : Dev Cert.KernelDmhIdeal.nD,
      r.2.mem ((c.tc : Thread Cert.KernelDmhIdeal.nD Cert.KernelDmhIdeal.τ).loc Cert.KernelDmhIdeal.main_arg0) = m ((c.tc : Thread Cert.KernelDmhIdeal.nD Cert.KernelDmhIdeal.τ).loc Cert.KernelDmhIdeal.main_arg0)
      ∧ r.2.mem ((c.tc : Thread Cert.KernelDmhIdeal.nD Cert.KernelDmhIdeal.τ).loc Cert.KernelDmhIdeal.main_arg1) = m ((c.tc : Thread Cert.KernelDmhIdeal.nD Cert.KernelDmhIdeal.τ).loc Cert.KernelDmhIdeal.main_arg1))
      ∧ r.2.sem = fun _ => 0)

def quiescent_ReferenceDmhIdeal [hReferenceDmhIdeal : Cert.ReferenceDmhIdeal.Facts] : Prop :=
  ∀ (m : (ℓ : Loc Cert.ReferenceDmhIdeal.nD Cert.ReferenceDmhIdeal.τ Cert.ReferenceDmhIdeal.sig) → Buf (Elt Ideal) ℓ) (g : Dev Cert.ReferenceDmhIdeal.nD → PrngReg), Pre_ReferenceDmhIdeal m →
    θ_run (Cert.ReferenceDmhIdeal.defs (F := Ideal)) (onTc (τ := Cert.ReferenceDmhIdeal.τ) (Cert.ReferenceDmhIdeal.main (F := Ideal))) ⟨m, fun _ => 0, g⟩ (fun r => (∀ c : Dev Cert.ReferenceDmhIdeal.nD,
      r.2.mem ((c.tc : Thread Cert.ReferenceDmhIdeal.nD Cert.ReferenceDmhIdeal.τ).loc Cert.ReferenceDmhIdeal.main_arg0) = m ((c.tc : Thread Cert.ReferenceDmhIdeal.nD Cert.ReferenceDmhIdeal.τ).loc Cert.ReferenceDmhIdeal.main_arg0)
      ∧ r.2.mem ((c.tc : Thread Cert.ReferenceDmhIdeal.nD Cert.ReferenceDmhIdeal.τ).loc Cert.ReferenceDmhIdeal.main_arg1) = m ((c.tc : Thread Cert.ReferenceDmhIdeal.nD Cert.ReferenceDmhIdeal.τ).loc Cert.ReferenceDmhIdeal.main_arg1))
      ∧ r.2.sem = fun _ => 0)

def quiescent_KernelAbdh [hKernelAbdh : Cert.KernelAbdh.Facts] : Prop :=
  ∀ (m : (ℓ : Loc Cert.KernelAbdh.nD Cert.KernelAbdh.τ Cert.KernelAbdh.sig) → Buf (Elt Bits) ℓ) (g : Dev Cert.KernelAbdh.nD → PrngReg), Pre_KernelAbdh m →
    θ_run (Cert.KernelAbdh.defs (F := Bits)) (onTc (τ := Cert.KernelAbdh.τ) (Cert.KernelAbdh.main (F := Bits))) ⟨m, fun _ => 0, g⟩ (fun r => (∀ c : Dev Cert.KernelAbdh.nD,
      r.2.mem ((c.tc : Thread Cert.KernelAbdh.nD Cert.KernelAbdh.τ).loc Cert.KernelAbdh.main_arg0) = m ((c.tc : Thread Cert.KernelAbdh.nD Cert.KernelAbdh.τ).loc Cert.KernelAbdh.main_arg0)
      ∧ r.2.mem ((c.tc : Thread Cert.KernelAbdh.nD Cert.KernelAbdh.τ).loc Cert.KernelAbdh.main_arg1) = m ((c.tc : Thread Cert.KernelAbdh.nD Cert.KernelAbdh.τ).loc Cert.KernelAbdh.main_arg1)
      ∧ r.2.mem ((c.tc : Thread Cert.KernelAbdh.nD Cert.KernelAbdh.τ).loc Cert.KernelAbdh.main_arg2) = m ((c.tc : Thread Cert.KernelAbdh.nD Cert.KernelAbdh.τ).loc Cert.KernelAbdh.main_arg2)
      ∧ r.2.mem ((c.tc : Thread Cert.KernelAbdh.nD Cert.KernelAbdh.τ).loc Cert.KernelAbdh.main_arg3) = m ((c.tc : Thread Cert.KernelAbdh.nD Cert.KernelAbdh.τ).loc Cert.KernelAbdh.main_arg3)
      ∧ r.2.mem ((c.tc : Thread Cert.KernelAbdh.nD Cert.KernelAbdh.τ).loc Cert.KernelAbdh.main_arg4) = m ((c.tc : Thread Cert.KernelAbdh.nD Cert.KernelAbdh.τ).loc Cert.KernelAbdh.main_arg4))
      ∧ r.2.sem = fun _ => 0)

def quiescent_KernelAbdhIdeal [hKernelAbdhIdeal : Cert.KernelAbdhIdeal.Facts] : Prop :=
  ∀ (m : (ℓ : Loc Cert.KernelAbdhIdeal.nD Cert.KernelAbdhIdeal.τ Cert.KernelAbdhIdeal.sig) → Buf (Elt Ideal) ℓ) (g : Dev Cert.KernelAbdhIdeal.nD → PrngReg), Pre_KernelAbdhIdeal m →
    θ_run (Cert.KernelAbdhIdeal.defs (F := Ideal)) (onTc (τ := Cert.KernelAbdhIdeal.τ) (Cert.KernelAbdhIdeal.main (F := Ideal))) ⟨m, fun _ => 0, g⟩ (fun r => (∀ c : Dev Cert.KernelAbdhIdeal.nD,
      r.2.mem ((c.tc : Thread Cert.KernelAbdhIdeal.nD Cert.KernelAbdhIdeal.τ).loc Cert.KernelAbdhIdeal.main_arg0) = m ((c.tc : Thread Cert.KernelAbdhIdeal.nD Cert.KernelAbdhIdeal.τ).loc Cert.KernelAbdhIdeal.main_arg0)
      ∧ r.2.mem ((c.tc : Thread Cert.KernelAbdhIdeal.nD Cert.KernelAbdhIdeal.τ).loc Cert.KernelAbdhIdeal.main_arg1) = m ((c.tc : Thread Cert.KernelAbdhIdeal.nD Cert.KernelAbdhIdeal.τ).loc Cert.KernelAbdhIdeal.main_arg1)
      ∧ r.2.mem ((c.tc : Thread Cert.KernelAbdhIdeal.nD Cert.KernelAbdhIdeal.τ).loc Cert.KernelAbdhIdeal.main_arg2) = m ((c.tc : Thread Cert.KernelAbdhIdeal.nD Cert.KernelAbdhIdeal.τ).loc Cert.KernelAbdhIdeal.main_arg2)
      ∧ r.2.mem ((c.tc : Thread Cert.KernelAbdhIdeal.nD Cert.KernelAbdhIdeal.τ).loc Cert.KernelAbdhIdeal.main_arg3) = m ((c.tc : Thread Cert.KernelAbdhIdeal.nD Cert.KernelAbdhIdeal.τ).loc Cert.KernelAbdhIdeal.main_arg3)
      ∧ r.2.mem ((c.tc : Thread Cert.KernelAbdhIdeal.nD Cert.KernelAbdhIdeal.τ).loc Cert.KernelAbdhIdeal.main_arg4) = m ((c.tc : Thread Cert.KernelAbdhIdeal.nD Cert.KernelAbdhIdeal.τ).loc Cert.KernelAbdhIdeal.main_arg4))
      ∧ r.2.sem = fun _ => 0)

def quiescent_ReferenceAbdhIdeal [hReferenceAbdhIdeal : Cert.ReferenceAbdhIdeal.Facts] : Prop :=
  ∀ (m : (ℓ : Loc Cert.ReferenceAbdhIdeal.nD Cert.ReferenceAbdhIdeal.τ Cert.ReferenceAbdhIdeal.sig) → Buf (Elt Ideal) ℓ) (g : Dev Cert.ReferenceAbdhIdeal.nD → PrngReg), Pre_ReferenceAbdhIdeal m →
    θ_run (Cert.ReferenceAbdhIdeal.defs (F := Ideal)) (onTc (τ := Cert.ReferenceAbdhIdeal.τ) (Cert.ReferenceAbdhIdeal.main (F := Ideal))) ⟨m, fun _ => 0, g⟩ (fun r => (∀ c : Dev Cert.ReferenceAbdhIdeal.nD,
      r.2.mem ((c.tc : Thread Cert.ReferenceAbdhIdeal.nD Cert.ReferenceAbdhIdeal.τ).loc Cert.ReferenceAbdhIdeal.main_arg0) = m ((c.tc : Thread Cert.ReferenceAbdhIdeal.nD Cert.ReferenceAbdhIdeal.τ).loc Cert.ReferenceAbdhIdeal.main_arg0)
      ∧ r.2.mem ((c.tc : Thread Cert.ReferenceAbdhIdeal.nD Cert.ReferenceAbdhIdeal.τ).loc Cert.ReferenceAbdhIdeal.main_arg1) = m ((c.tc : Thread Cert.ReferenceAbdhIdeal.nD Cert.ReferenceAbdhIdeal.τ).loc Cert.ReferenceAbdhIdeal.main_arg1)
      ∧ r.2.mem ((c.tc : Thread Cert.ReferenceAbdhIdeal.nD Cert.ReferenceAbdhIdeal.τ).loc Cert.ReferenceAbdhIdeal.main_arg2) = m ((c.tc : Thread Cert.ReferenceAbdhIdeal.nD Cert.ReferenceAbdhIdeal.τ).loc Cert.ReferenceAbdhIdeal.main_arg2)
      ∧ r.2.mem ((c.tc : Thread Cert.ReferenceAbdhIdeal.nD Cert.ReferenceAbdhIdeal.τ).loc Cert.ReferenceAbdhIdeal.main_arg3) = m ((c.tc : Thread Cert.ReferenceAbdhIdeal.nD Cert.ReferenceAbdhIdeal.τ).loc Cert.ReferenceAbdhIdeal.main_arg3)
      ∧ r.2.mem ((c.tc : Thread Cert.ReferenceAbdhIdeal.nD Cert.ReferenceAbdhIdeal.τ).loc Cert.ReferenceAbdhIdeal.main_arg4) = m ((c.tc : Thread Cert.ReferenceAbdhIdeal.nD Cert.ReferenceAbdhIdeal.τ).loc Cert.ReferenceAbdhIdeal.main_arg4))
      ∧ r.2.sem = fun _ => 0)

def quiescent_KernelXdh [hKernelXdh : Cert.KernelXdh.Facts] : Prop :=
  ∀ (m : (ℓ : Loc Cert.KernelXdh.nD Cert.KernelXdh.τ Cert.KernelXdh.sig) → Buf (Elt Bits) ℓ) (g : Dev Cert.KernelXdh.nD → PrngReg), Pre_KernelXdh m →
    θ_run (Cert.KernelXdh.defs (F := Bits)) (onTc (τ := Cert.KernelXdh.τ) (Cert.KernelXdh.main (F := Bits))) ⟨m, fun _ => 0, g⟩ (fun r => (∀ c : Dev Cert.KernelXdh.nD,
      r.2.mem ((c.tc : Thread Cert.KernelXdh.nD Cert.KernelXdh.τ).loc Cert.KernelXdh.main_arg0) = m ((c.tc : Thread Cert.KernelXdh.nD Cert.KernelXdh.τ).loc Cert.KernelXdh.main_arg0)
      ∧ r.2.mem ((c.tc : Thread Cert.KernelXdh.nD Cert.KernelXdh.τ).loc Cert.KernelXdh.main_arg1) = m ((c.tc : Thread Cert.KernelXdh.nD Cert.KernelXdh.τ).loc Cert.KernelXdh.main_arg1)
      ∧ r.2.mem ((c.tc : Thread Cert.KernelXdh.nD Cert.KernelXdh.τ).loc Cert.KernelXdh.main_arg2) = m ((c.tc : Thread Cert.KernelXdh.nD Cert.KernelXdh.τ).loc Cert.KernelXdh.main_arg2)
      ∧ r.2.mem ((c.tc : Thread Cert.KernelXdh.nD Cert.KernelXdh.τ).loc Cert.KernelXdh.main_arg3) = m ((c.tc : Thread Cert.KernelXdh.nD Cert.KernelXdh.τ).loc Cert.KernelXdh.main_arg3)
      ∧ r.2.mem ((c.tc : Thread Cert.KernelXdh.nD Cert.KernelXdh.τ).loc Cert.KernelXdh.main_arg4) = m ((c.tc : Thread Cert.KernelXdh.nD Cert.KernelXdh.τ).loc Cert.KernelXdh.main_arg4))
      ∧ r.2.sem = fun _ => 0)

def quiescent_KernelXdhIdeal [hKernelXdhIdeal : Cert.KernelXdhIdeal.Facts] : Prop :=
  ∀ (m : (ℓ : Loc Cert.KernelXdhIdeal.nD Cert.KernelXdhIdeal.τ Cert.KernelXdhIdeal.sig) → Buf (Elt Ideal) ℓ) (g : Dev Cert.KernelXdhIdeal.nD → PrngReg), Pre_KernelXdhIdeal m →
    θ_run (Cert.KernelXdhIdeal.defs (F := Ideal)) (onTc (τ := Cert.KernelXdhIdeal.τ) (Cert.KernelXdhIdeal.main (F := Ideal))) ⟨m, fun _ => 0, g⟩ (fun r => (∀ c : Dev Cert.KernelXdhIdeal.nD,
      r.2.mem ((c.tc : Thread Cert.KernelXdhIdeal.nD Cert.KernelXdhIdeal.τ).loc Cert.KernelXdhIdeal.main_arg0) = m ((c.tc : Thread Cert.KernelXdhIdeal.nD Cert.KernelXdhIdeal.τ).loc Cert.KernelXdhIdeal.main_arg0)
      ∧ r.2.mem ((c.tc : Thread Cert.KernelXdhIdeal.nD Cert.KernelXdhIdeal.τ).loc Cert.KernelXdhIdeal.main_arg1) = m ((c.tc : Thread Cert.KernelXdhIdeal.nD Cert.KernelXdhIdeal.τ).loc Cert.KernelXdhIdeal.main_arg1)
      ∧ r.2.mem ((c.tc : Thread Cert.KernelXdhIdeal.nD Cert.KernelXdhIdeal.τ).loc Cert.KernelXdhIdeal.main_arg2) = m ((c.tc : Thread Cert.KernelXdhIdeal.nD Cert.KernelXdhIdeal.τ).loc Cert.KernelXdhIdeal.main_arg2)
      ∧ r.2.mem ((c.tc : Thread Cert.KernelXdhIdeal.nD Cert.KernelXdhIdeal.τ).loc Cert.KernelXdhIdeal.main_arg3) = m ((c.tc : Thread Cert.KernelXdhIdeal.nD Cert.KernelXdhIdeal.τ).loc Cert.KernelXdhIdeal.main_arg3)
      ∧ r.2.mem ((c.tc : Thread Cert.KernelXdhIdeal.nD Cert.KernelXdhIdeal.τ).loc Cert.KernelXdhIdeal.main_arg4) = m ((c.tc : Thread Cert.KernelXdhIdeal.nD Cert.KernelXdhIdeal.τ).loc Cert.KernelXdhIdeal.main_arg4))
      ∧ r.2.sem = fun _ => 0)

def quiescent_ReferenceXdhIdeal [hReferenceXdhIdeal : Cert.ReferenceXdhIdeal.Facts] : Prop :=
  ∀ (m : (ℓ : Loc Cert.ReferenceXdhIdeal.nD Cert.ReferenceXdhIdeal.τ Cert.ReferenceXdhIdeal.sig) → Buf (Elt Ideal) ℓ) (g : Dev Cert.ReferenceXdhIdeal.nD → PrngReg), Pre_ReferenceXdhIdeal m →
    θ_run (Cert.ReferenceXdhIdeal.defs (F := Ideal)) (onTc (τ := Cert.ReferenceXdhIdeal.τ) (Cert.ReferenceXdhIdeal.main (F := Ideal))) ⟨m, fun _ => 0, g⟩ (fun r => (∀ c : Dev Cert.ReferenceXdhIdeal.nD,
      r.2.mem ((c.tc : Thread Cert.ReferenceXdhIdeal.nD Cert.ReferenceXdhIdeal.τ).loc Cert.ReferenceXdhIdeal.main_arg0) = m ((c.tc : Thread Cert.ReferenceXdhIdeal.nD Cert.ReferenceXdhIdeal.τ).loc Cert.ReferenceXdhIdeal.main_arg0)
      ∧ r.2.mem ((c.tc : Thread Cert.ReferenceXdhIdeal.nD Cert.ReferenceXdhIdeal.τ).loc Cert.ReferenceXdhIdeal.main_arg1) = m ((c.tc : Thread Cert.ReferenceXdhIdeal.nD Cert.ReferenceXdhIdeal.τ).loc Cert.ReferenceXdhIdeal.main_arg1)
      ∧ r.2.mem ((c.tc : Thread Cert.ReferenceXdhIdeal.nD Cert.ReferenceXdhIdeal.τ).loc Cert.ReferenceXdhIdeal.main_arg2) = m ((c.tc : Thread Cert.ReferenceXdhIdeal.nD Cert.ReferenceXdhIdeal.τ).loc Cert.ReferenceXdhIdeal.main_arg2)
      ∧ r.2.mem ((c.tc : Thread Cert.ReferenceXdhIdeal.nD Cert.ReferenceXdhIdeal.τ).loc Cert.ReferenceXdhIdeal.main_arg3) = m ((c.tc : Thread Cert.ReferenceXdhIdeal.nD Cert.ReferenceXdhIdeal.τ).loc Cert.ReferenceXdhIdeal.main_arg3)
      ∧ r.2.mem ((c.tc : Thread Cert.ReferenceXdhIdeal.nD Cert.ReferenceXdhIdeal.τ).loc Cert.ReferenceXdhIdeal.main_arg4) = m ((c.tc : Thread Cert.ReferenceXdhIdeal.nD Cert.ReferenceXdhIdeal.τ).loc Cert.ReferenceXdhIdeal.main_arg4))
      ∧ r.2.sem = fun _ => 0)

def quiescent_KernelDndh1 [hKernelDndh1 : Cert.KernelDndh1.Facts] : Prop :=
  ∀ (m : (ℓ : Loc Cert.KernelDndh1.nD Cert.KernelDndh1.τ Cert.KernelDndh1.sig) → Buf (Elt Bits) ℓ) (g : Dev Cert.KernelDndh1.nD → PrngReg), Pre_KernelDndh1 m →
    θ_run (Cert.KernelDndh1.defs (F := Bits)) (onTc (τ := Cert.KernelDndh1.τ) (Cert.KernelDndh1.main (F := Bits))) ⟨m, fun _ => 0, g⟩ (fun r => (∀ c : Dev Cert.KernelDndh1.nD,
      r.2.mem ((c.tc : Thread Cert.KernelDndh1.nD Cert.KernelDndh1.τ).loc Cert.KernelDndh1.main_arg0) = m ((c.tc : Thread Cert.KernelDndh1.nD Cert.KernelDndh1.τ).loc Cert.KernelDndh1.main_arg0)
      ∧ r.2.mem ((c.tc : Thread Cert.KernelDndh1.nD Cert.KernelDndh1.τ).loc Cert.KernelDndh1.main_arg1) = m ((c.tc : Thread Cert.KernelDndh1.nD Cert.KernelDndh1.τ).loc Cert.KernelDndh1.main_arg1))
      ∧ r.2.sem = fun _ => 0)

def quiescent_KernelDndh1Ideal [hKernelDndh1Ideal : Cert.KernelDndh1Ideal.Facts] : Prop :=
  ∀ (m : (ℓ : Loc Cert.KernelDndh1Ideal.nD Cert.KernelDndh1Ideal.τ Cert.KernelDndh1Ideal.sig) → Buf (Elt Ideal) ℓ) (g : Dev Cert.KernelDndh1Ideal.nD → PrngReg), Pre_KernelDndh1Ideal m →
    θ_run (Cert.KernelDndh1Ideal.defs (F := Ideal)) (onTc (τ := Cert.KernelDndh1Ideal.τ) (Cert.KernelDndh1Ideal.main (F := Ideal))) ⟨m, fun _ => 0, g⟩ (fun r => (∀ c : Dev Cert.KernelDndh1Ideal.nD,
      r.2.mem ((c.tc : Thread Cert.KernelDndh1Ideal.nD Cert.KernelDndh1Ideal.τ).loc Cert.KernelDndh1Ideal.main_arg0) = m ((c.tc : Thread Cert.KernelDndh1Ideal.nD Cert.KernelDndh1Ideal.τ).loc Cert.KernelDndh1Ideal.main_arg0)
      ∧ r.2.mem ((c.tc : Thread Cert.KernelDndh1Ideal.nD Cert.KernelDndh1Ideal.τ).loc Cert.KernelDndh1Ideal.main_arg1) = m ((c.tc : Thread Cert.KernelDndh1Ideal.nD Cert.KernelDndh1Ideal.τ).loc Cert.KernelDndh1Ideal.main_arg1))
      ∧ r.2.sem = fun _ => 0)

def quiescent_ReferenceDndh1Ideal [hReferenceDndh1Ideal : Cert.ReferenceDndh1Ideal.Facts] : Prop :=
  ∀ (m : (ℓ : Loc Cert.ReferenceDndh1Ideal.nD Cert.ReferenceDndh1Ideal.τ Cert.ReferenceDndh1Ideal.sig) → Buf (Elt Ideal) ℓ) (g : Dev Cert.ReferenceDndh1Ideal.nD → PrngReg), Pre_ReferenceDndh1Ideal m →
    θ_run (Cert.ReferenceDndh1Ideal.defs (F := Ideal)) (onTc (τ := Cert.ReferenceDndh1Ideal.τ) (Cert.ReferenceDndh1Ideal.main (F := Ideal))) ⟨m, fun _ => 0, g⟩ (fun r => (∀ c : Dev Cert.ReferenceDndh1Ideal.nD,
      r.2.mem ((c.tc : Thread Cert.ReferenceDndh1Ideal.nD Cert.ReferenceDndh1Ideal.τ).loc Cert.ReferenceDndh1Ideal.main_arg0) = m ((c.tc : Thread Cert.ReferenceDndh1Ideal.nD Cert.ReferenceDndh1Ideal.τ).loc Cert.ReferenceDndh1Ideal.main_arg0)
      ∧ r.2.mem ((c.tc : Thread Cert.ReferenceDndh1Ideal.nD Cert.ReferenceDndh1Ideal.τ).loc Cert.ReferenceDndh1Ideal.main_arg1) = m ((c.tc : Thread Cert.ReferenceDndh1Ideal.nD Cert.ReferenceDndh1Ideal.τ).loc Cert.ReferenceDndh1Ideal.main_arg1))
      ∧ r.2.sem = fun _ => 0)

def quiescent_KernelDndh2 [hKernelDndh2 : Cert.KernelDndh2.Facts] : Prop :=
  ∀ (m : (ℓ : Loc Cert.KernelDndh2.nD Cert.KernelDndh2.τ Cert.KernelDndh2.sig) → Buf (Elt Bits) ℓ) (g : Dev Cert.KernelDndh2.nD → PrngReg), Pre_KernelDndh2 m →
    θ_run (Cert.KernelDndh2.defs (F := Bits)) (onTc (τ := Cert.KernelDndh2.τ) (Cert.KernelDndh2.main (F := Bits))) ⟨m, fun _ => 0, g⟩ (fun r => (∀ c : Dev Cert.KernelDndh2.nD,
      r.2.mem ((c.tc : Thread Cert.KernelDndh2.nD Cert.KernelDndh2.τ).loc Cert.KernelDndh2.main_arg0) = m ((c.tc : Thread Cert.KernelDndh2.nD Cert.KernelDndh2.τ).loc Cert.KernelDndh2.main_arg0)
      ∧ r.2.mem ((c.tc : Thread Cert.KernelDndh2.nD Cert.KernelDndh2.τ).loc Cert.KernelDndh2.main_arg1) = m ((c.tc : Thread Cert.KernelDndh2.nD Cert.KernelDndh2.τ).loc Cert.KernelDndh2.main_arg1)
      ∧ r.2.mem ((c.tc : Thread Cert.KernelDndh2.nD Cert.KernelDndh2.τ).loc Cert.KernelDndh2.main_arg2) = m ((c.tc : Thread Cert.KernelDndh2.nD Cert.KernelDndh2.τ).loc Cert.KernelDndh2.main_arg2))
      ∧ r.2.sem = fun _ => 0)

def quiescent_KernelDndh2Ideal [hKernelDndh2Ideal : Cert.KernelDndh2Ideal.Facts] : Prop :=
  ∀ (m : (ℓ : Loc Cert.KernelDndh2Ideal.nD Cert.KernelDndh2Ideal.τ Cert.KernelDndh2Ideal.sig) → Buf (Elt Ideal) ℓ) (g : Dev Cert.KernelDndh2Ideal.nD → PrngReg), Pre_KernelDndh2Ideal m →
    θ_run (Cert.KernelDndh2Ideal.defs (F := Ideal)) (onTc (τ := Cert.KernelDndh2Ideal.τ) (Cert.KernelDndh2Ideal.main (F := Ideal))) ⟨m, fun _ => 0, g⟩ (fun r => (∀ c : Dev Cert.KernelDndh2Ideal.nD,
      r.2.mem ((c.tc : Thread Cert.KernelDndh2Ideal.nD Cert.KernelDndh2Ideal.τ).loc Cert.KernelDndh2Ideal.main_arg0) = m ((c.tc : Thread Cert.KernelDndh2Ideal.nD Cert.KernelDndh2Ideal.τ).loc Cert.KernelDndh2Ideal.main_arg0)
      ∧ r.2.mem ((c.tc : Thread Cert.KernelDndh2Ideal.nD Cert.KernelDndh2Ideal.τ).loc Cert.KernelDndh2Ideal.main_arg1) = m ((c.tc : Thread Cert.KernelDndh2Ideal.nD Cert.KernelDndh2Ideal.τ).loc Cert.KernelDndh2Ideal.main_arg1)
      ∧ r.2.mem ((c.tc : Thread Cert.KernelDndh2Ideal.nD Cert.KernelDndh2Ideal.τ).loc Cert.KernelDndh2Ideal.main_arg2) = m ((c.tc : Thread Cert.KernelDndh2Ideal.nD Cert.KernelDndh2Ideal.τ).loc Cert.KernelDndh2Ideal.main_arg2))
      ∧ r.2.sem = fun _ => 0)

def quiescent_ReferenceDndh2Ideal [hReferenceDndh2Ideal : Cert.ReferenceDndh2Ideal.Facts] : Prop :=
  ∀ (m : (ℓ : Loc Cert.ReferenceDndh2Ideal.nD Cert.ReferenceDndh2Ideal.τ Cert.ReferenceDndh2Ideal.sig) → Buf (Elt Ideal) ℓ) (g : Dev Cert.ReferenceDndh2Ideal.nD → PrngReg), Pre_ReferenceDndh2Ideal m →
    θ_run (Cert.ReferenceDndh2Ideal.defs (F := Ideal)) (onTc (τ := Cert.ReferenceDndh2Ideal.τ) (Cert.ReferenceDndh2Ideal.main (F := Ideal))) ⟨m, fun _ => 0, g⟩ (fun r => (∀ c : Dev Cert.ReferenceDndh2Ideal.nD,
      r.2.mem ((c.tc : Thread Cert.ReferenceDndh2Ideal.nD Cert.ReferenceDndh2Ideal.τ).loc Cert.ReferenceDndh2Ideal.main_arg0) = m ((c.tc : Thread Cert.ReferenceDndh2Ideal.nD Cert.ReferenceDndh2Ideal.τ).loc Cert.ReferenceDndh2Ideal.main_arg0)
      ∧ r.2.mem ((c.tc : Thread Cert.ReferenceDndh2Ideal.nD Cert.ReferenceDndh2Ideal.τ).loc Cert.ReferenceDndh2Ideal.main_arg1) = m ((c.tc : Thread Cert.ReferenceDndh2Ideal.nD Cert.ReferenceDndh2Ideal.τ).loc Cert.ReferenceDndh2Ideal.main_arg1)
      ∧ r.2.mem ((c.tc : Thread Cert.ReferenceDndh2Ideal.nD Cert.ReferenceDndh2Ideal.τ).loc Cert.ReferenceDndh2Ideal.main_arg2) = m ((c.tc : Thread Cert.ReferenceDndh2Ideal.nD Cert.ReferenceDndh2Ideal.τ).loc Cert.ReferenceDndh2Ideal.main_arg2))
      ∧ r.2.sem = fun _ => 0)

def quiescent_KernelDndh3 [hKernelDndh3 : Cert.KernelDndh3.Facts] : Prop :=
  ∀ (m : (ℓ : Loc Cert.KernelDndh3.nD Cert.KernelDndh3.τ Cert.KernelDndh3.sig) → Buf (Elt Bits) ℓ) (g : Dev Cert.KernelDndh3.nD → PrngReg), Pre_KernelDndh3 m →
    θ_run (Cert.KernelDndh3.defs (F := Bits)) (onTc (τ := Cert.KernelDndh3.τ) (Cert.KernelDndh3.main (F := Bits))) ⟨m, fun _ => 0, g⟩ (fun r => (∀ c : Dev Cert.KernelDndh3.nD,
      r.2.mem ((c.tc : Thread Cert.KernelDndh3.nD Cert.KernelDndh3.τ).loc Cert.KernelDndh3.main_arg0) = m ((c.tc : Thread Cert.KernelDndh3.nD Cert.KernelDndh3.τ).loc Cert.KernelDndh3.main_arg0)
      ∧ r.2.mem ((c.tc : Thread Cert.KernelDndh3.nD Cert.KernelDndh3.τ).loc Cert.KernelDndh3.main_arg1) = m ((c.tc : Thread Cert.KernelDndh3.nD Cert.KernelDndh3.τ).loc Cert.KernelDndh3.main_arg1)
      ∧ r.2.mem ((c.tc : Thread Cert.KernelDndh3.nD Cert.KernelDndh3.τ).loc Cert.KernelDndh3.main_arg2) = m ((c.tc : Thread Cert.KernelDndh3.nD Cert.KernelDndh3.τ).loc Cert.KernelDndh3.main_arg2)
      ∧ r.2.mem ((c.tc : Thread Cert.KernelDndh3.nD Cert.KernelDndh3.τ).loc Cert.KernelDndh3.main_arg3) = m ((c.tc : Thread Cert.KernelDndh3.nD Cert.KernelDndh3.τ).loc Cert.KernelDndh3.main_arg3)
      ∧ r.2.mem ((c.tc : Thread Cert.KernelDndh3.nD Cert.KernelDndh3.τ).loc Cert.KernelDndh3.main_arg4) = m ((c.tc : Thread Cert.KernelDndh3.nD Cert.KernelDndh3.τ).loc Cert.KernelDndh3.main_arg4)
      ∧ r.2.mem ((c.tc : Thread Cert.KernelDndh3.nD Cert.KernelDndh3.τ).loc Cert.KernelDndh3.main_arg5) = m ((c.tc : Thread Cert.KernelDndh3.nD Cert.KernelDndh3.τ).loc Cert.KernelDndh3.main_arg5))
      ∧ r.2.sem = fun _ => 0)

def quiescent_KernelDndh3Ideal [hKernelDndh3Ideal : Cert.KernelDndh3Ideal.Facts] : Prop :=
  ∀ (m : (ℓ : Loc Cert.KernelDndh3Ideal.nD Cert.KernelDndh3Ideal.τ Cert.KernelDndh3Ideal.sig) → Buf (Elt Ideal) ℓ) (g : Dev Cert.KernelDndh3Ideal.nD → PrngReg), Pre_KernelDndh3Ideal m →
    θ_run (Cert.KernelDndh3Ideal.defs (F := Ideal)) (onTc (τ := Cert.KernelDndh3Ideal.τ) (Cert.KernelDndh3Ideal.main (F := Ideal))) ⟨m, fun _ => 0, g⟩ (fun r => (∀ c : Dev Cert.KernelDndh3Ideal.nD,
      r.2.mem ((c.tc : Thread Cert.KernelDndh3Ideal.nD Cert.KernelDndh3Ideal.τ).loc Cert.KernelDndh3Ideal.main_arg0) = m ((c.tc : Thread Cert.KernelDndh3Ideal.nD Cert.KernelDndh3Ideal.τ).loc Cert.KernelDndh3Ideal.main_arg0)
      ∧ r.2.mem ((c.tc : Thread Cert.KernelDndh3Ideal.nD Cert.KernelDndh3Ideal.τ).loc Cert.KernelDndh3Ideal.main_arg1) = m ((c.tc : Thread Cert.KernelDndh3Ideal.nD Cert.KernelDndh3Ideal.τ).loc Cert.KernelDndh3Ideal.main_arg1)
      ∧ r.2.mem ((c.tc : Thread Cert.KernelDndh3Ideal.nD Cert.KernelDndh3Ideal.τ).loc Cert.KernelDndh3Ideal.main_arg2) = m ((c.tc : Thread Cert.KernelDndh3Ideal.nD Cert.KernelDndh3Ideal.τ).loc Cert.KernelDndh3Ideal.main_arg2)
      ∧ r.2.mem ((c.tc : Thread Cert.KernelDndh3Ideal.nD Cert.KernelDndh3Ideal.τ).loc Cert.KernelDndh3Ideal.main_arg3) = m ((c.tc : Thread Cert.KernelDndh3Ideal.nD Cert.KernelDndh3Ideal.τ).loc Cert.KernelDndh3Ideal.main_arg3)
      ∧ r.2.mem ((c.tc : Thread Cert.KernelDndh3Ideal.nD Cert.KernelDndh3Ideal.τ).loc Cert.KernelDndh3Ideal.main_arg4) = m ((c.tc : Thread Cert.KernelDndh3Ideal.nD Cert.KernelDndh3Ideal.τ).loc Cert.KernelDndh3Ideal.main_arg4)
      ∧ r.2.mem ((c.tc : Thread Cert.KernelDndh3Ideal.nD Cert.KernelDndh3Ideal.τ).loc Cert.KernelDndh3Ideal.main_arg5) = m ((c.tc : Thread Cert.KernelDndh3Ideal.nD Cert.KernelDndh3Ideal.τ).loc Cert.KernelDndh3Ideal.main_arg5))
      ∧ r.2.sem = fun _ => 0)

def quiescent_ReferenceDndh3Ideal [hReferenceDndh3Ideal : Cert.ReferenceDndh3Ideal.Facts] : Prop :=
  ∀ (m : (ℓ : Loc Cert.ReferenceDndh3Ideal.nD Cert.ReferenceDndh3Ideal.τ Cert.ReferenceDndh3Ideal.sig) → Buf (Elt Ideal) ℓ) (g : Dev Cert.ReferenceDndh3Ideal.nD → PrngReg), Pre_ReferenceDndh3Ideal m →
    θ_run (Cert.ReferenceDndh3Ideal.defs (F := Ideal)) (onTc (τ := Cert.ReferenceDndh3Ideal.τ) (Cert.ReferenceDndh3Ideal.main (F := Ideal))) ⟨m, fun _ => 0, g⟩ (fun r => (∀ c : Dev Cert.ReferenceDndh3Ideal.nD,
      r.2.mem ((c.tc : Thread Cert.ReferenceDndh3Ideal.nD Cert.ReferenceDndh3Ideal.τ).loc Cert.ReferenceDndh3Ideal.main_arg0) = m ((c.tc : Thread Cert.ReferenceDndh3Ideal.nD Cert.ReferenceDndh3Ideal.τ).loc Cert.ReferenceDndh3Ideal.main_arg0)
      ∧ r.2.mem ((c.tc : Thread Cert.ReferenceDndh3Ideal.nD Cert.ReferenceDndh3Ideal.τ).loc Cert.ReferenceDndh3Ideal.main_arg1) = m ((c.tc : Thread Cert.ReferenceDndh3Ideal.nD Cert.ReferenceDndh3Ideal.τ).loc Cert.ReferenceDndh3Ideal.main_arg1)
      ∧ r.2.mem ((c.tc : Thread Cert.ReferenceDndh3Ideal.nD Cert.ReferenceDndh3Ideal.τ).loc Cert.ReferenceDndh3Ideal.main_arg2) = m ((c.tc : Thread Cert.ReferenceDndh3Ideal.nD Cert.ReferenceDndh3Ideal.τ).loc Cert.ReferenceDndh3Ideal.main_arg2)
      ∧ r.2.mem ((c.tc : Thread Cert.ReferenceDndh3Ideal.nD Cert.ReferenceDndh3Ideal.τ).loc Cert.ReferenceDndh3Ideal.main_arg3) = m ((c.tc : Thread Cert.ReferenceDndh3Ideal.nD Cert.ReferenceDndh3Ideal.τ).loc Cert.ReferenceDndh3Ideal.main_arg3)
      ∧ r.2.mem ((c.tc : Thread Cert.ReferenceDndh3Ideal.nD Cert.ReferenceDndh3Ideal.τ).loc Cert.ReferenceDndh3Ideal.main_arg4) = m ((c.tc : Thread Cert.ReferenceDndh3Ideal.nD Cert.ReferenceDndh3Ideal.τ).loc Cert.ReferenceDndh3Ideal.main_arg4)
      ∧ r.2.mem ((c.tc : Thread Cert.ReferenceDndh3Ideal.nD Cert.ReferenceDndh3Ideal.τ).loc Cert.ReferenceDndh3Ideal.main_arg5) = m ((c.tc : Thread Cert.ReferenceDndh3Ideal.nD Cert.ReferenceDndh3Ideal.τ).loc Cert.ReferenceDndh3Ideal.main_arg5))
      ∧ r.2.sem = fun _ => 0)

def quiescent_KernelMnorm [hKernelMnorm : Cert.KernelMnorm.Facts] : Prop :=
  ∀ (m : (ℓ : Loc Cert.KernelMnorm.nD Cert.KernelMnorm.τ Cert.KernelMnorm.sig) → Buf (Elt Bits) ℓ) (g : Dev Cert.KernelMnorm.nD → PrngReg), Pre_KernelMnorm m →
    θ_run (Cert.KernelMnorm.defs (F := Bits)) (onTc (τ := Cert.KernelMnorm.τ) (Cert.KernelMnorm.main (F := Bits))) ⟨m, fun _ => 0, g⟩ (fun r => (∀ c : Dev Cert.KernelMnorm.nD,
      r.2.mem ((c.tc : Thread Cert.KernelMnorm.nD Cert.KernelMnorm.τ).loc Cert.KernelMnorm.main_arg0) = m ((c.tc : Thread Cert.KernelMnorm.nD Cert.KernelMnorm.τ).loc Cert.KernelMnorm.main_arg0)
      ∧ r.2.mem ((c.tc : Thread Cert.KernelMnorm.nD Cert.KernelMnorm.τ).loc Cert.KernelMnorm.main_arg1) = m ((c.tc : Thread Cert.KernelMnorm.nD Cert.KernelMnorm.τ).loc Cert.KernelMnorm.main_arg1))
      ∧ r.2.sem = fun _ => 0)

def quiescent_KernelMnormIdeal [hKernelMnormIdeal : Cert.KernelMnormIdeal.Facts] : Prop :=
  ∀ (m : (ℓ : Loc Cert.KernelMnormIdeal.nD Cert.KernelMnormIdeal.τ Cert.KernelMnormIdeal.sig) → Buf (Elt Ideal) ℓ) (g : Dev Cert.KernelMnormIdeal.nD → PrngReg), Pre_KernelMnormIdeal m →
    θ_run (Cert.KernelMnormIdeal.defs (F := Ideal)) (onTc (τ := Cert.KernelMnormIdeal.τ) (Cert.KernelMnormIdeal.main (F := Ideal))) ⟨m, fun _ => 0, g⟩ (fun r => (∀ c : Dev Cert.KernelMnormIdeal.nD,
      r.2.mem ((c.tc : Thread Cert.KernelMnormIdeal.nD Cert.KernelMnormIdeal.τ).loc Cert.KernelMnormIdeal.main_arg0) = m ((c.tc : Thread Cert.KernelMnormIdeal.nD Cert.KernelMnormIdeal.τ).loc Cert.KernelMnormIdeal.main_arg0)
      ∧ r.2.mem ((c.tc : Thread Cert.KernelMnormIdeal.nD Cert.KernelMnormIdeal.τ).loc Cert.KernelMnormIdeal.main_arg1) = m ((c.tc : Thread Cert.KernelMnormIdeal.nD Cert.KernelMnormIdeal.τ).loc Cert.KernelMnormIdeal.main_arg1))
      ∧ r.2.sem = fun _ => 0)

def quiescent_ReferenceMnormIdeal [hReferenceMnormIdeal : Cert.ReferenceMnormIdeal.Facts] : Prop :=
  ∀ (m : (ℓ : Loc Cert.ReferenceMnormIdeal.nD Cert.ReferenceMnormIdeal.τ Cert.ReferenceMnormIdeal.sig) → Buf (Elt Ideal) ℓ) (g : Dev Cert.ReferenceMnormIdeal.nD → PrngReg), Pre_ReferenceMnormIdeal m →
    θ_run (Cert.ReferenceMnormIdeal.defs (F := Ideal)) (onTc (τ := Cert.ReferenceMnormIdeal.τ) (Cert.ReferenceMnormIdeal.main (F := Ideal))) ⟨m, fun _ => 0, g⟩ (fun r => (∀ c : Dev Cert.ReferenceMnormIdeal.nD,
      r.2.mem ((c.tc : Thread Cert.ReferenceMnormIdeal.nD Cert.ReferenceMnormIdeal.τ).loc Cert.ReferenceMnormIdeal.main_arg0) = m ((c.tc : Thread Cert.ReferenceMnormIdeal.nD Cert.ReferenceMnormIdeal.τ).loc Cert.ReferenceMnormIdeal.main_arg0)
      ∧ r.2.mem ((c.tc : Thread Cert.ReferenceMnormIdeal.nD Cert.ReferenceMnormIdeal.τ).loc Cert.ReferenceMnormIdeal.main_arg1) = m ((c.tc : Thread Cert.ReferenceMnormIdeal.nD Cert.ReferenceMnormIdeal.τ).loc Cert.ReferenceMnormIdeal.main_arg1))
      ∧ r.2.sem = fun _ => 0)

def quiescent_KernelDmnorm [hKernelDmnorm : Cert.KernelDmnorm.Facts] : Prop :=
  ∀ (m : (ℓ : Loc Cert.KernelDmnorm.nD Cert.KernelDmnorm.τ Cert.KernelDmnorm.sig) → Buf (Elt Bits) ℓ) (g : Dev Cert.KernelDmnorm.nD → PrngReg), Pre_KernelDmnorm m →
    θ_run (Cert.KernelDmnorm.defs (F := Bits)) (onTc (τ := Cert.KernelDmnorm.τ) (Cert.KernelDmnorm.main (F := Bits))) ⟨m, fun _ => 0, g⟩ (fun r => (∀ c : Dev Cert.KernelDmnorm.nD,
      r.2.mem ((c.tc : Thread Cert.KernelDmnorm.nD Cert.KernelDmnorm.τ).loc Cert.KernelDmnorm.main_arg0) = m ((c.tc : Thread Cert.KernelDmnorm.nD Cert.KernelDmnorm.τ).loc Cert.KernelDmnorm.main_arg0)
      ∧ r.2.mem ((c.tc : Thread Cert.KernelDmnorm.nD Cert.KernelDmnorm.τ).loc Cert.KernelDmnorm.main_arg1) = m ((c.tc : Thread Cert.KernelDmnorm.nD Cert.KernelDmnorm.τ).loc Cert.KernelDmnorm.main_arg1)
      ∧ r.2.mem ((c.tc : Thread Cert.KernelDmnorm.nD Cert.KernelDmnorm.τ).loc Cert.KernelDmnorm.main_arg2) = m ((c.tc : Thread Cert.KernelDmnorm.nD Cert.KernelDmnorm.τ).loc Cert.KernelDmnorm.main_arg2))
      ∧ r.2.sem = fun _ => 0)

def quiescent_KernelDmnormIdeal [hKernelDmnormIdeal : Cert.KernelDmnormIdeal.Facts] : Prop :=
  ∀ (m : (ℓ : Loc Cert.KernelDmnormIdeal.nD Cert.KernelDmnormIdeal.τ Cert.KernelDmnormIdeal.sig) → Buf (Elt Ideal) ℓ) (g : Dev Cert.KernelDmnormIdeal.nD → PrngReg), Pre_KernelDmnormIdeal m →
    θ_run (Cert.KernelDmnormIdeal.defs (F := Ideal)) (onTc (τ := Cert.KernelDmnormIdeal.τ) (Cert.KernelDmnormIdeal.main (F := Ideal))) ⟨m, fun _ => 0, g⟩ (fun r => (∀ c : Dev Cert.KernelDmnormIdeal.nD,
      r.2.mem ((c.tc : Thread Cert.KernelDmnormIdeal.nD Cert.KernelDmnormIdeal.τ).loc Cert.KernelDmnormIdeal.main_arg0) = m ((c.tc : Thread Cert.KernelDmnormIdeal.nD Cert.KernelDmnormIdeal.τ).loc Cert.KernelDmnormIdeal.main_arg0)
      ∧ r.2.mem ((c.tc : Thread Cert.KernelDmnormIdeal.nD Cert.KernelDmnormIdeal.τ).loc Cert.KernelDmnormIdeal.main_arg1) = m ((c.tc : Thread Cert.KernelDmnormIdeal.nD Cert.KernelDmnormIdeal.τ).loc Cert.KernelDmnormIdeal.main_arg1)
      ∧ r.2.mem ((c.tc : Thread Cert.KernelDmnormIdeal.nD Cert.KernelDmnormIdeal.τ).loc Cert.KernelDmnormIdeal.main_arg2) = m ((c.tc : Thread Cert.KernelDmnormIdeal.nD Cert.KernelDmnormIdeal.τ).loc Cert.KernelDmnormIdeal.main_arg2))
      ∧ r.2.sem = fun _ => 0)

def quiescent_ReferenceDmnormIdeal [hReferenceDmnormIdeal : Cert.ReferenceDmnormIdeal.Facts] : Prop :=
  ∀ (m : (ℓ : Loc Cert.ReferenceDmnormIdeal.nD Cert.ReferenceDmnormIdeal.τ Cert.ReferenceDmnormIdeal.sig) → Buf (Elt Ideal) ℓ) (g : Dev Cert.ReferenceDmnormIdeal.nD → PrngReg), Pre_ReferenceDmnormIdeal m →
    θ_run (Cert.ReferenceDmnormIdeal.defs (F := Ideal)) (onTc (τ := Cert.ReferenceDmnormIdeal.τ) (Cert.ReferenceDmnormIdeal.main (F := Ideal))) ⟨m, fun _ => 0, g⟩ (fun r => (∀ c : Dev Cert.ReferenceDmnormIdeal.nD,
      r.2.mem ((c.tc : Thread Cert.ReferenceDmnormIdeal.nD Cert.ReferenceDmnormIdeal.τ).loc Cert.ReferenceDmnormIdeal.main_arg0) = m ((c.tc : Thread Cert.ReferenceDmnormIdeal.nD Cert.ReferenceDmnormIdeal.τ).loc Cert.ReferenceDmnormIdeal.main_arg0)
      ∧ r.2.mem ((c.tc : Thread Cert.ReferenceDmnormIdeal.nD Cert.ReferenceDmnormIdeal.τ).loc Cert.ReferenceDmnormIdeal.main_arg1) = m ((c.tc : Thread Cert.ReferenceDmnormIdeal.nD Cert.ReferenceDmnormIdeal.τ).loc Cert.ReferenceDmnormIdeal.main_arg1)
      ∧ r.2.mem ((c.tc : Thread Cert.ReferenceDmnormIdeal.nD Cert.ReferenceDmnormIdeal.τ).loc Cert.ReferenceDmnormIdeal.main_arg2) = m ((c.tc : Thread Cert.ReferenceDmnormIdeal.nD Cert.ReferenceDmnormIdeal.τ).loc Cert.ReferenceDmnormIdeal.main_arg2))
      ∧ r.2.sem = fun _ => 0)

def preserves_KernelDa_KernelDaIdeal : Prop :=
  True

def algebraic_KernelDaIdeal_ReferenceDaIdeal_pre_finite_da [hKernelDaIdeal : Cert.KernelDaIdeal.Facts] [hReferenceDaIdeal : Cert.ReferenceDaIdeal.Facts] [hPre_finite_da : Cert.Pre_finite_da.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal_finite_da m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)
      ∧ m' ((c.tc : Thread Cert.ReferenceDaIdeal.nD Cert.ReferenceDaIdeal.τ).loc Cert.ReferenceDaIdeal.main_arg2) = m ((c.tc : Thread Cert.KernelDaIdeal.nD Cert.KernelDaIdeal.τ).loc Cert.KernelDaIdeal.main_arg2)
      ∧ m' ((c.tc : Thread Cert.ReferenceDaIdeal.nD Cert.ReferenceDaIdeal.τ).loc Cert.ReferenceDaIdeal.main_arg3) = m ((c.tc : Thread Cert.KernelDaIdeal.nD Cert.KernelDaIdeal.τ).loc Cert.KernelDaIdeal.main_arg3)) →
    ∃ (v0 : (c : Dev Cert.KernelDaIdeal.nD) → Buf (Elt Ideal) ((c.tc : Thread Cert.KernelDaIdeal.nD Cert.KernelDaIdeal.τ).loc Cert.KernelDaIdeal.main_v3)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v3) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
          ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2)
          ∧ r.2.mem ((c.tc : Thread Cert.KernelDaIdeal.nD Cert.KernelDaIdeal.τ).loc Cert.KernelDaIdeal.main_arg3) = m ((c.tc : Thread Cert.KernelDaIdeal.nD Cert.KernelDaIdeal.τ).loc Cert.KernelDaIdeal.main_arg3))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v12) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1)
          ∧ r.2.mem ((c.tc : Thread Cert.ReferenceDaIdeal.nD Cert.ReferenceDaIdeal.τ).loc Cert.ReferenceDaIdeal.main_arg2) = m' ((c.tc : Thread Cert.ReferenceDaIdeal.nD Cert.ReferenceDaIdeal.τ).loc Cert.ReferenceDaIdeal.main_arg2)
          ∧ r.2.mem ((c.tc : Thread Cert.ReferenceDaIdeal.nD Cert.ReferenceDaIdeal.τ).loc Cert.ReferenceDaIdeal.main_arg3) = m' ((c.tc : Thread Cert.ReferenceDaIdeal.nD Cert.ReferenceDaIdeal.τ).loc Cert.ReferenceDaIdeal.main_arg3))

def preserves_KernelDwout_KernelDwoutIdeal : Prop :=
  True

def algebraic_KernelDwoutIdeal_ReferenceDwoutIdeal [hKernelDwoutIdeal : Cert.KernelDwoutIdeal.Facts] [hReferenceDwoutIdeal : Cert.ReferenceDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg)
    (m' : (ℓ : Loc Cert.ReferenceDwoutIdeal.nD Cert.ReferenceDwoutIdeal.τ Cert.ReferenceDwoutIdeal.sig) → Buf (Elt Ideal) ℓ) (g' : Dev Cert.ReferenceDwoutIdeal.nD → PrngReg), Pre_KernelDwoutIdeal m →
    (∀ c : Dev Cert.KernelDwoutIdeal.nD,
      m' ((c.tc : Thread Cert.ReferenceDwoutIdeal.nD Cert.ReferenceDwoutIdeal.τ).loc Cert.ReferenceDwoutIdeal.main_arg0) = m ((c.tc : Thread Cert.KernelDwoutIdeal.nD Cert.KernelDwoutIdeal.τ).loc Cert.KernelDwoutIdeal.main_arg0)
      ∧ m' ((c.tc : Thread Cert.ReferenceDwoutIdeal.nD Cert.ReferenceDwoutIdeal.τ).loc Cert.ReferenceDwoutIdeal.main_arg1) = m ((c.tc : Thread Cert.KernelDwoutIdeal.nD Cert.KernelDwoutIdeal.τ).loc Cert.KernelDwoutIdeal.main_arg1)) →
    ∃ (v0 : (c : Dev Cert.KernelDwoutIdeal.nD) → Buf (Elt Ideal) ((c.tc : Thread Cert.KernelDwoutIdeal.nD Cert.KernelDwoutIdeal.τ).loc Cert.KernelDwoutIdeal.main_v1)),
      θ_run (Cert.KernelDwoutIdeal.defs (F := Ideal)) (onTc (τ := Cert.KernelDwoutIdeal.τ) (Cert.KernelDwoutIdeal.main (F := Ideal))) ⟨m, fun _ => 0, g⟩ (fun r => ∀ c : Dev Cert.KernelDwoutIdeal.nD,
          r.2.mem ((c.tc : Thread Cert.KernelDwoutIdeal.nD Cert.KernelDwoutIdeal.τ).loc Cert.KernelDwoutIdeal.main_v1) = v0 c
          ∧ r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
          ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ θ_run (Cert.ReferenceDwoutIdeal.defs (F := Ideal)) (onTc (τ := Cert.ReferenceDwoutIdeal.τ) (Cert.ReferenceDwoutIdeal.main (F := Ideal))) ⟨m', fun _ => 0, g'⟩ (fun r => ∀ c : Dev Cert.ReferenceDwoutIdeal.nD,
          r.2.mem ((c.tc : Thread Cert.ReferenceDwoutIdeal.nD Cert.ReferenceDwoutIdeal.τ).loc Cert.ReferenceDwoutIdeal.main_v7) = v0 c
          ∧ r.2.mem ((c.tc : Thread Cert.ReferenceDwoutIdeal.nD Cert.ReferenceDwoutIdeal.τ).loc Cert.ReferenceDwoutIdeal.main_arg0) = m' ((c.tc : Thread Cert.ReferenceDwoutIdeal.nD Cert.ReferenceDwoutIdeal.τ).loc Cert.ReferenceDwoutIdeal.main_arg0)
          ∧ r.2.mem ((c.tc : Thread Cert.ReferenceDwoutIdeal.nD Cert.ReferenceDwoutIdeal.τ).loc Cert.ReferenceDwoutIdeal.main_arg1) = m' ((c.tc : Thread Cert.ReferenceDwoutIdeal.nD Cert.ReferenceDwoutIdeal.τ).loc Cert.ReferenceDwoutIdeal.main_arg1))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)) →
    ∃ (v0 : (c : Dev Cert.KernelDwinIdeal.nD) → Buf (Elt Ideal) ((c.tc : Thread Cert.KernelDwinIdeal.nD Cert.KernelDwinIdeal.τ).loc Cert.KernelDwinIdeal.main_v2)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v2) = v0 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v4) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)) →
    ∃ (v0 : (c : Dev Cert.KernelDhIdeal.nD) → Buf (Elt Ideal) ((c.tc : Thread Cert.KernelDhIdeal.nD Cert.KernelDhIdeal.τ).loc Cert.KernelDhIdeal.main_v3_0)) (v1 : (c : Dev Cert.KernelDhIdeal.nD) → Buf (Elt Ideal) ((c.tc : Thread Cert.KernelDhIdeal.nD Cert.KernelDhIdeal.τ).loc Cert.KernelDhIdeal.main_v3_1)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v3_0) = v0 c
          ∧ r.2.mem ((c.tc : Thread Cert.KernelDhIdeal.nD Cert.KernelDhIdeal.τ).loc Cert.KernelDhIdeal.main_v3_1) = v1 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v39) = v0 c
          ∧ r.2.mem ((c.tc : Thread Cert.ReferenceDhIdeal.nD Cert.ReferenceDhIdeal.τ).loc Cert.ReferenceDhIdeal.main_v40) = v1 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4))

def preserves_KernelSwiglu_KernelSwigluIdeal : Prop :=
  True

def algebraic_KernelSwigluIdeal_ReferenceSwigluIdeal [hKernelSwigluIdeal : Cert.KernelSwigluIdeal.Facts] [hReferenceSwigluIdeal : Cert.ReferenceSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg)
    (m' : (ℓ : Loc Cert.ReferenceSwigluIdeal.nD Cert.ReferenceSwigluIdeal.τ Cert.ReferenceSwigluIdeal.sig) → Buf (Elt Ideal) ℓ) (g' : Dev Cert.ReferenceSwigluIdeal.nD → PrngReg), Pre_KernelSwigluIdeal m →
    (∀ c : Dev Cert.KernelSwigluIdeal.nD,
      m' ((c.tc : Thread Cert.ReferenceSwigluIdeal.nD Cert.ReferenceSwigluIdeal.τ).loc Cert.ReferenceSwigluIdeal.main_arg0) = m ((c.tc : Thread Cert.KernelSwigluIdeal.nD Cert.KernelSwigluIdeal.τ).loc Cert.KernelSwigluIdeal.main_arg0)
      ∧ m' ((c.tc : Thread Cert.ReferenceSwigluIdeal.nD Cert.ReferenceSwigluIdeal.τ).loc Cert.ReferenceSwigluIdeal.main_arg1) = m ((c.tc : Thread Cert.KernelSwigluIdeal.nD Cert.KernelSwigluIdeal.τ).loc Cert.KernelSwigluIdeal.main_arg1)) →
    ∃ (v0 : (c : Dev Cert.KernelSwigluIdeal.nD) → Buf (Elt Ideal) ((c.tc : Thread Cert.KernelSwigluIdeal.nD Cert.KernelSwigluIdeal.τ).loc Cert.KernelSwigluIdeal.main_v2_0)) (v1 : (c : Dev Cert.KernelSwigluIdeal.nD) → Buf (Elt Ideal) ((c.tc : Thread Cert.KernelSwigluIdeal.nD Cert.KernelSwigluIdeal.τ).loc Cert.KernelSwigluIdeal.main_v2_1)) (v2 : (c : Dev Cert.KernelSwigluIdeal.nD) → Buf (Elt Ideal) ((c.tc : Thread Cert.KernelSwigluIdeal.nD Cert.KernelSwigluIdeal.τ).loc Cert.KernelSwigluIdeal.main_v2_2)),
      θ_run (Cert.KernelSwigluIdeal.defs (F := Ideal)) (onTc (τ := Cert.KernelSwigluIdeal.τ) (Cert.KernelSwigluIdeal.main (F := Ideal))) ⟨m, fun _ => 0, g⟩ (fun r => ∀ c : Dev Cert.KernelSwigluIdeal.nD,
          r.2.mem ((c.tc : Thread Cert.KernelSwigluIdeal.nD Cert.KernelSwigluIdeal.τ).loc Cert.KernelSwigluIdeal.main_v2_0) = v0 c
          ∧ r.2.mem ((c.tc : Thread Cert.KernelSwigluIdeal.nD Cert.KernelSwigluIdeal.τ).loc Cert.KernelSwigluIdeal.main_v2_1) = v1 c
          ∧ r.2.mem ((c.tc : Thread Cert.KernelSwigluIdeal.nD Cert.KernelSwigluIdeal.τ).loc Cert.KernelSwigluIdeal.main_v2_2) = v2 c
          ∧ r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
          ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1))
      ∧ θ_run (Cert.ReferenceSwigluIdeal.defs (F := Ideal)) (onTc (τ := Cert.ReferenceSwigluIdeal.τ) (Cert.ReferenceSwigluIdeal.main (F := Ideal))) ⟨m', fun _ => 0, g'⟩ (fun r => ∀ c : Dev Cert.ReferenceSwigluIdeal.nD,
          r.2.mem ((c.tc : Thread Cert.ReferenceSwigluIdeal.nD Cert.ReferenceSwigluIdeal.τ).loc Cert.ReferenceSwigluIdeal.main_v4) = v0 c
          ∧ r.2.mem ((c.tc : Thread Cert.ReferenceSwigluIdeal.nD Cert.ReferenceSwigluIdeal.τ).loc Cert.ReferenceSwigluIdeal.main_v5) = v1 c
          ∧ r.2.mem ((c.tc : Thread Cert.ReferenceSwigluIdeal.nD Cert.ReferenceSwigluIdeal.τ).loc Cert.ReferenceSwigluIdeal.main_v8) = v2 c
          ∧ r.2.mem ((c.tc : Thread Cert.ReferenceSwigluIdeal.nD Cert.ReferenceSwigluIdeal.τ).loc Cert.ReferenceSwigluIdeal.main_arg0) = m' ((c.tc : Thread Cert.ReferenceSwigluIdeal.nD Cert.ReferenceSwigluIdeal.τ).loc Cert.ReferenceSwigluIdeal.main_arg0)
          ∧ r.2.mem ((c.tc : Thread Cert.ReferenceSwigluIdeal.nD Cert.ReferenceSwigluIdeal.τ).loc Cert.ReferenceSwigluIdeal.main_arg1) = m' ((c.tc : Thread Cert.ReferenceSwigluIdeal.nD Cert.ReferenceSwigluIdeal.τ).loc Cert.ReferenceSwigluIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v3_0)) (v1 : (c : Dev Cert.KernelOutIdeal.nD) → Buf (Elt Ideal) ((c.tc : Thread Cert.KernelOutIdeal.nD Cert.KernelOutIdeal.τ).loc Cert.KernelOutIdeal.main_v3_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3_0) = v0 c
          ∧ r.2.mem ((c.tc : Thread Cert.KernelOutIdeal.nD Cert.KernelOutIdeal.τ).loc Cert.KernelOutIdeal.main_v3_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_v17) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v3_0)) (v1 : (c : Dev Cert.KernelProjIdeal.nD) → Buf (Elt Ideal) ((c.tc : Thread Cert.KernelProjIdeal.nD Cert.KernelProjIdeal.τ).loc Cert.KernelProjIdeal.main_v3_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v3_0) = v0 c
          ∧ r.2.mem ((c.tc : Thread Cert.KernelProjIdeal.nD Cert.KernelProjIdeal.τ).loc Cert.KernelProjIdeal.main_v3_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v1) = v0 c
          ∧ r.2.mem ((c.tc : Thread Cert.ReferenceProjIdeal.nD Cert.ReferenceProjIdeal.τ).loc Cert.ReferenceProjIdeal.main_v15) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)) →
    ∃ (v0 : (c : Dev Cert.KernelDwoIdeal.nD) → Buf (Elt Ideal) ((c.tc : Thread Cert.KernelDwoIdeal.nD Cert.KernelDwoIdeal.τ).loc Cert.KernelDwoIdeal.main_v1)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v1) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v3) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)) →
    ∃ (v0 : (c : Dev Cert.KernelDoIdeal.nD) → Buf (Elt Ideal) ((c.tc : Thread Cert.KernelDoIdeal.nD Cert.KernelDoIdeal.τ).loc Cert.KernelDoIdeal.main_v1)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v1) = v0 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v2) = v0 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1))

def preserves_KernelXa_KernelXaIdeal : Prop :=
  True

def algebraic_KernelXaIdeal_ReferenceXaIdeal_pre_finite_xa [hKernelXaIdeal : Cert.KernelXaIdeal.Facts] [hReferenceXaIdeal : Cert.ReferenceXaIdeal.Facts] [hPre_finite_xa : Cert.Pre_finite_xa.Facts] : Prop :=
  ∀ (m : (ℓ : Loc Cert.KernelXaIdeal.nD Cert.KernelXaIdeal.τ Cert.KernelXaIdeal.sig) → Buf (Elt Ideal) ℓ) (g : Dev Cert.KernelXaIdeal.nD → PrngReg)
    (m' : (ℓ : Loc Cert.ReferenceXaIdeal.nD Cert.ReferenceXaIdeal.τ Cert.ReferenceXaIdeal.sig) → Buf (Elt Ideal) ℓ) (g' : Dev Cert.ReferenceXaIdeal.nD → PrngReg), Pre_KernelXaIdeal_finite_xa m →
    (∀ c : Dev Cert.KernelXaIdeal.nD,
      m' ((c.tc : Thread Cert.ReferenceXaIdeal.nD Cert.ReferenceXaIdeal.τ).loc Cert.ReferenceXaIdeal.main_arg0) = m ((c.tc : Thread Cert.KernelXaIdeal.nD Cert.KernelXaIdeal.τ).loc Cert.KernelXaIdeal.main_arg0)
      ∧ m' ((c.tc : Thread Cert.ReferenceXaIdeal.nD Cert.ReferenceXaIdeal.τ).loc Cert.ReferenceXaIdeal.main_arg1) = m ((c.tc : Thread Cert.KernelXaIdeal.nD Cert.KernelXaIdeal.τ).loc Cert.KernelXaIdeal.main_arg1)
      ∧ m' ((c.tc : Thread Cert.ReferenceXaIdeal.nD Cert.ReferenceXaIdeal.τ).loc Cert.ReferenceXaIdeal.main_arg2) = m ((c.tc : Thread Cert.KernelXaIdeal.nD Cert.KernelXaIdeal.τ).loc Cert.KernelXaIdeal.main_arg2)
      ∧ m' ((c.tc : Thread Cert.ReferenceXaIdeal.nD Cert.ReferenceXaIdeal.τ).loc Cert.ReferenceXaIdeal.main_arg3) = m ((c.tc : Thread Cert.KernelXaIdeal.nD Cert.KernelXaIdeal.τ).loc Cert.KernelXaIdeal.main_arg3)) →
    ∃ (v0 : (c : Dev Cert.KernelXaIdeal.nD) → Buf (Elt Ideal) ((c.tc : Thread Cert.KernelXaIdeal.nD Cert.KernelXaIdeal.τ).loc Cert.KernelXaIdeal.main_v0_0)) (v1 : (c : Dev Cert.KernelXaIdeal.nD) → Buf (Elt Ideal) ((c.tc : Thread Cert.KernelXaIdeal.nD Cert.KernelXaIdeal.τ).loc Cert.KernelXaIdeal.main_v0_1)) (v2 : (c : Dev Cert.KernelXaIdeal.nD) → Buf (Elt Ideal) ((c.tc : Thread Cert.KernelXaIdeal.nD Cert.KernelXaIdeal.τ).loc Cert.KernelXaIdeal.main_v0_2)),
      θ_run (Cert.KernelXaIdeal.defs (F := Ideal)) (onTc (τ := Cert.KernelXaIdeal.τ) (Cert.KernelXaIdeal.main (F := Ideal))) ⟨m, fun _ => 0, g⟩ (fun r => ∀ c : Dev Cert.KernelXaIdeal.nD,
          r.2.mem ((c.tc : Thread Cert.KernelXaIdeal.nD Cert.KernelXaIdeal.τ).loc Cert.KernelXaIdeal.main_v0_0) = v0 c
          ∧ r.2.mem ((c.tc : Thread Cert.KernelXaIdeal.nD Cert.KernelXaIdeal.τ).loc Cert.KernelXaIdeal.main_v0_1) = v1 c
          ∧ r.2.mem ((c.tc : Thread Cert.KernelXaIdeal.nD Cert.KernelXaIdeal.τ).loc Cert.KernelXaIdeal.main_v0_2) = v2 c
          ∧ r.2.mem ((c.tc : Thread Cert.KernelXaIdeal.nD Cert.KernelXaIdeal.τ).loc Cert.KernelXaIdeal.main_arg0) = m ((c.tc : Thread Cert.KernelXaIdeal.nD Cert.KernelXaIdeal.τ).loc Cert.KernelXaIdeal.main_arg0)
          ∧ r.2.mem ((c.tc : Thread Cert.KernelXaIdeal.nD Cert.KernelXaIdeal.τ).loc Cert.KernelXaIdeal.main_arg1) = m ((c.tc : Thread Cert.KernelXaIdeal.nD Cert.KernelXaIdeal.τ).loc Cert.KernelXaIdeal.main_arg1)
          ∧ r.2.mem ((c.tc : Thread Cert.KernelXaIdeal.nD Cert.KernelXaIdeal.τ).loc Cert.KernelXaIdeal.main_arg2) = m ((c.tc : Thread Cert.KernelXaIdeal.nD Cert.KernelXaIdeal.τ).loc Cert.KernelXaIdeal.main_arg2)
          ∧ r.2.mem ((c.tc : Thread Cert.KernelXaIdeal.nD Cert.KernelXaIdeal.τ).loc Cert.KernelXaIdeal.main_arg3) = m ((c.tc : Thread Cert.KernelXaIdeal.nD Cert.KernelXaIdeal.τ).loc Cert.KernelXaIdeal.main_arg3))
      ∧ θ_run (Cert.ReferenceXaIdeal.defs (F := Ideal)) (onTc (τ := Cert.ReferenceXaIdeal.τ) (Cert.ReferenceXaIdeal.main (F := Ideal))) ⟨m', fun _ => 0, g'⟩ (fun r => ∀ c : Dev Cert.ReferenceXaIdeal.nD,
          r.2.mem ((c.tc : Thread Cert.ReferenceXaIdeal.nD Cert.ReferenceXaIdeal.τ).loc Cert.ReferenceXaIdeal.main_v61) = v0 c
          ∧ r.2.mem ((c.tc : Thread Cert.ReferenceXaIdeal.nD Cert.ReferenceXaIdeal.τ).loc Cert.ReferenceXaIdeal.main_v62) = v1 c
          ∧ r.2.mem ((c.tc : Thread Cert.ReferenceXaIdeal.nD Cert.ReferenceXaIdeal.τ).loc Cert.ReferenceXaIdeal.main_v63) = v2 c
          ∧ r.2.mem ((c.tc : Thread Cert.ReferenceXaIdeal.nD Cert.ReferenceXaIdeal.τ).loc Cert.ReferenceXaIdeal.main_arg0) = m' ((c.tc : Thread Cert.ReferenceXaIdeal.nD Cert.ReferenceXaIdeal.τ).loc Cert.ReferenceXaIdeal.main_arg0)
          ∧ r.2.mem ((c.tc : Thread Cert.ReferenceXaIdeal.nD Cert.ReferenceXaIdeal.τ).loc Cert.ReferenceXaIdeal.main_arg1) = m' ((c.tc : Thread Cert.ReferenceXaIdeal.nD Cert.ReferenceXaIdeal.τ).loc Cert.ReferenceXaIdeal.main_arg1)
          ∧ r.2.mem ((c.tc : Thread Cert.ReferenceXaIdeal.nD Cert.ReferenceXaIdeal.τ).loc Cert.ReferenceXaIdeal.main_arg2) = m' ((c.tc : Thread Cert.ReferenceXaIdeal.nD Cert.ReferenceXaIdeal.τ).loc Cert.ReferenceXaIdeal.main_arg2)
          ∧ r.2.mem ((c.tc : Thread Cert.ReferenceXaIdeal.nD Cert.ReferenceXaIdeal.τ).loc Cert.ReferenceXaIdeal.main_arg3) = m' ((c.tc : Thread Cert.ReferenceXaIdeal.nD Cert.ReferenceXaIdeal.τ).loc Cert.ReferenceXaIdeal.main_arg3))

def preserves_KernelXf_KernelXfIdeal : Prop :=
  True

def algebraic_KernelXfIdeal_ReferenceXfIdeal [hKernelXfIdeal : Cert.KernelXfIdeal.Facts] [hReferenceXfIdeal : Cert.ReferenceXfIdeal.Facts] : Prop :=
  ∀ (m : (ℓ : Loc Cert.KernelXfIdeal.nD Cert.KernelXfIdeal.τ Cert.KernelXfIdeal.sig) → Buf (Elt Ideal) ℓ) (g : Dev Cert.KernelXfIdeal.nD → PrngReg)
    (m' : (ℓ : Loc Cert.ReferenceXfIdeal.nD Cert.ReferenceXfIdeal.τ Cert.ReferenceXfIdeal.sig) → Buf (Elt Ideal) ℓ) (g' : Dev Cert.ReferenceXfIdeal.nD → PrngReg), Pre_KernelXfIdeal m →
    (∀ c : Dev Cert.KernelXfIdeal.nD,
      m' ((c.tc : Thread Cert.ReferenceXfIdeal.nD Cert.ReferenceXfIdeal.τ).loc Cert.ReferenceXfIdeal.main_arg0) = m ((c.tc : Thread Cert.KernelXfIdeal.nD Cert.KernelXfIdeal.τ).loc Cert.KernelXfIdeal.main_arg0)
      ∧ m' ((c.tc : Thread Cert.ReferenceXfIdeal.nD Cert.ReferenceXfIdeal.τ).loc Cert.ReferenceXfIdeal.main_arg1) = m ((c.tc : Thread Cert.KernelXfIdeal.nD Cert.KernelXfIdeal.τ).loc Cert.KernelXfIdeal.main_arg1)
      ∧ m' ((c.tc : Thread Cert.ReferenceXfIdeal.nD Cert.ReferenceXfIdeal.τ).loc Cert.ReferenceXfIdeal.main_arg2) = m ((c.tc : Thread Cert.KernelXfIdeal.nD Cert.KernelXfIdeal.τ).loc Cert.KernelXfIdeal.main_arg2)) →
    ∃ (v0 : (c : Dev Cert.KernelXfIdeal.nD) → Buf (Elt Ideal) ((c.tc : Thread Cert.KernelXfIdeal.nD Cert.KernelXfIdeal.τ).loc Cert.KernelXfIdeal.main_v0)),
      θ_run (Cert.KernelXfIdeal.defs (F := Ideal)) (onTc (τ := Cert.KernelXfIdeal.τ) (Cert.KernelXfIdeal.main (F := Ideal))) ⟨m, fun _ => 0, g⟩ (fun r => ∀ c : Dev Cert.KernelXfIdeal.nD,
          r.2.mem ((c.tc : Thread Cert.KernelXfIdeal.nD Cert.KernelXfIdeal.τ).loc Cert.KernelXfIdeal.main_v0) = v0 c
          ∧ r.2.mem ((c.tc : Thread Cert.KernelXfIdeal.nD Cert.KernelXfIdeal.τ).loc Cert.KernelXfIdeal.main_arg0) = m ((c.tc : Thread Cert.KernelXfIdeal.nD Cert.KernelXfIdeal.τ).loc Cert.KernelXfIdeal.main_arg0)
          ∧ r.2.mem ((c.tc : Thread Cert.KernelXfIdeal.nD Cert.KernelXfIdeal.τ).loc Cert.KernelXfIdeal.main_arg1) = m ((c.tc : Thread Cert.KernelXfIdeal.nD Cert.KernelXfIdeal.τ).loc Cert.KernelXfIdeal.main_arg1)
          ∧ r.2.mem ((c.tc : Thread Cert.KernelXfIdeal.nD Cert.KernelXfIdeal.τ).loc Cert.KernelXfIdeal.main_arg2) = m ((c.tc : Thread Cert.KernelXfIdeal.nD Cert.KernelXfIdeal.τ).loc Cert.KernelXfIdeal.main_arg2))
      ∧ θ_run (Cert.ReferenceXfIdeal.defs (F := Ideal)) (onTc (τ := Cert.ReferenceXfIdeal.τ) (Cert.ReferenceXfIdeal.main (F := Ideal))) ⟨m', fun _ => 0, g'⟩ (fun r => ∀ c : Dev Cert.ReferenceXfIdeal.nD,
          r.2.mem ((c.tc : Thread Cert.ReferenceXfIdeal.nD Cert.ReferenceXfIdeal.τ).loc Cert.ReferenceXfIdeal.main_v20) = v0 c
          ∧ r.2.mem ((c.tc : Thread Cert.ReferenceXfIdeal.nD Cert.ReferenceXfIdeal.τ).loc Cert.ReferenceXfIdeal.main_arg0) = m' ((c.tc : Thread Cert.ReferenceXfIdeal.nD Cert.ReferenceXfIdeal.τ).loc Cert.ReferenceXfIdeal.main_arg0)
          ∧ r.2.mem ((c.tc : Thread Cert.ReferenceXfIdeal.nD Cert.ReferenceXfIdeal.τ).loc Cert.ReferenceXfIdeal.main_arg1) = m' ((c.tc : Thread Cert.ReferenceXfIdeal.nD Cert.ReferenceXfIdeal.τ).loc Cert.ReferenceXfIdeal.main_arg1)
          ∧ r.2.mem ((c.tc : Thread Cert.ReferenceXfIdeal.nD Cert.ReferenceXfIdeal.τ).loc Cert.ReferenceXfIdeal.main_arg2) = m' ((c.tc : Thread Cert.ReferenceXfIdeal.nD Cert.ReferenceXfIdeal.τ).loc Cert.ReferenceXfIdeal.main_arg2))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v67) = v0 c
          ∧ r.2.mem ((c.tc : Thread Cert.ReferenceLossIdeal.nD Cert.ReferenceLossIdeal.τ).loc Cert.ReferenceLossIdeal.main_v50) = v1 c
          ∧ r.2.mem ((c.tc : Thread Cert.ReferenceLossIdeal.nD Cert.ReferenceLossIdeal.τ).loc Cert.ReferenceLossIdeal.main_v68) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v1) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v19) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelDgate_KernelDgateIdeal : Prop :=
  True

def algebraic_KernelDgateIdeal_ReferenceDgateIdeal_pre_finite_dgate [hKernelDgateIdeal : Cert.KernelDgateIdeal.Facts] [hReferenceDgateIdeal : Cert.ReferenceDgateIdeal.Facts] [hPre_finite_dgate : Cert.Pre_finite_dgate.Facts] : Prop :=
  ∀ (m : (ℓ : Loc Cert.KernelDgateIdeal.nD Cert.KernelDgateIdeal.τ Cert.KernelDgateIdeal.sig) → Buf (Elt Ideal) ℓ) (g : Dev Cert.KernelDgateIdeal.nD → PrngReg)
    (m' : (ℓ : Loc Cert.ReferenceDgateIdeal.nD Cert.ReferenceDgateIdeal.τ Cert.ReferenceDgateIdeal.sig) → Buf (Elt Ideal) ℓ) (g' : Dev Cert.ReferenceDgateIdeal.nD → PrngReg), Pre_KernelDgateIdeal_finite_dgate m →
    (∀ c : Dev Cert.KernelDgateIdeal.nD,
      m' ((c.tc : Thread Cert.ReferenceDgateIdeal.nD Cert.ReferenceDgateIdeal.τ).loc Cert.ReferenceDgateIdeal.main_arg0) = m ((c.tc : Thread Cert.KernelDgateIdeal.nD Cert.KernelDgateIdeal.τ).loc Cert.KernelDgateIdeal.main_arg0)
      ∧ m' ((c.tc : Thread Cert.ReferenceDgateIdeal.nD Cert.ReferenceDgateIdeal.τ).loc Cert.ReferenceDgateIdeal.main_arg1) = m ((c.tc : Thread Cert.KernelDgateIdeal.nD Cert.KernelDgateIdeal.τ).loc Cert.KernelDgateIdeal.main_arg1)
      ∧ m' ((c.tc : Thread Cert.ReferenceDgateIdeal.nD Cert.ReferenceDgateIdeal.τ).loc Cert.ReferenceDgateIdeal.main_arg2) = m ((c.tc : Thread Cert.KernelDgateIdeal.nD Cert.KernelDgateIdeal.τ).loc Cert.KernelDgateIdeal.main_arg2)
      ∧ m' ((c.tc : Thread Cert.ReferenceDgateIdeal.nD Cert.ReferenceDgateIdeal.τ).loc Cert.ReferenceDgateIdeal.main_arg3) = m ((c.tc : Thread Cert.KernelDgateIdeal.nD Cert.KernelDgateIdeal.τ).loc Cert.KernelDgateIdeal.main_arg3)) →
    ∃ (v0 : (c : Dev Cert.KernelDgateIdeal.nD) → Buf (Elt Ideal) ((c.tc : Thread Cert.KernelDgateIdeal.nD Cert.KernelDgateIdeal.τ).loc Cert.KernelDgateIdeal.main_v1_0)) (v1 : (c : Dev Cert.KernelDgateIdeal.nD) → Buf (Elt Ideal) ((c.tc : Thread Cert.KernelDgateIdeal.nD Cert.KernelDgateIdeal.τ).loc Cert.KernelDgateIdeal.main_v1_1)) (v2 : (c : Dev Cert.KernelDgateIdeal.nD) → Buf (Elt Ideal) ((c.tc : Thread Cert.KernelDgateIdeal.nD Cert.KernelDgateIdeal.τ).loc Cert.KernelDgateIdeal.main_v1_2)),
      θ_run (Cert.KernelDgateIdeal.defs (F := Ideal)) (onTc (τ := Cert.KernelDgateIdeal.τ) (Cert.KernelDgateIdeal.main (F := Ideal))) ⟨m, fun _ => 0, g⟩ (fun r => ∀ c : Dev Cert.KernelDgateIdeal.nD,
          r.2.mem ((c.tc : Thread Cert.KernelDgateIdeal.nD Cert.KernelDgateIdeal.τ).loc Cert.KernelDgateIdeal.main_v1_0) = v0 c
          ∧ r.2.mem ((c.tc : Thread Cert.KernelDgateIdeal.nD Cert.KernelDgateIdeal.τ).loc Cert.KernelDgateIdeal.main_v1_1) = v1 c
          ∧ r.2.mem ((c.tc : Thread Cert.KernelDgateIdeal.nD Cert.KernelDgateIdeal.τ).loc Cert.KernelDgateIdeal.main_v1_2) = v2 c
          ∧ r.2.mem ((c.tc : Thread Cert.KernelDgateIdeal.nD Cert.KernelDgateIdeal.τ).loc Cert.KernelDgateIdeal.main_arg0) = m ((c.tc : Thread Cert.KernelDgateIdeal.nD Cert.KernelDgateIdeal.τ).loc Cert.KernelDgateIdeal.main_arg0)
          ∧ r.2.mem ((c.tc : Thread Cert.KernelDgateIdeal.nD Cert.KernelDgateIdeal.τ).loc Cert.KernelDgateIdeal.main_arg1) = m ((c.tc : Thread Cert.KernelDgateIdeal.nD Cert.KernelDgateIdeal.τ).loc Cert.KernelDgateIdeal.main_arg1)
          ∧ r.2.mem ((c.tc : Thread Cert.KernelDgateIdeal.nD Cert.KernelDgateIdeal.τ).loc Cert.KernelDgateIdeal.main_arg2) = m ((c.tc : Thread Cert.KernelDgateIdeal.nD Cert.KernelDgateIdeal.τ).loc Cert.KernelDgateIdeal.main_arg2)
          ∧ r.2.mem ((c.tc : Thread Cert.KernelDgateIdeal.nD Cert.KernelDgateIdeal.τ).loc Cert.KernelDgateIdeal.main_arg3) = m ((c.tc : Thread Cert.KernelDgateIdeal.nD Cert.KernelDgateIdeal.τ).loc Cert.KernelDgateIdeal.main_arg3))
      ∧ θ_run (Cert.ReferenceDgateIdeal.defs (F := Ideal)) (onTc (τ := Cert.ReferenceDgateIdeal.τ) (Cert.ReferenceDgateIdeal.main (F := Ideal))) ⟨m', fun _ => 0, g'⟩ (fun r => ∀ c : Dev Cert.ReferenceDgateIdeal.nD,
          r.2.mem ((c.tc : Thread Cert.ReferenceDgateIdeal.nD Cert.ReferenceDgateIdeal.τ).loc Cert.ReferenceDgateIdeal.main_v47) = v0 c
          ∧ r.2.mem ((c.tc : Thread Cert.ReferenceDgateIdeal.nD Cert.ReferenceDgateIdeal.τ).loc Cert.ReferenceDgateIdeal.main_v48) = v1 c
          ∧ r.2.mem ((c.tc : Thread Cert.ReferenceDgateIdeal.nD Cert.ReferenceDgateIdeal.τ).loc Cert.ReferenceDgateIdeal.main_v49) = v2 c
          ∧ r.2.mem ((c.tc : Thread Cert.ReferenceDgateIdeal.nD Cert.ReferenceDgateIdeal.τ).loc Cert.ReferenceDgateIdeal.main_arg0) = m' ((c.tc : Thread Cert.ReferenceDgateIdeal.nD Cert.ReferenceDgateIdeal.τ).loc Cert.ReferenceDgateIdeal.main_arg0)
          ∧ r.2.mem ((c.tc : Thread Cert.ReferenceDgateIdeal.nD Cert.ReferenceDgateIdeal.τ).loc Cert.ReferenceDgateIdeal.main_arg1) = m' ((c.tc : Thread Cert.ReferenceDgateIdeal.nD Cert.ReferenceDgateIdeal.τ).loc Cert.ReferenceDgateIdeal.main_arg1)
          ∧ r.2.mem ((c.tc : Thread Cert.ReferenceDgateIdeal.nD Cert.ReferenceDgateIdeal.τ).loc Cert.ReferenceDgateIdeal.main_arg2) = m' ((c.tc : Thread Cert.ReferenceDgateIdeal.nD Cert.ReferenceDgateIdeal.τ).loc Cert.ReferenceDgateIdeal.main_arg2)
          ∧ r.2.mem ((c.tc : Thread Cert.ReferenceDgateIdeal.nD Cert.ReferenceDgateIdeal.τ).loc Cert.ReferenceDgateIdeal.main_arg3) = m' ((c.tc : Thread Cert.ReferenceDgateIdeal.nD Cert.ReferenceDgateIdeal.τ).loc Cert.ReferenceDgateIdeal.main_arg3))

def preserves_KernelAbin_KernelAbinIdeal : Prop :=
  True

def algebraic_KernelAbinIdeal_ReferenceAbinIdeal [hKernelAbinIdeal : Cert.KernelAbinIdeal.Facts] [hReferenceAbinIdeal : Cert.ReferenceAbinIdeal.Facts] : Prop :=
  ∀ (m : (ℓ : Loc Cert.KernelAbinIdeal.nD Cert.KernelAbinIdeal.τ Cert.KernelAbinIdeal.sig) → Buf (Elt Ideal) ℓ) (g : Dev Cert.KernelAbinIdeal.nD → PrngReg)
    (m' : (ℓ : Loc Cert.ReferenceAbinIdeal.nD Cert.ReferenceAbinIdeal.τ Cert.ReferenceAbinIdeal.sig) → Buf (Elt Ideal) ℓ) (g' : Dev Cert.ReferenceAbinIdeal.nD → PrngReg), Pre_KernelAbinIdeal m →
    (∀ c : Dev Cert.KernelAbinIdeal.nD,
      m' ((c.tc : Thread Cert.ReferenceAbinIdeal.nD Cert.ReferenceAbinIdeal.τ).loc Cert.ReferenceAbinIdeal.main_arg0) = m ((c.tc : Thread Cert.KernelAbinIdeal.nD Cert.KernelAbinIdeal.τ).loc Cert.KernelAbinIdeal.main_arg0)
      ∧ m' ((c.tc : Thread Cert.ReferenceAbinIdeal.nD Cert.ReferenceAbinIdeal.τ).loc Cert.ReferenceAbinIdeal.main_arg1) = m ((c.tc : Thread Cert.KernelAbinIdeal.nD Cert.KernelAbinIdeal.τ).loc Cert.KernelAbinIdeal.main_arg1)) →
    ∃ (v0 : (c : Dev Cert.KernelAbinIdeal.nD) → Buf (Elt Ideal) ((c.tc : Thread Cert.KernelAbinIdeal.nD Cert.KernelAbinIdeal.τ).loc Cert.KernelAbinIdeal.main_v2)),
      θ_run (Cert.KernelAbinIdeal.defs (F := Ideal)) (onTc (τ := Cert.KernelAbinIdeal.τ) (Cert.KernelAbinIdeal.main (F := Ideal))) ⟨m, fun _ => 0, g⟩ (fun r => ∀ c : Dev Cert.KernelAbinIdeal.nD,
          r.2.mem ((c.tc : Thread Cert.KernelAbinIdeal.nD Cert.KernelAbinIdeal.τ).loc Cert.KernelAbinIdeal.main_v2) = v0 c
          ∧ r.2.mem ((c.tc : Thread Cert.KernelAbinIdeal.nD Cert.KernelAbinIdeal.τ).loc Cert.KernelAbinIdeal.main_arg0) = m ((c.tc : Thread Cert.KernelAbinIdeal.nD Cert.KernelAbinIdeal.τ).loc Cert.KernelAbinIdeal.main_arg0)
          ∧ r.2.mem ((c.tc : Thread Cert.KernelAbinIdeal.nD Cert.KernelAbinIdeal.τ).loc Cert.KernelAbinIdeal.main_arg1) = m ((c.tc : Thread Cert.KernelAbinIdeal.nD Cert.KernelAbinIdeal.τ).loc Cert.KernelAbinIdeal.main_arg1))
      ∧ θ_run (Cert.ReferenceAbinIdeal.defs (F := Ideal)) (onTc (τ := Cert.ReferenceAbinIdeal.τ) (Cert.ReferenceAbinIdeal.main (F := Ideal))) ⟨m', fun _ => 0, g'⟩ (fun r => ∀ c : Dev Cert.ReferenceAbinIdeal.nD,
          r.2.mem ((c.tc : Thread Cert.ReferenceAbinIdeal.nD Cert.ReferenceAbinIdeal.τ).loc Cert.ReferenceAbinIdeal.main_v1) = v0 c
          ∧ r.2.mem ((c.tc : Thread Cert.ReferenceAbinIdeal.nD Cert.ReferenceAbinIdeal.τ).loc Cert.ReferenceAbinIdeal.main_arg0) = m' ((c.tc : Thread Cert.ReferenceAbinIdeal.nD Cert.ReferenceAbinIdeal.τ).loc Cert.ReferenceAbinIdeal.main_arg0)
          ∧ r.2.mem ((c.tc : Thread Cert.ReferenceAbinIdeal.nD Cert.ReferenceAbinIdeal.τ).loc Cert.ReferenceAbinIdeal.main_arg1) = m' ((c.tc : Thread Cert.ReferenceAbinIdeal.nD Cert.ReferenceAbinIdeal.τ).loc Cert.ReferenceAbinIdeal.main_arg1))

def preserves_KernelDnin_KernelDninIdeal : Prop :=
  True

def algebraic_KernelDninIdeal_ReferenceDninIdeal [hKernelDninIdeal : Cert.KernelDninIdeal.Facts] [hReferenceDninIdeal : Cert.ReferenceDninIdeal.Facts] : Prop :=
  ∀ (m : (ℓ : Loc Cert.KernelDninIdeal.nD Cert.KernelDninIdeal.τ Cert.KernelDninIdeal.sig) → Buf (Elt Ideal) ℓ) (g : Dev Cert.KernelDninIdeal.nD → PrngReg)
    (m' : (ℓ : Loc Cert.ReferenceDninIdeal.nD Cert.ReferenceDninIdeal.τ Cert.ReferenceDninIdeal.sig) → Buf (Elt Ideal) ℓ) (g' : Dev Cert.ReferenceDninIdeal.nD → PrngReg), Pre_KernelDninIdeal m →
    (∀ c : Dev Cert.KernelDninIdeal.nD,
      m' ((c.tc : Thread Cert.ReferenceDninIdeal.nD Cert.ReferenceDninIdeal.τ).loc Cert.ReferenceDninIdeal.main_arg0) = m ((c.tc : Thread Cert.KernelDninIdeal.nD Cert.KernelDninIdeal.τ).loc Cert.KernelDninIdeal.main_arg0)
      ∧ m' ((c.tc : Thread Cert.ReferenceDninIdeal.nD Cert.ReferenceDninIdeal.τ).loc Cert.ReferenceDninIdeal.main_arg1) = m ((c.tc : Thread Cert.KernelDninIdeal.nD Cert.KernelDninIdeal.τ).loc Cert.KernelDninIdeal.main_arg1)) →
    ∃ (v0 : (c : Dev Cert.KernelDninIdeal.nD) → Buf (Elt Ideal) ((c.tc : Thread Cert.KernelDninIdeal.nD Cert.KernelDninIdeal.τ).loc Cert.KernelDninIdeal.main_v2)),
      θ_run (Cert.KernelDninIdeal.defs (F := Ideal)) (onTc (τ := Cert.KernelDninIdeal.τ) (Cert.KernelDninIdeal.main (F := Ideal))) ⟨m, fun _ => 0, g⟩ (fun r => ∀ c : Dev Cert.KernelDninIdeal.nD,
          r.2.mem ((c.tc : Thread Cert.KernelDninIdeal.nD Cert.KernelDninIdeal.τ).loc Cert.KernelDninIdeal.main_v2) = v0 c
          ∧ r.2.mem ((c.tc : Thread Cert.KernelDninIdeal.nD Cert.KernelDninIdeal.τ).loc Cert.KernelDninIdeal.main_arg0) = m ((c.tc : Thread Cert.KernelDninIdeal.nD Cert.KernelDninIdeal.τ).loc Cert.KernelDninIdeal.main_arg0)
          ∧ r.2.mem ((c.tc : Thread Cert.KernelDninIdeal.nD Cert.KernelDninIdeal.τ).loc Cert.KernelDninIdeal.main_arg1) = m ((c.tc : Thread Cert.KernelDninIdeal.nD Cert.KernelDninIdeal.τ).loc Cert.KernelDninIdeal.main_arg1))
      ∧ θ_run (Cert.ReferenceDninIdeal.defs (F := Ideal)) (onTc (τ := Cert.ReferenceDninIdeal.τ) (Cert.ReferenceDninIdeal.main (F := Ideal))) ⟨m', fun _ => 0, g'⟩ (fun r => ∀ c : Dev Cert.ReferenceDninIdeal.nD,
          r.2.mem ((c.tc : Thread Cert.ReferenceDninIdeal.nD Cert.ReferenceDninIdeal.τ).loc Cert.ReferenceDninIdeal.main_v1) = v0 c
          ∧ r.2.mem ((c.tc : Thread Cert.ReferenceDninIdeal.nD Cert.ReferenceDninIdeal.τ).loc Cert.ReferenceDninIdeal.main_arg0) = m' ((c.tc : Thread Cert.ReferenceDninIdeal.nD Cert.ReferenceDninIdeal.τ).loc Cert.ReferenceDninIdeal.main_arg0)
          ∧ r.2.mem ((c.tc : Thread Cert.ReferenceDninIdeal.nD Cert.ReferenceDninIdeal.τ).loc Cert.ReferenceDninIdeal.main_arg1) = m' ((c.tc : Thread Cert.ReferenceDninIdeal.nD Cert.ReferenceDninIdeal.τ).loc Cert.ReferenceDninIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v2) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v0) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v2)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v2) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v1) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelAbdwin_KernelAbdwinIdeal : Prop :=
  True

def algebraic_KernelAbdwinIdeal_ReferenceAbdwinIdeal [hKernelAbdwinIdeal : Cert.KernelAbdwinIdeal.Facts] [hReferenceAbdwinIdeal : Cert.ReferenceAbdwinIdeal.Facts] : Prop :=
  ∀ (m : (ℓ : Loc Cert.KernelAbdwinIdeal.nD Cert.KernelAbdwinIdeal.τ Cert.KernelAbdwinIdeal.sig) → Buf (Elt Ideal) ℓ) (g : Dev Cert.KernelAbdwinIdeal.nD → PrngReg)
    (m' : (ℓ : Loc Cert.ReferenceAbdwinIdeal.nD Cert.ReferenceAbdwinIdeal.τ Cert.ReferenceAbdwinIdeal.sig) → Buf (Elt Ideal) ℓ) (g' : Dev Cert.ReferenceAbdwinIdeal.nD → PrngReg), Pre_KernelAbdwinIdeal m →
    (∀ c : Dev Cert.KernelAbdwinIdeal.nD,
      m' ((c.tc : Thread Cert.ReferenceAbdwinIdeal.nD Cert.ReferenceAbdwinIdeal.τ).loc Cert.ReferenceAbdwinIdeal.main_arg0) = m ((c.tc : Thread Cert.KernelAbdwinIdeal.nD Cert.KernelAbdwinIdeal.τ).loc Cert.KernelAbdwinIdeal.main_arg0)
      ∧ m' ((c.tc : Thread Cert.ReferenceAbdwinIdeal.nD Cert.ReferenceAbdwinIdeal.τ).loc Cert.ReferenceAbdwinIdeal.main_arg1) = m ((c.tc : Thread Cert.KernelAbdwinIdeal.nD Cert.KernelAbdwinIdeal.τ).loc Cert.KernelAbdwinIdeal.main_arg1)) →
    ∃ (v0 : (c : Dev Cert.KernelAbdwinIdeal.nD) → Buf (Elt Ideal) ((c.tc : Thread Cert.KernelAbdwinIdeal.nD Cert.KernelAbdwinIdeal.τ).loc Cert.KernelAbdwinIdeal.main_v2)),
      θ_run (Cert.KernelAbdwinIdeal.defs (F := Ideal)) (onTc (τ := Cert.KernelAbdwinIdeal.τ) (Cert.KernelAbdwinIdeal.main (F := Ideal))) ⟨m, fun _ => 0, g⟩ (fun r => ∀ c : Dev Cert.KernelAbdwinIdeal.nD,
          r.2.mem ((c.tc : Thread Cert.KernelAbdwinIdeal.nD Cert.KernelAbdwinIdeal.τ).loc Cert.KernelAbdwinIdeal.main_v2) = v0 c
          ∧ r.2.mem ((c.tc : Thread Cert.KernelAbdwinIdeal.nD Cert.KernelAbdwinIdeal.τ).loc Cert.KernelAbdwinIdeal.main_arg0) = m ((c.tc : Thread Cert.KernelAbdwinIdeal.nD Cert.KernelAbdwinIdeal.τ).loc Cert.KernelAbdwinIdeal.main_arg0)
          ∧ r.2.mem ((c.tc : Thread Cert.KernelAbdwinIdeal.nD Cert.KernelAbdwinIdeal.τ).loc Cert.KernelAbdwinIdeal.main_arg1) = m ((c.tc : Thread Cert.KernelAbdwinIdeal.nD Cert.KernelAbdwinIdeal.τ).loc Cert.KernelAbdwinIdeal.main_arg1))
      ∧ θ_run (Cert.ReferenceAbdwinIdeal.defs (F := Ideal)) (onTc (τ := Cert.ReferenceAbdwinIdeal.τ) (Cert.ReferenceAbdwinIdeal.main (F := Ideal))) ⟨m', fun _ => 0, g'⟩ (fun r => ∀ c : Dev Cert.ReferenceAbdwinIdeal.nD,
          r.2.mem ((c.tc : Thread Cert.ReferenceAbdwinIdeal.nD Cert.ReferenceAbdwinIdeal.τ).loc Cert.ReferenceAbdwinIdeal.main_v4) = v0 c
          ∧ r.2.mem ((c.tc : Thread Cert.ReferenceAbdwinIdeal.nD Cert.ReferenceAbdwinIdeal.τ).loc Cert.ReferenceAbdwinIdeal.main_arg0) = m' ((c.tc : Thread Cert.ReferenceAbdwinIdeal.nD Cert.ReferenceAbdwinIdeal.τ).loc Cert.ReferenceAbdwinIdeal.main_arg0)
          ∧ r.2.mem ((c.tc : Thread Cert.ReferenceAbdwinIdeal.nD Cert.ReferenceAbdwinIdeal.τ).loc Cert.ReferenceAbdwinIdeal.main_arg1) = m' ((c.tc : Thread Cert.ReferenceAbdwinIdeal.nD Cert.ReferenceAbdwinIdeal.τ).loc Cert.ReferenceAbdwinIdeal.main_arg1))

def preserves_KernelDndwin1_KernelDndwin1Ideal : Prop :=
  True

def algebraic_KernelDndwin1Ideal_ReferenceDndwin1Ideal [hKernelDndwin1Ideal : Cert.KernelDndwin1Ideal.Facts] [hReferenceDndwin1Ideal : Cert.ReferenceDndwin1Ideal.Facts] : Prop :=
  ∀ (m : (ℓ : Loc Cert.KernelDndwin1Ideal.nD Cert.KernelDndwin1Ideal.τ Cert.KernelDndwin1Ideal.sig) → Buf (Elt Ideal) ℓ) (g : Dev Cert.KernelDndwin1Ideal.nD → PrngReg)
    (m' : (ℓ : Loc Cert.ReferenceDndwin1Ideal.nD Cert.ReferenceDndwin1Ideal.τ Cert.ReferenceDndwin1Ideal.sig) → Buf (Elt Ideal) ℓ) (g' : Dev Cert.ReferenceDndwin1Ideal.nD → PrngReg), Pre_KernelDndwin1Ideal m →
    (∀ c : Dev Cert.KernelDndwin1Ideal.nD,
      m' ((c.tc : Thread Cert.ReferenceDndwin1Ideal.nD Cert.ReferenceDndwin1Ideal.τ).loc Cert.ReferenceDndwin1Ideal.main_arg0) = m ((c.tc : Thread Cert.KernelDndwin1Ideal.nD Cert.KernelDndwin1Ideal.τ).loc Cert.KernelDndwin1Ideal.main_arg0)
      ∧ m' ((c.tc : Thread Cert.ReferenceDndwin1Ideal.nD Cert.ReferenceDndwin1Ideal.τ).loc Cert.ReferenceDndwin1Ideal.main_arg1) = m ((c.tc : Thread Cert.KernelDndwin1Ideal.nD Cert.KernelDndwin1Ideal.τ).loc Cert.KernelDndwin1Ideal.main_arg1)) →
    ∃ (v0 : (c : Dev Cert.KernelDndwin1Ideal.nD) → Buf (Elt Ideal) ((c.tc : Thread Cert.KernelDndwin1Ideal.nD Cert.KernelDndwin1Ideal.τ).loc Cert.KernelDndwin1Ideal.main_v2)),
      θ_run (Cert.KernelDndwin1Ideal.defs (F := Ideal)) (onTc (τ := Cert.KernelDndwin1Ideal.τ) (Cert.KernelDndwin1Ideal.main (F := Ideal))) ⟨m, fun _ => 0, g⟩ (fun r => ∀ c : Dev Cert.KernelDndwin1Ideal.nD,
          r.2.mem ((c.tc : Thread Cert.KernelDndwin1Ideal.nD Cert.KernelDndwin1Ideal.τ).loc Cert.KernelDndwin1Ideal.main_v2) = v0 c
          ∧ r.2.mem ((c.tc : Thread Cert.KernelDndwin1Ideal.nD Cert.KernelDndwin1Ideal.τ).loc Cert.KernelDndwin1Ideal.main_arg0) = m ((c.tc : Thread Cert.KernelDndwin1Ideal.nD Cert.KernelDndwin1Ideal.τ).loc Cert.KernelDndwin1Ideal.main_arg0)
          ∧ r.2.mem ((c.tc : Thread Cert.KernelDndwin1Ideal.nD Cert.KernelDndwin1Ideal.τ).loc Cert.KernelDndwin1Ideal.main_arg1) = m ((c.tc : Thread Cert.KernelDndwin1Ideal.nD Cert.KernelDndwin1Ideal.τ).loc Cert.KernelDndwin1Ideal.main_arg1))
      ∧ θ_run (Cert.ReferenceDndwin1Ideal.defs (F := Ideal)) (onTc (τ := Cert.ReferenceDndwin1Ideal.τ) (Cert.ReferenceDndwin1Ideal.main (F := Ideal))) ⟨m', fun _ => 0, g'⟩ (fun r => ∀ c : Dev Cert.ReferenceDndwin1Ideal.nD,
          r.2.mem ((c.tc : Thread Cert.ReferenceDndwin1Ideal.nD Cert.ReferenceDndwin1Ideal.τ).loc Cert.ReferenceDndwin1Ideal.main_v4) = v0 c
          ∧ r.2.mem ((c.tc : Thread Cert.ReferenceDndwin1Ideal.nD Cert.ReferenceDndwin1Ideal.τ).loc Cert.ReferenceDndwin1Ideal.main_arg0) = m' ((c.tc : Thread Cert.ReferenceDndwin1Ideal.nD Cert.ReferenceDndwin1Ideal.τ).loc Cert.ReferenceDndwin1Ideal.main_arg0)
          ∧ r.2.mem ((c.tc : Thread Cert.ReferenceDndwin1Ideal.nD Cert.ReferenceDndwin1Ideal.τ).loc Cert.ReferenceDndwin1Ideal.main_arg1) = m' ((c.tc : Thread Cert.ReferenceDndwin1Ideal.nD Cert.ReferenceDndwin1Ideal.τ).loc Cert.ReferenceDndwin1Ideal.main_arg1))

def preserves_KernelDndwin2_KernelDndwin2Ideal : Prop :=
  True

def algebraic_KernelDndwin2Ideal_ReferenceDndwin2Ideal [hKernelDndwin2Ideal : Cert.KernelDndwin2Ideal.Facts] [hReferenceDndwin2Ideal : Cert.ReferenceDndwin2Ideal.Facts] : Prop :=
  ∀ (m : (ℓ : Loc Cert.KernelDndwin2Ideal.nD Cert.KernelDndwin2Ideal.τ Cert.KernelDndwin2Ideal.sig) → Buf (Elt Ideal) ℓ) (g : Dev Cert.KernelDndwin2Ideal.nD → PrngReg)
    (m' : (ℓ : Loc Cert.ReferenceDndwin2Ideal.nD Cert.ReferenceDndwin2Ideal.τ Cert.ReferenceDndwin2Ideal.sig) → Buf (Elt Ideal) ℓ) (g' : Dev Cert.ReferenceDndwin2Ideal.nD → PrngReg), Pre_KernelDndwin2Ideal m →
    (∀ c : Dev Cert.KernelDndwin2Ideal.nD,
      m' ((c.tc : Thread Cert.ReferenceDndwin2Ideal.nD Cert.ReferenceDndwin2Ideal.τ).loc Cert.ReferenceDndwin2Ideal.main_arg0) = m ((c.tc : Thread Cert.KernelDndwin2Ideal.nD Cert.KernelDndwin2Ideal.τ).loc Cert.KernelDndwin2Ideal.main_arg0)
      ∧ m' ((c.tc : Thread Cert.ReferenceDndwin2Ideal.nD Cert.ReferenceDndwin2Ideal.τ).loc Cert.ReferenceDndwin2Ideal.main_arg1) = m ((c.tc : Thread Cert.KernelDndwin2Ideal.nD Cert.KernelDndwin2Ideal.τ).loc Cert.KernelDndwin2Ideal.main_arg1)) →
    ∃ (v0 : (c : Dev Cert.KernelDndwin2Ideal.nD) → Buf (Elt Ideal) ((c.tc : Thread Cert.KernelDndwin2Ideal.nD Cert.KernelDndwin2Ideal.τ).loc Cert.KernelDndwin2Ideal.main_v2)),
      θ_run (Cert.KernelDndwin2Ideal.defs (F := Ideal)) (onTc (τ := Cert.KernelDndwin2Ideal.τ) (Cert.KernelDndwin2Ideal.main (F := Ideal))) ⟨m, fun _ => 0, g⟩ (fun r => ∀ c : Dev Cert.KernelDndwin2Ideal.nD,
          r.2.mem ((c.tc : Thread Cert.KernelDndwin2Ideal.nD Cert.KernelDndwin2Ideal.τ).loc Cert.KernelDndwin2Ideal.main_v2) = v0 c
          ∧ r.2.mem ((c.tc : Thread Cert.KernelDndwin2Ideal.nD Cert.KernelDndwin2Ideal.τ).loc Cert.KernelDndwin2Ideal.main_arg0) = m ((c.tc : Thread Cert.KernelDndwin2Ideal.nD Cert.KernelDndwin2Ideal.τ).loc Cert.KernelDndwin2Ideal.main_arg0)
          ∧ r.2.mem ((c.tc : Thread Cert.KernelDndwin2Ideal.nD Cert.KernelDndwin2Ideal.τ).loc Cert.KernelDndwin2Ideal.main_arg1) = m ((c.tc : Thread Cert.KernelDndwin2Ideal.nD Cert.KernelDndwin2Ideal.τ).loc Cert.KernelDndwin2Ideal.main_arg1))
      ∧ θ_run (Cert.ReferenceDndwin2Ideal.defs (F := Ideal)) (onTc (τ := Cert.ReferenceDndwin2Ideal.τ) (Cert.ReferenceDndwin2Ideal.main (F := Ideal))) ⟨m', fun _ => 0, g'⟩ (fun r => ∀ c : Dev Cert.ReferenceDndwin2Ideal.nD,
          r.2.mem ((c.tc : Thread Cert.ReferenceDndwin2Ideal.nD Cert.ReferenceDndwin2Ideal.τ).loc Cert.ReferenceDndwin2Ideal.main_v4) = v0 c
          ∧ r.2.mem ((c.tc : Thread Cert.ReferenceDndwin2Ideal.nD Cert.ReferenceDndwin2Ideal.τ).loc Cert.ReferenceDndwin2Ideal.main_arg0) = m' ((c.tc : Thread Cert.ReferenceDndwin2Ideal.nD Cert.ReferenceDndwin2Ideal.τ).loc Cert.ReferenceDndwin2Ideal.main_arg0)
          ∧ r.2.mem ((c.tc : Thread Cert.ReferenceDndwin2Ideal.nD Cert.ReferenceDndwin2Ideal.τ).loc Cert.ReferenceDndwin2Ideal.main_arg1) = m' ((c.tc : Thread Cert.ReferenceDndwin2Ideal.nD Cert.ReferenceDndwin2Ideal.τ).loc Cert.ReferenceDndwin2Ideal.main_arg1))

def preserves_KernelDndwin3_KernelDndwin3Ideal : Prop :=
  True

def algebraic_KernelDndwin3Ideal_ReferenceDndwin3Ideal [hKernelDndwin3Ideal : Cert.KernelDndwin3Ideal.Facts] [hReferenceDndwin3Ideal : Cert.ReferenceDndwin3Ideal.Facts] : Prop :=
  ∀ (m : (ℓ : Loc Cert.KernelDndwin3Ideal.nD Cert.KernelDndwin3Ideal.τ Cert.KernelDndwin3Ideal.sig) → Buf (Elt Ideal) ℓ) (g : Dev Cert.KernelDndwin3Ideal.nD → PrngReg)
    (m' : (ℓ : Loc Cert.ReferenceDndwin3Ideal.nD Cert.ReferenceDndwin3Ideal.τ Cert.ReferenceDndwin3Ideal.sig) → Buf (Elt Ideal) ℓ) (g' : Dev Cert.ReferenceDndwin3Ideal.nD → PrngReg), Pre_KernelDndwin3Ideal m →
    (∀ c : Dev Cert.KernelDndwin3Ideal.nD,
      m' ((c.tc : Thread Cert.ReferenceDndwin3Ideal.nD Cert.ReferenceDndwin3Ideal.τ).loc Cert.ReferenceDndwin3Ideal.main_arg0) = m ((c.tc : Thread Cert.KernelDndwin3Ideal.nD Cert.KernelDndwin3Ideal.τ).loc Cert.KernelDndwin3Ideal.main_arg0)
      ∧ m' ((c.tc : Thread Cert.ReferenceDndwin3Ideal.nD Cert.ReferenceDndwin3Ideal.τ).loc Cert.ReferenceDndwin3Ideal.main_arg1) = m ((c.tc : Thread Cert.KernelDndwin3Ideal.nD Cert.KernelDndwin3Ideal.τ).loc Cert.KernelDndwin3Ideal.main_arg1)) →
    ∃ (v0 : (c : Dev Cert.KernelDndwin3Ideal.nD) → Buf (Elt Ideal) ((c.tc : Thread Cert.KernelDndwin3Ideal.nD Cert.KernelDndwin3Ideal.τ).loc Cert.KernelDndwin3Ideal.main_v2)),
      θ_run (Cert.KernelDndwin3Ideal.defs (F := Ideal)) (onTc (τ := Cert.KernelDndwin3Ideal.τ) (Cert.KernelDndwin3Ideal.main (F := Ideal))) ⟨m, fun _ => 0, g⟩ (fun r => ∀ c : Dev Cert.KernelDndwin3Ideal.nD,
          r.2.mem ((c.tc : Thread Cert.KernelDndwin3Ideal.nD Cert.KernelDndwin3Ideal.τ).loc Cert.KernelDndwin3Ideal.main_v2) = v0 c
          ∧ r.2.mem ((c.tc : Thread Cert.KernelDndwin3Ideal.nD Cert.KernelDndwin3Ideal.τ).loc Cert.KernelDndwin3Ideal.main_arg0) = m ((c.tc : Thread Cert.KernelDndwin3Ideal.nD Cert.KernelDndwin3Ideal.τ).loc Cert.KernelDndwin3Ideal.main_arg0)
          ∧ r.2.mem ((c.tc : Thread Cert.KernelDndwin3Ideal.nD Cert.KernelDndwin3Ideal.τ).loc Cert.KernelDndwin3Ideal.main_arg1) = m ((c.tc : Thread Cert.KernelDndwin3Ideal.nD Cert.KernelDndwin3Ideal.τ).loc Cert.KernelDndwin3Ideal.main_arg1))
      ∧ θ_run (Cert.ReferenceDndwin3Ideal.defs (F := Ideal)) (onTc (τ := Cert.ReferenceDndwin3Ideal.τ) (Cert.ReferenceDndwin3Ideal.main (F := Ideal))) ⟨m', fun _ => 0, g'⟩ (fun r => ∀ c : Dev Cert.ReferenceDndwin3Ideal.nD,
          r.2.mem ((c.tc : Thread Cert.ReferenceDndwin3Ideal.nD Cert.ReferenceDndwin3Ideal.τ).loc Cert.ReferenceDndwin3Ideal.main_v4) = v0 c
          ∧ r.2.mem ((c.tc : Thread Cert.ReferenceDndwin3Ideal.nD Cert.ReferenceDndwin3Ideal.τ).loc Cert.ReferenceDndwin3Ideal.main_arg0) = m' ((c.tc : Thread Cert.ReferenceDndwin3Ideal.nD Cert.ReferenceDndwin3Ideal.τ).loc Cert.ReferenceDndwin3Ideal.main_arg0)
          ∧ r.2.mem ((c.tc : Thread Cert.ReferenceDndwin3Ideal.nD Cert.ReferenceDndwin3Ideal.τ).loc Cert.ReferenceDndwin3Ideal.main_arg1) = m' ((c.tc : Thread Cert.ReferenceDndwin3Ideal.nD Cert.ReferenceDndwin3Ideal.τ).loc Cert.ReferenceDndwin3Ideal.main_arg1))

def preserves_KernelDwkv_KernelDwkvIdeal : Prop :=
  True

def algebraic_KernelDwkvIdeal_ReferenceDwkvIdeal [hKernelDwkvIdeal : Cert.KernelDwkvIdeal.Facts] [hReferenceDwkvIdeal : Cert.ReferenceDwkvIdeal.Facts] : Prop :=
  ∀ (m : (ℓ : Loc Cert.KernelDwkvIdeal.nD Cert.KernelDwkvIdeal.τ Cert.KernelDwkvIdeal.sig) → Buf (Elt Ideal) ℓ) (g : Dev Cert.KernelDwkvIdeal.nD → PrngReg)
    (m' : (ℓ : Loc Cert.ReferenceDwkvIdeal.nD Cert.ReferenceDwkvIdeal.τ Cert.ReferenceDwkvIdeal.sig) → Buf (Elt Ideal) ℓ) (g' : Dev Cert.ReferenceDwkvIdeal.nD → PrngReg), Pre_KernelDwkvIdeal m →
    (∀ c : Dev Cert.KernelDwkvIdeal.nD,
      m' ((c.tc : Thread Cert.ReferenceDwkvIdeal.nD Cert.ReferenceDwkvIdeal.τ).loc Cert.ReferenceDwkvIdeal.main_arg0) = m ((c.tc : Thread Cert.KernelDwkvIdeal.nD Cert.KernelDwkvIdeal.τ).loc Cert.KernelDwkvIdeal.main_arg0)
      ∧ m' ((c.tc : Thread Cert.ReferenceDwkvIdeal.nD Cert.ReferenceDwkvIdeal.τ).loc Cert.ReferenceDwkvIdeal.main_arg1) = m ((c.tc : Thread Cert.KernelDwkvIdeal.nD Cert.KernelDwkvIdeal.τ).loc Cert.KernelDwkvIdeal.main_arg1)) →
    ∃ (v0 : (c : Dev Cert.KernelDwkvIdeal.nD) → Buf (Elt Ideal) ((c.tc : Thread Cert.KernelDwkvIdeal.nD Cert.KernelDwkvIdeal.τ).loc Cert.KernelDwkvIdeal.main_v2)),
      θ_run (Cert.KernelDwkvIdeal.defs (F := Ideal)) (onTc (τ := Cert.KernelDwkvIdeal.τ) (Cert.KernelDwkvIdeal.main (F := Ideal))) ⟨m, fun _ => 0, g⟩ (fun r => ∀ c : Dev Cert.KernelDwkvIdeal.nD,
          r.2.mem ((c.tc : Thread Cert.KernelDwkvIdeal.nD Cert.KernelDwkvIdeal.τ).loc Cert.KernelDwkvIdeal.main_v2) = v0 c
          ∧ r.2.mem ((c.tc : Thread Cert.KernelDwkvIdeal.nD Cert.KernelDwkvIdeal.τ).loc Cert.KernelDwkvIdeal.main_arg0) = m ((c.tc : Thread Cert.KernelDwkvIdeal.nD Cert.KernelDwkvIdeal.τ).loc Cert.KernelDwkvIdeal.main_arg0)
          ∧ r.2.mem ((c.tc : Thread Cert.KernelDwkvIdeal.nD Cert.KernelDwkvIdeal.τ).loc Cert.KernelDwkvIdeal.main_arg1) = m ((c.tc : Thread Cert.KernelDwkvIdeal.nD Cert.KernelDwkvIdeal.τ).loc Cert.KernelDwkvIdeal.main_arg1))
      ∧ θ_run (Cert.ReferenceDwkvIdeal.defs (F := Ideal)) (onTc (τ := Cert.ReferenceDwkvIdeal.τ) (Cert.ReferenceDwkvIdeal.main (F := Ideal))) ⟨m', fun _ => 0, g'⟩ (fun r => ∀ c : Dev Cert.ReferenceDwkvIdeal.nD,
          r.2.mem ((c.tc : Thread Cert.ReferenceDwkvIdeal.nD Cert.ReferenceDwkvIdeal.τ).loc Cert.ReferenceDwkvIdeal.main_v4) = v0 c
          ∧ r.2.mem ((c.tc : Thread Cert.ReferenceDwkvIdeal.nD Cert.ReferenceDwkvIdeal.τ).loc Cert.ReferenceDwkvIdeal.main_arg0) = m' ((c.tc : Thread Cert.ReferenceDwkvIdeal.nD Cert.ReferenceDwkvIdeal.τ).loc Cert.ReferenceDwkvIdeal.main_arg0)
          ∧ r.2.mem ((c.tc : Thread Cert.ReferenceDwkvIdeal.nD Cert.ReferenceDwkvIdeal.τ).loc Cert.ReferenceDwkvIdeal.main_arg1) = m' ((c.tc : Thread Cert.ReferenceDwkvIdeal.nD Cert.ReferenceDwkvIdeal.τ).loc Cert.ReferenceDwkvIdeal.main_arg1))

def preserves_KernelDmh_KernelDmhIdeal : Prop :=
  True

def algebraic_KernelDmhIdeal_ReferenceDmhIdeal [hKernelDmhIdeal : Cert.KernelDmhIdeal.Facts] [hReferenceDmhIdeal : Cert.ReferenceDmhIdeal.Facts] : Prop :=
  ∀ (m : (ℓ : Loc Cert.KernelDmhIdeal.nD Cert.KernelDmhIdeal.τ Cert.KernelDmhIdeal.sig) → Buf (Elt Ideal) ℓ) (g : Dev Cert.KernelDmhIdeal.nD → PrngReg)
    (m' : (ℓ : Loc Cert.ReferenceDmhIdeal.nD Cert.ReferenceDmhIdeal.τ Cert.ReferenceDmhIdeal.sig) → Buf (Elt Ideal) ℓ) (g' : Dev Cert.ReferenceDmhIdeal.nD → PrngReg), Pre_KernelDmhIdeal m →
    (∀ c : Dev Cert.KernelDmhIdeal.nD,
      m' ((c.tc : Thread Cert.ReferenceDmhIdeal.nD Cert.ReferenceDmhIdeal.τ).loc Cert.ReferenceDmhIdeal.main_arg0) = m ((c.tc : Thread Cert.KernelDmhIdeal.nD Cert.KernelDmhIdeal.τ).loc Cert.KernelDmhIdeal.main_arg0)
      ∧ m' ((c.tc : Thread Cert.ReferenceDmhIdeal.nD Cert.ReferenceDmhIdeal.τ).loc Cert.ReferenceDmhIdeal.main_arg1) = m ((c.tc : Thread Cert.KernelDmhIdeal.nD Cert.KernelDmhIdeal.τ).loc Cert.KernelDmhIdeal.main_arg1)) →
    ∃ (v0 : (c : Dev Cert.KernelDmhIdeal.nD) → Buf (Elt Ideal) ((c.tc : Thread Cert.KernelDmhIdeal.nD Cert.KernelDmhIdeal.τ).loc Cert.KernelDmhIdeal.main_v2)),
      θ_run (Cert.KernelDmhIdeal.defs (F := Ideal)) (onTc (τ := Cert.KernelDmhIdeal.τ) (Cert.KernelDmhIdeal.main (F := Ideal))) ⟨m, fun _ => 0, g⟩ (fun r => ∀ c : Dev Cert.KernelDmhIdeal.nD,
          r.2.mem ((c.tc : Thread Cert.KernelDmhIdeal.nD Cert.KernelDmhIdeal.τ).loc Cert.KernelDmhIdeal.main_v2) = v0 c
          ∧ r.2.mem ((c.tc : Thread Cert.KernelDmhIdeal.nD Cert.KernelDmhIdeal.τ).loc Cert.KernelDmhIdeal.main_arg0) = m ((c.tc : Thread Cert.KernelDmhIdeal.nD Cert.KernelDmhIdeal.τ).loc Cert.KernelDmhIdeal.main_arg0)
          ∧ r.2.mem ((c.tc : Thread Cert.KernelDmhIdeal.nD Cert.KernelDmhIdeal.τ).loc Cert.KernelDmhIdeal.main_arg1) = m ((c.tc : Thread Cert.KernelDmhIdeal.nD Cert.KernelDmhIdeal.τ).loc Cert.KernelDmhIdeal.main_arg1))
      ∧ θ_run (Cert.ReferenceDmhIdeal.defs (F := Ideal)) (onTc (τ := Cert.ReferenceDmhIdeal.τ) (Cert.ReferenceDmhIdeal.main (F := Ideal))) ⟨m', fun _ => 0, g'⟩ (fun r => ∀ c : Dev Cert.ReferenceDmhIdeal.nD,
          r.2.mem ((c.tc : Thread Cert.ReferenceDmhIdeal.nD Cert.ReferenceDmhIdeal.τ).loc Cert.ReferenceDmhIdeal.main_v3) = v0 c
          ∧ r.2.mem ((c.tc : Thread Cert.ReferenceDmhIdeal.nD Cert.ReferenceDmhIdeal.τ).loc Cert.ReferenceDmhIdeal.main_arg0) = m' ((c.tc : Thread Cert.ReferenceDmhIdeal.nD Cert.ReferenceDmhIdeal.τ).loc Cert.ReferenceDmhIdeal.main_arg0)
          ∧ r.2.mem ((c.tc : Thread Cert.ReferenceDmhIdeal.nD Cert.ReferenceDmhIdeal.τ).loc Cert.ReferenceDmhIdeal.main_arg1) = m' ((c.tc : Thread Cert.ReferenceDmhIdeal.nD Cert.ReferenceDmhIdeal.τ).loc Cert.ReferenceDmhIdeal.main_arg1))

def preserves_KernelAbdh_KernelAbdhIdeal : Prop :=
  True

def algebraic_KernelAbdhIdeal_ReferenceAbdhIdeal [hKernelAbdhIdeal : Cert.KernelAbdhIdeal.Facts] [hReferenceAbdhIdeal : Cert.ReferenceAbdhIdeal.Facts] : Prop :=
  ∀ (m : (ℓ : Loc Cert.KernelAbdhIdeal.nD Cert.KernelAbdhIdeal.τ Cert.KernelAbdhIdeal.sig) → Buf (Elt Ideal) ℓ) (g : Dev Cert.KernelAbdhIdeal.nD → PrngReg)
    (m' : (ℓ : Loc Cert.ReferenceAbdhIdeal.nD Cert.ReferenceAbdhIdeal.τ Cert.ReferenceAbdhIdeal.sig) → Buf (Elt Ideal) ℓ) (g' : Dev Cert.ReferenceAbdhIdeal.nD → PrngReg), Pre_KernelAbdhIdeal m →
    (∀ c : Dev Cert.KernelAbdhIdeal.nD,
      m' ((c.tc : Thread Cert.ReferenceAbdhIdeal.nD Cert.ReferenceAbdhIdeal.τ).loc Cert.ReferenceAbdhIdeal.main_arg0) = m ((c.tc : Thread Cert.KernelAbdhIdeal.nD Cert.KernelAbdhIdeal.τ).loc Cert.KernelAbdhIdeal.main_arg0)
      ∧ m' ((c.tc : Thread Cert.ReferenceAbdhIdeal.nD Cert.ReferenceAbdhIdeal.τ).loc Cert.ReferenceAbdhIdeal.main_arg1) = m ((c.tc : Thread Cert.KernelAbdhIdeal.nD Cert.KernelAbdhIdeal.τ).loc Cert.KernelAbdhIdeal.main_arg1)
      ∧ m' ((c.tc : Thread Cert.ReferenceAbdhIdeal.nD Cert.ReferenceAbdhIdeal.τ).loc Cert.ReferenceAbdhIdeal.main_arg2) = m ((c.tc : Thread Cert.KernelAbdhIdeal.nD Cert.KernelAbdhIdeal.τ).loc Cert.KernelAbdhIdeal.main_arg2)
      ∧ m' ((c.tc : Thread Cert.ReferenceAbdhIdeal.nD Cert.ReferenceAbdhIdeal.τ).loc Cert.ReferenceAbdhIdeal.main_arg3) = m ((c.tc : Thread Cert.KernelAbdhIdeal.nD Cert.KernelAbdhIdeal.τ).loc Cert.KernelAbdhIdeal.main_arg3)
      ∧ m' ((c.tc : Thread Cert.ReferenceAbdhIdeal.nD Cert.ReferenceAbdhIdeal.τ).loc Cert.ReferenceAbdhIdeal.main_arg4) = m ((c.tc : Thread Cert.KernelAbdhIdeal.nD Cert.KernelAbdhIdeal.τ).loc Cert.KernelAbdhIdeal.main_arg4)) →
    ∃ (v0 : (c : Dev Cert.KernelAbdhIdeal.nD) → Buf (Elt Ideal) ((c.tc : Thread Cert.KernelAbdhIdeal.nD Cert.KernelAbdhIdeal.τ).loc Cert.KernelAbdhIdeal.main_v3_0)) (v1 : (c : Dev Cert.KernelAbdhIdeal.nD) → Buf (Elt Ideal) ((c.tc : Thread Cert.KernelAbdhIdeal.nD Cert.KernelAbdhIdeal.τ).loc Cert.KernelAbdhIdeal.main_v3_1)),
      θ_run (Cert.KernelAbdhIdeal.defs (F := Ideal)) (onTc (τ := Cert.KernelAbdhIdeal.τ) (Cert.KernelAbdhIdeal.main (F := Ideal))) ⟨m, fun _ => 0, g⟩ (fun r => ∀ c : Dev Cert.KernelAbdhIdeal.nD,
          r.2.mem ((c.tc : Thread Cert.KernelAbdhIdeal.nD Cert.KernelAbdhIdeal.τ).loc Cert.KernelAbdhIdeal.main_v3_0) = v0 c
          ∧ r.2.mem ((c.tc : Thread Cert.KernelAbdhIdeal.nD Cert.KernelAbdhIdeal.τ).loc Cert.KernelAbdhIdeal.main_v3_1) = v1 c
          ∧ r.2.mem ((c.tc : Thread Cert.KernelAbdhIdeal.nD Cert.KernelAbdhIdeal.τ).loc Cert.KernelAbdhIdeal.main_arg0) = m ((c.tc : Thread Cert.KernelAbdhIdeal.nD Cert.KernelAbdhIdeal.τ).loc Cert.KernelAbdhIdeal.main_arg0)
          ∧ r.2.mem ((c.tc : Thread Cert.KernelAbdhIdeal.nD Cert.KernelAbdhIdeal.τ).loc Cert.KernelAbdhIdeal.main_arg1) = m ((c.tc : Thread Cert.KernelAbdhIdeal.nD Cert.KernelAbdhIdeal.τ).loc Cert.KernelAbdhIdeal.main_arg1)
          ∧ r.2.mem ((c.tc : Thread Cert.KernelAbdhIdeal.nD Cert.KernelAbdhIdeal.τ).loc Cert.KernelAbdhIdeal.main_arg2) = m ((c.tc : Thread Cert.KernelAbdhIdeal.nD Cert.KernelAbdhIdeal.τ).loc Cert.KernelAbdhIdeal.main_arg2)
          ∧ r.2.mem ((c.tc : Thread Cert.KernelAbdhIdeal.nD Cert.KernelAbdhIdeal.τ).loc Cert.KernelAbdhIdeal.main_arg3) = m ((c.tc : Thread Cert.KernelAbdhIdeal.nD Cert.KernelAbdhIdeal.τ).loc Cert.KernelAbdhIdeal.main_arg3)
          ∧ r.2.mem ((c.tc : Thread Cert.KernelAbdhIdeal.nD Cert.KernelAbdhIdeal.τ).loc Cert.KernelAbdhIdeal.main_arg4) = m ((c.tc : Thread Cert.KernelAbdhIdeal.nD Cert.KernelAbdhIdeal.τ).loc Cert.KernelAbdhIdeal.main_arg4))
      ∧ θ_run (Cert.ReferenceAbdhIdeal.defs (F := Ideal)) (onTc (τ := Cert.ReferenceAbdhIdeal.τ) (Cert.ReferenceAbdhIdeal.main (F := Ideal))) ⟨m', fun _ => 0, g'⟩ (fun r => ∀ c : Dev Cert.ReferenceAbdhIdeal.nD,
          r.2.mem ((c.tc : Thread Cert.ReferenceAbdhIdeal.nD Cert.ReferenceAbdhIdeal.τ).loc Cert.ReferenceAbdhIdeal.main_v39) = v0 c
          ∧ r.2.mem ((c.tc : Thread Cert.ReferenceAbdhIdeal.nD Cert.ReferenceAbdhIdeal.τ).loc Cert.ReferenceAbdhIdeal.main_v40) = v1 c
          ∧ r.2.mem ((c.tc : Thread Cert.ReferenceAbdhIdeal.nD Cert.ReferenceAbdhIdeal.τ).loc Cert.ReferenceAbdhIdeal.main_arg0) = m' ((c.tc : Thread Cert.ReferenceAbdhIdeal.nD Cert.ReferenceAbdhIdeal.τ).loc Cert.ReferenceAbdhIdeal.main_arg0)
          ∧ r.2.mem ((c.tc : Thread Cert.ReferenceAbdhIdeal.nD Cert.ReferenceAbdhIdeal.τ).loc Cert.ReferenceAbdhIdeal.main_arg1) = m' ((c.tc : Thread Cert.ReferenceAbdhIdeal.nD Cert.ReferenceAbdhIdeal.τ).loc Cert.ReferenceAbdhIdeal.main_arg1)
          ∧ r.2.mem ((c.tc : Thread Cert.ReferenceAbdhIdeal.nD Cert.ReferenceAbdhIdeal.τ).loc Cert.ReferenceAbdhIdeal.main_arg2) = m' ((c.tc : Thread Cert.ReferenceAbdhIdeal.nD Cert.ReferenceAbdhIdeal.τ).loc Cert.ReferenceAbdhIdeal.main_arg2)
          ∧ r.2.mem ((c.tc : Thread Cert.ReferenceAbdhIdeal.nD Cert.ReferenceAbdhIdeal.τ).loc Cert.ReferenceAbdhIdeal.main_arg3) = m' ((c.tc : Thread Cert.ReferenceAbdhIdeal.nD Cert.ReferenceAbdhIdeal.τ).loc Cert.ReferenceAbdhIdeal.main_arg3)
          ∧ r.2.mem ((c.tc : Thread Cert.ReferenceAbdhIdeal.nD Cert.ReferenceAbdhIdeal.τ).loc Cert.ReferenceAbdhIdeal.main_arg4) = m' ((c.tc : Thread Cert.ReferenceAbdhIdeal.nD Cert.ReferenceAbdhIdeal.τ).loc Cert.ReferenceAbdhIdeal.main_arg4))

def preserves_KernelXdh_KernelXdhIdeal : Prop :=
  True

def algebraic_KernelXdhIdeal_ReferenceXdhIdeal [hKernelXdhIdeal : Cert.KernelXdhIdeal.Facts] [hReferenceXdhIdeal : Cert.ReferenceXdhIdeal.Facts] : Prop :=
  ∀ (m : (ℓ : Loc Cert.KernelXdhIdeal.nD Cert.KernelXdhIdeal.τ Cert.KernelXdhIdeal.sig) → Buf (Elt Ideal) ℓ) (g : Dev Cert.KernelXdhIdeal.nD → PrngReg)
    (m' : (ℓ : Loc Cert.ReferenceXdhIdeal.nD Cert.ReferenceXdhIdeal.τ Cert.ReferenceXdhIdeal.sig) → Buf (Elt Ideal) ℓ) (g' : Dev Cert.ReferenceXdhIdeal.nD → PrngReg), Pre_KernelXdhIdeal m →
    (∀ c : Dev Cert.KernelXdhIdeal.nD,
      m' ((c.tc : Thread Cert.ReferenceXdhIdeal.nD Cert.ReferenceXdhIdeal.τ).loc Cert.ReferenceXdhIdeal.main_arg0) = m ((c.tc : Thread Cert.KernelXdhIdeal.nD Cert.KernelXdhIdeal.τ).loc Cert.KernelXdhIdeal.main_arg0)
      ∧ m' ((c.tc : Thread Cert.ReferenceXdhIdeal.nD Cert.ReferenceXdhIdeal.τ).loc Cert.ReferenceXdhIdeal.main_arg1) = m ((c.tc : Thread Cert.KernelXdhIdeal.nD Cert.KernelXdhIdeal.τ).loc Cert.KernelXdhIdeal.main_arg1)
      ∧ m' ((c.tc : Thread Cert.ReferenceXdhIdeal.nD Cert.ReferenceXdhIdeal.τ).loc Cert.ReferenceXdhIdeal.main_arg2) = m ((c.tc : Thread Cert.KernelXdhIdeal.nD Cert.KernelXdhIdeal.τ).loc Cert.KernelXdhIdeal.main_arg2)
      ∧ m' ((c.tc : Thread Cert.ReferenceXdhIdeal.nD Cert.ReferenceXdhIdeal.τ).loc Cert.ReferenceXdhIdeal.main_arg3) = m ((c.tc : Thread Cert.KernelXdhIdeal.nD Cert.KernelXdhIdeal.τ).loc Cert.KernelXdhIdeal.main_arg3)
      ∧ m' ((c.tc : Thread Cert.ReferenceXdhIdeal.nD Cert.ReferenceXdhIdeal.τ).loc Cert.ReferenceXdhIdeal.main_arg4) = m ((c.tc : Thread Cert.KernelXdhIdeal.nD Cert.KernelXdhIdeal.τ).loc Cert.KernelXdhIdeal.main_arg4)) →
    ∃ (v0 : (c : Dev Cert.KernelXdhIdeal.nD) → Buf (Elt Ideal) ((c.tc : Thread Cert.KernelXdhIdeal.nD Cert.KernelXdhIdeal.τ).loc Cert.KernelXdhIdeal.main_v3_0)) (v1 : (c : Dev Cert.KernelXdhIdeal.nD) → Buf (Elt Ideal) ((c.tc : Thread Cert.KernelXdhIdeal.nD Cert.KernelXdhIdeal.τ).loc Cert.KernelXdhIdeal.main_v3_1)),
      θ_run (Cert.KernelXdhIdeal.defs (F := Ideal)) (onTc (τ := Cert.KernelXdhIdeal.τ) (Cert.KernelXdhIdeal.main (F := Ideal))) ⟨m, fun _ => 0, g⟩ (fun r => ∀ c : Dev Cert.KernelXdhIdeal.nD,
          r.2.mem ((c.tc : Thread Cert.KernelXdhIdeal.nD Cert.KernelXdhIdeal.τ).loc Cert.KernelXdhIdeal.main_v3_0) = v0 c
          ∧ r.2.mem ((c.tc : Thread Cert.KernelXdhIdeal.nD Cert.KernelXdhIdeal.τ).loc Cert.KernelXdhIdeal.main_v3_1) = v1 c
          ∧ r.2.mem ((c.tc : Thread Cert.KernelXdhIdeal.nD Cert.KernelXdhIdeal.τ).loc Cert.KernelXdhIdeal.main_arg0) = m ((c.tc : Thread Cert.KernelXdhIdeal.nD Cert.KernelXdhIdeal.τ).loc Cert.KernelXdhIdeal.main_arg0)
          ∧ r.2.mem ((c.tc : Thread Cert.KernelXdhIdeal.nD Cert.KernelXdhIdeal.τ).loc Cert.KernelXdhIdeal.main_arg1) = m ((c.tc : Thread Cert.KernelXdhIdeal.nD Cert.KernelXdhIdeal.τ).loc Cert.KernelXdhIdeal.main_arg1)
          ∧ r.2.mem ((c.tc : Thread Cert.KernelXdhIdeal.nD Cert.KernelXdhIdeal.τ).loc Cert.KernelXdhIdeal.main_arg2) = m ((c.tc : Thread Cert.KernelXdhIdeal.nD Cert.KernelXdhIdeal.τ).loc Cert.KernelXdhIdeal.main_arg2)
          ∧ r.2.mem ((c.tc : Thread Cert.KernelXdhIdeal.nD Cert.KernelXdhIdeal.τ).loc Cert.KernelXdhIdeal.main_arg3) = m ((c.tc : Thread Cert.KernelXdhIdeal.nD Cert.KernelXdhIdeal.τ).loc Cert.KernelXdhIdeal.main_arg3)
          ∧ r.2.mem ((c.tc : Thread Cert.KernelXdhIdeal.nD Cert.KernelXdhIdeal.τ).loc Cert.KernelXdhIdeal.main_arg4) = m ((c.tc : Thread Cert.KernelXdhIdeal.nD Cert.KernelXdhIdeal.τ).loc Cert.KernelXdhIdeal.main_arg4))
      ∧ θ_run (Cert.ReferenceXdhIdeal.defs (F := Ideal)) (onTc (τ := Cert.ReferenceXdhIdeal.τ) (Cert.ReferenceXdhIdeal.main (F := Ideal))) ⟨m', fun _ => 0, g'⟩ (fun r => ∀ c : Dev Cert.ReferenceXdhIdeal.nD,
          r.2.mem ((c.tc : Thread Cert.ReferenceXdhIdeal.nD Cert.ReferenceXdhIdeal.τ).loc Cert.ReferenceXdhIdeal.main_v38) = v0 c
          ∧ r.2.mem ((c.tc : Thread Cert.ReferenceXdhIdeal.nD Cert.ReferenceXdhIdeal.τ).loc Cert.ReferenceXdhIdeal.main_v39) = v1 c
          ∧ r.2.mem ((c.tc : Thread Cert.ReferenceXdhIdeal.nD Cert.ReferenceXdhIdeal.τ).loc Cert.ReferenceXdhIdeal.main_arg0) = m' ((c.tc : Thread Cert.ReferenceXdhIdeal.nD Cert.ReferenceXdhIdeal.τ).loc Cert.ReferenceXdhIdeal.main_arg0)
          ∧ r.2.mem ((c.tc : Thread Cert.ReferenceXdhIdeal.nD Cert.ReferenceXdhIdeal.τ).loc Cert.ReferenceXdhIdeal.main_arg1) = m' ((c.tc : Thread Cert.ReferenceXdhIdeal.nD Cert.ReferenceXdhIdeal.τ).loc Cert.ReferenceXdhIdeal.main_arg1)
          ∧ r.2.mem ((c.tc : Thread Cert.ReferenceXdhIdeal.nD Cert.ReferenceXdhIdeal.τ).loc Cert.ReferenceXdhIdeal.main_arg2) = m' ((c.tc : Thread Cert.ReferenceXdhIdeal.nD Cert.ReferenceXdhIdeal.τ).loc Cert.ReferenceXdhIdeal.main_arg2)
          ∧ r.2.mem ((c.tc : Thread Cert.ReferenceXdhIdeal.nD Cert.ReferenceXdhIdeal.τ).loc Cert.ReferenceXdhIdeal.main_arg3) = m' ((c.tc : Thread Cert.ReferenceXdhIdeal.nD Cert.ReferenceXdhIdeal.τ).loc Cert.ReferenceXdhIdeal.main_arg3)
          ∧ r.2.mem ((c.tc : Thread Cert.ReferenceXdhIdeal.nD Cert.ReferenceXdhIdeal.τ).loc Cert.ReferenceXdhIdeal.main_arg4) = m' ((c.tc : Thread Cert.ReferenceXdhIdeal.nD Cert.ReferenceXdhIdeal.τ).loc Cert.ReferenceXdhIdeal.main_arg4))

def preserves_KernelDndh1_KernelDndh1Ideal : Prop :=
  True

def algebraic_KernelDndh1Ideal_ReferenceDndh1Ideal [hKernelDndh1Ideal : Cert.KernelDndh1Ideal.Facts] [hReferenceDndh1Ideal : Cert.ReferenceDndh1Ideal.Facts] : Prop :=
  ∀ (m : (ℓ : Loc Cert.KernelDndh1Ideal.nD Cert.KernelDndh1Ideal.τ Cert.KernelDndh1Ideal.sig) → Buf (Elt Ideal) ℓ) (g : Dev Cert.KernelDndh1Ideal.nD → PrngReg)
    (m' : (ℓ : Loc Cert.ReferenceDndh1Ideal.nD Cert.ReferenceDndh1Ideal.τ Cert.ReferenceDndh1Ideal.sig) → Buf (Elt Ideal) ℓ) (g' : Dev Cert.ReferenceDndh1Ideal.nD → PrngReg), Pre_KernelDndh1Ideal m →
    (∀ c : Dev Cert.KernelDndh1Ideal.nD,
      m' ((c.tc : Thread Cert.ReferenceDndh1Ideal.nD Cert.ReferenceDndh1Ideal.τ).loc Cert.ReferenceDndh1Ideal.main_arg0) = m ((c.tc : Thread Cert.KernelDndh1Ideal.nD Cert.KernelDndh1Ideal.τ).loc Cert.KernelDndh1Ideal.main_arg0)
      ∧ m' ((c.tc : Thread Cert.ReferenceDndh1Ideal.nD Cert.ReferenceDndh1Ideal.τ).loc Cert.ReferenceDndh1Ideal.main_arg1) = m ((c.tc : Thread Cert.KernelDndh1Ideal.nD Cert.KernelDndh1Ideal.τ).loc Cert.KernelDndh1Ideal.main_arg1)) →
    ∃ (v0 : (c : Dev Cert.KernelDndh1Ideal.nD) → Buf (Elt Ideal) ((c.tc : Thread Cert.KernelDndh1Ideal.nD Cert.KernelDndh1Ideal.τ).loc Cert.KernelDndh1Ideal.main_v2)),
      θ_run (Cert.KernelDndh1Ideal.defs (F := Ideal)) (onTc (τ := Cert.KernelDndh1Ideal.τ) (Cert.KernelDndh1Ideal.main (F := Ideal))) ⟨m, fun _ => 0, g⟩ (fun r => ∀ c : Dev Cert.KernelDndh1Ideal.nD,
          r.2.mem ((c.tc : Thread Cert.KernelDndh1Ideal.nD Cert.KernelDndh1Ideal.τ).loc Cert.KernelDndh1Ideal.main_v2) = v0 c
          ∧ r.2.mem ((c.tc : Thread Cert.KernelDndh1Ideal.nD Cert.KernelDndh1Ideal.τ).loc Cert.KernelDndh1Ideal.main_arg0) = m ((c.tc : Thread Cert.KernelDndh1Ideal.nD Cert.KernelDndh1Ideal.τ).loc Cert.KernelDndh1Ideal.main_arg0)
          ∧ r.2.mem ((c.tc : Thread Cert.KernelDndh1Ideal.nD Cert.KernelDndh1Ideal.τ).loc Cert.KernelDndh1Ideal.main_arg1) = m ((c.tc : Thread Cert.KernelDndh1Ideal.nD Cert.KernelDndh1Ideal.τ).loc Cert.KernelDndh1Ideal.main_arg1))
      ∧ θ_run (Cert.ReferenceDndh1Ideal.defs (F := Ideal)) (onTc (τ := Cert.ReferenceDndh1Ideal.τ) (Cert.ReferenceDndh1Ideal.main (F := Ideal))) ⟨m', fun _ => 0, g'⟩ (fun r => ∀ c : Dev Cert.ReferenceDndh1Ideal.nD,
          r.2.mem ((c.tc : Thread Cert.ReferenceDndh1Ideal.nD Cert.ReferenceDndh1Ideal.τ).loc Cert.ReferenceDndh1Ideal.main_v3) = v0 c
          ∧ r.2.mem ((c.tc : Thread Cert.ReferenceDndh1Ideal.nD Cert.ReferenceDndh1Ideal.τ).loc Cert.ReferenceDndh1Ideal.main_arg0) = m' ((c.tc : Thread Cert.ReferenceDndh1Ideal.nD Cert.ReferenceDndh1Ideal.τ).loc Cert.ReferenceDndh1Ideal.main_arg0)
          ∧ r.2.mem ((c.tc : Thread Cert.ReferenceDndh1Ideal.nD Cert.ReferenceDndh1Ideal.τ).loc Cert.ReferenceDndh1Ideal.main_arg1) = m' ((c.tc : Thread Cert.ReferenceDndh1Ideal.nD Cert.ReferenceDndh1Ideal.τ).loc Cert.ReferenceDndh1Ideal.main_arg1))

def preserves_KernelDndh2_KernelDndh2Ideal : Prop :=
  True

def algebraic_KernelDndh2Ideal_ReferenceDndh2Ideal [hKernelDndh2Ideal : Cert.KernelDndh2Ideal.Facts] [hReferenceDndh2Ideal : Cert.ReferenceDndh2Ideal.Facts] : Prop :=
  ∀ (m : (ℓ : Loc Cert.KernelDndh2Ideal.nD Cert.KernelDndh2Ideal.τ Cert.KernelDndh2Ideal.sig) → Buf (Elt Ideal) ℓ) (g : Dev Cert.KernelDndh2Ideal.nD → PrngReg)
    (m' : (ℓ : Loc Cert.ReferenceDndh2Ideal.nD Cert.ReferenceDndh2Ideal.τ Cert.ReferenceDndh2Ideal.sig) → Buf (Elt Ideal) ℓ) (g' : Dev Cert.ReferenceDndh2Ideal.nD → PrngReg), Pre_KernelDndh2Ideal m →
    (∀ c : Dev Cert.KernelDndh2Ideal.nD,
      m' ((c.tc : Thread Cert.ReferenceDndh2Ideal.nD Cert.ReferenceDndh2Ideal.τ).loc Cert.ReferenceDndh2Ideal.main_arg0) = m ((c.tc : Thread Cert.KernelDndh2Ideal.nD Cert.KernelDndh2Ideal.τ).loc Cert.KernelDndh2Ideal.main_arg0)
      ∧ m' ((c.tc : Thread Cert.ReferenceDndh2Ideal.nD Cert.ReferenceDndh2Ideal.τ).loc Cert.ReferenceDndh2Ideal.main_arg1) = m ((c.tc : Thread Cert.KernelDndh2Ideal.nD Cert.KernelDndh2Ideal.τ).loc Cert.KernelDndh2Ideal.main_arg1)
      ∧ m' ((c.tc : Thread Cert.ReferenceDndh2Ideal.nD Cert.ReferenceDndh2Ideal.τ).loc Cert.ReferenceDndh2Ideal.main_arg2) = m ((c.tc : Thread Cert.KernelDndh2Ideal.nD Cert.KernelDndh2Ideal.τ).loc Cert.KernelDndh2Ideal.main_arg2)) →
    ∃ (v0 : (c : Dev Cert.KernelDndh2Ideal.nD) → Buf (Elt Ideal) ((c.tc : Thread Cert.KernelDndh2Ideal.nD Cert.KernelDndh2Ideal.τ).loc Cert.KernelDndh2Ideal.main_v2)),
      θ_run (Cert.KernelDndh2Ideal.defs (F := Ideal)) (onTc (τ := Cert.KernelDndh2Ideal.τ) (Cert.KernelDndh2Ideal.main (F := Ideal))) ⟨m, fun _ => 0, g⟩ (fun r => ∀ c : Dev Cert.KernelDndh2Ideal.nD,
          r.2.mem ((c.tc : Thread Cert.KernelDndh2Ideal.nD Cert.KernelDndh2Ideal.τ).loc Cert.KernelDndh2Ideal.main_v2) = v0 c
          ∧ r.2.mem ((c.tc : Thread Cert.KernelDndh2Ideal.nD Cert.KernelDndh2Ideal.τ).loc Cert.KernelDndh2Ideal.main_arg0) = m ((c.tc : Thread Cert.KernelDndh2Ideal.nD Cert.KernelDndh2Ideal.τ).loc Cert.KernelDndh2Ideal.main_arg0)
          ∧ r.2.mem ((c.tc : Thread Cert.KernelDndh2Ideal.nD Cert.KernelDndh2Ideal.τ).loc Cert.KernelDndh2Ideal.main_arg1) = m ((c.tc : Thread Cert.KernelDndh2Ideal.nD Cert.KernelDndh2Ideal.τ).loc Cert.KernelDndh2Ideal.main_arg1)
          ∧ r.2.mem ((c.tc : Thread Cert.KernelDndh2Ideal.nD Cert.KernelDndh2Ideal.τ).loc Cert.KernelDndh2Ideal.main_arg2) = m ((c.tc : Thread Cert.KernelDndh2Ideal.nD Cert.KernelDndh2Ideal.τ).loc Cert.KernelDndh2Ideal.main_arg2))
      ∧ θ_run (Cert.ReferenceDndh2Ideal.defs (F := Ideal)) (onTc (τ := Cert.ReferenceDndh2Ideal.τ) (Cert.ReferenceDndh2Ideal.main (F := Ideal))) ⟨m', fun _ => 0, g'⟩ (fun r => ∀ c : Dev Cert.ReferenceDndh2Ideal.nD,
          r.2.mem ((c.tc : Thread Cert.ReferenceDndh2Ideal.nD Cert.ReferenceDndh2Ideal.τ).loc Cert.ReferenceDndh2Ideal.main_v4) = v0 c
          ∧ r.2.mem ((c.tc : Thread Cert.ReferenceDndh2Ideal.nD Cert.ReferenceDndh2Ideal.τ).loc Cert.ReferenceDndh2Ideal.main_arg0) = m' ((c.tc : Thread Cert.ReferenceDndh2Ideal.nD Cert.ReferenceDndh2Ideal.τ).loc Cert.ReferenceDndh2Ideal.main_arg0)
          ∧ r.2.mem ((c.tc : Thread Cert.ReferenceDndh2Ideal.nD Cert.ReferenceDndh2Ideal.τ).loc Cert.ReferenceDndh2Ideal.main_arg1) = m' ((c.tc : Thread Cert.ReferenceDndh2Ideal.nD Cert.ReferenceDndh2Ideal.τ).loc Cert.ReferenceDndh2Ideal.main_arg1)
          ∧ r.2.mem ((c.tc : Thread Cert.ReferenceDndh2Ideal.nD Cert.ReferenceDndh2Ideal.τ).loc Cert.ReferenceDndh2Ideal.main_arg2) = m' ((c.tc : Thread Cert.ReferenceDndh2Ideal.nD Cert.ReferenceDndh2Ideal.τ).loc Cert.ReferenceDndh2Ideal.main_arg2))

def preserves_KernelDndh3_KernelDndh3Ideal : Prop :=
  True

def algebraic_KernelDndh3Ideal_ReferenceDndh3Ideal [hKernelDndh3Ideal : Cert.KernelDndh3Ideal.Facts] [hReferenceDndh3Ideal : Cert.ReferenceDndh3Ideal.Facts] : Prop :=
  ∀ (m : (ℓ : Loc Cert.KernelDndh3Ideal.nD Cert.KernelDndh3Ideal.τ Cert.KernelDndh3Ideal.sig) → Buf (Elt Ideal) ℓ) (g : Dev Cert.KernelDndh3Ideal.nD → PrngReg)
    (m' : (ℓ : Loc Cert.ReferenceDndh3Ideal.nD Cert.ReferenceDndh3Ideal.τ Cert.ReferenceDndh3Ideal.sig) → Buf (Elt Ideal) ℓ) (g' : Dev Cert.ReferenceDndh3Ideal.nD → PrngReg), Pre_KernelDndh3Ideal m →
    (∀ c : Dev Cert.KernelDndh3Ideal.nD,
      m' ((c.tc : Thread Cert.ReferenceDndh3Ideal.nD Cert.ReferenceDndh3Ideal.τ).loc Cert.ReferenceDndh3Ideal.main_arg0) = m ((c.tc : Thread Cert.KernelDndh3Ideal.nD Cert.KernelDndh3Ideal.τ).loc Cert.KernelDndh3Ideal.main_arg0)
      ∧ m' ((c.tc : Thread Cert.ReferenceDndh3Ideal.nD Cert.ReferenceDndh3Ideal.τ).loc Cert.ReferenceDndh3Ideal.main_arg1) = m ((c.tc : Thread Cert.KernelDndh3Ideal.nD Cert.KernelDndh3Ideal.τ).loc Cert.KernelDndh3Ideal.main_arg1)
      ∧ m' ((c.tc : Thread Cert.ReferenceDndh3Ideal.nD Cert.ReferenceDndh3Ideal.τ).loc Cert.ReferenceDndh3Ideal.main_arg2) = m ((c.tc : Thread Cert.KernelDndh3Ideal.nD Cert.KernelDndh3Ideal.τ).loc Cert.KernelDndh3Ideal.main_arg2)
      ∧ m' ((c.tc : Thread Cert.ReferenceDndh3Ideal.nD Cert.ReferenceDndh3Ideal.τ).loc Cert.ReferenceDndh3Ideal.main_arg3) = m ((c.tc : Thread Cert.KernelDndh3Ideal.nD Cert.KernelDndh3Ideal.τ).loc Cert.KernelDndh3Ideal.main_arg3)
      ∧ m' ((c.tc : Thread Cert.ReferenceDndh3Ideal.nD Cert.ReferenceDndh3Ideal.τ).loc Cert.ReferenceDndh3Ideal.main_arg4) = m ((c.tc : Thread Cert.KernelDndh3Ideal.nD Cert.KernelDndh3Ideal.τ).loc Cert.KernelDndh3Ideal.main_arg4)
      ∧ m' ((c.tc : Thread Cert.ReferenceDndh3Ideal.nD Cert.ReferenceDndh3Ideal.τ).loc Cert.ReferenceDndh3Ideal.main_arg5) = m ((c.tc : Thread Cert.KernelDndh3Ideal.nD Cert.KernelDndh3Ideal.τ).loc Cert.KernelDndh3Ideal.main_arg5)) →
    ∃ (v0 : (c : Dev Cert.KernelDndh3Ideal.nD) → Buf (Elt Ideal) ((c.tc : Thread Cert.KernelDndh3Ideal.nD Cert.KernelDndh3Ideal.τ).loc Cert.KernelDndh3Ideal.main_v3_0)) (v1 : (c : Dev Cert.KernelDndh3Ideal.nD) → Buf (Elt Ideal) ((c.tc : Thread Cert.KernelDndh3Ideal.nD Cert.KernelDndh3Ideal.τ).loc Cert.KernelDndh3Ideal.main_v3_1)),
      θ_run (Cert.KernelDndh3Ideal.defs (F := Ideal)) (onTc (τ := Cert.KernelDndh3Ideal.τ) (Cert.KernelDndh3Ideal.main (F := Ideal))) ⟨m, fun _ => 0, g⟩ (fun r => ∀ c : Dev Cert.KernelDndh3Ideal.nD,
          r.2.mem ((c.tc : Thread Cert.KernelDndh3Ideal.nD Cert.KernelDndh3Ideal.τ).loc Cert.KernelDndh3Ideal.main_v3_0) = v0 c
          ∧ r.2.mem ((c.tc : Thread Cert.KernelDndh3Ideal.nD Cert.KernelDndh3Ideal.τ).loc Cert.KernelDndh3Ideal.main_v3_1) = v1 c
          ∧ r.2.mem ((c.tc : Thread Cert.KernelDndh3Ideal.nD Cert.KernelDndh3Ideal.τ).loc Cert.KernelDndh3Ideal.main_arg0) = m ((c.tc : Thread Cert.KernelDndh3Ideal.nD Cert.KernelDndh3Ideal.τ).loc Cert.KernelDndh3Ideal.main_arg0)
          ∧ r.2.mem ((c.tc : Thread Cert.KernelDndh3Ideal.nD Cert.KernelDndh3Ideal.τ).loc Cert.KernelDndh3Ideal.main_arg1) = m ((c.tc : Thread Cert.KernelDndh3Ideal.nD Cert.KernelDndh3Ideal.τ).loc Cert.KernelDndh3Ideal.main_arg1)
          ∧ r.2.mem ((c.tc : Thread Cert.KernelDndh3Ideal.nD Cert.KernelDndh3Ideal.τ).loc Cert.KernelDndh3Ideal.main_arg2) = m ((c.tc : Thread Cert.KernelDndh3Ideal.nD Cert.KernelDndh3Ideal.τ).loc Cert.KernelDndh3Ideal.main_arg2)
          ∧ r.2.mem ((c.tc : Thread Cert.KernelDndh3Ideal.nD Cert.KernelDndh3Ideal.τ).loc Cert.KernelDndh3Ideal.main_arg3) = m ((c.tc : Thread Cert.KernelDndh3Ideal.nD Cert.KernelDndh3Ideal.τ).loc Cert.KernelDndh3Ideal.main_arg3)
          ∧ r.2.mem ((c.tc : Thread Cert.KernelDndh3Ideal.nD Cert.KernelDndh3Ideal.τ).loc Cert.KernelDndh3Ideal.main_arg4) = m ((c.tc : Thread Cert.KernelDndh3Ideal.nD Cert.KernelDndh3Ideal.τ).loc Cert.KernelDndh3Ideal.main_arg4)
          ∧ r.2.mem ((c.tc : Thread Cert.KernelDndh3Ideal.nD Cert.KernelDndh3Ideal.τ).loc Cert.KernelDndh3Ideal.main_arg5) = m ((c.tc : Thread Cert.KernelDndh3Ideal.nD Cert.KernelDndh3Ideal.τ).loc Cert.KernelDndh3Ideal.main_arg5))
      ∧ θ_run (Cert.ReferenceDndh3Ideal.defs (F := Ideal)) (onTc (τ := Cert.ReferenceDndh3Ideal.τ) (Cert.ReferenceDndh3Ideal.main (F := Ideal))) ⟨m', fun _ => 0, g'⟩ (fun r => ∀ c : Dev Cert.ReferenceDndh3Ideal.nD,
          r.2.mem ((c.tc : Thread Cert.ReferenceDndh3Ideal.nD Cert.ReferenceDndh3Ideal.τ).loc Cert.ReferenceDndh3Ideal.main_v41) = v0 c
          ∧ r.2.mem ((c.tc : Thread Cert.ReferenceDndh3Ideal.nD Cert.ReferenceDndh3Ideal.τ).loc Cert.ReferenceDndh3Ideal.main_v42) = v1 c
          ∧ r.2.mem ((c.tc : Thread Cert.ReferenceDndh3Ideal.nD Cert.ReferenceDndh3Ideal.τ).loc Cert.ReferenceDndh3Ideal.main_arg0) = m' ((c.tc : Thread Cert.ReferenceDndh3Ideal.nD Cert.ReferenceDndh3Ideal.τ).loc Cert.ReferenceDndh3Ideal.main_arg0)
          ∧ r.2.mem ((c.tc : Thread Cert.ReferenceDndh3Ideal.nD Cert.ReferenceDndh3Ideal.τ).loc Cert.ReferenceDndh3Ideal.main_arg1) = m' ((c.tc : Thread Cert.ReferenceDndh3Ideal.nD Cert.ReferenceDndh3Ideal.τ).loc Cert.ReferenceDndh3Ideal.main_arg1)
          ∧ r.2.mem ((c.tc : Thread Cert.ReferenceDndh3Ideal.nD Cert.ReferenceDndh3Ideal.τ).loc Cert.ReferenceDndh3Ideal.main_arg2) = m' ((c.tc : Thread Cert.ReferenceDndh3Ideal.nD Cert.ReferenceDndh3Ideal.τ).loc Cert.ReferenceDndh3Ideal.main_arg2)
          ∧ r.2.mem ((c.tc : Thread Cert.ReferenceDndh3Ideal.nD Cert.ReferenceDndh3Ideal.τ).loc Cert.ReferenceDndh3Ideal.main_arg3) = m' ((c.tc : Thread Cert.ReferenceDndh3Ideal.nD Cert.ReferenceDndh3Ideal.τ).loc Cert.ReferenceDndh3Ideal.main_arg3)
          ∧ r.2.mem ((c.tc : Thread Cert.ReferenceDndh3Ideal.nD Cert.ReferenceDndh3Ideal.τ).loc Cert.ReferenceDndh3Ideal.main_arg4) = m' ((c.tc : Thread Cert.ReferenceDndh3Ideal.nD Cert.ReferenceDndh3Ideal.τ).loc Cert.ReferenceDndh3Ideal.main_arg4)
          ∧ r.2.mem ((c.tc : Thread Cert.ReferenceDndh3Ideal.nD Cert.ReferenceDndh3Ideal.τ).loc Cert.ReferenceDndh3Ideal.main_arg5) = m' ((c.tc : Thread Cert.ReferenceDndh3Ideal.nD Cert.ReferenceDndh3Ideal.τ).loc Cert.ReferenceDndh3Ideal.main_arg5))

def preserves_KernelMnorm_KernelMnormIdeal : Prop :=
  True

def algebraic_KernelMnormIdeal_ReferenceMnormIdeal [hKernelMnormIdeal : Cert.KernelMnormIdeal.Facts] [hReferenceMnormIdeal : Cert.ReferenceMnormIdeal.Facts] : Prop :=
  ∀ (m : (ℓ : Loc Cert.KernelMnormIdeal.nD Cert.KernelMnormIdeal.τ Cert.KernelMnormIdeal.sig) → Buf (Elt Ideal) ℓ) (g : Dev Cert.KernelMnormIdeal.nD → PrngReg)
    (m' : (ℓ : Loc Cert.ReferenceMnormIdeal.nD Cert.ReferenceMnormIdeal.τ Cert.ReferenceMnormIdeal.sig) → Buf (Elt Ideal) ℓ) (g' : Dev Cert.ReferenceMnormIdeal.nD → PrngReg), Pre_KernelMnormIdeal m →
    (∀ c : Dev Cert.KernelMnormIdeal.nD,
      m' ((c.tc : Thread Cert.ReferenceMnormIdeal.nD Cert.ReferenceMnormIdeal.τ).loc Cert.ReferenceMnormIdeal.main_arg0) = m ((c.tc : Thread Cert.KernelMnormIdeal.nD Cert.KernelMnormIdeal.τ).loc Cert.KernelMnormIdeal.main_arg0)
      ∧ m' ((c.tc : Thread Cert.ReferenceMnormIdeal.nD Cert.ReferenceMnormIdeal.τ).loc Cert.ReferenceMnormIdeal.main_arg1) = m ((c.tc : Thread Cert.KernelMnormIdeal.nD Cert.KernelMnormIdeal.τ).loc Cert.KernelMnormIdeal.main_arg1)) →
    ∃ (v0 : (c : Dev Cert.KernelMnormIdeal.nD) → Buf (Elt Ideal) ((c.tc : Thread Cert.KernelMnormIdeal.nD Cert.KernelMnormIdeal.τ).loc Cert.KernelMnormIdeal.main_v1)),
      θ_run (Cert.KernelMnormIdeal.defs (F := Ideal)) (onTc (τ := Cert.KernelMnormIdeal.τ) (Cert.KernelMnormIdeal.main (F := Ideal))) ⟨m, fun _ => 0, g⟩ (fun r => ∀ c : Dev Cert.KernelMnormIdeal.nD,
          r.2.mem ((c.tc : Thread Cert.KernelMnormIdeal.nD Cert.KernelMnormIdeal.τ).loc Cert.KernelMnormIdeal.main_v1) = v0 c
          ∧ r.2.mem ((c.tc : Thread Cert.KernelMnormIdeal.nD Cert.KernelMnormIdeal.τ).loc Cert.KernelMnormIdeal.main_arg0) = m ((c.tc : Thread Cert.KernelMnormIdeal.nD Cert.KernelMnormIdeal.τ).loc Cert.KernelMnormIdeal.main_arg0)
          ∧ r.2.mem ((c.tc : Thread Cert.KernelMnormIdeal.nD Cert.KernelMnormIdeal.τ).loc Cert.KernelMnormIdeal.main_arg1) = m ((c.tc : Thread Cert.KernelMnormIdeal.nD Cert.KernelMnormIdeal.τ).loc Cert.KernelMnormIdeal.main_arg1))
      ∧ θ_run (Cert.ReferenceMnormIdeal.defs (F := Ideal)) (onTc (τ := Cert.ReferenceMnormIdeal.τ) (Cert.ReferenceMnormIdeal.main (F := Ideal))) ⟨m', fun _ => 0, g'⟩ (fun r => ∀ c : Dev Cert.ReferenceMnormIdeal.nD,
          r.2.mem ((c.tc : Thread Cert.ReferenceMnormIdeal.nD Cert.ReferenceMnormIdeal.τ).loc Cert.ReferenceMnormIdeal.main_v13) = v0 c
          ∧ r.2.mem ((c.tc : Thread Cert.ReferenceMnormIdeal.nD Cert.ReferenceMnormIdeal.τ).loc Cert.ReferenceMnormIdeal.main_arg0) = m' ((c.tc : Thread Cert.ReferenceMnormIdeal.nD Cert.ReferenceMnormIdeal.τ).loc Cert.ReferenceMnormIdeal.main_arg0)
          ∧ r.2.mem ((c.tc : Thread Cert.ReferenceMnormIdeal.nD Cert.ReferenceMnormIdeal.τ).loc Cert.ReferenceMnormIdeal.main_arg1) = m' ((c.tc : Thread Cert.ReferenceMnormIdeal.nD Cert.ReferenceMnormIdeal.τ).loc Cert.ReferenceMnormIdeal.main_arg1))

def preserves_KernelDmnorm_KernelDmnormIdeal : Prop :=
  True

def algebraic_KernelDmnormIdeal_ReferenceDmnormIdeal [hKernelDmnormIdeal : Cert.KernelDmnormIdeal.Facts] [hReferenceDmnormIdeal : Cert.ReferenceDmnormIdeal.Facts] : Prop :=
  ∀ (m : (ℓ : Loc Cert.KernelDmnormIdeal.nD Cert.KernelDmnormIdeal.τ Cert.KernelDmnormIdeal.sig) → Buf (Elt Ideal) ℓ) (g : Dev Cert.KernelDmnormIdeal.nD → PrngReg)
    (m' : (ℓ : Loc Cert.ReferenceDmnormIdeal.nD Cert.ReferenceDmnormIdeal.τ Cert.ReferenceDmnormIdeal.sig) → Buf (Elt Ideal) ℓ) (g' : Dev Cert.ReferenceDmnormIdeal.nD → PrngReg), Pre_KernelDmnormIdeal m →
    (∀ c : Dev Cert.KernelDmnormIdeal.nD,
      m' ((c.tc : Thread Cert.ReferenceDmnormIdeal.nD Cert.ReferenceDmnormIdeal.τ).loc Cert.ReferenceDmnormIdeal.main_arg0) = m ((c.tc : Thread Cert.KernelDmnormIdeal.nD Cert.KernelDmnormIdeal.τ).loc Cert.KernelDmnormIdeal.main_arg0)
      ∧ m' ((c.tc : Thread Cert.ReferenceDmnormIdeal.nD Cert.ReferenceDmnormIdeal.τ).loc Cert.ReferenceDmnormIdeal.main_arg1) = m ((c.tc : Thread Cert.KernelDmnormIdeal.nD Cert.KernelDmnormIdeal.τ).loc Cert.KernelDmnormIdeal.main_arg1)
      ∧ m' ((c.tc : Thread Cert.ReferenceDmnormIdeal.nD Cert.ReferenceDmnormIdeal.τ).loc Cert.ReferenceDmnormIdeal.main_arg2) = m ((c.tc : Thread Cert.KernelDmnormIdeal.nD Cert.KernelDmnormIdeal.τ).loc Cert.KernelDmnormIdeal.main_arg2)) →
    ∃ (v0 : (c : Dev Cert.KernelDmnormIdeal.nD) → Buf (Elt Ideal) ((c.tc : Thread Cert.KernelDmnormIdeal.nD Cert.KernelDmnormIdeal.τ).loc Cert.KernelDmnormIdeal.main_v1_0)) (v1 : (c : Dev Cert.KernelDmnormIdeal.nD) → Buf (Elt Ideal) ((c.tc : Thread Cert.KernelDmnormIdeal.nD Cert.KernelDmnormIdeal.τ).loc Cert.KernelDmnormIdeal.main_v1_1)),
      θ_run (Cert.KernelDmnormIdeal.defs (F := Ideal)) (onTc (τ := Cert.KernelDmnormIdeal.τ) (Cert.KernelDmnormIdeal.main (F := Ideal))) ⟨m, fun _ => 0, g⟩ (fun r => ∀ c : Dev Cert.KernelDmnormIdeal.nD,
          r.2.mem ((c.tc : Thread Cert.KernelDmnormIdeal.nD Cert.KernelDmnormIdeal.τ).loc Cert.KernelDmnormIdeal.main_v1_0) = v0 c
          ∧ r.2.mem ((c.tc : Thread Cert.KernelDmnormIdeal.nD Cert.KernelDmnormIdeal.τ).loc Cert.KernelDmnormIdeal.main_v1_1) = v1 c
          ∧ r.2.mem ((c.tc : Thread Cert.KernelDmnormIdeal.nD Cert.KernelDmnormIdeal.τ).loc Cert.KernelDmnormIdeal.main_arg0) = m ((c.tc : Thread Cert.KernelDmnormIdeal.nD Cert.KernelDmnormIdeal.τ).loc Cert.KernelDmnormIdeal.main_arg0)
          ∧ r.2.mem ((c.tc : Thread Cert.KernelDmnormIdeal.nD Cert.KernelDmnormIdeal.τ).loc Cert.KernelDmnormIdeal.main_arg1) = m ((c.tc : Thread Cert.KernelDmnormIdeal.nD Cert.KernelDmnormIdeal.τ).loc Cert.KernelDmnormIdeal.main_arg1)
          ∧ r.2.mem ((c.tc : Thread Cert.KernelDmnormIdeal.nD Cert.KernelDmnormIdeal.τ).loc Cert.KernelDmnormIdeal.main_arg2) = m ((c.tc : Thread Cert.KernelDmnormIdeal.nD Cert.KernelDmnormIdeal.τ).loc Cert.KernelDmnormIdeal.main_arg2))
      ∧ θ_run (Cert.ReferenceDmnormIdeal.defs (F := Ideal)) (onTc (τ := Cert.ReferenceDmnormIdeal.τ) (Cert.ReferenceDmnormIdeal.main (F := Ideal))) ⟨m', fun _ => 0, g'⟩ (fun r => ∀ c : Dev Cert.ReferenceDmnormIdeal.nD,
          r.2.mem ((c.tc : Thread Cert.ReferenceDmnormIdeal.nD Cert.ReferenceDmnormIdeal.τ).loc Cert.ReferenceDmnormIdeal.main_v35) = v0 c
          ∧ r.2.mem ((c.tc : Thread Cert.ReferenceDmnormIdeal.nD Cert.ReferenceDmnormIdeal.τ).loc Cert.ReferenceDmnormIdeal.main_v36) = v1 c
          ∧ r.2.mem ((c.tc : Thread Cert.ReferenceDmnormIdeal.nD Cert.ReferenceDmnormIdeal.τ).loc Cert.ReferenceDmnormIdeal.main_arg0) = m' ((c.tc : Thread Cert.ReferenceDmnormIdeal.nD Cert.ReferenceDmnormIdeal.τ).loc Cert.ReferenceDmnormIdeal.main_arg0)
          ∧ r.2.mem ((c.tc : Thread Cert.ReferenceDmnormIdeal.nD Cert.ReferenceDmnormIdeal.τ).loc Cert.ReferenceDmnormIdeal.main_arg1) = m' ((c.tc : Thread Cert.ReferenceDmnormIdeal.nD Cert.ReferenceDmnormIdeal.τ).loc Cert.ReferenceDmnormIdeal.main_arg1)
          ∧ r.2.mem ((c.tc : Thread Cert.ReferenceDmnormIdeal.nD Cert.ReferenceDmnormIdeal.τ).loc Cert.ReferenceDmnormIdeal.main_arg2) = m' ((c.tc : Thread Cert.ReferenceDmnormIdeal.nD Cert.ReferenceDmnormIdeal.τ).loc Cert.ReferenceDmnormIdeal.main_arg2))

def Claim : Prop :=
  ∃ (hKernelDa : Cert.KernelDa.Facts) (hKernelDaIdeal : Cert.KernelDaIdeal.Facts) (hReferenceDaIdeal : Cert.ReferenceDaIdeal.Facts) (hKernelDwout : Cert.KernelDwout.Facts) (hKernelDwoutIdeal : Cert.KernelDwoutIdeal.Facts) (hReferenceDwoutIdeal : Cert.ReferenceDwoutIdeal.Facts) (hKernelDwin : Cert.KernelDwin.Facts) (hKernelDwinIdeal : Cert.KernelDwinIdeal.Facts) (hReferenceDwinIdeal : Cert.ReferenceDwinIdeal.Facts) (hKernelDh : Cert.KernelDh.Facts) (hKernelDhIdeal : Cert.KernelDhIdeal.Facts) (hReferenceDhIdeal : Cert.ReferenceDhIdeal.Facts) (hKernelSwiglu : Cert.KernelSwiglu.Facts) (hKernelSwigluIdeal : Cert.KernelSwigluIdeal.Facts) (hReferenceSwigluIdeal : Cert.ReferenceSwigluIdeal.Facts) (hKernelOut : Cert.KernelOut.Facts) (hKernelOutIdeal : Cert.KernelOutIdeal.Facts) (hReferenceOutIdeal : Cert.ReferenceOutIdeal.Facts) (hKernelProj : Cert.KernelProj.Facts) (hKernelProjIdeal : Cert.KernelProjIdeal.Facts) (hReferenceProjIdeal : Cert.ReferenceProjIdeal.Facts) (hKernelDwo : Cert.KernelDwo.Facts) (hKernelDwoIdeal : Cert.KernelDwoIdeal.Facts) (hReferenceDwoIdeal : Cert.ReferenceDwoIdeal.Facts) (hKernelDo : Cert.KernelDo.Facts) (hKernelDoIdeal : Cert.KernelDoIdeal.Facts) (hReferenceDoIdeal : Cert.ReferenceDoIdeal.Facts) (hKernelXa : Cert.KernelXa.Facts) (hKernelXaIdeal : Cert.KernelXaIdeal.Facts) (hReferenceXaIdeal : Cert.ReferenceXaIdeal.Facts) (hKernelXf : Cert.KernelXf.Facts) (hKernelXfIdeal : Cert.KernelXfIdeal.Facts) (hReferenceXfIdeal : Cert.ReferenceXfIdeal.Facts) (hKernelLoss : Cert.KernelLoss.Facts) (hKernelLossIdeal : Cert.KernelLossIdeal.Facts) (hReferenceLossIdeal : Cert.ReferenceLossIdeal.Facts) (hKernelGate : Cert.KernelGate.Facts) (hKernelGateIdeal : Cert.KernelGateIdeal.Facts) (hReferenceGateIdeal : Cert.ReferenceGateIdeal.Facts) (hKernelDgate : Cert.KernelDgate.Facts) (hKernelDgateIdeal : Cert.KernelDgateIdeal.Facts) (hReferenceDgateIdeal : Cert.ReferenceDgateIdeal.Facts) (hKernelAbin : Cert.KernelAbin.Facts) (hKernelAbinIdeal : Cert.KernelAbinIdeal.Facts) (hReferenceAbinIdeal : Cert.ReferenceAbinIdeal.Facts) (hKernelDnin : Cert.KernelDnin.Facts) (hKernelDninIdeal : Cert.KernelDninIdeal.Facts) (hReferenceDninIdeal : Cert.ReferenceDninIdeal.Facts) (hKernelQ : Cert.KernelQ.Facts) (hKernelQIdeal : Cert.KernelQIdeal.Facts) (hReferenceQIdeal : Cert.ReferenceQIdeal.Facts) (hKernelKv : Cert.KernelKv.Facts) (hKernelKvIdeal : Cert.KernelKvIdeal.Facts) (hReferenceKvIdeal : Cert.ReferenceKvIdeal.Facts) (hKernelAbdwin : Cert.KernelAbdwin.Facts) (hKernelAbdwinIdeal : Cert.KernelAbdwinIdeal.Facts) (hReferenceAbdwinIdeal : Cert.ReferenceAbdwinIdeal.Facts) (hKernelDndwin1 : Cert.KernelDndwin1.Facts) (hKernelDndwin1Ideal : Cert.KernelDndwin1Ideal.Facts) (hReferenceDndwin1Ideal : Cert.ReferenceDndwin1Ideal.Facts) (hKernelDndwin2 : Cert.KernelDndwin2.Facts) (hKernelDndwin2Ideal : Cert.KernelDndwin2Ideal.Facts) (hReferenceDndwin2Ideal : Cert.ReferenceDndwin2Ideal.Facts) (hKernelDndwin3 : Cert.KernelDndwin3.Facts) (hKernelDndwin3Ideal : Cert.KernelDndwin3Ideal.Facts) (hReferenceDndwin3Ideal : Cert.ReferenceDndwin3Ideal.Facts) (hKernelDwkv : Cert.KernelDwkv.Facts) (hKernelDwkvIdeal : Cert.KernelDwkvIdeal.Facts) (hReferenceDwkvIdeal : Cert.ReferenceDwkvIdeal.Facts) (hKernelDmh : Cert.KernelDmh.Facts) (hKernelDmhIdeal : Cert.KernelDmhIdeal.Facts) (hReferenceDmhIdeal : Cert.ReferenceDmhIdeal.Facts) (hKernelAbdh : Cert.KernelAbdh.Facts) (hKernelAbdhIdeal : Cert.KernelAbdhIdeal.Facts) (hReferenceAbdhIdeal : Cert.ReferenceAbdhIdeal.Facts) (hKernelXdh : Cert.KernelXdh.Facts) (hKernelXdhIdeal : Cert.KernelXdhIdeal.Facts) (hReferenceXdhIdeal : Cert.ReferenceXdhIdeal.Facts) (hKernelDndh1 : Cert.KernelDndh1.Facts) (hKernelDndh1Ideal : Cert.KernelDndh1Ideal.Facts) (hReferenceDndh1Ideal : Cert.ReferenceDndh1Ideal.Facts) (hKernelDndh2 : Cert.KernelDndh2.Facts) (hKernelDndh2Ideal : Cert.KernelDndh2Ideal.Facts) (hReferenceDndh2Ideal : Cert.ReferenceDndh2Ideal.Facts) (hKernelDndh3 : Cert.KernelDndh3.Facts) (hKernelDndh3Ideal : Cert.KernelDndh3Ideal.Facts) (hReferenceDndh3Ideal : Cert.ReferenceDndh3Ideal.Facts) (hKernelMnorm : Cert.KernelMnorm.Facts) (hKernelMnormIdeal : Cert.KernelMnormIdeal.Facts) (hReferenceMnormIdeal : Cert.ReferenceMnormIdeal.Facts) (hKernelDmnorm : Cert.KernelDmnorm.Facts) (hKernelDmnormIdeal : Cert.KernelDmnormIdeal.Facts) (hReferenceDmnormIdeal : Cert.ReferenceDmnormIdeal.Facts) (hPre_finite_da : Cert.Pre_finite_da.Facts) (hPre_finite_xa : Cert.Pre_finite_xa.Facts) (hPre_finite_dgate : Cert.Pre_finite_dgate.Facts),
    quiescent_KernelDa (hKernelDa := hKernelDa)
    ∧ quiescent_KernelDaIdeal (hKernelDaIdeal := hKernelDaIdeal)
    ∧ quiescent_KernelDaIdeal_pre_finite_da (hKernelDaIdeal := hKernelDaIdeal) (hPre_finite_da := hPre_finite_da)
    ∧ quiescent_ReferenceDaIdeal (hReferenceDaIdeal := hReferenceDaIdeal)
    ∧ quiescent_ReferenceDaIdeal_pre_finite_da (hReferenceDaIdeal := hReferenceDaIdeal) (hPre_finite_da := hPre_finite_da)
    ∧ quiescent_KernelDwout (hKernelDwout := hKernelDwout)
    ∧ quiescent_KernelDwoutIdeal (hKernelDwoutIdeal := hKernelDwoutIdeal)
    ∧ quiescent_ReferenceDwoutIdeal (hReferenceDwoutIdeal := hReferenceDwoutIdeal)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelSwiglu (hKernelSwiglu := hKernelSwiglu)
    ∧ quiescent_KernelSwigluIdeal (hKernelSwigluIdeal := hKernelSwigluIdeal)
    ∧ quiescent_ReferenceSwigluIdeal (hReferenceSwigluIdeal := hReferenceSwigluIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ quiescent_KernelXa (hKernelXa := hKernelXa)
    ∧ quiescent_KernelXaIdeal (hKernelXaIdeal := hKernelXaIdeal)
    ∧ quiescent_KernelXaIdeal_pre_finite_xa (hKernelXaIdeal := hKernelXaIdeal) (hPre_finite_xa := hPre_finite_xa)
    ∧ quiescent_ReferenceXaIdeal (hReferenceXaIdeal := hReferenceXaIdeal)
    ∧ quiescent_ReferenceXaIdeal_pre_finite_xa (hReferenceXaIdeal := hReferenceXaIdeal) (hPre_finite_xa := hPre_finite_xa)
    ∧ quiescent_KernelXf (hKernelXf := hKernelXf)
    ∧ quiescent_KernelXfIdeal (hKernelXfIdeal := hKernelXfIdeal)
    ∧ quiescent_ReferenceXfIdeal (hReferenceXfIdeal := hReferenceXfIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelDgate (hKernelDgate := hKernelDgate)
    ∧ quiescent_KernelDgateIdeal (hKernelDgateIdeal := hKernelDgateIdeal)
    ∧ quiescent_KernelDgateIdeal_pre_finite_dgate (hKernelDgateIdeal := hKernelDgateIdeal) (hPre_finite_dgate := hPre_finite_dgate)
    ∧ quiescent_ReferenceDgateIdeal (hReferenceDgateIdeal := hReferenceDgateIdeal)
    ∧ quiescent_ReferenceDgateIdeal_pre_finite_dgate (hReferenceDgateIdeal := hReferenceDgateIdeal) (hPre_finite_dgate := hPre_finite_dgate)
    ∧ quiescent_KernelAbin (hKernelAbin := hKernelAbin)
    ∧ quiescent_KernelAbinIdeal (hKernelAbinIdeal := hKernelAbinIdeal)
    ∧ quiescent_ReferenceAbinIdeal (hReferenceAbinIdeal := hReferenceAbinIdeal)
    ∧ quiescent_KernelDnin (hKernelDnin := hKernelDnin)
    ∧ quiescent_KernelDninIdeal (hKernelDninIdeal := hKernelDninIdeal)
    ∧ quiescent_ReferenceDninIdeal (hReferenceDninIdeal := hReferenceDninIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelAbdwin (hKernelAbdwin := hKernelAbdwin)
    ∧ quiescent_KernelAbdwinIdeal (hKernelAbdwinIdeal := hKernelAbdwinIdeal)
    ∧ quiescent_ReferenceAbdwinIdeal (hReferenceAbdwinIdeal := hReferenceAbdwinIdeal)
    ∧ quiescent_KernelDndwin1 (hKernelDndwin1 := hKernelDndwin1)
    ∧ quiescent_KernelDndwin1Ideal (hKernelDndwin1Ideal := hKernelDndwin1Ideal)
    ∧ quiescent_ReferenceDndwin1Ideal (hReferenceDndwin1Ideal := hReferenceDndwin1Ideal)
    ∧ quiescent_KernelDndwin2 (hKernelDndwin2 := hKernelDndwin2)
    ∧ quiescent_KernelDndwin2Ideal (hKernelDndwin2Ideal := hKernelDndwin2Ideal)
    ∧ quiescent_ReferenceDndwin2Ideal (hReferenceDndwin2Ideal := hReferenceDndwin2Ideal)
    ∧ quiescent_KernelDndwin3 (hKernelDndwin3 := hKernelDndwin3)
    ∧ quiescent_KernelDndwin3Ideal (hKernelDndwin3Ideal := hKernelDndwin3Ideal)
    ∧ quiescent_ReferenceDndwin3Ideal (hReferenceDndwin3Ideal := hReferenceDndwin3Ideal)
    ∧ quiescent_KernelDwkv (hKernelDwkv := hKernelDwkv)
    ∧ quiescent_KernelDwkvIdeal (hKernelDwkvIdeal := hKernelDwkvIdeal)
    ∧ quiescent_ReferenceDwkvIdeal (hReferenceDwkvIdeal := hReferenceDwkvIdeal)
    ∧ quiescent_KernelDmh (hKernelDmh := hKernelDmh)
    ∧ quiescent_KernelDmhIdeal (hKernelDmhIdeal := hKernelDmhIdeal)
    ∧ quiescent_ReferenceDmhIdeal (hReferenceDmhIdeal := hReferenceDmhIdeal)
    ∧ quiescent_KernelAbdh (hKernelAbdh := hKernelAbdh)
    ∧ quiescent_KernelAbdhIdeal (hKernelAbdhIdeal := hKernelAbdhIdeal)
    ∧ quiescent_ReferenceAbdhIdeal (hReferenceAbdhIdeal := hReferenceAbdhIdeal)
    ∧ quiescent_KernelXdh (hKernelXdh := hKernelXdh)
    ∧ quiescent_KernelXdhIdeal (hKernelXdhIdeal := hKernelXdhIdeal)
    ∧ quiescent_ReferenceXdhIdeal (hReferenceXdhIdeal := hReferenceXdhIdeal)
    ∧ quiescent_KernelDndh1 (hKernelDndh1 := hKernelDndh1)
    ∧ quiescent_KernelDndh1Ideal (hKernelDndh1Ideal := hKernelDndh1Ideal)
    ∧ quiescent_ReferenceDndh1Ideal (hReferenceDndh1Ideal := hReferenceDndh1Ideal)
    ∧ quiescent_KernelDndh2 (hKernelDndh2 := hKernelDndh2)
    ∧ quiescent_KernelDndh2Ideal (hKernelDndh2Ideal := hKernelDndh2Ideal)
    ∧ quiescent_ReferenceDndh2Ideal (hReferenceDndh2Ideal := hReferenceDndh2Ideal)
    ∧ quiescent_KernelDndh3 (hKernelDndh3 := hKernelDndh3)
    ∧ quiescent_KernelDndh3Ideal (hKernelDndh3Ideal := hKernelDndh3Ideal)
    ∧ quiescent_ReferenceDndh3Ideal (hReferenceDndh3Ideal := hReferenceDndh3Ideal)
    ∧ quiescent_KernelMnorm (hKernelMnorm := hKernelMnorm)
    ∧ quiescent_KernelMnormIdeal (hKernelMnormIdeal := hKernelMnormIdeal)
    ∧ quiescent_ReferenceMnormIdeal (hReferenceMnormIdeal := hReferenceMnormIdeal)
    ∧ quiescent_KernelDmnorm (hKernelDmnorm := hKernelDmnorm)
    ∧ quiescent_KernelDmnormIdeal (hKernelDmnormIdeal := hKernelDmnormIdeal)
    ∧ quiescent_ReferenceDmnormIdeal (hReferenceDmnormIdeal := hReferenceDmnormIdeal)
    ∧ preserves_KernelDa_KernelDaIdeal
    ∧ algebraic_KernelDaIdeal_ReferenceDaIdeal_pre_finite_da (hKernelDaIdeal := hKernelDaIdeal) (hReferenceDaIdeal := hReferenceDaIdeal) (hPre_finite_da := hPre_finite_da)
    ∧ preserves_KernelDwout_KernelDwoutIdeal
    ∧ algebraic_KernelDwoutIdeal_ReferenceDwoutIdeal (hKernelDwoutIdeal := hKernelDwoutIdeal) (hReferenceDwoutIdeal := hReferenceDwoutIdeal)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelDh_KernelDhIdeal
    ∧ algebraic_KernelDhIdeal_ReferenceDhIdeal (hKernelDhIdeal := hKernelDhIdeal) (hReferenceDhIdeal := hReferenceDhIdeal)
    ∧ preserves_KernelSwiglu_KernelSwigluIdeal
    ∧ algebraic_KernelSwigluIdeal_ReferenceSwigluIdeal (hKernelSwigluIdeal := hKernelSwigluIdeal) (hReferenceSwigluIdeal := hReferenceSwigluIdeal)
    ∧ preserves_KernelOut_KernelOutIdeal
    ∧ algebraic_KernelOutIdeal_ReferenceOutIdeal (hKernelOutIdeal := hKernelOutIdeal) (hReferenceOutIdeal := hReferenceOutIdeal)
    ∧ preserves_KernelProj_KernelProjIdeal
    ∧ algebraic_KernelProjIdeal_ReferenceProjIdeal (hKernelProjIdeal := hKernelProjIdeal) (hReferenceProjIdeal := hReferenceProjIdeal)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDo_KernelDoIdeal
    ∧ algebraic_KernelDoIdeal_ReferenceDoIdeal (hKernelDoIdeal := hKernelDoIdeal) (hReferenceDoIdeal := hReferenceDoIdeal)
    ∧ preserves_KernelXa_KernelXaIdeal
    ∧ algebraic_KernelXaIdeal_ReferenceXaIdeal_pre_finite_xa (hKernelXaIdeal := hKernelXaIdeal) (hReferenceXaIdeal := hReferenceXaIdeal) (hPre_finite_xa := hPre_finite_xa)
    ∧ preserves_KernelXf_KernelXfIdeal
    ∧ algebraic_KernelXfIdeal_ReferenceXfIdeal (hKernelXfIdeal := hKernelXfIdeal) (hReferenceXfIdeal := hReferenceXfIdeal)
    ∧ preserves_KernelLoss_KernelLossIdeal
    ∧ algebraic_KernelLossIdeal_ReferenceLossIdeal (hKernelLossIdeal := hKernelLossIdeal) (hReferenceLossIdeal := hReferenceLossIdeal)
    ∧ preserves_KernelGate_KernelGateIdeal
    ∧ algebraic_KernelGateIdeal_ReferenceGateIdeal (hKernelGateIdeal := hKernelGateIdeal) (hReferenceGateIdeal := hReferenceGateIdeal)
    ∧ preserves_KernelDgate_KernelDgateIdeal
    ∧ algebraic_KernelDgateIdeal_ReferenceDgateIdeal_pre_finite_dgate (hKernelDgateIdeal := hKernelDgateIdeal) (hReferenceDgateIdeal := hReferenceDgateIdeal) (hPre_finite_dgate := hPre_finite_dgate)
    ∧ preserves_KernelAbin_KernelAbinIdeal
    ∧ algebraic_KernelAbinIdeal_ReferenceAbinIdeal (hKernelAbinIdeal := hKernelAbinIdeal) (hReferenceAbinIdeal := hReferenceAbinIdeal)
    ∧ preserves_KernelDnin_KernelDninIdeal
    ∧ algebraic_KernelDninIdeal_ReferenceDninIdeal (hKernelDninIdeal := hKernelDninIdeal) (hReferenceDninIdeal := hReferenceDninIdeal)
    ∧ preserves_KernelQ_KernelQIdeal
    ∧ algebraic_KernelQIdeal_ReferenceQIdeal (hKernelQIdeal := hKernelQIdeal) (hReferenceQIdeal := hReferenceQIdeal)
    ∧ preserves_KernelKv_KernelKvIdeal
    ∧ algebraic_KernelKvIdeal_ReferenceKvIdeal (hKernelKvIdeal := hKernelKvIdeal) (hReferenceKvIdeal := hReferenceKvIdeal)
    ∧ preserves_KernelAbdwin_KernelAbdwinIdeal
    ∧ algebraic_KernelAbdwinIdeal_ReferenceAbdwinIdeal (hKernelAbdwinIdeal := hKernelAbdwinIdeal) (hReferenceAbdwinIdeal := hReferenceAbdwinIdeal)
    ∧ preserves_KernelDndwin1_KernelDndwin1Ideal
    ∧ algebraic_KernelDndwin1Ideal_ReferenceDndwin1Ideal (hKernelDndwin1Ideal := hKernelDndwin1Ideal) (hReferenceDndwin1Ideal := hReferenceDndwin1Ideal)
    ∧ preserves_KernelDndwin2_KernelDndwin2Ideal
    ∧ algebraic_KernelDndwin2Ideal_ReferenceDndwin2Ideal (hKernelDndwin2Ideal := hKernelDndwin2Ideal) (hReferenceDndwin2Ideal := hReferenceDndwin2Ideal)
    ∧ preserves_KernelDndwin3_KernelDndwin3Ideal
    ∧ algebraic_KernelDndwin3Ideal_ReferenceDndwin3Ideal (hKernelDndwin3Ideal := hKernelDndwin3Ideal) (hReferenceDndwin3Ideal := hReferenceDndwin3Ideal)
    ∧ preserves_KernelDwkv_KernelDwkvIdeal
    ∧ algebraic_KernelDwkvIdeal_ReferenceDwkvIdeal (hKernelDwkvIdeal := hKernelDwkvIdeal) (hReferenceDwkvIdeal := hReferenceDwkvIdeal)
    ∧ preserves_KernelDmh_KernelDmhIdeal
    ∧ algebraic_KernelDmhIdeal_ReferenceDmhIdeal (hKernelDmhIdeal := hKernelDmhIdeal) (hReferenceDmhIdeal := hReferenceDmhIdeal)
    ∧ preserves_KernelAbdh_KernelAbdhIdeal
    ∧ algebraic_KernelAbdhIdeal_ReferenceAbdhIdeal (hKernelAbdhIdeal := hKernelAbdhIdeal) (hReferenceAbdhIdeal := hReferenceAbdhIdeal)
    ∧ preserves_KernelXdh_KernelXdhIdeal
    ∧ algebraic_KernelXdhIdeal_ReferenceXdhIdeal (hKernelXdhIdeal := hKernelXdhIdeal) (hReferenceXdhIdeal := hReferenceXdhIdeal)
    ∧ preserves_KernelDndh1_KernelDndh1Ideal
    ∧ algebraic_KernelDndh1Ideal_ReferenceDndh1Ideal (hKernelDndh1Ideal := hKernelDndh1Ideal) (hReferenceDndh1Ideal := hReferenceDndh1Ideal)
    ∧ preserves_KernelDndh2_KernelDndh2Ideal
    ∧ algebraic_KernelDndh2Ideal_ReferenceDndh2Ideal (hKernelDndh2Ideal := hKernelDndh2Ideal) (hReferenceDndh2Ideal := hReferenceDndh2Ideal)
    ∧ preserves_KernelDndh3_KernelDndh3Ideal
    ∧ algebraic_KernelDndh3Ideal_ReferenceDndh3Ideal (hKernelDndh3Ideal := hKernelDndh3Ideal) (hReferenceDndh3Ideal := hReferenceDndh3Ideal)
    ∧ preserves_KernelMnorm_KernelMnormIdeal
    ∧ algebraic_KernelMnormIdeal_ReferenceMnormIdeal (hKernelMnormIdeal := hKernelMnormIdeal) (hReferenceMnormIdeal := hReferenceMnormIdeal)
    ∧ preserves_KernelDmnorm_KernelDmnormIdeal
    ∧ algebraic_KernelDmnormIdeal_ReferenceDmnormIdeal (hKernelDmnormIdeal := hKernelDmnormIdeal) (hReferenceDmnormIdeal := hReferenceDmnormIdeal)
-- ==== Pre_finite_da.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn {F : FTy → Type} [FloatOps F] (main_arg0 : FVec F S16384x1024 .f32) (main_arg1 : FVec F S2816x1024 .f32) (main_arg2 : FVec F S16384x2816 .f32) (main_arg3 : FVec F S16384x2816 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S16384x2816 .f32 := Host.absf main_arg3
  let main_cst_2 : FVec F S_ .f32 := constant S_ .f32 0x7F800000#32
  let main_v10 : FVec F S16384x2816 .f32 := broadcastInDim S16384x2816 ![] bcast_S_S16384x2816 main_cst_2
  let main_v11 : IVec S16384x2816 1 := cmpf .olt main_v9 main_v10
  let main_c_3 : IVec S_ 1 := constantI S_ 1 1#1
  let main_v12 : IVec S_ 1 := (fun x v => Host.reduce IntOp.andi x v reducesTo_S16384x2816_S_d0_1 h_S_) main_v11 main_c_3
  let main_v13 : IVec S_ 1 := andi main_v8 main_v12
  main_v13
-- ==== Pre_finite_dgate.lean ====
abbrev S16384x1024 : Shape := ⟨2, ![16384, 1024]⟩
abbrev S16384x4224 : Shape := ⟨2, ![16384, 4224]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16384x1024 .f32) (main_arg1 : FVec F S16384x4224 .f32) (main_arg2 : FVec F S128 .f32) (main_arg3 : FVec F S16384x1024 .f32) : IVec S_ 1 :=
  let main_v0 : FVec F S128 .f32 := Host.absf main_arg2
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S16384x1024 .f32 := Host.absf main_arg3
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Pre_finite_xa.lean ====
abbrev S16384x1024 : Shape := ⟨2, ![16384, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S16384x1024 .f32) (main_arg1 : FVec F S256x1024 .f32) (main_arg2 : FVec F S256x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== KernelDa.lean ====
abbrev S16384x1024 : Shape := ⟨2, ![16384, 1024]⟩
abbrev S2816x1024 : Shape := ⟨2, ![2816, 1024]⟩
abbrev S16384x2816 : Shape := ⟨2, ![16384, 2816]⟩
abbrev S16384x5632 : Shape := ⟨2, ![16384, 5632]⟩
abbrev S512x1024 : Shape := ⟨2, ![512, 1024]⟩
abbrev S512x2816 : Shape := ⟨2, ![512, 2816]⟩
abbrev S512x5632 : Shape := ⟨2, ![512, 5632]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x2816, .f32⟩
  | .hbm, ⟨3, _⟩ => ⟨S16384x2816, .f32⟩
  | .hbm, ⟨4, _⟩ => ⟨S2816x1024, .bf16⟩
  | .hbm, ⟨5, _⟩ => ⟨S16384x2816, .bf16⟩
  | .hbm, ⟨6, _⟩ => ⟨S16384x2816, .bf16⟩
  | .hbm, ⟨7, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDaIdeal.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩
abbrev S16384x5632 : Shape := ⟨2, ![16384, 5632]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x5632, .f32⟩
  | .hbm, ⟨33, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== KernelDwout.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwoutIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S1024x2816, .f32⟩
  | .hbm, ⟨12, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelDwin.lean ====
abbrev S16384x5632 : Shape := ⟨2, ![16384, 5632]⟩
abbrev S16384x1024 : Shape := ⟨2, ![16384, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x5632, .f32⟩
  | .hbm, ⟨1, _⟩ => ⟨S16384x1024, .f32⟩
  | .hbm, ⟨2, _⟩ => ⟨S16384x5632, .bf16⟩
  | .hbm, ⟨3, _⟩ => ⟨S16384x1024, .bf16⟩
  | .hbm, ⟨4, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwinIdeal.lean ====
abbrev S16384x5632 : Shape := ⟨2, ![16384, 5632]⟩
abbrev S16384x1024 : Shape := ⟨2, ![16384, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x1024, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | .hbm, ⟨7, _⟩ => ⟨S5632x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDh.lean ====
abbrev S16384x5632 : Shape := ⟨2, ![16384, 5632]⟩
abbrev S5632x1024 : Shape := ⟨2, ![5632, 1024]⟩
abbrev S16384x1024 : Shape := ⟨2, ![16384, 1024]⟩
abbrev S1024 : Shape := ⟨1, ![1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x5632, .f32⟩
  | .hbm, ⟨1, _⟩ => ⟨S5632x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x5632, .bf16⟩
  | .hbm, ⟨6, _⟩ => ⟨S5632x1024, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v36 : BitVec 32 := Scalar.extui v5
  let c0_i32_15 : BitVec 32 := 0#32
  let v37 : BitVec 1 := Scalar.cmpi .ne v36 c0_i32_15
  v37

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v38 : BitVec 1 := Scalar.xori v5 v_true
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== ReferenceDhIdeal.lean ====
abbrev S16384x5632 : Shape := ⟨2, ![16384, 5632]⟩
abbrev S5632x1024 : Shape := ⟨2, ![5632, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x5632 : Shape := ⟨2, ![1024, 5632]⟩

abbrev nBuf : Space → Nat
  | .hbm => 55
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S5632x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x5632, .f32⟩
  | .hbm, ⟨26, _⟩ => ⟨S16384x5632, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelSwiglu.lean ====
abbrev S16384x1024 : Shape := ⟨2, ![16384, 1024]⟩
abbrev S5632x1024 : Shape := ⟨2, ![5632, 1024]⟩
abbrev S16384x2816 : Shape := ⟨2, ![16384, 2816]⟩
abbrev S512x1024 : Shape := ⟨2, ![512, 1024]⟩
abbrev S2816x1024 : Shape := ⟨2, ![2816, 1024]⟩
abbrev S512x2816 : Shape := ⟨2, ![512, 2816]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S5632x1024, .f32⟩
  | .hbm, ⟨2, _⟩ => ⟨S16384x1024, .bf16⟩
  | .hbm, ⟨3, _⟩ => ⟨S5632x1024, .bf16⟩
  | .hbm, ⟨4, _⟩ => ⟨S16384x2816, .bf16⟩
  | .hbm, ⟨5, _⟩ => ⟨S16384x2816, .bf16⟩
  | .hbm, ⟨6, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceSwigluIdeal.lean ====
abbrev S16384x1024 : Shape := ⟨2, ![16384, 1024]⟩
abbrev S5632x1024 : Shape := ⟨2, ![5632, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S5632x1024, .f32⟩
  | .hbm, ⟨2, _⟩ => ⟨S1024x5632, .f32⟩
  | .hbm, ⟨3, _⟩ => ⟨S16384x5632, .f32⟩
  | .hbm, ⟨4, _⟩ => ⟨S16384x2816, .f32⟩
  | .hbm, ⟨5, _⟩ => ⟨S16384x2816, .f32⟩
  | .hbm, ⟨6, _⟩ => ⟨S16384x2816, .bf16⟩
  | .hbm, ⟨7, _⟩ => ⟨S16384x2816, .bf16⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== KernelOut.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S16384x2816, .bf16⟩
  | .hbm, ⟨5, _⟩ => ⟨S2816x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceOutIdeal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelProj.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .bf16⟩
  | .hbm, ⟨5, _⟩ => ⟨S1024x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceProjIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelDwo.lean ====
abbrev S16384x1024 : Shape := ⟨2, ![16384, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwoIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDo.lean ====
abbrev S16384x1024 : Shape := ⟨2, ![16384, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelXa.lean ====
abbrev S16384x1024 : Shape := ⟨2, ![16384, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S256x1024, .f32⟩
  | .hbm, ⟨3, _⟩ => ⟨S16384x1024, .f32⟩
  | .hbm, ⟨4, _⟩ => ⟨S16384x1024, .bf16⟩
  | .hbm, ⟨5, _⟩ => ⟨S256x1024, .f32⟩
  | .hbm, ⟨6, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v121 : BitVec 32 := Scalar.extui v0
  let c0_i32_57 : BitVec 32 := 0#32
  let v122 : BitVec 1 := Scalar.cmpi .ne v121 c0_i32_57
  v122

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v123 : BitVec 1 := Scalar.xori v0 v_true
  let v124 : BitVec 32 := Scalar.extui v123
  let c0_i32_58 : BitVec 32 := 0#32
  let v125 : BitVec 1 := Scalar.cmpi .ne v124 c0_i32_58
  v125

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v134 : BitVec 32 := Scalar.extui v0
  let c0_i32_65 : BitVec 32 := 0#32
  let v135 : BitVec 1 := Scalar.cmpi .ne v134 c0_i32_65
  v135

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_66 : BitVec 1 := 1#1
  let v136 : BitVec 1 := Scalar.xori v0 true_66
  let v137 : BitVec 32 := Scalar.extui v136
  let c0_i32_67 : BitVec 32 := 0#32
  let v138 : BitVec 1 := Scalar.cmpi .ne v137 c0_i32_67
  v138

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v147 : BitVec 32 := Scalar.extui v0
  let c0_i32_74 : BitVec 32 := 0#32
  let v148 : BitVec 1 := Scalar.cmpi .ne v147 c0_i32_74
  v148

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_75 : BitVec 1 := 1#1
  let v149 : BitVec 1 := Scalar.xori v0 true_75
  let v150 : BitVec 32 := Scalar.extui v149
  let c0_i32_76 : BitVec 32 := 0#32
  let v151 : BitVec 1 := Scalar.cmpi .ne v150 c0_i32_76
  v151

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v160 : BitVec 32 := Scalar.extui v0
  let c0_i32_83 : BitVec 32 := 0#32
  let v161 : BitVec 1 := Scalar.cmpi .ne v160 c0_i32_83
  v161

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_84 : BitVec 1 := 1#1
  let v162 : BitVec 1 := Scalar.xori v0 true_84
  let v163 : BitVec 32 := Scalar.extui v162
  let c0_i32_85 : BitVec 32 := 0#32
  let v164 : BitVec 1 := Scalar.cmpi .ne v163 c0_i32_85
  v164

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceXaIdeal.lean ====
abbrev S16384x1024 : Shape := ⟨2, ![16384, 1024]⟩
abbrev S256x1024 : Shape := ⟨2, ![256, 1024]⟩
abbrev S1x16384x4x256 : Shape := ⟨4, ![1, 16384, 4, 256]⟩
abbrev S1x256x4x256 : Shape := ⟨4, ![1, 256, 4, 256]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x256x16384 : Shape := ⟨4, ![1, 4, 256, 16384]⟩
abbrev S1x4x256x256 : Shape := ⟨4, ![1, 4, 256, 256]⟩
abbrev S4x16384 : Shape := ⟨2, ![4, 16384]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S256x1024, .f32⟩
  | .hbm, ⟨3, _⟩ => ⟨S16384x1024, .f32⟩
  | .hbm, ⟨4, _⟩ => ⟨S1x16384x4x256, .f32⟩
  | .hbm, ⟨5, _⟩ => ⟨S1x256x4x256, .f32⟩
  | .hbm, ⟨6, _⟩ => ⟨S1x256x4x256, .f32⟩
  | .hbm, ⟨7, _⟩ => ⟨S1x4x16384x256, .f32⟩
  | .hbm, ⟨8, _⟩ => ⟨S_, .f32⟩
  | .hbm, ⟨9, _⟩ => ⟨S1x4x16384x256, .f32⟩
  | .hbm, ⟨10, _⟩ => ⟨S1x4x16384x256, .f32⟩
  | .hbm, ⟨11, _⟩ => ⟨S_, .f32⟩
  | .hbm, ⟨12, _⟩ => ⟨S1x4x16384, .f32⟩
  | .hbm, ⟨13, _⟩ => ⟨S1x4x16384x1, .f32⟩
  | .hbm, ⟨14, _⟩ => ⟨S1x4x16384x256, .f32⟩
  | .hbm, ⟨15, _⟩ => ⟨S1x4x16384x256, .i1⟩
  | .hbm, ⟨16, _⟩ => ⟨S1x4x16384x256, .f32⟩
  | .hbm, ⟨17, _⟩ => ⟨S_, .f32⟩
  | .hbm, ⟨18, _⟩ => ⟨S1x4x16384, .f32⟩
  | .hbm, ⟨19, _⟩ => ⟨S_, .f32⟩
  | .hbm, ⟨20, _⟩ => ⟨S1x4x16384, .f32⟩
  | .hbm, ⟨21, _⟩ => ⟨S1x4x16384, .f32⟩
  | .hbm, ⟨22, _⟩ => ⟨S_, .f32⟩
  | .hbm, ⟨23, _⟩ => ⟨S1x4x16384, .f32⟩
  | .hbm, ⟨24, _⟩ => ⟨S1x4x16384, .i1⟩
  | .hbm, ⟨25, _⟩ => ⟨S_, .f32⟩
  | .hbm, ⟨26, _⟩ => ⟨S1x4x16384, .f32⟩
  | .hbm, ⟨27, _⟩ => ⟨S1x4x16384, .i1⟩
  | .hbm, ⟨28, _⟩ => ⟨S_, .f32⟩
  | .hbm, ⟨29, _⟩ => ⟨S1x4x16384, .f32⟩
  | .hbm, ⟨30, _⟩ => ⟨S_, .f32⟩
  | .hbm, ⟨31, _⟩ => ⟨S1x4x16384, .f32⟩
  | .hbm, ⟨32, _⟩ => ⟨S_, .f32⟩
  | .hbm, ⟨33, _⟩ => ⟨S1x4x16384, .f32⟩
  | .hbm, ⟨34, _⟩ => ⟨S1x4x16384, .f32⟩
  | .hbm, ⟨35, _⟩ => ⟨S1x4x16384, .f32⟩
  | .hbm, ⟨36, _⟩ => ⟨S1x4x16384x1, .f32⟩
  | .hbm, ⟨37, _⟩ => ⟨S1x4x16384x256, .f32⟩
  | .hbm, ⟨38, _⟩ => ⟨S1x4x16384x256, .f32⟩
  | .hbm, ⟨39, _⟩ => ⟨S1x4x16384x256, .f32⟩
  | .hbm, ⟨40, _⟩ => ⟨S_, .f32⟩
  | .hbm, ⟨41, _⟩ => ⟨S1x4x16384, .f32⟩
  | .hbm, ⟨42, _⟩ => ⟨S1x4x16384x1, .f32⟩
  | .hbm, ⟨43, _⟩ => ⟨S1x4x16384x256, .f32⟩
  | .hbm, ⟨44, _⟩ => ⟨S1x4x16384x256, .f32⟩
  | .hbm, ⟨45, _⟩ => ⟨S1x4x16384x1, .f32⟩
  | .hbm, ⟨46, _⟩ => ⟨S_, .f32⟩
  | .hbm, ⟨47, _⟩ => ⟨S1x4x16384x1, .f32⟩
  | .hbm, ⟨48, _⟩ => ⟨S1x4x16384x1, .f32⟩
  | .hbm, ⟨49, _⟩ => ⟨S1x4x256x16384, .f32⟩
  | .hbm, ⟨50, _⟩ => ⟨S1x16384x4x256, .f32⟩
  | .hbm, ⟨51, _⟩ => ⟨S1x16384x4x256, .f32⟩
  | .hbm, ⟨52, _⟩ => ⟨S1x4x256x16384, .f32⟩
  | .hbm, ⟨53, _⟩ => ⟨S1x4x16384x256, .f32⟩
  | .hbm, ⟨54, _⟩ => ⟨S1x4x256x256, .f32⟩
  | .hbm, ⟨55, _⟩ => ⟨S1x256x4x256, .f32⟩
  | .hbm, ⟨56, _⟩ => ⟨S1x4x16384x256, .f32⟩
  | .hbm, ⟨57, _⟩ => ⟨S1x4x16384x256, .f32⟩
  | .hbm, ⟨58, _⟩ => ⟨S1x4x16384x256, .f32⟩
  | .hbm, ⟨59, _⟩ => ⟨S_, .f32⟩
  | .hbm, ⟨60, _⟩ => ⟨S1x4x16384, .f32⟩
  | .hbm, ⟨61, _⟩ => ⟨S1x4x16384x1, .f32⟩
  | .hbm, ⟨62, _⟩ => ⟨S1x4x16384x1, .f32⟩
  | .hbm, ⟨63, _⟩ => ⟨S1x4x16384x256, .f32⟩
  | .hbm, ⟨64, _⟩ => ⟨S1x4x16384x256, .f32⟩
  | .hbm, ⟨65, _⟩ => ⟨S_, .f32⟩
  | .hbm, ⟨66, _⟩ => ⟨S4x16384, .f32⟩
  | .hbm, ⟨67, _⟩ => ⟨S1x4x16384, .f32⟩
  | .hbm, ⟨68, _⟩ => ⟨S1x4x16384x256, .f32⟩
  | .hbm, ⟨69, _⟩ => ⟨S1x4x16384x256, .f32⟩
  | .hbm, ⟨70, _⟩ => ⟨S1x4x16384x256, .f32⟩
  | .hbm, ⟨71, _⟩ => ⟨S_, .f32⟩
  | .hbm, ⟨72, _⟩ => ⟨S1x4x16384x256, .f32⟩
  | .hbm, ⟨73, _⟩ => ⟨S1x4x16384x256, .f32⟩
  | .hbm, ⟨74, _⟩ => ⟨S1x4x256x256, .f32⟩
  | .hbm, ⟨75, _⟩ => ⟨S1x256x4x256, .f32⟩
  | .hbm, ⟨76, _⟩ => ⟨S1x4x16384x256, .f32⟩
  | .hbm, ⟨77, _⟩ => ⟨S1x16384x4x256, .f32⟩
  | .hbm, ⟨78, _⟩ => ⟨S16384x1024, .f32⟩
  | .hbm, ⟨79, _⟩ => ⟨S16384x1024, .bf16⟩
  | .hbm, ⟨80, _⟩ => ⟨S256x1024, .f32⟩
  | .hbm, ⟨81, _⟩ => ⟨S256x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== KernelXf.lean ====
abbrev S16384x1024 : Shape := ⟨2, ![16384, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S256x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S512x1024, .bf16⟩
  | .local _ .vmem, ⟨5, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceXfIdeal.lean ====
abbrev S16384x1024 : Shape := ⟨2, ![16384, 1024]⟩
abbrev S256x1024 : Shape := ⟨2, ![256, 1024]⟩
abbrev S1x16384x4x256 : Shape := ⟨4, ![1, 16384, 4, 256]⟩
abbrev S1x256x4x256 : Shape := ⟨4, ![1, 256, 4, 256]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x256x16384 : Shape := ⟨4, ![1, 4, 256, 16384]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S256x1024, .f32⟩
  | .hbm, ⟨3, _⟩ => ⟨S1x16384x4x256, .f32⟩
  | .hbm, ⟨4, _⟩ => ⟨S1x256x4x256, .f32⟩
  | .hbm, ⟨5, _⟩ => ⟨S1x4x16384x256, .f32⟩
  | .hbm, ⟨6, _⟩ => ⟨S_, .f32⟩
  | .hbm, ⟨7, _⟩ => ⟨S1x4x16384x256, .f32⟩
  | .hbm, ⟨8, _⟩ => ⟨S1x4x16384x256, .f32⟩
  | .hbm, ⟨9, _⟩ => ⟨S_, .f32⟩
  | .hbm, ⟨10, _⟩ => ⟨S1x4x16384, .f32⟩
  | .hbm, ⟨11, _⟩ => ⟨S_, .f32⟩
  | .hbm, ⟨12, _⟩ => ⟨S1x4x16384, .f32⟩
  | .hbm, ⟨13, _⟩ => ⟨S1x4x16384, .f32⟩
  | .hbm, ⟨14, _⟩ => ⟨S1x4x16384x1, .f32⟩
  | .hbm, ⟨15, _⟩ => ⟨S1x4x16384x256, .f32⟩
  | .hbm, ⟨16, _⟩ => ⟨S1x4x16384x256, .f32⟩
  | .hbm, ⟨17, _⟩ => ⟨S1x4x16384x256, .f32⟩
  | .hbm, ⟨18, _⟩ => ⟨S_, .f32⟩
  | .hbm, ⟨19, _⟩ => ⟨S1x4x16384, .f32⟩
  | .hbm, ⟨20, _⟩ => ⟨S1x4x16384x1, .f32⟩
  | .hbm, ⟨21, _⟩ => ⟨S1x4x16384x256, .f32⟩
  | .hbm, ⟨22, _⟩ => ⟨S1x4x16384x256, .f32⟩
  | .hbm, ⟨23, _⟩ => ⟨S1x256x4x256, .f32⟩
  | .hbm, ⟨24, _⟩ => ⟨S1x4x256x16384, .f32⟩
  | .hbm, ⟨25, _⟩ => ⟨S1x16384x4x256, .f32⟩
  | .hbm, ⟨26, _⟩ => ⟨S16384x1024, .f32⟩
  | .hbm, ⟨27, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelLoss.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_14 : BitVec 32 := 0#32
  let v40 : BitVec 1 := Scalar.cmpi .ne v39 c0_i32_14
  v40

def k0_cond2 (i : grid0.Coords) : BitVec 1 :=
  let arg0 : BitVec 32 := BitVec.ofNat 32 (i 0).val
  let c0_i32_15 : BitVec 32 := 0#32
  let v41 : BitVec 1 := Scalar.cmpi .sgt arg0 c0_i32_15
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_19 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== KernelGate.lean ====
abbrev S16384x1024 : Shape := ⟨2, ![16384, 1024]⟩
abbrev S16384x4224 : Shape := ⟨2, ![16384, 4224]⟩
abbrev S128 : Shape := ⟨1, ![128]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x4224, .f32⟩
  | .hbm, ⟨2, _⟩ => ⟨S128, .f32⟩
  | .hbm, ⟨3, _⟩ => ⟨S1x128, .f32⟩
  | .hbm, ⟨4, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceGateIdeal.lean ====
abbrev S16384x1024 : Shape := ⟨2, ![16384, 1024]⟩
abbrev S16384x4224 : Shape := ⟨2, ![16384, 4224]⟩
abbrev S128 : Shape := ⟨1, ![128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4224, .f32⟩
  | .hbm, ⟨2, _⟩ => ⟨S128, .f32⟩
  | .hbm, ⟨3, _⟩ => ⟨S16384x1024, .f32⟩
  | .hbm, ⟨4, _⟩ => ⟨S16384x8x128, .f32⟩
  | .hbm, ⟨5, _⟩ => ⟨S16384x8x128, .f32⟩
  | .hbm, ⟨6, _⟩ => ⟨S_, .f32⟩
  | .hbm, ⟨7, _⟩ => ⟨S16384x8, .f32⟩
  | .hbm, ⟨8, _⟩ => ⟨S16384x8x1, .f32⟩
  | .hbm, ⟨9, _⟩ => ⟨S_, .f32⟩
  | .hbm, ⟨10, _⟩ => ⟨S16384x8x1, .f32⟩
  | .hbm, ⟨11, _⟩ => ⟨S16384x8x1, .f32⟩
  | .hbm, ⟨12, _⟩ => ⟨S_, .f32⟩
  | .hbm, ⟨13, _⟩ => ⟨S16384x8x1, .f32⟩
  | .hbm, ⟨14, _⟩ => ⟨S16384x8x1, .f32⟩
  | .hbm, ⟨15, _⟩ => ⟨S16384x8x1, .f32⟩
  | .hbm, ⟨16, _⟩ => ⟨S16384x8x128, .f32⟩
  | .hbm, ⟨17, _⟩ => ⟨S16384x8x128, .f32⟩
  | .hbm, ⟨18, _⟩ => ⟨S1x1x128, .f32⟩
  | .hbm, ⟨19, _⟩ => ⟨S16384x8x128, .f32⟩
  | .hbm, ⟨20, _⟩ => ⟨S16384x8x128, .f32⟩
  | .hbm, ⟨21, _⟩ => ⟨S16384x8x128, .f32⟩
  | .hbm, ⟨22, _⟩ => ⟨S16384x8x128, .f32⟩
  | .hbm, ⟨23, _⟩ => ⟨S16384x8x128, .f32⟩
  | .hbm, ⟨24, _⟩ => ⟨S_, .f32⟩
  | .hbm, ⟨25, _⟩ => ⟨S16384x8x128, .f32⟩
  | .hbm, ⟨26, _⟩ => ⟨S16384x8x128, .f32⟩
  | .hbm, ⟨27, _⟩ => ⟨S_, .f32⟩
  | .hbm, ⟨28, _⟩ => ⟨S16384x8x128, .f32⟩
  | .hbm, ⟨29, _⟩ => ⟨S16384x8x128, .f32⟩
  | .hbm, ⟨30, _⟩ => ⟨S16384x8x128, .f32⟩
  | .hbm, ⟨31, _⟩ => ⟨S16384x8x128, .f32⟩
  | .hbm, ⟨32, _⟩ => ⟨S16384x1024, .f32⟩
  | .hbm, ⟨33, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== KernelDgate.lean ====
abbrev S16384x1024 : Shape := ⟨2, ![16384, 1024]⟩
abbrev S16384x4224 : Shape := ⟨2, ![16384, 4224]⟩
abbrev S128 : Shape := ⟨1, ![128]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x4224, .f32⟩
  | .hbm, ⟨2, _⟩ => ⟨S128, .f32⟩
  | .hbm, ⟨3, _⟩ => ⟨S16384x1024, .f32⟩
  | .hbm, ⟨4, _⟩ => ⟨S1x128, .f32⟩
  | .hbm, ⟨5, _⟩ => ⟨S16384x1024, .f32⟩
  | .hbm, ⟨6, _⟩ => ⟨S16384x1024, .bf16⟩
  | .hbm, ⟨7, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v371 : BitVec 1 := Scalar.cmpi .eq arg0 c0_i32
  let v372 : BitVec 32 := Scalar.extui v371
  let c0_i32_138 : BitVec 32 := 0#32
  let v373 : BitVec 1 := Scalar.cmpi .ne v372 c0_i32_138
  v373

def k0_cond2 (i : grid0.Coords) : BitVec 1 :=
  let arg0 : BitVec 32 := BitVec.ofNat 32 (i 0).val
  let c0_i32_139 : BitVec 32 := 0#32
  let v374 : BitVec 1 := Scalar.cmpi .sgt arg0 c0_i32_139
  let v375 : BitVec 32 := Scalar.extui v374
  let c0_i32_140 : BitVec 32 := 0#32
  let v376 : BitVec 1 := Scalar.cmpi .ne v375 c0_i32_140
  v376

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDgateIdeal.lean ====
abbrev S16384x1024 : Shape := ⟨2, ![16384, 1024]⟩
abbrev S16384x4224 : Shape := ⟨2, ![16384, 4224]⟩
abbrev S128 : Shape := ⟨1, ![128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4224, .f32⟩
  | .hbm, ⟨2, _⟩ => ⟨S128, .f32⟩
  | .hbm, ⟨3, _⟩ => ⟨S16384x1024, .f32⟩
  | .hbm, ⟨4, _⟩ => ⟨S16384x1024, .f32⟩
  | .hbm, ⟨5, _⟩ => ⟨S16384x8x128, .f32⟩
  | .hbm, ⟨6, _⟩ => ⟨S16384x8x128, .f32⟩
  | .hbm, ⟨7, _⟩ => ⟨S_, .f32⟩
  | .hbm, ⟨8, _⟩ => ⟨S16384x8, .f32⟩
  | .hbm, ⟨9, _⟩ => ⟨S16384x8x1, .f32⟩
  | .hbm, ⟨10, _⟩ => ⟨S_, .f32⟩
  | .hbm, ⟨11, _⟩ => ⟨S16384x8x1, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S16384x8x1, .f32⟩
  | .hbm, ⟨17, _⟩ => ⟨S16384x8x1, .f32⟩
  | .hbm, ⟨18, _⟩ => ⟨S_, .f32⟩
  | .hbm, ⟨19, _⟩ => ⟨S16384x8x1, .f32⟩
  | .hbm, ⟨20, _⟩ => ⟨S16384x8x1, .f32⟩
  | .hbm, ⟨21, _⟩ => ⟨S16384x8x128, .f32⟩
  | .hbm, ⟨22, _⟩ => ⟨S16384x8x128, .f32⟩
  | .hbm, ⟨23, _⟩ => ⟨S1x1x128, .f32⟩
  | .hbm, ⟨24, _⟩ => ⟨S16384x8x128, .f32⟩
  | .hbm, ⟨25, _⟩ => ⟨S16384x8x128, .f32⟩
  | .hbm, ⟨26, _⟩ => ⟨S16384x8x128, .f32⟩
  | .hbm, ⟨27, _⟩ => ⟨S16384x8x128, .f32⟩
  | .hbm, ⟨28, _⟩ => ⟨S16384x8x128, .f32⟩
  | .hbm, ⟨29, _⟩ => ⟨S_, .f32⟩
  | .hbm, ⟨30, _⟩ => ⟨S16384x8x128, .f32⟩
  | .hbm, ⟨31, _⟩ => ⟨S16384x8x128, .f32⟩
  | .hbm, ⟨32, _⟩ => ⟨S_, .f32⟩
  | .hbm, ⟨33, _⟩ => ⟨S16384x8x128, .f32⟩
  | .hbm, ⟨34, _⟩ => ⟨S16384x8x128, .f32⟩
  | .hbm, ⟨35, _⟩ => ⟨S_, .f32⟩
  | .hbm, ⟨36, _⟩ => ⟨S16384x8x128, .f32⟩
  | .hbm, ⟨37, _⟩ => ⟨S16384x8x128, .f32⟩
  | .hbm, ⟨38, _⟩ => ⟨S16384x8x128, .f32⟩
  | .hbm, ⟨39, _⟩ => ⟨S16384x8x128, .f32⟩
  | .hbm, ⟨40, _⟩ => ⟨S16384x8x128, .f32⟩
  | .hbm, ⟨41, _⟩ => ⟨S16384x1024, .f32⟩
  | .hbm, ⟨42, _⟩ => ⟨S16384x8x128, .f32⟩
  | .hbm, ⟨43, _⟩ => ⟨S16384x8x128, .f32⟩
  | .hbm, ⟨44, _⟩ => ⟨S16384x8x128, .f32⟩
  | .hbm, ⟨45, _⟩ => ⟨S16384x8x128, .f32⟩
  | .hbm, ⟨46, _⟩ => ⟨S16384x8x128, .f32⟩
  | .hbm, ⟨47, _⟩ => ⟨S16384x8x128, .f32⟩
  | .hbm, ⟨48, _⟩ => ⟨S16384x8x128, .f32⟩
  | .hbm, ⟨49, _⟩ => ⟨S16384x1024, .f32⟩
  | .hbm, ⟨50, _⟩ => ⟨S16384x8x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S16384x8x128, .f32⟩
  | .hbm, ⟨55, _⟩ => ⟨S16384x8x128, .f32⟩
  | .hbm, ⟨56, _⟩ => ⟨S_, .f32⟩
  | .hbm, ⟨57, _⟩ => ⟨S128, .f32⟩
  | .hbm, ⟨58, _⟩ => ⟨S16384x8x128, .f32⟩
  | .hbm, ⟨59, _⟩ => ⟨S_, .f32⟩
  | .hbm, ⟨60, _⟩ => ⟨S16384x8, .f32⟩
  | .hbm, ⟨61, _⟩ => ⟨S16384x8x1, .f32⟩
  | .hbm, ⟨62, _⟩ => ⟨S16384x8x128, .f32⟩
  | .hbm, ⟨63, _⟩ => ⟨S16384x8x128, .f32⟩
  | .hbm, ⟨64, _⟩ => ⟨S16384x8x1, .f32⟩
  | .hbm, ⟨65, _⟩ => ⟨S_, .f32⟩
  | .hbm, ⟨66, _⟩ => ⟨S16384x8x1, .f32⟩
  | .hbm, ⟨67, _⟩ => ⟨S16384x8x1, .f32⟩
  | .hbm, ⟨68, _⟩ => ⟨S_, .f32⟩
  | .hbm, ⟨69, _⟩ => ⟨S16384x8, .f32⟩
  | .hbm, ⟨70, _⟩ => ⟨S16384x8x128, .f32⟩
  | .hbm, ⟨71, _⟩ => ⟨S16384x8x128, .f32⟩
  | .hbm, ⟨72, _⟩ => ⟨S16384x8x128, .f32⟩
  | .hbm, ⟨73, _⟩ => ⟨S16384x8x128, .f32⟩
  | .hbm, ⟨74, _⟩ => ⟨S16384x8x128, .f32⟩
  | .hbm, ⟨75, _⟩ => ⟨S16384x1024, .f32⟩
  | .hbm, ⟨76, _⟩ => ⟨S16384x1024, .bf16⟩
  | .hbm, ⟨77, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== KernelAbin.lean ====
abbrev S16384x1024 : Shape := ⟨2, ![16384, 1024]⟩
abbrev S2560x1024 : Shape := ⟨2, ![2560, 1024]⟩
abbrev S16384x2560 : Shape := ⟨2, ![16384, 2560]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2560x1024, .f32⟩
  | .hbm, ⟨2, _⟩ => ⟨S16384x1024, .bf16⟩
  | .hbm, ⟨3, _⟩ => ⟨S2560x1024, .bf16⟩
  | .hbm, ⟨4, _⟩ => ⟨S16384x2560, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1280, .f32⟩
  | .local _ .vmem, ⟨5, _⟩ => ⟨S1024x1280, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAbinIdeal.lean ====
abbrev S16384x1024 : Shape := ⟨2, ![16384, 1024]⟩
abbrev S2560x1024 : Shape := ⟨2, ![2560, 1024]⟩
abbrev S1024x2560 : Shape := ⟨2, ![1024, 2560]⟩
abbrev S16384x2560 : Shape := ⟨2, ![16384, 2560]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2560x1024, .f32⟩
  | .hbm, ⟨2, _⟩ => ⟨S1024x2560, .f32⟩
  | .hbm, ⟨3, _⟩ => ⟨S16384x2560, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelDnin.lean ====
abbrev S16384x1024 : Shape := ⟨2, ![16384, 1024]⟩
abbrev S4224x1024 : Shape := ⟨2, ![4224, 1024]⟩
abbrev S16384x4224 : Shape := ⟨2, ![16384, 4224]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4224x1024, .f32⟩
  | .hbm, ⟨2, _⟩ => ⟨S16384x1024, .bf16⟩
  | .hbm, ⟨3, _⟩ => ⟨S4224x1024, .bf16⟩
  | .hbm, ⟨4, _⟩ => ⟨S16384x4224, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDninIdeal.lean ====
abbrev S16384x1024 : Shape := ⟨2, ![16384, 1024]⟩
abbrev S4224x1024 : Shape := ⟨2, ![4224, 1024]⟩
abbrev S1024x4224 : Shape := ⟨2, ![1024, 4224]⟩
abbrev S16384x4224 : Shape := ⟨2, ![16384, 4224]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4224x1024, .f32⟩
  | .hbm, ⟨2, _⟩ => ⟨S1024x4224, .f32⟩
  | .hbm, ⟨3, _⟩ => ⟨S16384x4224, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelQ.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQIdeal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelKv.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S256x1024, .bf16⟩
  | .hbm, ⟨3, _⟩ => ⟨S2048x1024, .bf16⟩
  | .hbm, ⟨4, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvIdeal.lean ====
abbrev S256x1024 : Shape := ⟨2, ![256, 1024]⟩
abbrev S2048x1024 : Shape := ⟨2, ![2048, 1024]⟩
abbrev S1024x2048 : Shape := ⟨2, ![1024, 2048]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S1024x2048, .f32⟩
  | .hbm, ⟨3, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelAbdwin.lean ====
abbrev S16384x2560 : Shape := ⟨2, ![16384, 2560]⟩
abbrev S16384x1024 : Shape := ⟨2, ![16384, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2560, .f32⟩
  | .hbm, ⟨1, _⟩ => ⟨S16384x1024, .f32⟩
  | .hbm, ⟨2, _⟩ => ⟨S16384x2560, .bf16⟩
  | .hbm, ⟨3, _⟩ => ⟨S16384x1024, .bf16⟩
  | .hbm, ⟨4, _⟩ => ⟨S2560x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAbdwinIdeal.lean ====
abbrev S16384x2560 : Shape := ⟨2, ![16384, 2560]⟩
abbrev S16384x1024 : Shape := ⟨2, ![16384, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2560, .f32⟩
  | .hbm, ⟨1, _⟩ => ⟨S16384x1024, .f32⟩
  | .hbm, ⟨2, _⟩ => ⟨S_, .f32⟩
  | .hbm, ⟨3, _⟩ => ⟨S1024x2560, .f32⟩
  | .hbm, ⟨4, _⟩ => ⟨S16384x2560, .f32⟩
  | .hbm, ⟨5, _⟩ => ⟨S2560x1024, .f32⟩
  | .hbm, ⟨6, _⟩ => ⟨S1024x2560, .f32⟩
  | .hbm, ⟨7, _⟩ => ⟨S2560x1024, .f32⟩
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDndwin1.lean ====
abbrev S16384x3072 : Shape := ⟨2, ![16384, 3072]⟩
abbrev S16384x1024 : Shape := ⟨2, ![16384, 1024]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384x3072, .bf16⟩
  | .hbm, ⟨3, _⟩ => ⟨S16384x1024, .bf16⟩
  | .hbm, ⟨4, _⟩ => ⟨S3072x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDndwin1Ideal.lean ====
abbrev S16384x3072 : Shape := ⟨2, ![16384, 3072]⟩
abbrev S16384x1024 : Shape := ⟨2, ![16384, 1024]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384x3072, .bf16⟩
  | .hbm, ⟨3, _⟩ => ⟨S16384x1024, .bf16⟩
  | .hbm, ⟨4, _⟩ => ⟨S3072x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDndwin1Ideal.lean ====
abbrev S16384x3072 : Shape := ⟨2, ![16384, 3072]⟩
abbrev S16384x1024 : Shape := ⟨2, ![16384, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S_, .f32⟩
  | .hbm, ⟨3, _⟩ => ⟨S1024x3072, .f32⟩
  | .hbm, ⟨4, _⟩ => ⟨S16384x3072, .f32⟩
  | .hbm, ⟨5, _⟩ => ⟨S3072x1024, .f32⟩
  | .hbm, ⟨6, _⟩ => ⟨S1024x3072, .f32⟩
  | .hbm, ⟨7, _⟩ => ⟨S3072x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDndwin2.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KernelDndwin2Ideal.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDndwin2Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDndwin3.lean ====
abbrev S16384x128 : Shape := ⟨2, ![16384, 128]⟩
abbrev S16384x1024 : Shape := ⟨2, ![16384, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16384x1024, .f32⟩
  | .hbm, ⟨2, _⟩ => ⟨S16384x128, .bf16⟩
  | .hbm, ⟨3, _⟩ => ⟨S16384x1024, .bf16⟩
  | .hbm, ⟨4, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDndwin3Ideal.lean ====
abbrev S16384x128 : Shape := ⟨2, ![16384, 128]⟩
abbrev S16384x1024 : Shape := ⟨2, ![16384, 1024]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x1024, .f32⟩
  | .hbm, ⟨2, _⟩ => ⟨S_, .f32⟩
  | .hbm, ⟨3, _⟩ => ⟨S1024x128, .f32⟩
  | .hbm, ⟨4, _⟩ => ⟨S16384x128, .f32⟩
  | .hbm, ⟨5, _⟩ => ⟨S128x1024, .f32⟩
  | .hbm, ⟨6, _⟩ => ⟨S1024x128, .f32⟩
  | .hbm, ⟨7, _⟩ => ⟨S128x1024, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwkv.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x2048, .bf16⟩
  | .hbm, ⟨3, _⟩ => ⟨S256x1024, .bf16⟩
  | .hbm, ⟨4, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwkvIdeal.lean ====
abbrev S256x2048 : Shape := ⟨2, ![256, 2048]⟩
abbrev S256x1024 : Shape := ⟨2, ![256, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S_, .f32⟩
  | .hbm, ⟨3, _⟩ => ⟨S1024x2048, .f32⟩
  | .hbm, ⟨4, _⟩ => ⟨S256x2048, .f32⟩
  | .hbm, ⟨5, _⟩ => ⟨S2048x1024, .f32⟩
  | .hbm, ⟨6, _⟩ => ⟨S1024x2048, .f32⟩
  | .hbm, ⟨7, _⟩ => ⟨S2048x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDmh.lean ====
abbrev S256x2048 : Shape := ⟨2, ![256, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x2048, .bf16⟩
  | .hbm, ⟨3, _⟩ => ⟨S2048x1024, .bf16⟩
  | .hbm, ⟨4, _⟩ => ⟨S256x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDmhIdeal.lean ====
abbrev S256x2048 : Shape := ⟨2, ![256, 2048]⟩
abbrev S2048x1024 : Shape := ⟨2, ![2048, 1024]⟩
abbrev S_ : Shape := ⟨0, ![]⟩
abbrev S256x1024 : Shape := ⟨2, ![256, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S_, .f32⟩
  | .hbm, ⟨3, _⟩ => ⟨S256x1024, .f32⟩
  | .hbm, ⟨4, _⟩ => ⟨S1024x2048, .f32⟩
  | .hbm, ⟨5, _⟩ => ⟨S256x2048, .f32⟩
  | .hbm, ⟨6, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAbdh.lean ====
abbrev S16384x2560 : Shape := ⟨2, ![16384, 2560]⟩
abbrev S2560x1024 : Shape := ⟨2, ![2560, 1024]⟩
abbrev S16384x1024 : Shape := ⟨2, ![16384, 1024]⟩
abbrev S1024 : Shape := ⟨1, ![1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2560, .f32⟩
  | .hbm, ⟨1, _⟩ => ⟨S2560x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x2560, .bf16⟩
  | .hbm, ⟨6, _⟩ => ⟨S2560x1024, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v36 : BitVec 32 := Scalar.extui v5
  let c0_i32_15 : BitVec 32 := 0#32
  let v37 : BitVec 1 := Scalar.cmpi .ne v36 c0_i32_15
  v37

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v38 : BitVec 1 := Scalar.xori v5 v_true
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== ReferenceAbdhIdeal.lean ====
abbrev S16384x2560 : Shape := ⟨2, ![16384, 2560]⟩
abbrev S2560x1024 : Shape := ⟨2, ![2560, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x2560 : Shape := ⟨2, ![1024, 2560]⟩

abbrev nBuf : Space → Nat
  | .hbm => 55
  | .vmem => 0
  | .smem => 0
  | _ => 0

abbrev bufTy : (tb : Table) → Fin (tcTables nBuf tb) → BufTy
  | .hbm, ⟨0, _⟩ => ⟨S16384x2560, .f32⟩
  | .hbm, ⟨1, _⟩ => ⟨S2560x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x2560, .f32⟩
  | .hbm, ⟨26, _⟩ => ⟨S16384x2560, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelXdh.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .bf16⟩
  | .hbm, ⟨6, _⟩ => ⟨S1024x1024, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v36 : BitVec 32 := Scalar.extui v5
  let c0_i32_15 : BitVec 32 := 0#32
  let v37 : BitVec 1 := Scalar.cmpi .ne v36 c0_i32_15
  v37

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v38 : BitVec 1 := Scalar.xori v5 v_true
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== ReferenceXdhIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelDndh1.lean ====
abbrev S16384x3072 : Shape := ⟨2, ![16384, 3072]⟩
abbrev S3072x1024 : Shape := ⟨2, ![3072, 1024]⟩
abbrev S16384x1024 : Shape := ⟨2, ![16384, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x3072, .f32⟩
  | .hbm, ⟨1, _⟩ => ⟨S3072x1024, .f32⟩
  | .hbm, ⟨2, _⟩ => ⟨S16384x3072, .bf16⟩
  | .hbm, ⟨3, _⟩ => ⟨S3072x1024, .bf16⟩
  | .hbm, ⟨4, _⟩ => ⟨S16384x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDndh1Ideal.lean ====
abbrev S16384x3072 : Shape := ⟨2, ![16384, 3072]⟩
abbrev S3072x1024 : Shape := ⟨2, ![3072, 1024]⟩
abbrev S_ : Shape := ⟨0, ![]⟩
abbrev S16384x1024 : Shape := ⟨2, ![16384, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S3072x1024, .f32⟩
  | .hbm, ⟨2, _⟩ => ⟨S_, .f32⟩
  | .hbm, ⟨3, _⟩ => ⟨S16384x1024, .f32⟩
  | .hbm, ⟨4, _⟩ => ⟨S1024x3072, .f32⟩
  | .hbm, ⟨5, _⟩ => ⟨S16384x3072, .f32⟩
  | .hbm, ⟨6, _⟩ => ⟨S16384x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDndh2.lean ====
abbrev S16384x1024 : Shape := ⟨2, ![16384, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDndh2Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDndh3.lean ====
abbrev S16384x128 : Shape := ⟨2, ![16384, 128]⟩
abbrev S128x1024 : Shape := ⟨2, ![128, 1024]⟩
abbrev S16384x1024 : Shape := ⟨2, ![16384, 1024]⟩
abbrev S1024 : Shape := ⟨1, ![1024]⟩
abbrev S1x1024 : Shape := ⟨2, ![1, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S128x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S16384x128, .bf16⟩
  | .hbm, ⟨7, _⟩ => ⟨S128x1024, .bf16⟩
  | .hbm, ⟨8, _⟩ => ⟨S1x1024, .f32⟩
  | .hbm, ⟨9, _⟩ => ⟨S16384x1024, .f32⟩
  | .hbm, ⟨10, _⟩ => ⟨S1x1024, .f32⟩
  | .local _ .vmem, ⟨0, _⟩ => ⟨S512x128, .bf16⟩
  | .local _ .vmem, ⟨1, _⟩ => ⟨S512x128, .bf16⟩
  | .local _ .vmem, ⟨2, _⟩ => ⟨S128x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v38 : BitVec 32 := Scalar.extui v5
  let c0_i32_17 : BitVec 32 := 0#32
  let v39 : BitVec 1 := Scalar.cmpi .ne v38 c0_i32_17
  v39

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v40 : BitVec 1 := Scalar.xori v5 v_true
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== ReferenceDndh3Ideal.lean ====
abbrev S16384x128 : Shape := ⟨2, ![16384, 128]⟩
abbrev S128x1024 : Shape := ⟨2, ![128, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x128 : Shape := ⟨2, ![1024, 128]⟩

abbrev nBuf : Space → Nat
  | .hbm => 59
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S1024x128, .f32⟩
  | .hbm, ⟨29, _⟩ => ⟨S16384x128, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1x1024, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== KernelMnorm.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceMnormIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelDmnorm.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32_13 : BitVec 32 := 0#32
  let v33 : BitVec 1 := Scalar.cmpi .sgt arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceDmnormIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Reals.lean ====
/- Facts about extended reals that the value proofs share: a nonnegative real factor goes through sums,
   the literals that occur, and sums of reals. -/
module

public import Idealize.ShloMosaic.Lib.Pipeline.ValueKit
public import Idealize.ShloMosaic.Lib.ReduceAll
public import Mathlib.Data.EReal.Operations
public import Mathlib.Data.EReal.Inv

@[expose] public section

noncomputable section

open Idealize.ShloMosaic

namespace Cert.Reals

/-- A nonnegative real factor distributes over a sum of two extended reals. -/
theorem mul_add_real {c : ℝ} (hc : 0 ≤ c) (x y : EReal) : (c : EReal) * (x + y) = c * x + c * y :=
  EReal.left_distrib_of_nonneg_of_ne_top (by exact_mod_cast hc) (EReal.coe_ne_top c) x y

/-- A nonnegative real factor goes through a finite sum. -/
theorem mul_sum_real {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, mul_add_real hc, ih]

theorem sum_mul_real {ι : Type*} (s : Finset ι) {c : ℝ} (hc : 0 ≤ c) (f : ι → EReal) :
    (∑ i ∈ s, f i) * (c : EReal) = ∑ i ∈ s, f i * (c : EReal) := by
  rw [mul_comm, mul_sum_real s hc]
  exact Finset.sum_congr rfl fun i _ => mul_comm _ _

/-- A finite sum of reals, taken among the extended reals, is their real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

theorem half : Ideal.ofBits .f32 0x3F000000#32 = ((1 / 2 : ℝ) : EReal) := by
  simp [Ideal.ofBits, Ideal.ieee, -EReal.coe_mul]
  norm_num

theorem sixteenth : Ideal.ofBits .f32 0x3D800000#32 = ((1 / 16 : ℝ) : EReal) := by
  simp [Ideal.ofBits, Ideal.ieee, -EReal.coe_mul]
  norm_num

theorem neg_inf : Ideal.ofBits .f32 0xFF800000#32 = ⊥ := by
  simp [Ideal.ofBits, Ideal.ieee]

theorem pos_inf : Ideal.ofBits .f32 0x7F800000#32 = ⊤ := by
  simp [Ideal.ofBits, Ideal.ieee]

theorem one : Ideal.ofBits .f32 0x3F800000#32 = ((1 : ℝ) : EReal) := by
  simp [Ideal.ofBits, Ideal.ieee, -EReal.coe_mul]
  norm_num

/-- An extended real whose magnitude is below the top is a real. -/
theorem real_of_abs_lt {x : EReal} (h : max x (-x) < ⊤) : ∃ r : ℝ, x = r := by
  induction x with
  | bot => simp at h
  | top => simp at h
  | coe r => exact ⟨r, rfl⟩

/-- An array all of whose magnitudes are below infinity holds reals. -/
theorem reals_of_all {s u : Shape} {axes : List (Fin s.rank)} {hb : (⟨0, ![]⟩ : Shape).BroadcastsInDim s (![] : Fin 0 → Fin s.rank)}
    (x : FVec Ideal s .f32) (init : u.Idx → BitVec 1) (h : s.ReducesTo axes ⟨0, ![]⟩) (hu : 0 < u.numel) (j : (⟨0, ![]⟩ : Shape).Idx)
    (e : Host.reduce IntOp.andi (cmpf .olt (Host.absf x) (broadcastInDim s ![] hb (constant ⟨0, ![]⟩ .f32 0x7F800000#32))) init h hu j = 1#1) (i : s.Idx) :
    ∃ r : ℝ, x i = r := by
  haveI : Subsingleton (⟨0, ![]⟩ : Shape).Idx := ⟨fun a b => funext fun k => k.elim0⟩
  have h1 := Host.reduce_andi_all _ _ _ _ j e i
  have h2 : Ideal.cmp .olt (max (x i) (-(x i))) (Ideal.ofBits .f32 0x7F800000#32) = 1#1 := h1
  rw [pos_inf] at h2
  refine real_of_abs_lt ?_
  by_contra hn
  simp [Ideal.cmp, hn] at h2

end Cert.Reals

end
-- ==== Proof.Da.lean ====
/- The gradient of the gated hidden layer of the feed-forward block: the two halves written by one grid point are
   the gradients of the gate and of the up branch. -/
module

public import proofs.«01_k».proof.Proof.Gen.KernelDaIdeal.Frame
public import proofs.«01_k».proof.Proof.Gen.ReferenceDaIdeal
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.KernelDaIdeal.Hand

open Cert.KernelDaIdeal Cert.KernelDaIdeal.Gen

variable (m : (ℓ : Loc nD τ sig) → Buf (Elt Ideal) ℓ)

/-- The gradient reaching the product of gate and up branch. -/
abbrev REFE (a0 : FVec Ideal S16384x1024 .f32) (a1 : FVec Ideal S2816x1024 .f32) : FVec Ideal S16384x2816 .f32 :=
  Host.dotGeneral Cert.ReferenceDaIdeal.dot_S16384x1024_S2816x1024_S16384x2816_1_1_0_0_n_n none
    (mulf (broadcastInDim S16384x1024 ![] Cert.ReferenceDaIdeal.Gen.bcast_S_S16384x1024 (constant Cert.ReferenceDaIdeal.S_ .f32 0x3F000000#32)) a0) a1

abbrev REFS (a2 : FVec Ideal S16384x2816 .f32) : FVec Ideal S16384x2816 .f32 :=
  Host.divf (broadcastInDim S16384x2816 ![] Cert.ReferenceDaIdeal.Gen.bcast_S_S16384x2816 (constant Cert.ReferenceDaIdeal.S_ .f32 0x3F800000#32)) (addf (broadcastInDim S16384x2816 ![] Cert.ReferenceDaIdeal.Gen.bcast_S_S16384x2816 (constant Cert.ReferenceDaIdeal.S_ .f32 0x3F800000#32)) (Host.exp (Host.negf a2)))

abbrev REF (a0 : FVec Ideal S16384x1024 .f32) (a1 : FVec Ideal S2816x1024 .f32) (a2 a3 : FVec Ideal S16384x2816 .f32) : FVec Ideal S16384x5632 .bf16 :=
  truncf .bf16 (concatenate S16384x5632 1
    [⟨S16384x2816, addf (mulf (mulf (REFE a0 a1) a3) (REFS a2))
      (mulf (mulf a2 (mulf (REFE a0 a1) a3)) (mulf (REFS a2)
        (subf (broadcastInDim S16384x2816 ![] Cert.ReferenceDaIdeal.Gen.bcast_S_S16384x2816 (constant Cert.ReferenceDaIdeal.S_ .f32 0x3F800000#32)) (REFS a2))))⟩,
     ⟨S16384x2816, mulf (mulf a2 (REFS a2)) (REFE a0 a1)⟩] Cert.ReferenceDaIdeal.Gen.concatenates_S16384x2816_S16384x2816_S16384x5632_d1)
    Cert.ReferenceDaIdeal.Gen.bitsLt_bf16_f32

theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0] :=
  (by decide +kernel : ∀ t : Fin grid0.N, _)

/-- The gradient of `x * logistic x`, in the kernel's factored form and in the product rule's form. -/
theorem silu_grad (d : ℝ) (g : EReal) :
    (d : EReal) * (Ideal.logistic g * (1 + g * (1 - Ideal.logistic g)))
      = d * Ideal.logistic g + g * d * (Ideal.logistic g * (1 - Ideal.logistic g)) := by
  have h1 : (1 : EReal) = ((1 : ℝ) : EReal) := rfl
  induction g with
  | bot =>
    have e : Ideal.logistic ⊥ = 0 := by
      have ht : Ideal.exp ⊤ = ⊤ := rfl
      have h1t : (1 : EReal) + ⊤ = ⊤ := EReal.add_top_of_ne_bot (EReal.coe_ne_bot 1)
      simp [Ideal.logistic, ht, h1t, Ideal.div]
    simp [e]
  | top =>
    have e : Ideal.logistic ⊤ = 1 := by
      have ht : Ideal.exp ⊥ = 0 := rfl
      simp [Ideal.logistic, ht, Ideal.div]
    have e0 : (1 : EReal) - 1 = 0 := by rw [h1, ← EReal.coe_sub]; simp
    simp [e, e0]
  | coe g =>
    have e : Ideal.logistic (g : EReal) = ((1 / (1 + Real.exp (-g)) : ℝ) : EReal) := by
      have hp : (1 + Real.exp (-g) : ℝ) ≠ 0 := by positivity
      have e1 : Ideal.exp (-(g : EReal)) = ((Real.exp (-g) : ℝ) : EReal) := by rw [← EReal.coe_neg]; rfl
      rw [Ideal.logistic, e1, h1, ← EReal.coe_add, Ideal.div_coe hp, ← EReal.coe_mul, one_mul]
    rw [e, h1]
    generalize 1 / (1 + Real.exp (-g)) = s
    norm_cast
    ring

/-- The gradient reaching the product, as the kernel scales it. -/
def EK (f g : Fin 1024 → EReal) : EReal := (∑ k, f k * g k) * ((1 / 2 : ℝ) : EReal)

/-- Over reals that gradient is real. -/
theorem EK_real (f g : Fin 1024 → EReal) (u : EReal) (hf : ∀ k, ∃ r : ℝ, f k = r) (hg : ∀ k, ∃ r : ℝ, g k = r) (hu : ∃ r : ℝ, u = r) :
    ∃ r : ℝ, EK f g * u = r := by
  choose f' hf using hf
  choose g' hg using hg
  obtain ⟨u', rfl⟩ := hu
  refine ⟨(∑ k, f' k * g' k) * (1 / 2) * u', ?_⟩
  simp only [EK, hf, hg, ← EReal.coe_mul, Cert.Reals.coe_sum]

theorem pay4_at (v0 : Vec Ideal S512x1024 .f32) (v2 : Vec Ideal S2816x1024 .bf16) (v7 v11 : Vec Ideal S512x2816 .bf16) (r : Fin 512) (k : Fin 2816) :
    k0_pay4 v0 v2 v7 v11 (ix2 r k) = EK (fun x => v0 (ix2 r x)) (fun x => v2 (ix2 k x)) * v11 (ix2 r k)
      * (Ideal.logistic (v7 (ix2 r k)) * (1 + v7 (ix2 r k) * (1 - Ideal.logistic (v7 (ix2 r k))))) := by
  pointwise [EK, k0_pay4, k0_pay3, k0_pay2, k0_pay1]
  rw [Cert.Reals.half]

theorem pay5_at (v0 : Vec Ideal S512x1024 .f32) (v2 : Vec Ideal S2816x1024 .bf16) (v7 : Vec Ideal S512x2816 .bf16) (r : Fin 512) (k : Fin 2816) :
    k0_pay5 v0 v2 v7 (ix2 r k) = EK (fun x => v0 (ix2 r x)) (fun x => v2 (ix2 k x)) * v7 (ix2 r k) * Ideal.logistic (v7 (ix2 r k)) := by
  pointwise [EK, k0_pay5, k0_pay3, k0_pay2, k0_pay1]
  rw [Cert.Reals.half]

theorem up_comm (e g s : EReal) : e * g * s = g * s * e := by
  rw [mul_assoc, mul_comm]

theorem refE_at (a0 : FVec Ideal S16384x1024 .f32) (a1 : FVec Ideal S2816x1024 .f32) (r : Fin 16384) (k : Fin 2816) :
    REFE a0 a1 (ix2 r k) = EK (fun x => a0 (ix2 r x)) (fun x => a1 (ix2 k x)) := by
  rw [EK, Cert.Reals.sum_mul_real _ (by norm_num)]
  pointwise [REFE]
  rw [Cert.Reals.half]
  exact Finset.sum_congr rfl fun x _ => by rw [mul_comm, mul_comm _ (a0 _), mul_comm (a1 _), mul_right_comm]

theorem ref_lo (a0 : FVec Ideal S16384x1024 .f32) (a1 : FVec Ideal S2816x1024 .f32) (a2 a3 : FVec Ideal S16384x2816 .f32) (r : Fin 16384) (k : Fin 2816) :
    REF a0 a1 a2 a3 (ix2 r (⟨k.val, by omega⟩ : Fin 5632)) = REFE a0 a1 (ix2 r k) * a3 (ix2 r k) * Ideal.logistic (a2 (ix2 r k))
      + a2 (ix2 r k) * (REFE a0 a1 (ix2 r k) * a3 (ix2 r k)) * (Ideal.logistic (a2 (ix2 r k)) * (1 - Ideal.logistic (a2 (ix2 r k)))) := by
  have hk := k.isLt
  pointwise [REFS, REFE, Ideal.logistic]

theorem ref_hi (a0 : FVec Ideal S16384x1024 .f32) (a1 : FVec Ideal S2816x1024 .f32) (a2 a3 : FVec Ideal S16384x2816 .f32) (r : Fin 16384) (k : Fin 2816) :
    REF a0 a1 a2 a3 (ix2 r (⟨2816 + k.val, by omega⟩ : Fin 5632)) = a2 (ix2 r k) * Ideal.logistic (a2 (ix2 r k)) * REFE a0 a1 (ix2 r k) := by
  have hk := k.isLt
  pointwise [REFS, REFE, Ideal.logistic]

theorem point (c : Dev nD) (t : Fin cfg0.N) (y) (A0 : FVec Ideal S16384x1024 .f32) (A1 : FVec Ideal S2816x1024 .f32) (A2 A3 : FVec Ideal S16384x2816 .f32)
    (e0 : m ((c : Thread nD τ).loc main_arg0) = A0) (e1 : m ((c : Thread nD τ).loc main_arg1) = A1) (e2 : m ((c : Thread nD τ).loc main_arg2) = A2) (e3 : m ((c : Thread nD τ).loc main_arg3) = A3)
    (f0 : ∀ i, ∃ r : ℝ, A0 i = r) (f1 : ∀ i, ∃ r : ℝ, A1 i = r) (f3 : ∀ i, ∃ r : ℝ, A3 i = r) :
    out0_4 (iblk m c 0 t) (iblk m c 1 t) (iblk m c 2 t) (iblk m c 3 t) y = REF A0 A1 A2 A3 (((cfg0.win 4).blk t).view.emb y) := by
  have ht : t.val < 32 := lt_of_lt_of_eq t.isLt (show cfg0.N = 32 from N_0)
  have i0 : ∀ (r : Fin 512) (k : Fin 1024), View.ld (iblk m c 0 t) r0_0 (ix2 r k) = A0 (ix2 ⟨512 * t.val + r.val, by omega⟩ k) := by
    intro r k; subst e0; blk_point [iblk, V, idx_val t]
  have i1 : ∀ (r : Fin 2816) (k : Fin 1024), View.ld (iblk m c 1 t) r0_1 (ix2 r k) = A1 (ix2 r k) := by
    intro r k; subst e1; blk_point [iblk, V, idx_val t]
  have i2 : ∀ (r : Fin 512) (k : Fin 2816), View.ld (iblk m c 2 t) r0_2 (ix2 r k) = A2 (ix2 ⟨512 * t.val + r.val, by omega⟩ k) := by
    intro r k; subst e2; blk_point [iblk, V, idx_val t]
  have i3 : ∀ (r : Fin 512) (k : Fin 2816), View.ld (iblk m c 3 t) r0_2 (ix2 r k) = A3 (ix2 ⟨512 * t.val + r.val, by omega⟩ k) := by
    intro r k; subst e3; blk_point [iblk, V, idx_val t]
  canon_tiles x h
  · have hy : ((cfg0.win 4).blk t).view.emb y = ix2 (⟨512 * t.val + (x 0).val, by omega⟩ : Fin 16384) (⟨2816 + (x 1).val, by omega⟩ : Fin 5632) := by
      blk_ext [idx_val t]
    idx_vars x
    rw [pay5_at, hy, ref_hi, refE_at]
    simp only [i0, i1, i2]
    exact up_comm _ _ _
  · have hy : ((cfg0.win 4).blk t).view.emb y = ix2 (⟨512 * t.val + (x 0).val, by omega⟩ : Fin 16384) (⟨(x 1).val, by omega⟩ : Fin 5632) := by
      blk_ext [idx_val t]
    idx_vars x
    rw [pay4_at, hy, ref_lo, refE_at]
    simp only [i0, i1, i2, i3]
    obtain ⟨d, hd⟩ : ∃ r : ℝ, EK (fun k => A0 (ix2 (⟨512 * t.val + x0.val, by omega⟩ : Fin 16384) k)) (fun k => A1 (ix2 x1 k)) * A3 (ix2 (⟨512 * t.val + x0.val, by omega⟩ : Fin 16384) x1) = r :=
      EK_real _ _ _ (fun k => f0 _) (fun k => f1 _) (f3 _)
    rw [hd]
    exact silu_grad d _

theorem final (c : Dev nD) (f0 : ∀ i, ∃ r : ℝ, m ((c : Thread nD τ).loc main_arg0) i = (r : EReal)) (f1 : ∀ i, ∃ r : ℝ, m ((c : Thread nD τ).loc main_arg1) i = (r : EReal))
    (f3 : ∀ i, ∃ r : ℝ, m ((c : Thread nD τ).loc main_arg3) i = (r : EReal)) :
    (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point m c t y _ _ _ _ rfl rfl rfl rfl f0 f1 f3

end Cert.KernelDaIdeal.Hand

end
-- ==== Proof.Dwout.lean ====
/- The gradient of the second matrix of the feed-forward block: a tiled product over the sequence,
   accumulated across eight grid points, equals the reference's transposed product. -/
module

public import proofs.«01_k».proof.Proof.Gen.KernelDwoutIdeal.Frame
public import proofs.«01_k».proof.Proof.Gen.ReferenceDwoutIdeal
public import Idealize.ShloMosaic.Lib.Pipeline.ValueKit
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.KernelDwoutIdeal.Hand

open Cert.KernelDwoutIdeal Cert.KernelDwoutIdeal.Gen

variable (m : (ℓ : Loc nD τ sig) → Buf (Elt Ideal) ℓ)

/-- The reference's gradient as one term of its two arguments. -/
abbrev REF (a0 : FVec Ideal Cert.ReferenceDwoutIdeal.S16384x2816 .f32) (a1 : FVec Ideal Cert.ReferenceDwoutIdeal.S16384x1024 .f32) :
    FVec Ideal Cert.ReferenceDwoutIdeal.S2816x1024 .f32 :=
  transpose Cert.ReferenceDwoutIdeal.S2816x1024 [1, 0]
    (Host.dotGeneral Cert.ReferenceDwoutIdeal.dot_S16384x1024_S16384x2816_S1024x2816_0_0_1_1_n_n none
      (mulf (broadcastInDim Cert.ReferenceDwoutIdeal.S16384x1024 ![] Cert.ReferenceDwoutIdeal.Gen.bcast_S_S16384x1024
        (constant Cert.ReferenceDwoutIdeal.S_ .f32 0x3F000000#32)) a1) a0)
    Cert.ReferenceDwoutIdeal.Gen.transposes_S1024x2816_S2816x1024_1_0

theorem idx_val : ∀ t : Fin cfg0.N, win0_0.index t = ![t.val % 8, t.val / 8]
    ∧ win0_1.index t = ![t.val % 8, 0]
    ∧ win0_2.index t = ![t.val / 8, 0] :=
  (by decide +kernel : ∀ t : Fin grid0.N, _)

/-- The part one grid point adds. -/
theorem pay1_at (v0 : Vec Ideal S2048x1408 .bf16) (v2 : Vec Ideal S2048x1024 .f32) (j : S1408x1024.Idx) :
    k0_pay1 v0 v2 j = ∑ k : Fin 2048, v0 (ix2 k (j 0)) * v2 (ix2 k (j 1)) := by
  pointwise [k0_pay1]

theorem pay2_at (v0 : Vec Ideal S2048x1408 .bf16) (v2 : Vec Ideal S2048x1024 .f32) (j : S1408x1024.Idx) :
    k0_pay2 v0 v2 j = ∑ k : Fin 2048, v0 (ix2 k (j 0)) * v2 (ix2 k (j 1)) := by
  pointwise [k0_pay2, k0_pay1]

theorem pay3_at (v0 : Vec Ideal S2048x1408 .bf16) (v2 : Vec Ideal S2048x1024 .f32) (acc : Vec Ideal S1408x1024 .f32) (j : S1408x1024.Idx) :
    k0_pay3 v0 v2 acc j = acc j + ∑ k : Fin 2048, v0 (ix2 k (j 0)) * v2 (ix2 k (j 1)) := by
  pointwise [k0_pay3, k0_pay1]

theorem pay4_at (acc : Vec Ideal S1408x1024 .f32) (j : S1408x1024.Idx) :
    k0_pay4 acc j = acc j * Ideal.ofBits .f32 0x3F000000#32 := by
  pointwise [k0_pay4]

theorem ref_at (a0 : FVec Ideal Cert.ReferenceDwoutIdeal.S16384x2816 .f32) (a1 : FVec Ideal Cert.ReferenceDwoutIdeal.S16384x1024 .f32)
   (j : Cert.ReferenceDwoutIdeal.S2816x1024.Idx) :
    REF a0 a1 j = (∑ k : Fin 16384, a0 (ix2 k (j 0)) * a1 (ix2 k (j 1))) * Ideal.ofBits .f32 0x3F000000#32 := by
  rw [Cert.Reals.half, Cert.Reals.sum_mul_real _ (by norm_num)]
  pointwise [REF]
  rw [Cert.Reals.half]
  exact Finset.sum_congr rfl fun k _ => by rw [mul_comm, mul_comm _ (a1 _), mul_assoc]

/-- At a run's last point the block written back is half the accumulated sum. -/
theorem last_half (c : Dev nD) (t : Fin cfg0.N) (h2 : t.val % 8 = 7) (y : S1408x1024.Idx) :
    (outsAt0 m c t.val t.isLt).1 y = (outsAt0 m c t.val t.isLt).2 y * Ideal.ofBits .f32 0x3F000000#32 := by
  rw [outsAt0_C m c t (by omega) (by omega) h2]
  frame_out
  rw [pay4_at]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h7 : t.val % 8 = 7 := (flush0_2 t).mp hf
  rw [after0_2, last_half m c t h7, Pipeline.eq_sum_fin_of_reset_step_apply_of_flush (fun n h => (outsAt0 m c n h).2) 8 (fun _ => 0) _
    (fun t h j => by rw [outsAt0_A m c t h (by omega) (by omega)]; frame_out; rw [pay2_at, zero_add])
    (fun t h j => by
      by_cases h2 : t.val % 8 = 7
      · rw [outsAt0_C m c t h (by omega) h2]; frame_out; rw [pay3_at, read_unread_whole]
      · rw [outsAt0_B m c t h (by omega) h2]; frame_out; rw [pay3_at, read_unread_whole])
    t h7 _, zero_add, ref_at]
  refine congrArg (· * Ideal.ofBits .f32 0x3F000000#32) ?_
  refine Fin.sum_mul_add_congr fun s k hl => ?_
  have hs := s.isLt
  blk_point [iblk, V, idx_val t, idx_val ⟨8 * (t.val / 8) + s.val, Pipeline.run_point_lt_of_flush t h7 s⟩]

end Cert.KernelDwoutIdeal.Hand

end
-- ==== Proof.Dwin.lean ====
/- The gradient of the first matrix of the feed-forward block: a tiled product over the sequence,
   accumulated across eight grid points, equals the reference's transposed product. -/
module

public import proofs.«01_k».proof.Proof.Gen.KernelDwinIdeal.Frame
public import proofs.«01_k».proof.Proof.Gen.ReferenceDwinIdeal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelDwinIdeal.Hand

open Cert.KernelDwinIdeal Cert.KernelDwinIdeal.Gen

variable (m : (ℓ : Loc nD τ sig) → Buf (Elt Ideal) ℓ)

/-- The reference's gradient as one term of its two arguments. -/
abbrev REF (a0 : FVec Ideal Cert.ReferenceDwinIdeal.S16384x5632 .f32) (a1 : FVec Ideal Cert.ReferenceDwinIdeal.S16384x1024 .f32) :
    FVec Ideal Cert.ReferenceDwinIdeal.S5632x1024 .f32 :=
  transpose Cert.ReferenceDwinIdeal.S5632x1024 [1, 0]
    (transpose Cert.ReferenceDwinIdeal.S1024x5632 [1, 0]
      (Host.dotGeneral Cert.ReferenceDwinIdeal.dot_S16384x5632_S16384x1024_S5632x1024_0_0_1_1_n_n none a0 a1)
      Cert.ReferenceDwinIdeal.Gen.transposes_S5632x1024_S1024x5632_1_0)
    Cert.ReferenceDwinIdeal.Gen.transposes_S1024x5632_S5632x1024_1_0

theorem idx_val : ∀ t : Fin cfg0.N, win0_0.index t = ![t.val % 8, t.val / 8]
    ∧ win0_1.index t = ![t.val % 8, 0]
    ∧ win0_2.index t = ![t.val / 8, 0] :=
  (by decide +kernel : ∀ t : Fin grid0.N, _)

/-- The part one grid point adds. -/
theorem pay1_at (v0 : Vec Ideal S2048x1408 .bf16) (v2 : Vec Ideal S2048x1024 .bf16) (j : S1408x1024.Idx) :
    k0_pay1 v0 v2 j = ∑ k : Fin 2048, v0 (ix2 k (j 0)) * v2 (ix2 k (j 1)) := by
  pointwise [k0_pay1]

theorem pay2_at (v0 : Vec Ideal S2048x1408 .bf16) (v2 : Vec Ideal S2048x1024 .bf16) (j : S1408x1024.Idx) :
    k0_pay2 v0 v2 j = ∑ k : Fin 2048, v0 (ix2 k (j 0)) * v2 (ix2 k (j 1)) := by
  pointwise [k0_pay2, k0_pay1]

theorem pay3_at (v0 : Vec Ideal S2048x1408 .bf16) (v2 : Vec Ideal S2048x1024 .bf16) (acc : Vec Ideal S1408x1024 .f32) (j : S1408x1024.Idx) :
    k0_pay3 v0 v2 acc j = acc j + ∑ k : Fin 2048, v0 (ix2 k (j 0)) * v2 (ix2 k (j 1)) := by
  pointwise [k0_pay3, k0_pay1]

theorem ref_at (a0 : FVec Ideal Cert.ReferenceDwinIdeal.S16384x5632 .f32) (a1 : FVec Ideal Cert.ReferenceDwinIdeal.S16384x1024 .f32)
   (j : Cert.ReferenceDwinIdeal.S5632x1024.Idx) :
    REF a0 a1 j = (∑ k : Fin 16384, a0 (ix2 k (j 0)) * a1 (ix2 k (j 1))) := by
  pointwise [REF]

/-- At a run's last point the block written back is the accumulated sum. -/
theorem last_same (c : Dev nD) (t : Fin cfg0.N) (h2 : t.val % 8 = 7) (y : S1408x1024.Idx) :
    (outsAt0 m c t.val t.isLt).1 y = (outsAt0 m c t.val t.isLt).2 y := by
  rw [outsAt0_C m c t (by omega) (by omega) h2]
  frame_out

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h7 : t.val % 8 = 7 := (flush0_2 t).mp hf
  rw [after0_2, last_same m c t h7, Pipeline.eq_sum_fin_of_reset_step_apply_of_flush (fun n h => (outsAt0 m c n h).2) 8 (fun _ => 0) _
    (fun t h j => by rw [outsAt0_A m c t h (by omega) (by omega)]; frame_out; rw [pay2_at, zero_add])
    (fun t h j => by
      by_cases h2 : t.val % 8 = 7
      · rw [outsAt0_C m c t h (by omega) h2]; frame_out; rw [pay3_at, read_unread_whole]
      · rw [outsAt0_B m c t h (by omega) h2]; frame_out; rw [pay3_at, read_unread_whole])
    t h7 _, zero_add, ref_at]
  refine Fin.sum_mul_add_congr fun s k hl => ?_
  have hs := s.isLt
  blk_point [iblk, V, idx_val t, idx_val ⟨8 * (t.val / 8) + s.val, Pipeline.run_point_lt_of_flush t h7 s⟩]

end Cert.KernelDwinIdeal.Hand

end
-- ==== Proof.Norm.lean ====
/- The gradient of the root-mean-square norm over one row: the form that subtracts the projection from the
   incoming gradient equals the chain rule through the reciprocal square root, infinite entries included. -/
module

public import proofs.«01_k».proof.Proof.Reals

@[expose] public section

noncomputable section

open Idealize.ShloMosaic

namespace Cert.Norm

theorem n_lit : Ideal.ofBits .f32 0x44800000#32 = ((1024 : ℝ) : EReal) := by
  simp [Ideal.ofBits, Ideal.ieee, -EReal.coe_mul]
  norm_num

theorem head_lit : Ideal.ofBits .f32 0x43000000#32 = ((128 : ℝ) : EReal) := by
  simp [Ideal.ofBits, Ideal.ieee, -EReal.coe_mul]
  norm_num

theorem eps_lit : Ideal.ofBits .f32 0x358637BD#32 = ((8796093 / 8796093022208 : ℝ) : EReal) := by
  simp [Ideal.ofBits, Ideal.ieee, -EReal.coe_mul]
  norm_num

theorem mhalf_lit : Ideal.ofBits .f32 0xBF000000#32 = ((-1 / 2 : ℝ) : EReal) := by
  simp [Ideal.ofBits, Ideal.ieee, -EReal.coe_mul]
  norm_num

variable {n : ℕ} (b : BitVec 32)

/-- The mean square of a row, kept away from zero; `b` is the literal the row's length is written as. -/
def V (x : Fin n → EReal) : EReal :=
  Ideal.div (∑ j, x j * x j) (Ideal.ofBits .f32 b) + Ideal.ofBits .f32 0x358637BD#32

/-- The gradient of one entry of the row as the kernel forms it: `u` the gradient scaled by the gain, `d` the residual. -/
def byProjection (x u : Fin n → EReal) (d : EReal) (k : Fin n) : EReal :=
  d + Ideal.rsqrt (V b x) * (u k - x k * Ideal.rsqrt (V b x) * Ideal.div (∑ j, u j * (x j * Ideal.rsqrt (V b x))) (Ideal.ofBits .f32 b))

/-- The share of the gradient that passes through the mean square. -/
def through (x u : Fin n → EReal) : EReal :=
  Ideal.div ((∑ j, x j * u j) * (Ideal.ofBits .f32 0xBF000000#32 * Ideal.div (Ideal.rsqrt (V b x)) (V b x))) (Ideal.ofBits .f32 b)

/-- The gradient of one entry of the row by the chain rule. -/
def byChain (x u : Fin n → EReal) (d : EReal) (k : Fin n) : EReal :=
  d + (u k * Ideal.rsqrt (V b x) + x k * through b x u + through b x u * x k)

/-- One row's share of the gain's gradient, `dh` the gradient reaching the norm's output. -/
def gain (x : Fin n → EReal) (dh : EReal) (k : Fin n) : EReal := dh * (x k * Ideal.rsqrt (V b x))

variable {b} {N : ℝ} (hN : 0 < N) (hb : Ideal.ofBits .f32 b = (N : EReal))
include hN hb

theorem V_real (x : Fin n → ℝ) : ∃ v : ℝ, 0 < v ∧ V b (fun j => (x j : EReal)) = v := by
  refine ⟨(∑ j, x j * x j) * (1 / N) + 8796093 / 8796093022208, ?_, ?_⟩
  · have : 0 ≤ ∑ j, x j * x j := Finset.sum_nonneg fun j _ => mul_self_nonneg _
    positivity
  · rw [V, hb, eps_lit, Ideal.div_coe hN.ne']
    simp only [← EReal.coe_mul, Cert.Reals.coe_sum, ← EReal.coe_add]

omit hN hb in
theorem rsqrt_real {v : ℝ} (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (by linarith), if_neg hv.ne']

/-- A row with an infinite entry has an infinite mean square. -/
theorem V_cases (x : Fin n → EReal) : (∃ x' : Fin n → ℝ, x = fun j => (x' j : EReal)) ∨ V b x = ⊤ := by
  by_cases h : ∀ j, ∃ r : ℝ, x j = r
  · choose x' hx using h
    exact .inl ⟨x', funext hx⟩
  · push Not at h
    obtain ⟨j, hj⟩ := h
    have hs : ∀ e : EReal, 0 ≤ e * e := fun e => by
      induction e with
      | bot => simp
      | top => simp
      | coe r => exact_mod_cast mul_self_nonneg r
    have ht : x j * x j = ⊤ := by
      induction hx : x j with
      | bot => simp
      | top => simp
      | coe r => exact absurd hx (hj r)
    have hsum : ∑ j, x j * x j = ⊤ := top_le_iff.1 (ht ▸ Finset.single_le_sum (f := fun j => x j * x j) (fun i _ => hs (x i)) (Finset.mem_univ j))
    refine .inr ?_
    rw [V, hsum, hb, eps_lit, Ideal.div_coe hN.ne', EReal.top_mul_coe_of_pos (by positivity), EReal.top_add_coe]

theorem byProjection_eq (x u : Fin n → EReal) (d : EReal) (k : Fin n) : byProjection b x u d k = byChain b x u d k := by
  rw [byProjection, byChain, through]
  refine congrArg (d + ·) ?_
  obtain ⟨x', rfl⟩ | e := V_cases hN hb x
  · obtain ⟨v, hv, e⟩ := V_real hN hb x'
    have hs := Real.sqrt_pos.mpr hv
    have hvs : v = Real.sqrt v * Real.sqrt v := (Real.mul_self_sqrt hv.le).symm
    have hr : 0 ≤ (Real.sqrt v)⁻¹ := by positivity
    have h1 : ∑ j, u j * ((x' j : EReal) * (((Real.sqrt v)⁻¹ : ℝ) : EReal)) = (∑ j, (x' j : EReal) * u j) * (((Real.sqrt v)⁻¹ : ℝ) : EReal) := by
      rw [Cert.Reals.sum_mul_real _ hr]
      exact Finset.sum_congr rfl fun j _ => by rw [← mul_assoc, mul_comm (u j)]
    rw [e, rsqrt_real hv, hb, mhalf_lit, h1, Ideal.div_coe hv.ne', Ideal.div_coe hN.ne', Ideal.div_coe hN.ne']
    generalize ∑ j, (x' j : EReal) * u j = P
    generalize Real.sqrt v = s at hs hvs hr
    subst hvs
    have h2 : ∀ a : ℝ, P * a + P * a = P * ((2 * a : ℝ) : EReal) := fun a => by
      have h11 : (1 : EReal) + 1 = ((2 : ℝ) : EReal) := by norm_cast
      have h0 : (0 : EReal) ≤ 1 := zero_le_one
      rw [EReal.coe_mul, mul_left_comm, ← h11, EReal.right_distrib_of_nonneg h0 h0, one_mul]
    have hl : ((x' k : EReal) * ((s⁻¹ : ℝ) : EReal)) * (P * ((s⁻¹ : ℝ) : EReal) * ((1 / N : ℝ) : EReal)) = P * ((x' k * s⁻¹ * (s⁻¹ * (1 / N)) : ℝ) : EReal) := by
      simp only [EReal.coe_mul, mul_comm, mul_left_comm, mul_assoc]
    have ht : (x' k : EReal) * (P * (((-1 / 2 : ℝ) : EReal) * (((s⁻¹ : ℝ) : EReal) * ((1 / (s * s) : ℝ) : EReal))) * ((1 / N : ℝ) : EReal))
        = P * ((x' k * (-1 / 2 * (s⁻¹ * (1 / (s * s))) * (1 / N)) : ℝ) : EReal) := by
      simp only [EReal.coe_mul, mul_comm, mul_left_comm, mul_assoc]
    rw [mul_comm _ (x' k : EReal), hl, ht, sub_eq_add_neg, Cert.Reals.mul_add_real hr, add_assoc, h2, mul_comm (u k), ← mul_neg, ← EReal.coe_neg, mul_left_comm, ← EReal.coe_mul]
    refine congrArg (_ + ·) (congrArg (P * ·) (congrArg Real.toEReal ?_))
    field_simp
  · have hr : Ideal.rsqrt ⊤ = 0 := rfl
    have hd : Ideal.div 0 ⊤ = 0 := by simp [Ideal.div]
    have hn : ∀ e : EReal, e = 0 → Ideal.div e (N : EReal) = 0 := fun e he => by rw [he, Ideal.div_coe hN.ne', zero_mul]
    rw [e, hr, hd, hb]
    simp only [mul_zero, zero_mul, zero_add, hn _ rfl]

end Cert.Norm

end
-- ==== Proof.Dh.lean ====
/- The gradient of the normalised input of the feed-forward block: the product with the first matrix, taken back
   through the root-mean-square norm and added to the residual gradient, with the norm's gain gradient summed over
   all the rows. -/
module

public import proofs.«01_k».proof.Proof.Gen.KernelDhIdeal.Frame
public import proofs.«01_k».proof.Proof.Gen.ReferenceDhIdeal.Run
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDhIdeal.Hand

open Cert.KernelDhIdeal Cert.KernelDhIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- The gradient reaching the norm's output, one entry. -/
abbrev dot (f g : Fin 5632 → EReal) : EReal := ∑ k, f k * g k

theorem pay6_at (v0 : Vec Ideal S512x5632 .bf16) (v2 : Vec Ideal S5632x1024 .bf16) (v6 : Vec Ideal S512x1024 .f32) (v17 : Vec Ideal S1x1024 .f32) (v24 : Vec Ideal S512x1024 .f32) (r : Fin 512) (k : Fin 1024) :
    k0_pay6 v0 v2 v6 v17 v24 (ix2 r k) = Cert.Norm.byProjection 0x44800000#32 (fun j => v6 (ix2 r j))
      (fun j => dot (fun x => v0 (ix2 r x)) (fun x => v2 (ix2 x j)) * v17 (ix2 0 j)) (v24 (ix2 r k)) k := by
  pointwise [k0_pay6, k0_pay4, k0_pay3, k0_pay2]
  rfl

theorem pay5_at (v0 : Vec Ideal S512x5632 .bf16) (v2 : Vec Ideal S5632x1024 .bf16) (v6 : Vec Ideal S512x1024 .f32) (j : S1x1024.Idx) :
    k0_pay5 v0 v2 v6 j = ∑ r : Fin 512, Cert.Norm.gain 0x44800000#32 (fun j => v6 (ix2 r j)) (dot (fun x => v0 (ix2 r x)) (fun x => v2 (ix2 x (j 1)))) (j 1) := by
  pointwise [k0_pay5, k0_pay4, k0_pay3, k0_pay2]
  rfl

theorem pay1_at (v23 v42 : Vec Ideal S1x1024 .f32) (j : S1x1024.Idx) : k0_pay1 v23 v42 j = v42 j + v23 j := by
  pointwise [k0_pay1]

variable (m' : (ℓ : Loc Cert.ReferenceDhIdeal.nD Cert.ReferenceDhIdeal.τ Cert.ReferenceDhIdeal.sig) → Buf (Elt Ideal) ℓ)

section
variable (A0 : FVec Ideal S16384x5632 .f32) (A1 : FVec Ideal S5632x1024 .f32) (A2 A4 : FVec Ideal S16384x1024 .f32) (A3 : FVec Ideal S1024 .f32)

/-- The two results, entry by entry, in the reference's form. -/
def outX (r : Fin 16384) (k : Fin 1024) : EReal :=
  Cert.Norm.byChain 0x44800000#32 (fun j => A2 (ix2 r j)) (fun j => dot (fun x => A0 (ix2 r x)) (fun x => A1 (ix2 x j)) * A3 (ix1 j)) (A4 (ix2 r k)) k

def outG (k : Fin 1024) : EReal :=
  ∑ r : Fin 16384, Cert.Norm.gain 0x44800000#32 (fun j => A2 (ix2 r j)) (dot (fun x => A0 (ix2 r x)) (fun x => A1 (ix2 x k))) k
end

theorem refx_at (c : Dev nD) (r : Fin 16384) (k : Fin 1024) :
    Cert.ReferenceDhIdeal.Value.res_out0 m' c (ix2 r k) = outX
      (m' ((c : Thread nD τ).loc Cert.ReferenceDhIdeal.main_arg0)) (m' ((c : Thread nD τ).loc Cert.ReferenceDhIdeal.main_arg1))
      (m' ((c : Thread nD τ).loc Cert.ReferenceDhIdeal.main_arg2)) (m' ((c : Thread nD τ).loc Cert.ReferenceDhIdeal.main_arg4))
      (m' ((c : Thread nD τ).loc Cert.ReferenceDhIdeal.main_arg3)) r k := by
  pointwise [Cert.ReferenceDhIdeal.Value.res_main_v39]
  simp only [Finset.univ_unique, Finset.sum_singleton]
  rfl

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

theorem i0 (c : Dev nD) (t : Fin cfg0.N) (r : Fin 512) (k : Fin 5632) : iblk m c 0 t (ix2 r k) = m ((c : Thread nD τ).loc main_arg0) (ix2 (row t r) k) := by
  blk_point [iblk, V, idx_val t]
theorem i1 (c : Dev nD) (t : Fin cfg0.N) (r : Fin 5632) (k : Fin 1024) : iblk m c 1 t (ix2 r k) = m ((c : Thread nD τ).loc main_arg1) (ix2 r k) := by
  blk_point [iblk, V, idx_val t]
theorem i2 (c : Dev nD) (t : Fin cfg0.N) (r : Fin 512) (k : Fin 1024) : iblk m c 2 t (ix2 r k) = m ((c : Thread nD τ).loc main_arg2) (ix2 (row t r) k) := by
  blk_point [iblk, V, idx_val t]
theorem i3 (c : Dev nD) (t : Fin cfg0.N) (k : Fin 1024) : iblk m c 3 t (ix2 (0 : Fin 1) k) = m ((c : Thread nD τ).loc main_arg3) (ix1 k) := by
  blk_point [iblk, V, idx_val t]
theorem i4 (c : Dev nD) (t : Fin cfg0.N) (r : Fin 512) (k : Fin 1024) : iblk m c 4 t (ix2 r k) = m ((c : Thread nD τ).loc main_arg4) (ix2 (row t r) k) := by
  blk_point [iblk, V, idx_val t]

theorem final0 (c : Dev nD)
    (X : FVec Ideal S16384x1024 .f32) (hX : ∀ r k, X (ix2 r k) = outX (m ((c : Thread nD τ).loc main_arg0)) (m ((c : Thread nD τ).loc main_arg1))
      (m ((c : Thread nD τ).loc main_arg2)) (m ((c : Thread nD τ).loc main_arg4)) (m ((c : Thread nD τ).loc main_arg3)) r k) :
    (dats m 0 c).arrAt 5 (cfgs 0).N = X := by
  refine (dats m 0 c).arrAt_eq_of_covers 5 _ (by decide +kernel) fun t hf y => ?_
  have ht : t.val < 32 := lt_of_lt_of_eq t.isLt (show cfg0.N = 32 from N_0)
  blk_simp
  rw [after0_5]
  have e : (outsAt0 m c t.val t.isLt).1 y = k0_pay6 (iblk m c 0 t) (iblk m c 1 t) (iblk m c 2 t) (iblk m c 3 t) (iblk m c 4 t) y := by
    by_cases h0 : t.val % 32 = 0
    · rw [outsAt0_A m c t h0 (by omega)]
      frame_out
    · rw [outsAt0_B m c t h0 (by omega)]
      frame_out
  rw [e]
  idx_vars y
  have hy : ((cfg0.win 5).blk t).view.emb (ix2 y0 y1) = ix2 (row t y0) y1 := by
    blk_ext [idx_val t]
  rw [hy, hX, pay6_at]
  simp only [i0, i1, i2, i3, i4]
  exact Cert.Norm.byProjection_eq (by norm_num) Cert.Norm.n_lit _ _ _ _

theorem final1 (c : Dev nD) (X : FVec Ideal S1x1024 .f32) (hX : ∀ k, X (ix2 0 k) = outG (m ((c : Thread nD τ).loc main_arg0)) (m ((c : Thread nD τ).loc main_arg1))
      (m ((c : Thread nD τ).loc main_arg2)) k) : (dats m 0 c).arrAt 6 (cfgs 0).N = X := by
  refine (dats m 0 c).arrAt_eq_of_covers 6 _ (by decide +kernel) fun t hf y => ?_
  blk_simp
  have h7 : t.val % 32 = 31 := (flush0_6 t).mp hf
  rw [after0_6, Pipeline.eq_sum_fin_of_reset_step_apply_of_flush (fun n h => (outsAt0 m c n h).2) 32 (fun _ => 0) _
    (fun t h j => by rw [outsAt0_A m c t h (by have := lt32 t; omega)]; frame_out; rw [pay5_at, zero_add])
    (fun t h j => by rw [outsAt0_B m c t h (by have := lt32 t; omega)]; frame_out; rw [pay1_at, pay5_at])
    t h7 _, zero_add]
  idx_vars y
  have hy : ((cfg0.win 6).blk t).view.emb (ix2 y0 y1) = ix2 (0 : Fin 1) y1 := by
    blk_ext [idx_val t]
  rw [hy, hX, outG]
  refine Fin.sum_mul_add_congr fun s k hl => ?_
  simp only [i0, i1, i2]
  have hr : row ⟨32 * (t.val / 32) + s.val, Pipeline.run_point_lt_of_flush t h7 s⟩ k = ⟨s.val * 512 + k.val, hl⟩ :=
    Fin.ext (by have := lt32 t; show 512 * (32 * (t.val / 32) + s.val) + k.val = s.val * 512 + k.val; omega)
  rw [hr]

end Cert.KernelDhIdeal.Hand

end
-- ==== Proof.Swiglu.lean ====
/- The first product of the feed-forward block with the gate: both halves of the product, and the gated value. -/
module

public import proofs.«01_k».proof.Proof.Gen.KernelSwigluIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelSwigluIdeal.Hand

open Cert.KernelSwigluIdeal Cert.KernelSwigluIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![1, 0]
    ∧ win0_3.index t = ![t.val, 0]
    ∧ win0_4.index t = ![t.val, 0]
    ∧ win0_5.index t = ![t.val, 0] :=
  (by decide +kernel : ∀ t : Fin grid0.N, _)

/-- One entry of the product of a row with a row. -/
abbrev dot (f g : Fin 1024 → EReal) : EReal := ∑ k, f k * g k

/-- A gated entry: the gate by its own logistic, times the value. -/
def gated (g u : EReal) : EReal := g * Ideal.div (Ideal.ofBits .f32 0x3F800000#32) (Ideal.ofBits .f32 0x3F800000#32 + Ideal.exp (-g)) * u

theorem pay4_at (v0 : Vec Ideal S512x1024 .bf16) (v2 : Vec Ideal S2816x1024 .bf16) (r : Fin 512) (k : Fin 2816) :
    k0_pay4 v0 v2 (ix2 r k) = dot (fun x => v0 (ix2 r x)) (fun x => v2 (ix2 k x)) := by
  pointwise [k0_pay4, k0_pay2, k0_pay1]

theorem pay5_at (v0 : Vec Ideal S512x1024 .bf16) (v2 : Vec Ideal S2816x1024 .bf16) (r : Fin 512) (k : Fin 2816) :
    k0_pay5 v0 v2 (ix2 r k) = dot (fun x => v0 (ix2 r x)) (fun x => v2 (ix2 k x)) := by
  pointwise [k0_pay5, k0_pay3, k0_pay1]

theorem pay6_at (v0 : Vec Ideal S512x1024 .bf16) (v2 v5 : Vec Ideal S2816x1024 .bf16) (r : Fin 512) (k : Fin 2816) :
    k0_pay6 v0 v2 v5 (ix2 r k) = gated (dot (fun x => v0 (ix2 r x)) (fun x => v2 (ix2 k x))) (dot (fun x => v0 (ix2 r x)) (fun x => v5 (ix2 k x))) := by
  pointwise [k0_pay6, k0_pay3, k0_pay2, k0_pay1]
  simp only [gated, Cert.Reals.one]
  rfl

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

/-- The rows of the gate's and of the value's half of the first matrix. -/
abbrev lo (k : Fin 2816) : Fin 5632 := ⟨k.val, by omega⟩
abbrev hi (k : Fin 2816) : Fin 5632 := ⟨2816 + k.val, by omega⟩

theorem i0 (c : Dev nD) (t : Fin cfg0.N) (r : Fin 512) (k : Fin 1024) : iblk m c 0 t (ix2 r k) = m ((c : Thread nD τ).loc main_arg0) (ix2 (row t r) k) := by
  blk_point [iblk, V, idx_val t]
theorem i1 (c : Dev nD) (t : Fin cfg0.N) (r : Fin 2816) (k : Fin 1024) : iblk m c 1 t (ix2 r k) = m ((c : Thread nD τ).loc main_arg1) (ix2 (lo r) k) := by
  blk_point [iblk, V, idx_val t]
theorem i2 (c : Dev nD) (t : Fin cfg0.N) (r : Fin 2816) (k : Fin 1024) : iblk m c 2 t (ix2 r k) = m ((c : Thread nD τ).loc main_arg1) (ix2 (hi r) k) := by
  blk_point [iblk, V, idx_val t]

/-- The entries of the whole product. -/
def prod (c : Dev nD) (r : Fin 16384) (k : Fin 5632) : EReal := dot (fun x => m ((c : Thread nD τ).loc main_arg0) (ix2 r x)) (fun x => m ((c : Thread nD τ).loc main_arg1) (ix2 k x))

theorem final0 (c : Dev nD) (X : FVec Ideal S16384x2816 .bf16) (hX : ∀ r k, X (ix2 r k) = prod m c r (lo k)) :
    (dats m 0 c).arrAt 3 (cfgs 0).N = X := by
  refine (dats m 0 c).arrAt_eq_of_covers 3 _ (by decide +kernel) fun t hf y => ?_
  have ht := lt32 t
  blk_simp
  rw [after0_3]
  have e : out0_3 (iblk m c 0 t) (iblk m c 1 t) (iblk m c 2 t) y = k0_pay4 (iblk m c 0 t) (iblk m c 1 t) y := by
    frame_out
  rw [e]
  idx_vars y
  have hy : ((cfg0.win 3).blk t).view.emb (ix2 y0 y1) = ix2 (row t y0) y1 := by
    blk_ext [idx_val t]
  rw [hy, hX, pay4_at]
  simp only [i0, i1, i2, prod]

theorem final1 (c : Dev nD) (X : FVec Ideal S16384x2816 .bf16) (hX : ∀ r k, X (ix2 r k) = prod m c r (hi k)) :
    (dats m 0 c).arrAt 4 (cfgs 0).N = X := by
  refine (dats m 0 c).arrAt_eq_of_covers 4 _ (by decide +kernel) fun t hf y => ?_
  have ht := lt32 t
  blk_simp
  rw [after0_4]
  have e : out0_4 (iblk m c 0 t) (iblk m c 1 t) (iblk m c 2 t) y = k0_pay5 (iblk m c 0 t) (iblk m c 2 t) y := by
    frame_out
  rw [e]
  idx_vars y
  have hy : ((cfg0.win 4).blk t).view.emb (ix2 y0 y1) = ix2 (row t y0) y1 := by
    blk_ext [idx_val t]
  rw [hy, hX, pay5_at]
  simp only [i0, i1, i2, prod]

theorem final2 (c : Dev nD) (X : FVec Ideal S16384x2816 .bf16) (hX : ∀ r k, X (ix2 r k) = gated (prod m c r (lo k)) (prod m c r (hi k))) :
    (dats m 0 c).arrAt 5 (cfgs 0).N = X := by
  refine (dats m 0 c).arrAt_eq_of_covers 5 _ (by decide +kernel) fun t hf y => ?_
  have ht := lt32 t
  blk_simp
  rw [after0_5]
  have e : out0_5 (iblk m c 0 t) (iblk m c 1 t) (iblk m c 2 t) y = k0_pay6 (iblk m c 0 t) (iblk m c 1 t) (iblk m c 2 t) y := by
    frame_out
  rw [e]
  idx_vars y
  have hy : ((cfg0.win 5).blk t).view.emb (ix2 y0 y1) = ix2 (row t y0) y1 := by
    blk_ext [idx_val t]
  rw [hy, hX, pay6_at]
  simp only [i0, i1, i2, prod]

end Cert.KernelSwigluIdeal.Hand

end
-- ==== Proof.Out.lean ====
/- A block's last product added to the residual stream, and the stream normalised for the next block: the feed-forward block's second matrix. -/
module

public import proofs.«01_k».proof.Proof.Gen.KernelOutIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelOutIdeal.Hand

open Cert.KernelOutIdeal Cert.KernelOutIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- One row of the residual stream after the product is added. -/
def stream (a : Fin 2816 → EReal) (w : Fin 2816 → Fin 1024 → EReal) (x : Fin 1024 → EReal) (k : Fin 1024) : EReal :=
  x k + Ideal.ofBits .f32 0x3F000000#32 * ∑ j, a j * w j k

/-- The same row normalised and scaled by the gain. -/
def normed (y g : Fin 1024 → EReal) (k : Fin 1024) : EReal := y k * Ideal.rsqrt (Cert.Norm.V 0x44800000#32 y) * g k

theorem pay1_at (v0 : Vec Ideal S1024x2816 .bf16) (v2 : Vec Ideal S2816x1024 .bf16) (v7 : Vec Ideal S1024x1024 .f32) (r k : Fin 1024) :
    k0_pay1 v0 v2 v7 (ix2 r k) = stream (fun x => v0 (ix2 r x)) (fun x j => v2 (ix2 x j)) (fun j => v7 (ix2 r j)) k := by
  pointwise [k0_pay1]
  rw [stream, add_comm, mul_comm]

theorem pay2_at (v0 : Vec Ideal S1024x2816 .bf16) (v2 : Vec Ideal S2816x1024 .bf16) (v7 : Vec Ideal S1024x1024 .f32) (v19 : Vec Ideal S1x1024 .f32) (r k : Fin 1024) :
    k0_pay2 v0 v2 v7 v19 (ix2 r k) = normed (stream (fun x => v0 (ix2 r x)) (fun x j => v2 (ix2 x j)) (fun j => v7 (ix2 r j))) (fun j => v19 (ix2 0 j)) k := by
  pointwise [k0_pay2]
  simp only [pay1_at]
  rfl

theorem lt16 (t : Fin cfg0.N) : t.val < 16 := lt_of_lt_of_eq t.isLt (show cfg0.N = 16 from N_0)

/-- The whole-array row that row `r` of the block at grid point `t` is. -/
abbrev row (t : Fin cfg0.N) (r : Fin 1024) : Fin 16384 := ⟨1024 * t.val + r.val, by have := lt16 t; omega⟩

theorem i0 (c : Dev nD) (t : Fin cfg0.N) (r : Fin 1024) (k : Fin 2816) : iblk m c 0 t (ix2 r k) = m ((c : Thread nD τ).loc main_arg0) (ix2 (row t r) k) := by
  blk_point [iblk, V, idx_val t]
theorem i1 (c : Dev nD) (t : Fin cfg0.N) (r : Fin 2816) (k : Fin 1024) : iblk m c 1 t (ix2 r k) = m ((c : Thread nD τ).loc main_arg1) (ix2 r k) := by
  blk_point [iblk, V, idx_val t]
theorem i2 (c : Dev nD) (t : Fin cfg0.N) (r k : Fin 1024) : iblk m c 2 t (ix2 r k) = m ((c : Thread nD τ).loc main_arg2) (ix2 (row t r) k) := by
  blk_point [iblk, V, idx_val t]
theorem i3 (c : Dev nD) (t : Fin cfg0.N) (k : Fin 1024) : iblk m c 3 t (ix2 (0 : Fin 1) k) = m ((c : Thread nD τ).loc main_arg3) (ix1 k) := by
  blk_point [iblk, V, idx_val t]

/-- The whole stream after the block, entry by entry. -/
def xo (c : Dev nD) (r : Fin 16384) : Fin 1024 → EReal :=
  stream (fun x => m ((c : Thread nD τ).loc main_arg0) (ix2 r x)) (fun x j => m ((c : Thread nD τ).loc main_arg1) (ix2 x j)) (fun j => m ((c : Thread nD τ).loc main_arg2) (ix2 r j))

theorem final0 (c : Dev nD) (X : FVec Ideal S16384x1024 .f32) (hX : ∀ r k, X (ix2 r k) = xo m c r k) :
    (dats m 0 c).arrAt 4 (cfgs 0).N = X := by
  refine (dats m 0 c).arrAt_eq_of_covers 4 _ (by decide +kernel) fun t hf y => ?_
  have ht := lt16 t
  blk_simp
  rw [after0_4]
  have e : out0_4 (iblk m c 0 t) (iblk m c 1 t) (iblk m c 2 t) (iblk m c 3 t) y = k0_pay1 (iblk m c 0 t) (iblk m c 1 t) (iblk m c 2 t) y := by
    frame_out
  rw [e]
  idx_vars y
  have hy : ((cfg0.win 4).blk t).view.emb (ix2 y0 y1) = ix2 (row t y0) y1 := by
    blk_ext [idx_val t]
  rw [hy, hX, pay1_at]
  simp only [i0, i1, i2, i3, xo]

theorem final1 (c : Dev nD) (X : FVec Ideal S16384x1024 .bf16) (hX : ∀ r k, X (ix2 r k) = normed (xo m c r) (fun j => m ((c : Thread nD τ).loc main_arg3) (ix1 j)) k) :
    (dats m 0 c).arrAt 5 (cfgs 0).N = X := by
  refine (dats m 0 c).arrAt_eq_of_covers 5 _ (by decide +kernel) fun t hf y => ?_
  have ht := lt16 t
  blk_simp
  rw [after0_5]
  have e : out0_5 (iblk m c 0 t) (iblk m c 1 t) (iblk m c 2 t) (iblk m c 3 t) y = k0_pay2 (iblk m c 0 t) (iblk m c 1 t) (iblk m c 2 t) (iblk m c 3 t) y := by
    frame_out
  rw [e]
  idx_vars y
  have hy : ((cfg0.win 5).blk t).view.emb (ix2 y0 y1) = ix2 (row t y0) y1 := by
    blk_ext [idx_val t]
  rw [hy, hX, pay2_at]
  simp only [i0, i1, i2, i3, xo]

end Cert.KernelOutIdeal.Hand

end
-- ==== Proof.Proj.lean ====
/- A block's last product added to the residual stream, and the stream normalised for the next block: a mixer's output projection. -/
module

public import proofs.«01_k».proof.Proof.Gen.KernelProjIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelProjIdeal.Hand

open Cert.KernelProjIdeal Cert.KernelProjIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- One row of the residual stream after the product is added. -/
def stream (a : Fin 1024 → EReal) (w : Fin 1024 → Fin 1024 → EReal) (x : Fin 1024 → EReal) (k : Fin 1024) : EReal :=
  x k + ∑ j, a j * w j k

/-- The same row normalised and scaled by the gain. -/
def normed (y g : Fin 1024 → EReal) (k : Fin 1024) : EReal := y k * Ideal.rsqrt (Cert.Norm.V 0x44800000#32 y) * g k

theorem pay1_at (v0 : Vec Ideal S1024x1024 .bf16) (v2 : Vec Ideal S1024x1024 .bf16) (v7 : Vec Ideal S1024x1024 .f32) (r k : Fin 1024) :
    k0_pay1 v0 v2 v7 (ix2 r k) = stream (fun x => v0 (ix2 r x)) (fun x j => v2 (ix2 x j)) (fun j => v7 (ix2 r j)) k := by
  pointwise [k0_pay1]
  rw [stream, add_comm]

theorem pay2_at (v0 : Vec Ideal S1024x1024 .bf16) (v2 : Vec Ideal S1024x1024 .bf16) (v7 : Vec Ideal S1024x1024 .f32) (v19 : Vec Ideal S1x1024 .f32) (r k : Fin 1024) :
    k0_pay2 v0 v2 v7 v19 (ix2 r k) = normed (stream (fun x => v0 (ix2 r x)) (fun x j => v2 (ix2 x j)) (fun j => v7 (ix2 r j))) (fun j => v19 (ix2 0 j)) k := by
  pointwise [k0_pay2]
  simp only [pay1_at]
  rfl

theorem lt16 (t : Fin cfg0.N) : t.val < 16 := lt_of_lt_of_eq t.isLt (show cfg0.N = 16 from N_0)

/-- The whole-array row that row `r` of the block at grid point `t` is. -/
abbrev row (t : Fin cfg0.N) (r : Fin 1024) : Fin 16384 := ⟨1024 * t.val + r.val, by have := lt16 t; omega⟩

theorem i0 (c : Dev nD) (t : Fin cfg0.N) (r : Fin 1024) (k : Fin 1024) : iblk m c 0 t (ix2 r k) = m ((c : Thread nD τ).loc main_arg0) (ix2 (row t r) k) := by
  blk_point [iblk, V, idx_val t]
theorem i1 (c : Dev nD) (t : Fin cfg0.N) (r : Fin 1024) (k : Fin 1024) : iblk m c 1 t (ix2 r k) = m ((c : Thread nD τ).loc main_arg1) (ix2 r k) := by
  blk_point [iblk, V, idx_val t]
theorem i2 (c : Dev nD) (t : Fin cfg0.N) (r k : Fin 1024) : iblk m c 2 t (ix2 r k) = m ((c : Thread nD τ).loc main_arg2) (ix2 (row t r) k) := by
  blk_point [iblk, V, idx_val t]
theorem i3 (c : Dev nD) (t : Fin cfg0.N) (k : Fin 1024) : iblk m c 3 t (ix2 (0 : Fin 1) k) = m ((c : Thread nD τ).loc main_arg3) (ix1 k) := by
  blk_point [iblk, V, idx_val t]

/-- The whole stream after the block, entry by entry. -/
def xo (c : Dev nD) (r : Fin 16384) : Fin 1024 → EReal :=
  stream (fun x => m ((c : Thread nD τ).loc main_arg0) (ix2 r x)) (fun x j => m ((c : Thread nD τ).loc main_arg1) (ix2 x j)) (fun j => m ((c : Thread nD τ).loc main_arg2) (ix2 r j))

theorem final0 (c : Dev nD) (X : FVec Ideal S16384x1024 .f32) (hX : ∀ r k, X (ix2 r k) = xo m c r k) :
    (dats m 0 c).arrAt 4 (cfgs 0).N = X := by
  refine (dats m 0 c).arrAt_eq_of_covers 4 _ (by decide +kernel) fun t hf y => ?_
  have ht := lt16 t
  blk_simp
  rw [after0_4]
  have e : out0_4 (iblk m c 0 t) (iblk m c 1 t) (iblk m c 2 t) (iblk m c 3 t) y = k0_pay1 (iblk m c 0 t) (iblk m c 1 t) (iblk m c 2 t) y := by
    frame_out
  rw [e]
  idx_vars y
  have hy : ((cfg0.win 4).blk t).view.emb (ix2 y0 y1) = ix2 (row t y0) y1 := by
    blk_ext [idx_val t]
  rw [hy, hX, pay1_at]
  simp only [i0, i1, i2, i3, xo]

theorem final1 (c : Dev nD) (X : FVec Ideal S16384x1024 .bf16) (hX : ∀ r k, X (ix2 r k) = normed (xo m c r) (fun j => m ((c : Thread nD τ).loc main_arg3) (ix1 j)) k) :
    (dats m 0 c).arrAt 5 (cfgs 0).N = X := by
  refine (dats m 0 c).arrAt_eq_of_covers 5 _ (by decide +kernel) fun t hf y => ?_
  have ht := lt16 t
  blk_simp
  rw [after0_5]
  have e : out0_5 (iblk m c 0 t) (iblk m c 1 t) (iblk m c 2 t) (iblk m c 3 t) y = k0_pay2 (iblk m c 0 t) (iblk m c 1 t) (iblk m c 2 t) (iblk m c 3 t) y := by
    frame_out
  rw [e]
  idx_vars y
  have hy : ((cfg0.win 5).blk t).view.emb (ix2 y0 y1) = ix2 (row t y0) y1 := by
    blk_ext [idx_val t]
  rw [hy, hX, pay2_at]
  simp only [i0, i1, i2, i3, xo]

end Cert.KernelProjIdeal.Hand

end
-- ==== Proof.Dwo.lean ====
/- The gradient of a mixer's output projection: a tiled product over the sequence, accumulated across sixteen grid points. -/
module

public import proofs.«01_k».proof.Proof.Gen.KernelDwoIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDwoIdeal.Hand

open Cert.KernelDwoIdeal Cert.KernelDwoIdeal.Gen

variable (m : (ℓ : Loc nD τ sig) → Buf (Elt Ideal) ℓ)

theorem idx_val : ∀ t : Fin cfg0.N, win0_0.index t = ![t.val, 0]
    ∧ win0_1.index t = ![t.val, 0]
    ∧ win0_2.index t = ![0, 0] :=
  (by decide +kernel : ∀ t : Fin grid0.N, _)

/-- One entry of the product over the whole sequence. -/
abbrev dot (f g : Fin 16384 → EReal) : EReal := ∑ k, f k * g k

/-- The part one grid point adds. -/
theorem pay1_at (v0 : Vec Ideal S1024x1024 .bf16) (v2 : Vec Ideal S1024x1024 .f32) (j : S1024x1024.Idx) :
    k0_pay1 v0 v2 j = ∑ k : Fin 1024, v0 (ix2 k (j 0)) * v2 (ix2 k (j 1)) := by
  pointwise [k0_pay1]

theorem pay2_at (v0 : Vec Ideal S1024x1024 .bf16) (v2 : Vec Ideal S1024x1024 .f32) (j : S1024x1024.Idx) :
    k0_pay2 v0 v2 j = ∑ k : Fin 1024, v0 (ix2 k (j 0)) * v2 (ix2 k (j 1)) := by
  pointwise [k0_pay2, k0_pay1]

theorem pay3_at (v0 : Vec Ideal S1024x1024 .bf16) (v2 acc : Vec Ideal S1024x1024 .f32) (j : S1024x1024.Idx) :
    k0_pay3 v0 v2 acc j = acc j + ∑ k : Fin 1024, v0 (ix2 k (j 0)) * v2 (ix2 k (j 1)) := by
  pointwise [k0_pay3, k0_pay1]

/-- At the last point the block written back is the accumulated sum. -/
theorem last (c : Dev nD) (t : Fin cfg0.N) (h2 : t.val % 16 = 15) (y : S1024x1024.Idx) :
    (outsAt0 m c t.val t.isLt).1 y = (outsAt0 m c t.val t.isLt).2 y := by
  rw [outsAt0_C m c t (by omega) (by omega) h2]
  frame_out

theorem lt16 (t : Fin cfg0.N) : t.val < 16 := lt_of_lt_of_eq t.isLt (show cfg0.N = 16 from N_0)

/-- The whole-array row that row `r` of the block at grid point `t` is. -/
abbrev row (t : Fin cfg0.N) (r : Fin 1024) : Fin 16384 := ⟨1024 * t.val + r.val, by have := lt16 t; omega⟩

theorem i0 (c : Dev nD) (t : Fin cfg0.N) (r k : Fin 1024) : iblk m c 0 t (ix2 r k) = m ((c : Thread nD τ).loc main_arg0) (ix2 (row t r) k) := by
  blk_point [iblk, V, idx_val t]
theorem i1 (c : Dev nD) (t : Fin cfg0.N) (r k : Fin 1024) : iblk m c 1 t (ix2 r k) = m ((c : Thread nD τ).loc main_arg1) (ix2 (row t r) k) := by
  blk_point [iblk, V, idx_val t]

theorem final (c : Dev nD) (X : FVec Ideal S1024x1024 .f32)
    (hX : ∀ a b, X (ix2 a b) = dot (fun k => m ((c : Thread nD τ).loc main_arg0) (ix2 k a)) (fun k => m ((c : Thread nD τ).loc main_arg1) (ix2 k b))) :
    (dats m 0 c).arrAt 2 (cfgs 0).N = X := by
  refine (dats m 0 c).arrAt_eq_of_covers 2 _ (by decide +kernel) fun t hf y => ?_
  have ht : t.val < 16 := lt_of_lt_of_eq t.isLt (show cfg0.N = 16 from N_0)
  blk_simp
  have h7 : t.val % 16 = 15 := (flush0_2 t).mp hf
  rw [after0_2, last m c t h7, Pipeline.eq_sum_fin_of_reset_step_apply_of_flush (fun n h => (outsAt0 m c n h).2) 16 (fun _ => 0) _
    (fun t h j => by have ht : t.val < 16 := lt_of_lt_of_eq t.isLt (show cfg0.N = 16 from N_0); rw [outsAt0_A m c t h (by omega) (by omega)]; frame_out; rw [pay2_at, zero_add])
    (fun t h j => by
      by_cases h2 : t.val % 16 = 15
      · rw [outsAt0_C m c t h (by omega) h2]; frame_out; rw [pay3_at, read_unread_whole]
      · rw [outsAt0_B m c t h (by omega) h2]; frame_out; rw [pay3_at, read_unread_whole])
    t h7 _, zero_add]
  idx_vars y
  have hy : ((cfg0.win 2).blk t).view.emb (ix2 y0 y1) = ix2 y0 y1 := by
    blk_ext [idx_val t]
  rw [hy, hX]
  refine Fin.sum_mul_add_congr fun s k hl => ?_
  simp only [i0, i1]
  have hr : row ⟨16 * (t.val / 16) + s.val, Pipeline.run_point_lt_of_flush t h7 s⟩ k = ⟨s.val * 1024 + k.val, hl⟩ :=
    Fin.ext (by show 1024 * (16 * (t.val / 16) + s.val) + k.val = s.val * 1024 + k.val; omega)
  rw [hr]

end Cert.KernelDwoIdeal.Hand

end
-- ==== Proof.Do.lean ====
/- The gradient that a mixer's output projection sends back to the mixer: the product with the transposed matrix. -/
module

public import proofs.«01_k».proof.Proof.Gen.KernelDoIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDoIdeal.Hand

open Cert.KernelDoIdeal Cert.KernelDoIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0] :=
  (by decide +kernel : ∀ t : Fin grid0.N, _)

/-- One entry of the product of a row with a row. -/
abbrev dot (f g : Fin 1024 → EReal) : EReal := ∑ k, f k * g k

theorem pay1_at (v0 : Vec Ideal S1024x1024 .f32) (v2 : Vec Ideal S1024x1024 .bf16) (r k : Fin 1024) :
    k0_pay1 v0 v2 (ix2 r k) = dot (fun x => v0 (ix2 r x)) (fun x => v2 (ix2 k x)) := by
  pointwise [k0_pay1]

theorem lt16 (t : Fin cfg0.N) : t.val < 16 := lt_of_lt_of_eq t.isLt (show cfg0.N = 16 from N_0)

/-- The whole-array row that row `r` of the block at grid point `t` is. -/
abbrev row (t : Fin cfg0.N) (r : Fin 1024) : Fin 16384 := ⟨1024 * t.val + r.val, by have := lt16 t; omega⟩

theorem i0 (c : Dev nD) (t : Fin cfg0.N) (r k : Fin 1024) : iblk m c 0 t (ix2 r k) = m ((c : Thread nD τ).loc main_arg0) (ix2 (row t r) k) := by
  blk_point [iblk, V, idx_val t]
theorem i1 (c : Dev nD) (t : Fin cfg0.N) (r k : Fin 1024) : iblk m c 1 t (ix2 r k) = m ((c : Thread nD τ).loc main_arg1) (ix2 r k) := by
  blk_point [iblk, V, idx_val t]

theorem final (c : Dev nD) (X : FVec Ideal S16384x1024 .f32) (hX : ∀ r k, X (ix2 r k) = dot (fun x => m ((c : Thread nD τ).loc main_arg0) (ix2 r x)) (fun x => m ((c : Thread nD τ).loc main_arg1) (ix2 k x))) :
    (dats m 0 c).arrAt 2 (cfgs 0).N = X := by
  refine (dats m 0 c).arrAt_eq_of_covers 2 _ (by decide +kernel) fun t hf y => ?_
  have ht := lt16 t
  blk_simp
  rw [after0_2]
  have e : out0_2 (iblk m c 0 t) (iblk m c 1 t) y = k0_pay1 (iblk m c 0 t) (iblk m c 1 t) y := by
    frame_out
  rw [e]
  idx_vars y
  have hy : ((cfg0.win 2).blk t).view.emb (ix2 y0 y1) = ix2 (row t y0) y1 := by
    blk_ext [idx_val t]
  rw [hy, hX, pay1_at]
  simp only [i0, i1]

end Cert.KernelDoIdeal.Hand

end
-- ==== Proof.Softmax.lean ====
/- The gradient of a softmax row against the products with its values, in the two forms that the kernel and the chain
   rule have. -/
module

public import proofs.«01_k».proof.Proof.Reals

@[expose] public section

noncomputable section

open Idealize.ShloMosaic

namespace Cert.Softmax

variable {n : ℕ}

/-- The gradient at a score, with the row's weights divided by their sum first. -/
def byWeights (e dp : Fin n → EReal) (S : EReal) (j : Fin n) : EReal :=
  Ideal.div (e j) S * (dp j - ∑ i, Ideal.div (e i) S * dp i)

/-- The same by the quotient's chain rule. -/
def byQuotient (e dp : Fin n → EReal) (S : EReal) (j : Fin n) : EReal :=
  (Ideal.div (dp j) S + -∑ i, dp i * Ideal.div (Ideal.ofBits .f32 0x3F800000#32) (S * S) * e i) * e j

/-- They agree when the weights are nonnegative reals and their sum is a positive real; the products may be infinite. -/
theorem byWeights_eq (e dp : Fin n → EReal) (S : EReal) (j : Fin n) (he : ∀ j, ∃ r : ℝ, 0 ≤ r ∧ e j = r)
    (hS : ∃ r : ℝ, 0 < r ∧ S = r) : byWeights e dp S j = byQuotient e dp S j := by
  obtain ⟨s, hs, rfl⟩ := hS
  choose f hf0 hf using he
  have hne : s ≠ 0 := ne_of_gt hs
  have hc : (0 : ℝ) ≤ 1 / s := by positivity
  have hq : Ideal.div (Ideal.ofBits .f32 0x3F800000#32) ((s : EReal) * (s : EReal)) = ((1 / s * (1 / s) : ℝ) : EReal) := by
    rw [Cert.Reals.one, ← EReal.coe_mul, Ideal.div_coe (by positivity), ← EReal.coe_mul]
    congr 1
    field_simp
  simp only [byWeights, byQuotient, hq, Ideal.div_coe hne, hf, sub_eq_add_neg]
  have hsum : ∑ i, (f i : EReal) * ((1 / s : ℝ) : EReal) * dp i = ∑ i, ((f i * (1 / s) : ℝ) : EReal) * dp i :=
    Finset.sum_congr rfl fun i _ => by rw [EReal.coe_mul]
  have hin : ∑ i, dp i * ((1 / s * (1 / s) : ℝ) : EReal) * (f i : EReal)
      = ((1 / s : ℝ) : EReal) * ∑ i, (f i : EReal) * ((1 / s : ℝ) : EReal) * dp i := by
    rw [Cert.Reals.mul_sum_real _ hc]
    refine Finset.sum_congr rfl fun i _ => ?_
    rw [EReal.coe_mul]
    ac_rfl
  rw [hin, ← mul_neg, mul_comm (dp j), ← Cert.Reals.mul_add_real hc]
  ac_rfl

/-- One row's weights before their division: the exponentials of the scores' distances below the largest. -/
def weight {n : ℕ} (s : Fin n → EReal) (j : Fin n) : EReal :=
  Ideal.exp (s j - Finset.fold max (Ideal.ofBits .f32 0xFF800000#32) s Finset.univ)

/-- Starting the largest from the least value once more changes nothing. -/
theorem max_fold (s : Fin n → EReal) : max (Ideal.ofBits .f32 0xFF800000#32) (Finset.fold max (Ideal.ofBits .f32 0xFF800000#32) s Finset.univ)
    = Finset.fold max (Ideal.ofBits .f32 0xFF800000#32) s Finset.univ :=
  max_eq_right (Finset.le_fold_max _ |>.2 (Or.inl le_rfl))

/-- The weights of real scores are positive reals. -/
theorem weight_real (s : Fin n → EReal) (hs : ∀ j, ∃ r : ℝ, s j = r) (j : Fin n) : ∃ r : ℝ, 0 < r ∧ weight s j = r := by
  have htop : Finset.fold max (Ideal.ofBits .f32 0xFF800000#32) s Finset.univ < ⊤ := by
    rw [Cert.Reals.neg_inf, Finset.fold_max_lt]
    exact ⟨bot_lt_top, fun x _ => by obtain ⟨r, hr⟩ := hs x; rw [hr]; exact EReal.coe_lt_top r⟩
  have hbot : ⊥ < Finset.fold max (Ideal.ofBits .f32 0xFF800000#32) s Finset.univ := by
    rw [Finset.lt_fold_max]
    exact Or.inr ⟨j, Finset.mem_univ _, by obtain ⟨r, hr⟩ := hs j; rw [hr]; exact EReal.bot_lt_coe r⟩
  obtain ⟨a, ha⟩ := hs j
  rw [weight, ha]
  generalize Finset.fold max (Ideal.ofBits .f32 0xFF800000#32) s Finset.univ = x at htop hbot
  induction x using EReal.rec with
  | bot => exact absurd hbot (lt_irrefl _)
  | top => exact absurd htop (lt_irrefl _)
  | coe b => exact ⟨Real.exp (a - b), Real.exp_pos _, by rw [← EReal.coe_sub, Ideal.exp_coe]⟩

/-- The sum of the weights of real scores is a positive real. -/
theorem sum_weight_real (s : Fin n → EReal) (hs : ∀ j, ∃ r : ℝ, s j = r) (hn : 0 < n) : ∃ r : ℝ, 0 < r ∧ ∑ j, weight s j = r := by
  choose f hf0 hf using weight_real s hs
  refine ⟨∑ j, f j, Finset.sum_pos (fun j _ => hf0 j) ⟨⟨0, hn⟩, Finset.mem_univ _⟩, ?_⟩
  simp only [hf, Cert.Reals.coe_sum]

/-! ## One head of attention: `a` and `b` a row of the queries and of the incoming gradient, `k` and `v` the keys and
    the values -/

abbrev Row : Type := Fin 256 → EReal

/-- The scale of the scores. -/
abbrev scale : EReal := Ideal.ofBits .f32 0x3D800000#32

/-- The scores, the queries scaled. -/
def score (a : Row) (k : Fin 256 → Row) (j : Fin 256) : EReal := ∑ x, a x * scale * k j x

/-- The scores, the products scaled. -/
def scoreOf (a : Row) (k : Fin 256 → Row) (j : Fin 256) : EReal := (∑ x, a x * k j x) * scale

/-- The products of the incoming gradient and the values. -/
def prod (b : Row) (v : Fin 256 → Row) (j : Fin 256) : EReal := ∑ x, b x * v j x

theorem score_eq (a : Row) (k : Fin 256 → Row) : score a k = scoreOf a k := by
  funext j
  rw [score, scoreOf, scale, Cert.Reals.sixteenth, Cert.Reals.sum_mul_real _ (by norm_num)]
  exact Finset.sum_congr rfl fun x _ => by ac_rfl

theorem scoreOf_real (a : Row) (k : Fin 256 → Row) (ha : ∀ x, ∃ r : ℝ, a x = r) (hk : ∀ j x, ∃ r : ℝ, k j x = r) (j : Fin 256) :
    ∃ r : ℝ, scoreOf a k j = r := by
  choose f hf using ha
  choose g hg using hk
  refine ⟨(∑ x, f x * g j x) * (1 / 16), ?_⟩
  simp only [scoreOf, hf, hg, scale, Cert.Reals.sixteenth, ← EReal.coe_mul, Cert.Reals.coe_sum]

/-- The gradient at the scores, as the kernel and as the chain rule have it. -/
def grad (a : Row) (k : Fin 256 → Row) (b : Row) (v : Fin 256 → Row) : Row :=
  byWeights (weight (score a k)) (prod b v) (∑ i, weight (score a k) i)

def gradOf (a : Row) (k : Fin 256 → Row) (b : Row) (v : Fin 256 → Row) : Row :=
  byQuotient (weight (scoreOf a k)) (prod b v) (∑ i, weight (scoreOf a k) i)

theorem grad_eq (a : Row) (k : Fin 256 → Row) (b : Row) (v : Fin 256 → Row) (ha : ∀ x, ∃ r : ℝ, a x = r)
    (hk : ∀ j x, ∃ r : ℝ, k j x = r) : grad a k b v = gradOf a k b v := by
  funext j
  rw [grad, gradOf, score_eq]
  have hs := scoreOf_real a k ha hk
  refine byWeights_eq _ _ _ _ (fun i => ?_) (sum_weight_real _ hs (by norm_num))
  obtain ⟨r, h0, h1⟩ := weight_real _ hs i
  exact ⟨r, h0.le, h1⟩

/-- One entry of the queries' gradient. -/
def dq (a : Row) (k : Fin 256 → Row) (b : Row) (v : Fin 256 → Row) (l : Fin 256) : EReal := (∑ j, grad a k b v j * k j l) * scale

def dqOf (a : Row) (k : Fin 256 → Row) (b : Row) (v : Fin 256 → Row) (l : Fin 256) : EReal := ∑ j, gradOf a k b v j * scale * k j l

theorem dq_eq (a : Row) (k : Fin 256 → Row) (b : Row) (v : Fin 256 → Row) (ha : ∀ x, ∃ r : ℝ, a x = r)
    (hk : ∀ j x, ∃ r : ℝ, k j x = r) (l : Fin 256) : dq a k b v l = dqOf a k b v l := by
  rw [dq, dqOf, grad_eq a k b v ha hk, scale, Cert.Reals.sixteenth, Cert.Reals.sum_mul_real _ (by norm_num)]
  exact Finset.sum_congr rfl fun x _ => by ac_rfl

/-- One row's share of an entry of the keys' gradient. -/
def dk (a : Row) (k : Fin 256 → Row) (b : Row) (v : Fin 256 → Row) (j l : Fin 256) : EReal := grad a k b v j * (a l * scale)

def dkOf (a : Row) (k : Fin 256 → Row) (b : Row) (v : Fin 256 → Row) (j l : Fin 256) : EReal := gradOf a k b v j * scale * a l

theorem dk_eq (a : Row) (k : Fin 256 → Row) (b : Row) (v : Fin 256 → Row) (ha : ∀ x, ∃ r : ℝ, a x = r)
    (hk : ∀ j x, ∃ r : ℝ, k j x = r) (j l : Fin 256) : dk a k b v j l = dkOf a k b v j l := by
  rw [dk, dkOf, grad_eq a k b v ha hk]
  ac_rfl

/-- One row's share of an entry of the values' gradient. -/
def dv (a : Row) (k : Fin 256 → Row) (b : Row) (j l : Fin 256) : EReal :=
  Ideal.div (weight (score a k) j) (∑ i, weight (score a k) i) * b l

def dvOf (a : Row) (k : Fin 256 → Row) (b : Row) (j l : Fin 256) : EReal :=
  b l * Ideal.div (weight (scoreOf a k) j) (∑ i, weight (scoreOf a k) i)

theorem dv_eq (a : Row) (k : Fin 256 → Row) (b : Row) (j l : Fin 256) : dv a k b j l = dvOf a k b j l := by
  rw [dv, dvOf, score_eq, mul_comm]

end Cert.Softmax

end
-- ==== Proof.Xa.lean ====
/- The gradient of the cross-attention: each head's softmax is computed again from the queries and the keys, and the
   gradients of queries, keys and values follow from it; those of keys and values are summed over all the rows. -/
module

public import proofs.«01_k».proof.Proof.Gen.KernelXaIdeal.Frame
public import proofs.«01_k».proof.Proof.Gen.ReferenceXaIdeal.Run
public import Idealize.ShloMosaic.Lib.Pipeline.ValueKit
public import Idealize.ShloMosaic.Lib.Pipeline.ReadBack
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.XaSpec

/-- The column of lane `x` of head `h`. -/
abbrev col (h : Fin 4) (x : Fin 256) : Fin 1024 := ⟨h.val * 256 + x.val, by omega⟩

/-- The head and the lane of a column. -/
abbrev hd (y : Fin 1024) : Fin 4 := ⟨y.val / 256, by omega⟩
abbrev ln (y : Fin 1024) : Fin 256 := ⟨y.val % 256, by omega⟩

theorem col_hd (y : Fin 1024) : col (hd y) (ln y) = y := Fin.ext (by show y.val / 256 * 256 + y.val % 256 = y.val; omega)

section
variable (A0 A3 : FVec Ideal ⟨2, ![16384, 1024]⟩ .f32) (A1 A2 : FVec Ideal ⟨2, ![256, 1024]⟩ .f32)

/-- One head's part of a row of a tall array, and of a small one. -/
abbrev tall (A : FVec Ideal ⟨2, ![16384, 1024]⟩ .f32) (h : Fin 4) (r : Fin 16384) : Cert.Softmax.Row := fun x => A (ix2 r (col h x))
abbrev small (A : FVec Ideal ⟨2, ![256, 1024]⟩ .f32) (h : Fin 4) : Fin 256 → Cert.Softmax.Row := fun j x => A (ix2 j (col h x))

/-- The three results, entry by entry, in the reference's form. -/
def outQ (r : Fin 16384) (y : Fin 1024) : EReal :=
  Cert.Softmax.dqOf (tall A0 (hd y) r) (small A1 (hd y)) (tall A3 (hd y) r) (small A2 (hd y)) (ln y)

def outK (j : Fin 256) (y : Fin 1024) : EReal :=
  ∑ r : Fin 16384, Cert.Softmax.dkOf (tall A0 (hd y) r) (small A1 (hd y)) (tall A3 (hd y) r) (small A2 (hd y)) j (ln y)

def outV (j : Fin 256) (y : Fin 1024) : EReal :=
  ∑ r : Fin 16384, Cert.Softmax.dvOf (tall A0 (hd y) r) (small A1 (hd y)) (tall A3 (hd y) r) j (ln y)
end

/-- The largest element along the last axis, as the host's reduction has it. -/
theorem hostMax_at {n0 n1 n2 n3 : ℕ} {u : Shape} (x : FVec Ideal ⟨4, ![n0, n1, n2, n3]⟩ .f32) (b : BitVec 32)
    (h : (⟨4, ![n0, n1, n2, n3]⟩ : Shape).ReducesTo [3] ⟨3, ![n0, n1, n2]⟩) (hu : 0 < u.numel) (i : Fin n0) (j : Fin n1) (k : Fin n2) :
    Host.reduce FloatOps.maximumf x (constant u .f32 b) h hu (ix3 i j k)
      = Finset.fold max (Ideal.ofBits .f32 b) (fun l => x (ix4 i j k l)) Finset.univ := by
  pointwise

/-- A sum over two axes of length one reads the one element. -/
theorem sum_ones_at {n1 n2 : ℕ} (x : FVec Ideal ⟨4, ![1, n1, n2, 1]⟩ .f32)
    (h : (⟨4, ![1, n1, n2, 1]⟩ : Shape).ReducesTo [0, 3] ⟨2, ![n1, n2]⟩) (j : Fin n1) (k : Fin n2) :
    Ideal.hostReduceAdd h x 0 (ix2 j k) = x (ix4 0 j k 0) := by
  rw [Ideal.hostReduceAdd, zero_add]
  refine (Finset.sum_eq_single (ix4 0 j k 0) (fun i hi hn => absurd ?_ hn) (fun hn => absurd ?_ hn))
  · have e := (Finset.mem_filter.1 hi).2
    funext a
    match a with
    | ⟨0, _⟩ => exact Subsingleton.elim (α := Fin 1) _ _
    | ⟨1, _⟩ => exact Fin.ext (congrArg Fin.val (congrFun e 0))
    | ⟨2, _⟩ => exact Fin.ext (congrArg Fin.val (congrFun e 1))
    | ⟨3, _⟩ => exact Subsingleton.elim (α := Fin 1) _ _
  · refine Finset.mem_filter.2 ⟨Finset.mem_univ _, ?_⟩
    funext a
    match a with
    | ⟨0, _⟩ => exact Fin.ext rfl
    | ⟨1, _⟩ => exact Fin.ext rfl

/-! ## The reference's stages -/

section
open Cert.ReferenceXaIdeal Cert.ReferenceXaIdeal.Gen

variable (A0 A3 : FVec Ideal S16384x1024 .f32) (A1 A2 : FVec Ideal S256x1024 .f32)

def sc : FVec Ideal S1x4x16384x256 .f32 :=
  mulf (Host.dotGeneral dot_S1x16384x4x256_S1x256x4x256_S1x4x16384x256_3_3_1_1_02_02 none (shapeCast _ A0 shapeCasts_S16384x1024_S1x16384x4x256) (shapeCast _ A1 shapeCasts_S256x1024_S1x256x4x256)) (broadcastInDim S1x4x16384x256 ![] bcast_S_S1x4x16384x256 (constant S_ .f32 0x3D800000#32))

theorem sc_at (h : Fin 4) (r : Fin 16384) (j : Fin 256) : sc A0 A1 (ix4 0 h r j) = Cert.Softmax.scoreOf (tall A0 h r) (small A1 h) j := by
  pointwise [sc]
  rfl

def mx : FVec Ideal S1x4x16384 .f32 :=
  maximumf (broadcastInDim S1x4x16384 ![] bcast_S_S1x4x16384 (constant S_ .f32 0xFF800000#32)) (Host.reduce FloatOps.maximumf (sc A0 A1) (constant S_ .f32 0xFF800000#32) reducesTo_S1x4x16384x256_S1x4x16384_d3 h_S_)

theorem mx_at (h : Fin 4) (r : Fin 16384) : mx A0 A1 (ix3 0 h r)
    = Finset.fold max (Ideal.ofBits .f32 0xFF800000#32) (Cert.Softmax.scoreOf (tall A0 h r) (small A1 h)) Finset.univ := by
  rw [mx, maximumf_apply, hostMax_at, show (fun l => sc A0 A1 (ix4 0 h r l)) = Cert.Softmax.scoreOf (tall A0 h r) (small A1 h) from funext fun l => sc_at A0 A1 h r l]
  exact Cert.Softmax.max_fold _

def ex : FVec Ideal S1x4x16384x256 .f32 :=
  Host.exp (subf (sc A0 A1) (broadcastInDim S1x4x16384x256 ![0, 1, 2, 3] bcast_S1x4x16384x1_S1x4x16384x256_0_1_2_3 (broadcastInDim S1x4x16384x1 ![0, 1, 2] bcast_S1x4x16384_S1x4x16384x1_0_1_2 (mx A0 A1))))

theorem ex_at (h : Fin 4) (r : Fin 16384) (j : Fin 256) : ex A0 A1 (ix4 0 h r j) = Cert.Softmax.weight (Cert.Softmax.scoreOf (tall A0 h r) (small A1 h)) j := by
  pointwise [ex]
  rw [sc_at, mx_at]
  rfl

def sm : FVec Ideal S1x4x16384x1 .f32 :=
  broadcastInDim S1x4x16384x1 ![0, 1, 2] bcast_S1x4x16384_S1x4x16384x1_0_1_2 (Host.reduceAdd (ex A0 A1) (constant S_ .f32 0x00000000#32) reducesTo_S1x4x16384x256_S1x4x16384_d3 h_S_)

theorem sm_at (h : Fin 4) (r : Fin 16384) : sm A0 A1 (ix4 0 h r 0) = ∑ j, Cert.Softmax.weight (Cert.Softmax.scoreOf (tall A0 h r) (small A1 h)) j := by
  pointwise [sm]
  exact Finset.sum_congr rfl fun j _ => ex_at A0 A1 h r j

def dp : FVec Ideal S1x4x16384x256 .f32 :=
  Host.dotGeneral dot_S1x4x256x16384_S1x256x4x256_S1x4x16384x256_2_3_3_1_01_02 none (transpose S1x4x256x16384 [0, 2, 3, 1] (shapeCast _ A3 shapeCasts_S16384x1024_S1x16384x4x256) transposes_S1x16384x4x256_S1x4x256x16384_0_2_3_1) (shapeCast _ A2 shapeCasts_S256x1024_S1x256x4x256)

theorem dp_at (h : Fin 4) (r : Fin 16384) (j : Fin 256) : dp A3 A2 (ix4 0 h r j) = Cert.Softmax.prod (tall A3 h r) (small A2 h) j := by
  pointwise [dp]
  rfl

def ng : FVec Ideal S1x4x16384x1 .f32 :=
  Host.negf (shapeCast _ (Host.reduceAdd (mulf (mulf (dp A3 A2) (broadcastInDim S1x4x16384x256 ![0, 1, 2, 3] bcast_S1x4x16384x1_S1x4x16384x256_0_1_2_3 (Host.divf (broadcastInDim S1x4x16384x1 ![] bcast_S_S1x4x16384x1 (constant S_ .f32 0x3F800000#32)) (mulf (sm A0 A1) (sm A0 A1))))) (ex A0 A1)) (constant S_ .f32 0x00000000#32) reducesTo_S1x4x16384x256_S1x4x16384_d3 h_S_) shapeCasts_S1x4x16384_S1x4x16384x1)

theorem ng_at (h : Fin 4) (r : Fin 16384) : ng A0 A3 A1 A2 (ix4 0 h r 0)
    = -∑ x, dp A3 A2 (ix4 0 h r x) * Ideal.div (Ideal.ofBits .f32 0x3F800000#32) (sm A0 A1 (ix4 0 h r 0) * sm A0 A1 (ix4 0 h r 0)) * ex A0 A1 (ix4 0 h r x) := by
  pointwise [ng]

def ds : FVec Ideal S1x4x16384x256 .f32 :=
  mulf (mulf (addf (Host.divf (dp A3 A2) (broadcastInDim S1x4x16384x256 ![0, 1, 2, 3] bcast_S1x4x16384x1_S1x4x16384x256_0_1_2_3 (sm A0 A1))) (broadcastInDim S1x4x16384x256 ![0, 1, 2] bcast_S1x4x16384_S1x4x16384x256_0_1_2 (broadcastInDim S1x4x16384 ![1, 2] bcast_S4x16384_S1x4x16384_1_2 (Host.reduceAdd (ng A0 A3 A1 A2) (constant S_ .f32 0x00000000#32) reducesTo_S1x4x16384x1_S4x16384_d0_3 h_S_)))) (ex A0 A1)) (broadcastInDim S1x4x16384x256 ![] bcast_S_S1x4x16384x256 (constant S_ .f32 0x3D800000#32))

theorem ds_at (h : Fin 4) (r : Fin 16384) (j : Fin 256) : ds A0 A3 A1 A2 (ix4 0 h r j)
    = Cert.Softmax.gradOf (tall A0 h r) (small A1 h) (tall A3 h r) (small A2 h) j * Cert.Softmax.scale := by
  pointwise [ds]
  rw [sum_ones_at, ng_at]
  simp only [sm_at, dp_at, ex_at]
  rfl

def rq : FVec Ideal S16384x1024 .bf16 :=
  truncf .bf16 (shapeCast _ (transpose S1x16384x4x256 [0, 2, 1, 3] (Host.dotGeneral dot_S1x4x16384x256_S1x256x4x256_S1x4x16384x256_3_1_2_3_01_02 none (ds A0 A3 A1 A2) (shapeCast _ A1 shapeCasts_S256x1024_S1x256x4x256)) transposes_S1x4x16384x256_S1x16384x4x256_0_2_1_3) shapeCasts_S1x16384x4x256_S16384x1024) bitsLt_bf16_f32

theorem outQ_eq (r : Fin 16384) (y : Fin 1024) : outQ A0 A3 A1 A2 r y = ∑ x, Cert.Softmax.gradOf (tall A0 (hd y) r) (small A1 (hd y)) (tall A3 (hd y) r) (small A2 (hd y)) x * Cert.Softmax.scale * A1 (ix2 x y) := by
  rw [outQ, Cert.Softmax.dqOf]
  refine Finset.sum_congr rfl fun x _ => ?_
  show _ * _ * A1 (ix2 x (col (hd y) (ln y))) = _
  rw [col_hd]

theorem rq_at (r : Fin 16384) (y : Fin 1024) : rq A0 A3 A1 A2 (ix2 r y) = outQ A0 A3 A1 A2 r y := by
  pointwise [rq]
  simp only [ds_at]
  exact (outQ_eq A0 A3 A1 A2 r y).symm

def rk : FVec Ideal S256x1024 .f32 :=
  shapeCast _ (transpose S1x256x4x256 [0, 2, 1, 3] (Host.dotGeneral dot_S1x4x16384x256_S1x16384x4x256_S1x4x256x256_2_1_3_3_01_02 none (ds A0 A3 A1 A2) (shapeCast _ A0 shapeCasts_S16384x1024_S1x16384x4x256)) transposes_S1x4x256x256_S1x256x4x256_0_2_1_3) shapeCasts_S1x256x4x256_S256x1024

theorem rk_at (r : Fin 256) (y : Fin 1024) : rk A0 A3 A1 A2 (ix2 r y) = outK A0 A3 A1 A2 r y := by
  pointwise [rk]
  simp only [ds_at]
  refine Finset.sum_congr rfl fun x _ => ?_
  show _ = _ * _ * A0 (ix2 x (col (hd y) (ln y)))
  rw [col_hd]

def rv : FVec Ideal S256x1024 .f32 :=
  shapeCast _ (transpose S1x256x4x256 [0, 3, 1, 2] (Host.dotGeneral dot_S1x4x256x16384_S1x4x16384x256_S1x4x256x256_3_2_2_3_01_01 none (transpose S1x4x256x16384 [0, 2, 3, 1] (shapeCast _ A3 shapeCasts_S16384x1024_S1x16384x4x256) transposes_S1x16384x4x256_S1x4x256x16384_0_2_3_1) (Host.divf (ex A0 A1) (broadcastInDim S1x4x16384x256 ![0, 1, 2, 3] bcast_S1x4x16384x1_S1x4x16384x256_0_1_2_3 (sm A0 A1)))) transposes_S1x4x256x256_S1x256x4x256_0_3_1_2) shapeCasts_S1x256x4x256_S256x1024

theorem rv_at (r : Fin 256) (y : Fin 1024) : rv A0 A3 A1 (ix2 r y) = outV A0 A3 A1 r y := by
  pointwise [rv]
  simp only [ex_at, sm_at]
  refine Finset.sum_congr rfl fun x _ => ?_
  show _ = A3 (ix2 x (col (hd y) (ln y))) * _
  rw [col_hd]

end

end Cert.XaSpec

namespace Cert.KernelXaIdeal.Hand

open Cert.KernelXaIdeal Cert.KernelXaIdeal.Gen Cert.XaSpec

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![0, 0]
    ∧ win0_6.index t = ![0, 0] :=
  (by decide +kernel : ∀ t : Fin grid0.N, _)

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

/-- The four heads run the same steps: each head's are the first's. -/
theorem heads : (k0_pay9 (F := Ideal) = k0_pay8 ∧ k0_pay10 (F := Ideal) = k0_pay8 ∧ k0_pay11 (F := Ideal) = k0_pay8)
    ∧ (k0_pay13 (F := Ideal) = k0_pay12 ∧ k0_pay14 (F := Ideal) = k0_pay12 ∧ k0_pay15 (F := Ideal) = k0_pay12)
    ∧ (k0_pay17 (F := Ideal) = k0_pay16 ∧ k0_pay18 (F := Ideal) = k0_pay16 ∧ k0_pay19 (F := Ideal) = k0_pay16)
    ∧ (k0_pay21 (F := Ideal) = k0_pay20 ∧ k0_pay22 (F := Ideal) = k0_pay20 ∧ k0_pay23 (F := Ideal) = k0_pay20)
    ∧ ((∀ a b, k0_pay29 (F := Ideal) (k0_pay24 a b) (k0_pay28 a b) = k0_pay27 a b) ∧ (∀ a b, k0_pay30 (F := Ideal) (k0_pay25 a b) = k0_pay27 a b)
      ∧ ∀ a b, k0_pay31 (F := Ideal) (k0_pay26 a b) = k0_pay27 a b)
    ∧ ((∀ v d a b, k0_pay33 (F := Ideal) v d (k0_pay24 a b) (k0_pay28 a b) = k0_pay32 v d (k0_pay27 a b))
      ∧ (∀ v d a b, k0_pay34 (F := Ideal) v d (k0_pay25 a b) = k0_pay32 v d (k0_pay27 a b))
      ∧ ∀ v d a b, k0_pay35 (F := Ideal) v d (k0_pay26 a b) = k0_pay32 v d (k0_pay27 a b))
    ∧ ((∀ k v d w, k0_pay41 (F := Ideal) k (k0_pay32 v d w) = k0_pay36 k v d w) ∧ (∀ k v d w, k0_pay46 (F := Ideal) k (k0_pay32 v d w) = k0_pay36 k v d w)
      ∧ ∀ k v d w, k0_pay3 (F := Ideal) k (k0_pay32 v d w) = k0_pay36 k v d w)
    ∧ (k0_pay42 (F := Ideal) = k0_pay37 ∧ k0_pay47 (F := Ideal) = k0_pay37 ∧ k0_pay4 (F := Ideal) = k0_pay37)
    ∧ (k0_pay43 (F := Ideal) = k0_pay38 ∧ k0_pay48 (F := Ideal) = k0_pay38 ∧ k0_pay5 (F := Ideal) = k0_pay38)
    ∧ (k0_pay44 (F := Ideal) = k0_pay39 ∧ (∀ a b p, k0_pay1 (F := Ideal) (k0_pay37 a b) p = k0_pay39 a b p) ∧ k0_pay6 (F := Ideal) = k0_pay39)
    ∧ (k0_pay45 (F := Ideal) = k0_pay40 ∧ (∀ a b p, k0_pay2 (F := Ideal) (k0_pay38 a b) p = k0_pay40 a b p) ∧ k0_pay7 (F := Ideal) = k0_pay40) :=
  ⟨⟨rfl, rfl, rfl⟩, ⟨rfl, rfl, rfl⟩, ⟨rfl, rfl, rfl⟩, ⟨rfl, rfl, rfl⟩, ⟨fun _ _ => rfl, fun _ _ => rfl, fun _ _ => rfl⟩,
    ⟨fun _ _ _ _ => rfl, fun _ _ _ _ => rfl, fun _ _ _ _ => rfl⟩, ⟨fun _ _ _ _ => rfl, fun _ _ _ _ => rfl, fun _ _ _ _ => rfl⟩,
    ⟨rfl, rfl, rfl⟩, ⟨rfl, rfl, rfl⟩, ⟨rfl, fun _ _ _ => rfl, rfl⟩, ⟨rfl, fun _ _ _ => rfl, rfl⟩⟩

section
variable (q d : Vec Ideal S512x256 .f32) (k v : Vec Ideal S256x256 .f32)

/-- A row of a head's block. -/
abbrev line {n : ℕ} (q : FVec Ideal ⟨2, ![n, 256]⟩ .f32) (r : Fin n) : Cert.Softmax.Row := fun x => q (ix2 r x)

theorem pay8_at (r : Fin 512) (x : Fin 256) : k0_pay8 q (ix2 r x) = q (ix2 r x) * Cert.Softmax.scale := by
  pointwise [k0_pay8]
theorem pay12_at (r x : Fin 256) : k0_pay12 k (ix2 r x) = k (ix2 r x) := by
  pointwise [k0_pay12]
theorem pay16_at (r x : Fin 256) : k0_pay16 k (ix2 r x) = k (ix2 r x) := by
  pointwise [k0_pay16]
theorem pay20_at (r : Fin 512) (x : Fin 256) : k0_pay20 q (ix2 r x) = q (ix2 r x) := by
  pointwise [k0_pay20]

theorem pay27_at (r : Fin 512) (j : Fin 256) : k0_pay27 (k0_pay8 q) (k0_pay12 k) (ix2 r j)
    = Ideal.div (Cert.Softmax.weight (Cert.Softmax.score (line q r) (line k)) j) (∑ i, Cert.Softmax.weight (Cert.Softmax.score (line q r) (line k)) i) := by
  pointwise [k0_pay27]
  simp only [pay8_at, pay12_at]
  rfl

theorem pay32_at (r : Fin 512) (j : Fin 256) : k0_pay32 (k0_pay16 v) (k0_pay20 d) (k0_pay27 (k0_pay8 q) (k0_pay12 k)) (ix2 r j)
    = Cert.Softmax.grad (line q r) (line k) (line d r) (line v) j := by
  pointwise [k0_pay32]
  simp only [pay16_at, pay20_at, pay27_at]
  rfl

theorem pay36_at (r : Fin 512) (l : Fin 256) : k0_pay36 (k0_pay12 k) (k0_pay16 v) (k0_pay20 d) (k0_pay27 (k0_pay8 q) (k0_pay12 k)) (ix2 r l)
    = Cert.Softmax.dq (line q r) (line k) (line d r) (line v) l := by
  pointwise [k0_pay36]
  simp only [pay32_at, pay12_at]
  rfl

theorem pay37_at (j l : Fin 256) : k0_pay37 (k0_pay8 q) (k0_pay32 (k0_pay16 v) (k0_pay20 d) (k0_pay27 (k0_pay8 q) (k0_pay12 k))) (ix2 j l)
    = ∑ r : Fin 512, Cert.Softmax.dk (line q r) (line k) (line d r) (line v) j l := by
  pointwise [k0_pay37]
  simp only [pay32_at, pay8_at]
  rfl

theorem pay38_at (j l : Fin 256) : k0_pay38 (k0_pay20 d) (k0_pay27 (k0_pay8 q) (k0_pay12 k)) (ix2 j l)
    = ∑ r : Fin 512, Cert.Softmax.dv (line q r) (line k) (line d r) j l := by
  pointwise [k0_pay38]
  simp only [pay27_at, pay20_at]
  rfl
end

theorem pay39_at (a b : FVec Ideal S512x256 .bf16) (p : Vec Ideal S256x256 .f32) (j : S256x256.Idx) : k0_pay39 a b p j = p j + k0_pay37 a b j := by
  pointwise [k0_pay39]
theorem pay40_at (a : FVec Ideal S512x256 .bf16) (b : FVec Ideal S512x256 .f32) (p : Vec Ideal S256x256 .f32) (j : S256x256.Idx) : k0_pay40 a b p j = p j + k0_pay38 a b j := by
  pointwise [k0_pay40]

theorem i0 (c : Dev nD) (t : Fin cfg0.N) (r : Fin 512) (k : Fin 1024) : iblk m c 0 t (ix2 r k) = m ((c : Thread nD τ).loc main_arg0) (ix2 (row t r) k) := by
  blk_point [iblk, V, idx_val t]
theorem i1 (c : Dev nD) (t : Fin cfg0.N) (r : Fin 256) (k : Fin 1024) : iblk m c 1 t (ix2 r k) = m ((c : Thread nD τ).loc main_arg1) (ix2 r k) := by
  blk_point [iblk, V, idx_val t]
theorem i2 (c : Dev nD) (t : Fin cfg0.N) (r : Fin 256) (k : Fin 1024) : iblk m c 2 t (ix2 r k) = m ((c : Thread nD τ).loc main_arg2) (ix2 r k) := by
  blk_point [iblk, V, idx_val t]
theorem i3 (c : Dev nD) (t : Fin cfg0.N) (r : Fin 512) (k : Fin 1024) : iblk m c 3 t (ix2 r k) = m ((c : Thread nD τ).loc main_arg3) (ix2 (row t r) k) := by
  blk_point [iblk, V, idx_val t]

/-! ## What one grid point gives to each result, at a place of its block -/

section
variable (c : Dev nD) (t : Fin cfg0.N)

def partQ (r : Fin 512) (y : Fin 1024) : EReal :=
  Cert.Softmax.dq (tall (m ((c : Thread nD τ).loc main_arg0)) (hd y) (row t r)) (small (m ((c : Thread nD τ).loc main_arg1)) (hd y))
    (tall (m ((c : Thread nD τ).loc main_arg3)) (hd y) (row t r)) (small (m ((c : Thread nD τ).loc main_arg2)) (hd y)) (ln y)

def partK (j : Fin 256) (y : Fin 1024) : EReal := ∑ r : Fin 512,
  Cert.Softmax.dk (tall (m ((c : Thread nD τ).loc main_arg0)) (hd y) (row t r)) (small (m ((c : Thread nD τ).loc main_arg1)) (hd y))
    (tall (m ((c : Thread nD τ).loc main_arg3)) (hd y) (row t r)) (small (m ((c : Thread nD τ).loc main_arg2)) (hd y)) j (ln y)

def partV (j : Fin 256) (y : Fin 1024) : EReal := ∑ r : Fin 512,
  Cert.Softmax.dv (tall (m ((c : Thread nD τ).loc main_arg0)) (hd y) (row t r)) (small (m ((c : Thread nD τ).loc main_arg1)) (hd y))
    (tall (m ((c : Thread nD τ).loc main_arg3)) (hd y) (row t r)) j (ln y)

variable (q d : Vec Ideal S512x256 .f32) (k v : Vec Ideal S256x256 .f32) (y : Fin 1024)
  (hq : ∀ r z, q (ix2 r z) = m ((c : Thread nD τ).loc main_arg0) (ix2 (row t r) (col (hd y) z)))
  (hk : ∀ r z, k (ix2 r z) = m ((c : Thread nD τ).loc main_arg1) (ix2 r (col (hd y) z)))
  (hv : ∀ r z, v (ix2 r z) = m ((c : Thread nD τ).loc main_arg2) (ix2 r (col (hd y) z)))
  (hd' : ∀ r z, d (ix2 r z) = m ((c : Thread nD τ).loc main_arg3) (ix2 (row t r) (col (hd y) z)))
include hq hk hv hd'

/-- The part of each result that the head's slices of the blocks give. -/
theorem pieceQ (x : S512x256.Idx) (r : Fin 512) (e0 : r.val = (x 0).val) (e1 : y.val % 256 = (x 1).val) :
    k0_pay36 (k0_pay12 k) (k0_pay16 v) (k0_pay20 d) (k0_pay27 (k0_pay8 q) (k0_pay12 k)) x = partQ m c t r y := by
  idx_vars x
  obtain rfl : r = x0 := Fin.ext e0
  obtain rfl : ln y = x1 := Fin.ext e1
  rw [pay36_at, partQ]
  simp only [show ∀ r, line q r = tall _ (hd y) (row t r) from fun r => funext (hq r), show line k = small _ (hd y) from funext₂ hk,
    show ∀ r, line d r = tall _ (hd y) (row t r) from fun r => funext (hd' r), show line v = small _ (hd y) from funext₂ hv]

theorem pieceK (x : S256x256.Idx) (r : Fin 256) (e0 : r.val = (x 0).val) (e1 : y.val % 256 = (x 1).val) :
    k0_pay37 (k0_pay8 q) (k0_pay32 (k0_pay16 v) (k0_pay20 d) (k0_pay27 (k0_pay8 q) (k0_pay12 k))) x = partK m c t r y := by
  idx_vars x
  obtain rfl : r = x0 := Fin.ext e0
  obtain rfl : ln y = x1 := Fin.ext e1
  rw [pay37_at, partK]
  simp only [show ∀ r, line q r = tall _ (hd y) (row t r) from fun r => funext (hq r), show line k = small _ (hd y) from funext₂ hk,
    show ∀ r, line d r = tall _ (hd y) (row t r) from fun r => funext (hd' r), show line v = small _ (hd y) from funext₂ hv]

omit hv in
theorem pieceV (x : S256x256.Idx) (r : Fin 256) (e0 : r.val = (x 0).val) (e1 : y.val % 256 = (x 1).val) :
    k0_pay38 (k0_pay20 d) (k0_pay27 (k0_pay8 q) (k0_pay12 k)) x = partV m c t r y := by
  idx_vars x
  obtain rfl : r = x0 := Fin.ext e0
  obtain rfl : ln y = x1 := Fin.ext e1
  rw [pay38_at, partV]
  simp only [show ∀ r, line q r = tall _ (hd y) (row t r) from fun r => funext (hq r), show line k = small _ (hd y) from funext₂ hk,
    show ∀ r, line d r = tall _ (hd y) (row t r) from fun r => funext (hd' r)]
end

theorem pointQ (c : Dev nD) (t : Fin cfg0.N) (y0 : Fin 512) (y1 : Fin 1024) : (outsAt0 m c t.val t.isLt).1 (ix2 y0 y1) = partQ m c t y0 y1 := by
  have ht := lt32 t
  by_cases hc : t.val % 32 = 0
  · rw [outsAt0_A m c t (by omega) (by omega) (by omega) (by omega) (by omega) (by omega) (by omega) (by omega)]
    frame_out
    clear hc ht
    canon_tiles x h
    all_goals
      try simp only [heads]
      change y1.val = _ at h1
      refine pieceQ m c t _ _ _ _ _ ?_ ?_ ?_ ?_ x y0 h0 (by omega) <;> intro r z <;> pointwise <;> blk_point [i0, i1, i2, i3]
  · rw [outsAt0_B m c t (by omega) (by omega) (by omega) (by omega) (by omega) (by omega) (by omega) (by omega)]
    frame_out
    clear hc ht
    canon_tiles x h
    all_goals
      try simp only [heads]
      change y1.val = _ at h1
      refine pieceQ m c t _ _ _ _ _ ?_ ?_ ?_ ?_ x y0 h0 (by omega) <;> intro r z <;> pointwise <;> blk_point [i0, i1, i2, i3]

theorem firstK (c : Dev nD) (t : Fin cfg0.N) (hc : t.val % 32 = 0) (y0 : Fin 256) (y1 : Fin 1024) : (outsAt0 m c t.val t.isLt).2.1 (ix2 y0 y1) = partK m c t y0 y1 := by
  have ht := lt32 t
  rw [outsAt0_A m c t (by omega) (by omega) (by omega) (by omega) (by omega) (by omega) (by omega) (by omega)]
  frame_out
  clear hc ht
  canon_tiles x h
  all_goals
    try simp only [heads]
    change y1.val = _ at h1
    refine pieceK m c t _ _ _ _ _ ?_ ?_ ?_ ?_ x y0 h0 (by omega) <;> intro r z <;> pointwise <;> blk_point [i0, i1, i2, i3]

theorem nextK (c : Dev nD) (t : Fin cfg0.N) (hc : ¬t.val % 32 = 0) (y0 : Fin 256) (y1 : Fin 1024) : (outsAt0 m c t.val t.isLt).2.1 (ix2 y0 y1)
    = (outsAt0 m c (t.val - 1) (Nat.lt_of_le_of_lt (Nat.sub_le _ _) t.isLt)).2.1 (ix2 y0 y1) + partK m c t y0 y1 := by
  have ht := lt32 t
  rw [outsAt0_B m c t (by omega) (by omega) (by omega) (by omega) (by omega) (by omega) (by omega) (by omega)]
  frame_out
  clear hc ht
  canon_tiles x h
  all_goals
    try simp only [heads]
    change y0.val = _ at h0
    change y1.val = _ at h1
    refine (pay39_at _ _ _ x).trans (congrArg₂ (· + ·) ?_ (pieceK m c t _ _ _ _ _ ?_ ?_ ?_ ?_ x y0 h0 (by omega)))
    on_goal 1 => idx_vars x
    on_goal 2 => intro r z
    on_goal 3 => intro r z
    on_goal 4 => intro r z
    on_goal 5 => intro r z
    all_goals pointwise
    all_goals blk_point [i0, i1, i2, i3]

theorem firstV (c : Dev nD) (t : Fin cfg0.N) (hc : t.val % 32 = 0) (y0 : Fin 256) (y1 : Fin 1024) : (outsAt0 m c t.val t.isLt).2.2 (ix2 y0 y1) = partV m c t y0 y1 := by
  have ht := lt32 t
  rw [outsAt0_A m c t (by omega) (by omega) (by omega) (by omega) (by omega) (by omega) (by omega) (by omega)]
  frame_out
  clear hc ht
  canon_tiles x h
  all_goals
    try simp only [heads]
    change y1.val = _ at h1
    refine pieceV m c t _ _ _ _ ?_ ?_ ?_ x y0 h0 (by omega) <;> intro r z <;> pointwise <;> blk_point [i0, i1, i2, i3]

theorem nextV (c : Dev nD) (t : Fin cfg0.N) (hc : ¬t.val % 32 = 0) (y0 : Fin 256) (y1 : Fin 1024) : (outsAt0 m c t.val t.isLt).2.2 (ix2 y0 y1)
    = (outsAt0 m c (t.val - 1) (Nat.lt_of_le_of_lt (Nat.sub_le _ _) t.isLt)).2.2 (ix2 y0 y1) + partV m c t y0 y1 := by
  have ht := lt32 t
  rw [outsAt0_B m c t (by omega) (by omega) (by omega) (by omega) (by omega) (by omega) (by omega) (by omega)]
  frame_out
  clear hc ht
  canon_tiles x h
  all_goals
    try simp only [heads]
    change y0.val = _ at h0
    change y1.val = _ at h1
    refine (pay40_at _ _ _ x).trans (congrArg₂ (· + ·) ?_ (pieceV m c t _ _ _ _ ?_ ?_ ?_ x y0 h0 (by omega)))
    on_goal 1 => idx_vars x
    on_goal 2 => intro r z
    on_goal 3 => intro r z
    on_goal 4 => intro r z
    all_goals pointwise
    all_goals blk_point [i0, i1, i2, i3]

/-! ## The three results -/

theorem final0 (c : Dev nD) (f0 : ∀ i, ∃ r : ℝ, m ((c : Thread nD τ).loc main_arg0) i = (r : EReal)) (f1 : ∀ i, ∃ r : ℝ, m ((c : Thread nD τ).loc main_arg1) i = (r : EReal))
    (X : FVec Ideal S16384x1024 .bf16) (hX : ∀ r y, X (ix2 r y) = outQ (m ((c : Thread nD τ).loc main_arg0)) (m ((c : Thread nD τ).loc main_arg3))
      (m ((c : Thread nD τ).loc main_arg1)) (m ((c : Thread nD τ).loc main_arg2)) r y) :
    (dats m 0 c).arrAt 4 (cfgs 0).N = X := by
  refine (dats m 0 c).arrAt_eq_of_covers 4 _ (by decide +kernel) fun t hf y => ?_
  have ht := lt32 t
  blk_simp
  rw [after0_4]
  idx_vars y
  have hy : ((cfg0.win 4).blk t).view.emb (ix2 y0 y1) = ix2 (row t y0) y1 := by
    blk_ext [idx_val t]
  rw [hy, hX]
  refine (pointQ m c t y0 y1).trans ?_
  exact Cert.Softmax.dq_eq _ _ _ _ (fun x => f0 _) (fun j x => f1 _) _

theorem final1 (c : Dev nD) (f0 : ∀ i, ∃ r : ℝ, m ((c : Thread nD τ).loc main_arg0) i = (r : EReal)) (f1 : ∀ i, ∃ r : ℝ, m ((c : Thread nD τ).loc main_arg1) i = (r : EReal))
    (X : FVec Ideal S256x1024 .f32) (hX : ∀ r y, X (ix2 r y) = outK (m ((c : Thread nD τ).loc main_arg0)) (m ((c : Thread nD τ).loc main_arg3))
      (m ((c : Thread nD τ).loc main_arg1)) (m ((c : Thread nD τ).loc main_arg2)) r y) :
    (dats m 0 c).arrAt 5 (cfgs 0).N = X := by
  refine (dats m 0 c).arrAt_eq_of_covers 5 _ (by decide +kernel) fun t hf y => ?_
  blk_simp
  have h7 : t.val % 32 = 31 := (flush0_5 t).mp hf
  rw [after0_5, Pipeline.eq_sum_fin_of_reset_step_apply_of_flush (fun n h => (outsAt0 m c n h).2.1) 32 (fun _ => 0) (fun t j => partK m c t (j 0) (j 1))
    (fun t h j => by idx_vars j; rw [firstK m c t h, zero_add])
    (fun t h j => by idx_vars j; rw [nextK m c t h])
    t h7 _, zero_add]
  idx_vars y
  have hy : ((cfg0.win 5).blk t).view.emb (ix2 y0 y1) = ix2 y0 y1 := by
    blk_ext [idx_val t]
  rw [hy, hX, outK]
  simp only [partK]
  refine Fin.sum_mul_add_congr fun s k hl => ?_
  have hr : row ⟨32 * (t.val / 32) + s.val, Pipeline.run_point_lt_of_flush t h7 s⟩ k = ⟨s.val * 512 + k.val, hl⟩ :=
    Fin.ext (by have := lt32 t; show 512 * (32 * (t.val / 32) + s.val) + k.val = s.val * 512 + k.val; omega)
  rw [hr]
  exact Cert.Softmax.dk_eq _ _ _ _ (fun x => f0 _) (fun j x => f1 _) _ _

theorem final2 (c : Dev nD) (X : FVec Ideal S256x1024 .f32) (hX : ∀ r y, X (ix2 r y) = outV (m ((c : Thread nD τ).loc main_arg0))
      (m ((c : Thread nD τ).loc main_arg3)) (m ((c : Thread nD τ).loc main_arg1)) r y) :
    (dats m 0 c).arrAt 6 (cfgs 0).N = X := by
  refine (dats m 0 c).arrAt_eq_of_covers 6 _ (by decide +kernel) fun t hf y => ?_
  blk_simp
  have h7 : t.val % 32 = 31 := (flush0_6 t).mp hf
  rw [after0_6, Pipeline.eq_sum_fin_of_reset_step_apply_of_flush (fun n h => (outsAt0 m c n h).2.2) 32 (fun _ => 0) (fun t j => partV m c t (j 0) (j 1))
    (fun t h j => by idx_vars j; rw [firstV m c t h, zero_add])
    (fun t h j => by idx_vars j; rw [nextV m c t h])
    t h7 _, zero_add]
  idx_vars y
  have hy : ((cfg0.win 6).blk t).view.emb (ix2 y0 y1) = ix2 y0 y1 := by
    blk_ext [idx_val t]
  rw [hy, hX, outV]
  simp only [partV]
  refine Fin.sum_mul_add_congr fun s k hl => ?_
  have hr : row ⟨32 * (t.val / 32) + s.val, Pipeline.run_point_lt_of_flush t h7 s⟩ k = ⟨s.val * 512 + k.val, hl⟩ :=
    Fin.ext (by have := lt32 t; show 512 * (32 * (t.val / 32) + s.val) + k.val = s.val * 512 + k.val; omega)
  rw [hr]
  exact Cert.Softmax.dv_eq _ _ _ _ _

end Cert.KernelXaIdeal.Hand

end
-- ==== Proof.Xf.lean ====
/- The cross-attention's forward pass: each head's softmax over the keys, and its product with the values. -/
module

public import proofs.«01_k».proof.Proof.Gen.KernelXfIdeal.Frame
public import proofs.«01_k».proof.Proof.Gen.ReferenceXfIdeal.Run
public import proofs.«01_k».proof.Proof.Xa

@[expose] public section

set_option maxRecDepth 16384

noncomputable section

open Idealize.ShloMosaic Idealize.ShloMosaic.TcCoe Idealize.SL.Sem
open Idealize.ShloMosaic.Pipeline (Dat)

namespace Cert.Softmax

/-- One entry of a head's output: the values averaged with the softmax of the scores. -/
def att (a : Row) (k v : Fin 256 → Row) (l : Fin 256) : EReal :=
  ∑ j, Ideal.div (weight (score a k) j) (∑ i, weight (score a k) i) * v j l

def attOf (a : Row) (k v : Fin 256 → Row) (l : Fin 256) : EReal :=
  ∑ j, v j l * Ideal.div (weight (scoreOf a k) j) (∑ i, weight (scoreOf a k) i)

theorem att_eq (a : Row) (k v : Fin 256 → Row) (l : Fin 256) : att a k v l = attOf a k v l := by
  rw [att, attOf, score_eq]
  exact Finset.sum_congr rfl fun j _ => mul_comm _ _

end Cert.Softmax

namespace Cert.XfSpec

open Cert.ReferenceXfIdeal Cert.ReferenceXfIdeal.Gen Cert.XaSpec

variable (A0 : FVec Ideal S16384x1024 .f32) (A1 A2 : FVec Ideal S256x1024 .f32)

/-- The result, entry by entry. -/
def out (r : Fin 16384) (y : Fin 1024) : EReal := Cert.Softmax.attOf (tall A0 (hd y) r) (small A1 (hd y)) (small A2 (hd y)) (ln y)

def ro : FVec Ideal S16384x1024 .bf16 :=
  truncf .bf16 (shapeCast _ (transpose S1x16384x4x256 [0, 3, 1, 2] (Host.dotGeneral dot_S1x256x4x256_S1x4x16384x256_S1x4x256x16384_1_3_3_2_02_01 none (shapeCast _ A2 shapeCasts_S256x1024_S1x256x4x256) (Host.divf (ex A0 A1) (broadcastInDim S1x4x16384x256 ![0, 1, 2, 3] bcast_S1x4x16384x1_S1x4x16384x256_0_1_2_3 (sm A0 A1)))) transposes_S1x4x256x16384_S1x16384x4x256_0_3_1_2) shapeCasts_S1x16384x4x256_S16384x1024) bitsLt_bf16_f32

theorem out_eq (r : Fin 16384) (y : Fin 1024) : out A0 A1 A2 r y = ∑ j, A2 (ix2 j y) * Ideal.div (Cert.Softmax.weight (Cert.Softmax.scoreOf (tall A0 (hd y) r) (small A1 (hd y))) j) (∑ i, Cert.Softmax.weight (Cert.Softmax.scoreOf (tall A0 (hd y) r) (small A1 (hd y))) i) := by
  rw [out, Cert.Softmax.attOf]
  refine Finset.sum_congr rfl fun x _ => ?_
  show A2 (ix2 x (col (hd y) (ln y))) * _ = _
  rw [col_hd]

theorem ro_at (r : Fin 16384) (y : Fin 1024) : ro A0 A1 A2 (ix2 r y) = out A0 A1 A2 r y := by
  pointwise [ro]
  simp only [ex_at, sm_at]
  exact (out_eq A0 A1 A2 r y).symm

end Cert.XfSpec

namespace Cert.KernelXfIdeal.Hand

open Cert.KernelXfIdeal Cert.KernelXfIdeal.Gen Cert.XaSpec
open Cert.KernelXaIdeal.Hand (line)

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

/-- One head's output from its slices of the blocks. -/
def head (q : Vec Ideal S512x256 .f32) (k v : Vec Ideal S256x256 .f32) : FVec Ideal S512x256 .bf16 := k0_pay9 (k0_pay6 q k) v

/-- The four heads run the same steps. -/
theorem heads : (∀ q k v, k0_pay10 (F := Ideal) (k0_pay3 q k) v = head q k v) ∧ (∀ q k v, k0_pay1 (F := Ideal) (k0_pay7 (k0_pay4 q k)) v = head q k v)
    ∧ ∀ q k v, k0_pay2 (F := Ideal) (k0_pay8 (k0_pay5 q k)) v = head q k v :=
  ⟨fun _ _ _ => rfl, fun _ _ _ => rfl, fun _ _ _ => rfl⟩

theorem pay6_at (q : Vec Ideal S512x256 .f32) (k : Vec Ideal S256x256 .f32) (r : Fin 512) (j : Fin 256) :
    k0_pay6 q k (ix2 r j) = Cert.Softmax.weight (Cert.Softmax.score (line q r) (line k)) j := by
  pointwise [k0_pay6]
  rfl

theorem head_at (q : Vec Ideal S512x256 .f32) (k v : Vec Ideal S256x256 .f32) (r : Fin 512) (l : Fin 256) :
    head q k v (ix2 r l) = Cert.Softmax.att (line q r) (line k) (line v) l := by
  pointwise [head, k0_pay9]
  simp only [pay6_at]
  rfl

theorem i0 (c : Dev nD) (t : Fin cfg0.N) (r : Fin 512) (k : Fin 1024) : iblk m c 0 t (ix2 r k) = m ((c : Thread nD τ).loc main_arg0) (ix2 (row t r) k) := by
  blk_point [iblk, V, idx_val t]
theorem i1 (c : Dev nD) (t : Fin cfg0.N) (r : Fin 256) (k : Fin 1024) : iblk m c 1 t (ix2 r k) = m ((c : Thread nD τ).loc main_arg1) (ix2 r k) := by
  blk_point [iblk, V, idx_val t]
theorem i2 (c : Dev nD) (t : Fin cfg0.N) (r : Fin 256) (k : Fin 1024) : iblk m c 2 t (ix2 r k) = m ((c : Thread nD τ).loc main_arg2) (ix2 r k) := by
  blk_point [iblk, V, idx_val t]

/-- The part of the result that the head's slices of the blocks give. -/
theorem piece (c : Dev nD) (t : Fin cfg0.N) (q : Vec Ideal S512x256 .f32) (k v : Vec Ideal S256x256 .f32) (y : Fin 1024)
    (hq : ∀ r z, q (ix2 r z) = m ((c : Thread nD τ).loc main_arg0) (ix2 (row t r) (col (hd y) z)))
    (hk : ∀ r z, k (ix2 r z) = m ((c : Thread nD τ).loc main_arg1) (ix2 r (col (hd y) z)))
    (hv : ∀ r z, v (ix2 r z) = m ((c : Thread nD τ).loc main_arg2) (ix2 r (col (hd y) z)))
    (x : S512x256.Idx) (r : Fin 512) (e0 : r.val = (x 0).val) (e1 : y.val % 256 = (x 1).val) :
    head q k v x = Cert.XfSpec.out (m ((c : Thread nD τ).loc main_arg0)) (m ((c : Thread nD τ).loc main_arg1)) (m ((c : Thread nD τ).loc main_arg2)) (row t r) y := by
  idx_vars x
  obtain rfl : r = x0 := Fin.ext e0
  obtain rfl : ln y = x1 := Fin.ext e1
  rw [head_at, Cert.XfSpec.out, Cert.Softmax.att_eq]
  simp only [show ∀ r, line q r = tall _ (hd y) (row t r) from fun r => funext (hq r), show line k = small _ (hd y) from funext₂ hk,
    show line v = small _ (hd y) from funext₂ hv]

theorem point (c : Dev nD) (t : Fin cfg0.N) (y0 : Fin 512) (y1 : Fin 1024) : out0_3 (iblk m c 0 t) (iblk m c 1 t) (iblk m c 2 t) (ix2 y0 y1)
    = Cert.XfSpec.out (m ((c : Thread nD τ).loc main_arg0)) (m ((c : Thread nD τ).loc main_arg1)) (m ((c : Thread nD τ).loc main_arg2)) (row t y0) y1 := by
  canon_tiles x h
  all_goals
    try simp only [heads]
    change y1.val = _ at h1
    refine piece m c t _ _ _ _ ?_ ?_ ?_ x y0 h0 (by omega) <;> intro r z <;> pointwise <;> blk_point [i0, i1, i2]

theorem final (c : Dev nD) (X : FVec Ideal S16384x1024 .bf16) (hX : ∀ r y, X (ix2 r y) = Cert.XfSpec.out (m ((c : Thread nD τ).loc main_arg0))
      (m ((c : Thread nD τ).loc main_arg1)) (m ((c : Thread nD τ).loc main_arg2)) r y) :
    (dats m 0 c).arrAt 3 (cfgs 0).N = X := by
  refine (dats m 0 c).arrAt_eq_of_covers 3 _ (by decide +kernel) fun t hf y => ?_
  have ht := lt32 t
  blk_simp
  rw [after0_3]
  idx_vars y
  have hy : ((cfg0.win 3).blk t).view.emb (ix2 y0 y1) = ix2 (row t y0) y1 := by
    blk_ext [idx_val t]
  rw [hy, hX]
  exact point m c t y0 y1

end Cert.KernelXfIdeal.Hand

end
-- ==== Proof.Loss.lean ====
/- The loss of the normalised hidden states against the targets: the squared differences summed over the rows, and
   the mean loss's gradients with respect to the hidden states and to the norm's gain. -/
module

public import proofs.«01_k».proof.Proof.Gen.KernelLossIdeal.Frame
public import proofs.«01_k».proof.Proof.Gen.ReferenceLossIdeal.Run
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelLossIdeal.Hand

open Cert.KernelLossIdeal Cert.KernelLossIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0] :=
  (by decide +kernel : ∀ t : Fin grid0.N, _)

/-- One entry of the normalised row, its difference from the target, and the difference's square. -/
def normed (x : Fin 1024 → EReal) (k : Fin 1024) : EReal := x k * Ideal.rsqrt (Cert.Norm.V 0x44800000#32 x)

def diff (x : Fin 1024 → EReal) (g t : EReal) (k : Fin 1024) : EReal := normed x k * g - t

def square (x : Fin 1024 → EReal) (g t : EReal) (k : Fin 1024) : EReal := diff x g t k * diff x g t k

/-- The mean loss's gradient with respect to one difference: a single scaling, and the chain of the halving, the
    mean and the square. -/
def slope (d : EReal) : EReal := d * Ideal.ofBits .f32 0x3A800000#32

def slopeChain (d : EReal) : EReal :=
  Ideal.div (Ideal.ofBits .f32 0x3F000000#32) (Ideal.ofBits .f32 0x44800000#32) * (Ideal.ofBits .f32 0x40000000#32 * d)

theorem scale_lit : Ideal.ofBits .f32 0x3A800000#32 = ((1 / 1024 : ℝ) : EReal) := by
  simp [Ideal.ofBits, Ideal.ieee, -EReal.coe_mul]
  norm_num

theorem two_lit : Ideal.ofBits .f32 0x40000000#32 = ((2 : ℝ) : EReal) := by
  simp [Ideal.ofBits, Ideal.ieee, -EReal.coe_mul]
  norm_num

theorem slope_eq (d : EReal) : slope d = slopeChain d := by
  rw [slope, slopeChain, scale_lit, two_lit, Cert.Reals.half, Cert.Norm.n_lit, Ideal.div_coe (by norm_num), ← mul_assoc, mul_comm d]
  simp only [← EReal.coe_mul]
  norm_num

theorem pay6_at (v0 : Vec Ideal S512x1024 .f32) (v1 : Vec Ideal S1x1024 .f32) (v15 : Vec Ideal S512x1024 .f32) (r : Fin 512) (k : Fin 1024) :
    k0_pay6 v0 v1 v15 (ix2 r k) = diff (fun j => v0 (ix2 r j)) (v1 (ix2 0 k)) (v15 (ix2 r k)) k := by
  pointwise [k0_pay6, k0_pay5, k0_pay4, k0_pay3]
  rfl

theorem pay8_at (v0 : Vec Ideal S512x1024 .f32) (v1 : Vec Ideal S1x1024 .f32) (v15 : Vec Ideal S512x1024 .f32) (r : Fin 512) (k : Fin 1024) :
    k0_pay8 v0 v1 v15 (ix2 r k) = Cert.Norm.byProjection 0x44800000#32 (fun j => v0 (ix2 r j))
      (fun j => slope (diff (fun j => v0 (ix2 r j)) (v1 (ix2 0 j)) (v15 (ix2 r j)) j) * v1 (ix2 0 j)) 0 k := by
  rw [Cert.Norm.byProjection, zero_add]
  pointwise [k0_pay8, k0_pay7, k0_pay5, k0_pay4, k0_pay3]
  simp only [pay6_at]
  rfl

theorem pay9_at (v0 : Vec Ideal S512x1024 .f32) (v1 : Vec Ideal S1x1024 .f32) (v15 : Vec Ideal S512x1024 .f32) (j : S1x1024.Idx) :
    k0_pay9 v0 v1 v15 j = ∑ r : Fin 512, square (fun k => v0 (ix2 r k)) (v1 (ix2 0 (j 1))) (v15 (ix2 r (j 1))) (j 1) := by
  pointwise [k0_pay9]
  exact Finset.sum_congr rfl fun r _ => congrArg₂ (· * ·) (pay6_at v0 v1 v15 r (j 1)) (pay6_at v0 v1 v15 r (j 1))

theorem pay10_at (v0 : Vec Ideal S512x1024 .f32) (v1 : Vec Ideal S1x1024 .f32) (v15 : Vec Ideal S512x1024 .f32) (j : S1x1024.Idx) :
    k0_pay10 v0 v1 v15 j = ∑ r : Fin 512, slope (diff (fun k => v0 (ix2 r k)) (v1 (ix2 0 (j 1))) (v15 (ix2 r (j 1))) (j 1)) * normed (fun k => v0 (ix2 r k)) (j 1) := by
  pointwise [k0_pay10, k0_pay7, k0_pay5, k0_pay4]
  exact Finset.sum_congr rfl fun r _ => congrArg₂ (· * ·) (congrArg (· * _) (pay6_at v0 v1 v15 r (j 1))) rfl

theorem pay1_at (v34 v44 : Vec Ideal S1x1024 .f32) (j : S1x1024.Idx) : k0_pay1 v34 v44 j = v44 j + v34 j := by
  pointwise [k0_pay1]

theorem pay2_at (v37 v48 : Vec Ideal S1x1024 .f32) (j : S1x1024.Idx) : k0_pay2 v37 v48 j = v48 j + v37 j := by
  pointwise [k0_pay2]

section
variable (A0 A2 : FVec Ideal S16384x1024 .f32) (A1 : FVec Ideal S1024 .f32)

/-- The three results, entry by entry, in the reference's form. -/
def outS (k : Fin 1024) : EReal := ∑ r : Fin 16384, square (fun j => A0 (ix2 r j)) (A1 (ix1 k)) (A2 (ix2 r k)) k

def outX (r : Fin 16384) (k : Fin 1024) : EReal :=
  Cert.Norm.byChain 0x44800000#32 (fun j => A0 (ix2 r j)) (fun j => slopeChain (diff (fun j => A0 (ix2 r j)) (A1 (ix1 j)) (A2 (ix2 r j)) j) * A1 (ix1 j)) 0 k

def outG (k : Fin 1024) : EReal :=
  ∑ r : Fin 16384, normed (fun j => A0 (ix2 r j)) k * slopeChain (diff (fun j => A0 (ix2 r j)) (A1 (ix1 k)) (A2 (ix2 r k)) k)
end

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

theorem i0 (c : Dev nD) (t : Fin cfg0.N) (r : Fin 512) (k : Fin 1024) : iblk m c 0 t (ix2 r k) = m ((c : Thread nD τ).loc main_arg0) (ix2 (row t r) k) := by
  blk_point [iblk, V, idx_val t]
theorem i1 (c : Dev nD) (t : Fin cfg0.N) (k : Fin 1024) : iblk m c 1 t (ix2 (0 : Fin 1) k) = m ((c : Thread nD τ).loc main_arg1) (ix1 k) := by
  blk_point [iblk, V, idx_val t]
theorem i2 (c : Dev nD) (t : Fin cfg0.N) (r : Fin 512) (k : Fin 1024) : iblk m c 2 t (ix2 r k) = m ((c : Thread nD τ).loc main_arg2) (ix2 (row t r) k) := by
  blk_point [iblk, V, idx_val t]

/-- A run of all the grid points ends at the last one, and its blocks are the array's rows in order. -/
theorem row_run (t : Fin cfg0.N) (h7 : t.val % 32 = 31) (s : Fin 32) (k : Fin 512) (h : 32 * (t.val / 32) + s.val < cfg0.N) (hl : s.val * 512 + k.val < 16384) :
    row ⟨32 * (t.val / 32) + s.val, h⟩ k = ⟨s.val * 512 + k.val, hl⟩ :=
  Fin.ext (by have := lt32 t; show 512 * (32 * (t.val / 32) + s.val) + k.val = s.val * 512 + k.val; omega)

theorem finalS (c : Dev nD) (X : FVec Ideal S1x1024 .f32) (hX : ∀ k, X (ix2 0 k) = outS (m ((c : Thread nD τ).loc main_arg0)) (m ((c : Thread nD τ).loc main_arg2))
      (m ((c : Thread nD τ).loc main_arg1)) k) : (dats m 0 c).arrAt 3 (cfgs 0).N = X := by
  refine (dats m 0 c).arrAt_eq_of_covers 3 _ (by decide +kernel) fun t hf y => ?_
  blk_simp
  have h7 : t.val % 32 = 31 := (flush0_3 t).mp hf
  rw [after0_3, Pipeline.eq_sum_fin_of_reset_step_apply_of_flush (fun n h => (outsAt0 m c n h).1) 32 (fun _ => 0) _
    (fun t h j => by rw [outsAt0_A m c t h (by have := lt32 t; omega)]; frame_out; rw [pay9_at, zero_add])
    (fun t h j => by rw [outsAt0_B m c t h (by have := lt32 t; omega)]; frame_out; rw [pay1_at, pay9_at])
    t h7 _, zero_add]
  idx_vars y
  have hy : ((cfg0.win 3).blk t).view.emb (ix2 y0 y1) = ix2 (0 : Fin 1) y1 := by
    blk_ext [idx_val t]
  rw [hy, hX, outS]
  refine Fin.sum_mul_add_congr fun s k hl => ?_
  simp only [i0, i1, i2]
  rw [row_run t h7 s k (Pipeline.run_point_lt_of_flush t h7 s) hl]

theorem finalX (c : Dev nD)
    (X : FVec Ideal S16384x1024 .f32) (hX : ∀ r k, X (ix2 r k) = outX (m ((c : Thread nD τ).loc main_arg0)) (m ((c : Thread nD τ).loc main_arg2))
      (m ((c : Thread nD τ).loc main_arg1)) r k) : (dats m 0 c).arrAt 4 (cfgs 0).N = X := by
  refine (dats m 0 c).arrAt_eq_of_covers 4 _ (by decide +kernel) fun t hf y => ?_
  have ht := lt32 t
  blk_simp
  rw [after0_4]
  have e : (outsAt0 m c t.val t.isLt).2.1 y = k0_pay8 (iblk m c 0 t) (iblk m c 1 t) (iblk m c 2 t) y := by
    by_cases h0 : t.val % 32 = 0
    · rw [outsAt0_A m c t h0 (by omega)]
      frame_out
    · rw [outsAt0_B m c t h0 (by omega)]
      frame_out
  rw [e]
  idx_vars y
  have hy : ((cfg0.win 4).blk t).view.emb (ix2 y0 y1) = ix2 (row t y0) y1 := by
    blk_ext [idx_val t]
  rw [hy, hX, pay8_at]
  simp only [i0, i1, i2, outX, ← slope_eq]
  exact Cert.Norm.byProjection_eq (by norm_num) Cert.Norm.n_lit _ _ _ _

theorem finalG (c : Dev nD) (X : FVec Ideal S1x1024 .f32) (hX : ∀ k, X (ix2 0 k) = outG (m ((c : Thread nD τ).loc main_arg0)) (m ((c : Thread nD τ).loc main_arg2))
      (m ((c : Thread nD τ).loc main_arg1)) k) : (dats m 0 c).arrAt 5 (cfgs 0).N = X := by
  refine (dats m 0 c).arrAt_eq_of_covers 5 _ (by decide +kernel) fun t hf y => ?_
  blk_simp
  have h7 : t.val % 32 = 31 := (flush0_5 t).mp hf
  rw [after0_5, Pipeline.eq_sum_fin_of_reset_step_apply_of_flush (fun n h => (outsAt0 m c n h).2.2) 32 (fun _ => 0) _
    (fun t h j => by rw [outsAt0_A m c t h (by have := lt32 t; omega)]; frame_out; rw [pay10_at, zero_add])
    (fun t h j => by rw [outsAt0_B m c t h (by have := lt32 t; omega)]; frame_out; rw [pay2_at, pay10_at])
    t h7 _, zero_add]
  idx_vars y
  have hy : ((cfg0.win 5).blk t).view.emb (ix2 y0 y1) = ix2 (0 : Fin 1) y1 := by
    blk_ext [idx_val t]
  rw [hy, hX, outG]
  refine Fin.sum_mul_add_congr fun s k hl => ?_
  simp only [i0, i1, i2]
  rw [row_run t h7 s k (Pipeline.run_point_lt_of_flush t h7 s) hl, mul_comm, slope_eq]

end Cert.KernelLossIdeal.Hand

end
-- ==== Proof.Gate.lean ====
/- The mixer's gated output: each head's root-mean-square norm and gain, times `z * logistic z` of the gate's projection. -/
module

public import proofs.«01_k».proof.Proof.Gen.KernelGateIdeal.Frame
public import proofs.«01_k».proof.Proof.Gen.ReferenceGateIdeal.Run
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.GateSpec

/-- The column of lane `x` of head `h`, and the projection's column with that head's gate. -/
abbrev col (h : Fin 8) (x : Fin 128) : Fin 1024 := ⟨h.val * 128 + x.val, by omega⟩
abbrev zcol (y : Fin 1024) : Fin 4224 := ⟨3072 + y.val, by omega⟩

/-- The head and the lane of a column. -/
abbrev hd (y : Fin 1024) : Fin 8 := ⟨y.val / 128, by omega⟩
abbrev ln (y : Fin 1024) : Fin 128 := ⟨y.val % 128, by omega⟩

/-- One head's part of a row, and of the gate's columns of a row of the projection. -/
abbrev part (A : FVec Ideal ⟨2, ![16384, 1024]⟩ .f32) (h : Fin 8) (r : Fin 16384) : Fin 128 → EReal := fun x => A (ix2 r (col h x))
abbrev gate (A : FVec Ideal ⟨2, ![16384, 4224]⟩ .f32) (h : Fin 8) (r : Fin 16384) : Fin 128 → EReal := fun x => A (ix2 r (zcol (col h x)))

/-- A row of a head's block. -/
abbrev line {n : ℕ} (q : FVec Ideal ⟨2, ![n, 128]⟩ .f32) (r : Fin n) : Fin 128 → EReal := fun x => q (ix2 r x)

/-- One entry of the normalised row. -/
def normed (x : Fin 128 → EReal) (k : Fin 128) : EReal := x k * Ideal.rsqrt (Cert.Norm.V 0x43000000#32 x)

def silu (z : EReal) : EReal := z * Ideal.logistic z

def gated (x g z : Fin 128 → EReal) (k : Fin 128) : EReal := normed x k * g k * silu (z k)

section
open Cert.ReferenceGateIdeal Cert.ReferenceGateIdeal.Gen

variable (A0 : FVec Ideal S16384x1024 .f32) (A1 : FVec Ideal S16384x4224 .f32) (A2 : FVec Ideal S128 .f32)

/-- The result, entry by entry. -/
def out (r : Fin 16384) (y : Fin 1024) : EReal := gated (part A0 (hd y) r) (fun x => A2 (ix1 x)) (gate A1 (hd y) r) (ln y)

def x3 : FVec Ideal S16384x8x128 .f32 := shapeCast _ A0 shapeCasts_S16384x1024_S16384x8x128

theorem x3_at (r : Fin 16384) (h : Fin 8) (x : Fin 128) : x3 A0 (ix3 r h x) = part A0 h r x := by
  pointwise [x3]

def n3 : FVec Ideal S16384x8x128 .f32 :=
  mulf (x3 A0) (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf (x3 A0) (x3 A0)) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32)))))

theorem n3_at (r : Fin 16384) (h : Fin 8) (x : Fin 128) : n3 A0 (ix3 r h x) = normed (part A0 h r) x := by
  pointwise [n3]
  simp only [x3_at]
  rfl

def z3 : FVec Ideal S16384x8x128 .f32 := shapeCast _ (extractStridedSlice S16384x1024 ![0, 3072] A1 slices_S16384x4224_S16384x1024_0_3072) shapeCasts_S16384x1024_S16384x8x128

theorem z3_at (r : Fin 16384) (h : Fin 8) (x : Fin 128) : z3 A1 (ix3 r h x) = gate A1 h r x := by
  pointwise [z3]

def l3 : FVec Ideal S16384x8x128 .f32 :=
  Host.divf (broadcastInDim S16384x8x128 ![] bcast_S_S16384x8x128 (constant S_ .f32 0x3F800000#32)) (addf (broadcastInDim S16384x8x128 ![] bcast_S_S16384x8x128 (constant S_ .f32 0x3F800000#32)) (Host.exp (Host.negf (z3 A1))))

theorem l3_at (r : Fin 16384) (h : Fin 8) (x : Fin 128) : l3 A1 (ix3 r h x) = Ideal.logistic (gate A1 h r x) := by
  pointwise [l3, Ideal.logistic]
  rw [z3_at]

def y3 : FVec Ideal S16384x8x128 .f32 :=
  mulf (n3 A0) (broadcastInDim S16384x8x128 ![0, 1, 2] bcast_S1x1x128_S16384x8x128_0_1_2 (broadcastInDim S1x1x128 ![2] bcast_S128_S1x1x128_2 A2))

theorem y3_at (r : Fin 16384) (h : Fin 8) (x : Fin 128) : y3 A0 A2 (ix3 r h x) = normed (part A0 h r) x * A2 (ix1 x) := by
  pointwise [y3]
  rw [n3_at]

def ro : FVec Ideal S16384x1024 .bf16 :=
  truncf .bf16 (shapeCast _ (mulf (y3 A0 A2) (mulf (z3 A1) (l3 A1))) shapeCasts_S16384x8x128_S16384x1024) bitsLt_bf16_f32

theorem ro_at (r : Fin 16384) (y : Fin 1024) : ro A0 A1 A2 (ix2 r y) = out A0 A1 A2 r y := by
  pointwise [ro]
  rw [y3_at, z3_at, l3_at]
  rfl
end

end Cert.GateSpec

namespace Cert.KernelGateIdeal.Hand

open Cert.KernelGateIdeal Cert.KernelGateIdeal.Gen Cert.GateSpec

variable (m : (ℓ : Loc nD τ sig) → Buf (Elt Ideal) ℓ)

theorem idx_val : ∀ t : Fin cfg0.N, win0_0.index t = ![t.val, 0]
    ∧ win0_1.index t = ![t.val, 3]
    ∧ win0_2.index t = ![0, 0]
    ∧ win0_3.index t = ![t.val, 0] :=
  (by decide +kernel : ∀ t : Fin grid0.N, _)

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

theorem pay2_at (o : Vec Ideal S512x128 .f32) (g : Vec Ideal S1x128 .f32) (z : Vec Ideal S512x128 .f32) (r : Fin 512) (l : Fin 128) :
    k0_pay2 o g z (ix2 r l) = gated (line o r) (line g 0) (line z r) l := by
  pointwise [k0_pay2]
  rfl

theorem i0 (c : Dev nD) (t : Fin cfg0.N) (r : Fin 512) (k : Fin 1024) : iblk m c 0 t (ix2 r k) = m ((c : Thread nD τ).loc main_arg0) (ix2 (row t r) k) := by
  blk_point [iblk, V, idx_val t]
theorem i1 (c : Dev nD) (t : Fin cfg0.N) (r : Fin 512) (k : Fin 1024) : X0_1 m c t (ix2 r k) = m ((c : Thread nD τ).loc main_arg1) (ix2 (row t r) (zcol k)) := by
  rw [X0_1, Pipeline.Window.fill, dif_pos (moved0_1 t _)]
  blk_point [iblk, V, idx_val t]
theorem i2 (c : Dev nD) (t : Fin cfg0.N) (k : Fin 128) : iblk m c 2 t (ix2 (0 : Fin 1) k) = m ((c : Thread nD τ).loc main_arg2) (ix1 k) := by
  blk_point [iblk, V, idx_val t]

/-- The part of the result that the head's slices of the blocks give. -/
theorem piece (c : Dev nD) (t : Fin cfg0.N) (o z : Vec Ideal S512x128 .f32) (g : Vec Ideal S1x128 .f32) (y : Fin 1024)
    (ho : ∀ r x, o (ix2 r x) = m ((c : Thread nD τ).loc main_arg0) (ix2 (row t r) (col (hd y) x)))
    (hg : ∀ r x, g (ix2 r x) = m ((c : Thread nD τ).loc main_arg2) (ix1 x))
    (hz : ∀ r x, z (ix2 r x) = m ((c : Thread nD τ).loc main_arg1) (ix2 (row t r) (zcol (col (hd y) x))))
    (x : S512x128.Idx) (r : Fin 512) (e0 : r.val = (x 0).val) (e1 : y.val % 128 = (x 1).val) :
    k0_pay2 o g z x = out (m ((c : Thread nD τ).loc main_arg0)) (m ((c : Thread nD τ).loc main_arg1)) (m ((c : Thread nD τ).loc main_arg2)) (row t r) y := by
  idx_vars x
  obtain rfl : r = x0 := Fin.ext e0
  obtain rfl : ln y = x1 := Fin.ext e1
  rw [pay2_at, out]
  simp only [show ∀ r, line o r = part _ (hd y) (row t r) from fun r => funext (ho r), show line g 0 = fun x => _ from funext (hg 0),
    show ∀ r, line z r = gate _ (hd y) (row t r) from fun r => funext (hz r)]

theorem point (c : Dev nD) (t : Fin cfg0.N) (y0 : Fin 512) (y1 : Fin 1024) : outsAt0 m c t (ix2 y0 y1)
    = out (m ((c : Thread nD τ).loc main_arg0)) (m ((c : Thread nD τ).loc main_arg1)) (m ((c : Thread nD τ).loc main_arg2)) (row t y0) y1 := by
  rw [outsAt0]
  have i1 := i1 m c t
  generalize X0_1 m c t = Z at i1 ⊢
  frame_out
  canon_tiles x h
  all_goals
    change y1.val = _ at h1
    refine piece m c t _ _ _ _ ?_ ?_ ?_ x y0 h0 (by omega)
    all_goals
      intro r z
      pointwise
      first | (obtain rfl := Subsingleton.elim r (0 : Fin 1); blk_point [i0, i1, i2]) | blk_point [i0, i1, i2]

theorem final (c : Dev nD) (X : FVec Ideal S16384x1024 .bf16) (hX : ∀ r y, X (ix2 r y) = out (m ((c : Thread nD τ).loc main_arg0))
      (m ((c : Thread nD τ).loc main_arg1)) (m ((c : Thread nD τ).loc main_arg2)) r y) :
    (dats m 0 c).arrAt 3 (cfgs 0).N = X := by
  refine (dats m 0 c).arrAt_eq_of_covers 3 _ (by decide +kernel) fun t hf y => ?_
  have ht := lt32 t
  blk_simp
  rw [after0_3]
  idx_vars y
  have hy : ((cfg0.win 3).blk t).view.emb (ix2 y0 y1) = ix2 (row t y0) y1 := by
    blk_ext [idx_val t]
  rw [hy, hX]
  exact point m c t y0 y1

end Cert.KernelGateIdeal.Hand

end
-- ==== Proof.Dgate.lean ====
/- The gradient of the mixer's gated output: of each head's normalised values, of the gate's projection, and of the
   norm's gain, which is summed over the heads and over all the rows. -/
module

public import proofs.«01_k».proof.Proof.Gen.KernelDgateIdeal.Frame
public import proofs.«01_k».proof.Proof.Gen.ReferenceDgateIdeal.Run
public import proofs.«01_k».proof.Proof.Da
public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.DgateSpec

open Cert.GateSpec

/-- The gradient reaching the normalised row, scaled by the gain, one entry. -/
def scaled (d g z : Fin 128 → EReal) (k : Fin 128) : EReal := d k * silu (z k) * g k

/-- The gradient of the gate's projection in the kernel's and in the reference's form. -/
def slope (x g z d : Fin 128 → EReal) (k : Fin 128) : EReal :=
  d k * normed x k * g k * (Ideal.logistic (z k) * (1 + z k * (1 - Ideal.logistic (z k))))

def slopeChain (x g z d : Fin 128 → EReal) (k : Fin 128) : EReal :=
  normed x k * g k * d k * Ideal.logistic (z k) + z k * (normed x k * g k * d k) * (Ideal.logistic (z k) * (1 - Ideal.logistic (z k)))

/-- One row's and head's share of the gain's gradient. -/
def gain (x z d : Fin 128 → EReal) (k : Fin 128) : EReal := d k * normed x k * silu (z k)

/-- A normalised entry is real, even in a row with infinite entries. -/
theorem normed_real (x : Fin 128 → EReal) (k : Fin 128) : ∃ r : ℝ, normed x k = r := by
  rw [normed]
  obtain ⟨x', rfl⟩ | e := Cert.Norm.V_cases (by norm_num) Cert.Norm.head_lit x
  · obtain ⟨v, hv, e⟩ := Cert.Norm.V_real (by norm_num) Cert.Norm.head_lit x'
    exact ⟨x' k * (Real.sqrt v)⁻¹, by rw [e, Cert.Norm.rsqrt_real hv, EReal.coe_mul]⟩
  · exact ⟨0, by rw [e, show Ideal.rsqrt ⊤ = 0 from rfl, mul_zero, EReal.coe_zero]⟩

theorem slope_eq (x g z d : Fin 128 → EReal) (k : Fin 128) (hg : ∃ r : ℝ, g k = r) (hd : ∃ r : ℝ, d k = r) :
    slope x g z d k = slopeChain x g z d k := by
  obtain ⟨n, hn⟩ := normed_real x k
  obtain ⟨g', hg⟩ := hg
  obtain ⟨d', hd⟩ := hd
  have h : ((n : EReal) * g' * d') = ((d' * n * g' : ℝ) : EReal) := by
    rw [← EReal.coe_mul, ← EReal.coe_mul]
    exact congrArg Real.toEReal (by ring)
  rw [slope, slopeChain, hn, hg, hd, h, ← EReal.coe_mul, ← EReal.coe_mul]
  exact Cert.KernelDaIdeal.Hand.silu_grad _ _

/-- A sum over the two leading axes. -/
theorem sum_lead_at {n0 n1 n2 : ℕ} (x : FVec Ideal ⟨3, ![n0, n1, n2]⟩ .f32) (e : EReal)
    (h : (⟨3, ![n0, n1, n2]⟩ : Shape).ReducesTo [0, 1] ⟨1, ![n2]⟩) (l : Fin n2) :
    Ideal.hostReduceAdd h x e (ix1 l) = e + ∑ r : Fin n0, ∑ k : Fin n1, x (ix3 r k l) := by
  rw [Ideal.hostReduceAdd, ← Fintype.sum_prod_type' (f := fun r k => x (ix3 r k l))]
  have hi : ∀ i ∈ Finset.univ.filter (fun i => h.drop i = ix1 l), ix3 (i 0 : Fin n0) (i 1 : Fin n1) l = i := fun i hi => by
    have e := (Finset.mem_filter.1 hi).2
    funext a
    match a with
    | ⟨0, _⟩ => rfl
    | ⟨1, _⟩ => rfl
    | ⟨2, _⟩ => exact Fin.ext (congrArg Fin.val (congrFun e 0)).symm
  refine congrArg (e + ·) (Finset.sum_nbij' (fun i => ((i 0 : Fin n0), (i 1 : Fin n1))) (fun p => ix3 p.1 p.2 l) (fun _ _ => Finset.mem_univ _) (fun p _ => ?_) hi (fun _ _ => rfl) fun i h => congrArg x (hi i h).symm)
  refine Finset.mem_filter.2 ⟨Finset.mem_univ _, funext fun a => ?_⟩
  match a with
  | ⟨0, _⟩ => exact Fin.ext rfl

section
open Cert.ReferenceDgateIdeal Cert.ReferenceDgateIdeal.Gen

variable (A0 A3 : FVec Ideal S16384x1024 .f32) (A1 : FVec Ideal S16384x4224 .f32) (A2 : FVec Ideal S128 .f32)

/-- The three results, entry by entry, in the reference's form. -/
def outX (r : Fin 16384) (y : Fin 1024) : EReal :=
  Cert.Norm.byChain 0x43000000#32 (part A0 (hd y) r) (scaled (part A3 (hd y) r) (fun x => A2 (ix1 x)) (gate A1 (hd y) r)) 0 (ln y)

def outZ (r : Fin 16384) (y : Fin 1024) : EReal :=
  slopeChain (part A0 (hd y) r) (fun x => A2 (ix1 x)) (gate A1 (hd y) r) (part A3 (hd y) r) (ln y)

def outG (l : Fin 128) : EReal := ∑ r : Fin 16384, ∑ h : Fin 8, gain (part A0 h r) (gate A1 h r) (part A3 h r) l

def v3 : FVec Ideal S16384x8x1 .f32 :=
  addf (Host.divf (broadcastInDim S16384x8x1 ![0, 1] bcast_S16384x8_S16384x8x1_0_1 (Host.reduceAdd (mulf (x3 A0) (x3 A0)) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32))

theorem v3_at (r : Fin 16384) (h : Fin 8) (k : Fin 1) : v3 A0 (ix3 r h k) = Cert.Norm.V 0x43000000#32 (part A0 h r) := by
  pointwise [v3]
  simp only [x3_at]
  rfl

def s3 : FVec Ideal S16384x8x128 .f32 := mulf (x3 A3) (mulf (z3 A1) (l3 A1))

theorem s3_at (r : Fin 16384) (h : Fin 8) (x : Fin 128) : s3 A3 A1 (ix3 r h x) = part A3 h r x * silu (gate A1 h r x) := by
  pointwise [s3]
  rw [x3_at, z3_at, l3_at]
  rfl

def u3 : FVec Ideal S16384x8x128 .f32 :=
  mulf (s3 A3 A1) (broadcastInDim S16384x8x128 ![0, 1, 2] bcast_S1x1x128_S16384x8x128_0_1_2 (broadcastInDim S1x1x128 ![2] bcast_S128_S1x1x128_2 A2))

theorem u3_at (r : Fin 16384) (h : Fin 8) (x : Fin 128) : u3 A3 A1 A2 (ix3 r h x) = scaled (part A3 h r) (fun x => A2 (ix1 x)) (gate A1 h r) x := by
  pointwise [u3]
  rw [s3_at]
  rfl

def t2 : FVec Ideal S16384x8 .f32 :=
  Host.reduceAdd (Host.divf (mulf (shapeCast _ (Host.reduceAdd (mulf (x3 A0) (u3 A3 A1 A2)) (constant S_ .f32 0x00000000#32) reducesTo_S16384x8x128_S16384x8_d2 h_S_) shapeCasts_S16384x8_S16384x8x1)
    (mulf (broadcastInDim S16384x8x1 ![] bcast_S_S16384x8x1 (constant S_ .f32 0xBF000000#32)) (Host.divf (Host.rsqrt (v3 A0)) (v3 A0))))
    (broadcastInDim S16384x8x1 ![] bcast_S_S16384x8x1 (constant S_ .f32 0x43000000#32))) (constant S_ .f32 0x00000000#32) reducesTo_S16384x8x1_S16384x8_d2 h_S_

theorem t2_at (r : Fin 16384) (h : Fin 8) : t2 A0 A3 A1 A2 (ix2 r h)
    = Cert.Norm.through 0x43000000#32 (part A0 h r) (scaled (part A3 h r) (fun x => A2 (ix1 x)) (gate A1 h r)) := by
  pointwise [t2]
  simp only [Finset.univ_unique, Finset.sum_singleton, x3_at, u3_at, v3_at]
  rfl

def rx : FVec Ideal S16384x1024 .f32 :=
  shapeCast _ (addf (addf (mulf (u3 A3 A1 A2) (broadcastInDim S16384x8x128 ![0, 1, 2] bcast_S16384x8x1_S16384x8x128_0_1_2 (Host.rsqrt (v3 A0))))
    (mulf (x3 A0) (broadcastInDim S16384x8x128 ![0, 1] bcast_S16384x8_S16384x8x128_0_1 (t2 A0 A3 A1 A2))))
    (mulf (broadcastInDim S16384x8x128 ![0, 1] bcast_S16384x8_S16384x8x128_0_1 (t2 A0 A3 A1 A2)) (x3 A0))) shapeCasts_S16384x8x128_S16384x1024

theorem rx_at (r : Fin 16384) (y : Fin 1024) : rx A0 A3 A1 A2 (ix2 r y) = outX A0 A3 A1 A2 r y := by
  rw [outX, Cert.Norm.byChain, zero_add]
  pointwise [rx]
  simp only [x3_at, u3_at, v3_at, t2_at]

def d3 : FVec Ideal S16384x8x128 .f32 := mulf (y3 A0 A2) (x3 A3)

theorem d3_at (r : Fin 16384) (h : Fin 8) (x : Fin 128) : d3 A0 A3 A2 (ix3 r h x) = normed (part A0 h r) x * A2 (ix1 x) * part A3 h r x := by
  pointwise [d3]
  rw [y3_at, x3_at]

def rz : FVec Ideal S16384x1024 .bf16 :=
  truncf .bf16 (shapeCast _ (addf (mulf (d3 A0 A3 A2) (l3 A1)) (mulf (mulf (z3 A1) (d3 A0 A3 A2)) (mulf (l3 A1) (subf (broadcastInDim S16384x8x128 ![] bcast_S_S16384x8x128 (constant S_ .f32 0x3F800000#32)) (l3 A1))))) shapeCasts_S16384x8x128_S16384x1024) bitsLt_bf16_f32

theorem rz_at (r : Fin 16384) (y : Fin 1024) : rz A0 A3 A1 A2 (ix2 r y) = outZ A0 A3 A1 A2 r y := by
  pointwise [rz]
  simp only [d3_at, z3_at, l3_at]
  rfl

def rg : FVec Ideal S1x128 .f32 :=
  shapeCast _ (Host.reduceAdd (shapeCast _ (Host.reduceAdd (mulf (n3 A0) (s3 A3 A1)) (constant S_ .f32 0x00000000#32) reducesTo_S16384x8x128_S128_d0_1 h_S_) shapeCasts_S128_S1x1x128)
    (constant S_ .f32 0x00000000#32) reducesTo_S1x1x128_S128_d0_1 h_S_) shapeCasts_S128_S1x128

theorem rg_at (l : Fin 128) : rg A0 A3 A1 (ix2 0 l) = outG A0 A3 A1 l := by
  pointwise [rg]
  rw [sum_lead_at, zero_add, Finset.univ_unique, Finset.sum_singleton, Finset.sum_singleton]
  pointwise
  rw [sum_lead_at, zero_add]
  simp only [mulf_apply, n3_at, s3_at]
  refine Finset.sum_congr rfl fun r _ => Finset.sum_congr rfl fun h _ => ?_
  exact (mul_left_comm (_ : EReal) _ _).trans (mul_assoc (_ : EReal) _ _).symm
end

end Cert.DgateSpec

namespace Cert.KernelDgateIdeal.Hand

open Cert.KernelDgateIdeal Cert.KernelDgateIdeal.Gen Cert.GateSpec Cert.DgateSpec

variable (m : (ℓ : Loc nD τ sig) → Buf (Elt Ideal) ℓ)

theorem idx_val : ∀ t : Fin cfg0.N, win0_0.index t = ![t.val, 0]
    ∧ win0_1.index t = ![t.val, 3]
    ∧ win0_2.index t = ![0, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

theorem pay8_at (g : Vec Ideal S1x128 .f32) (o d z : Vec Ideal S512x128 .f32) (r : Fin 512) (l : Fin 128) :
    k0_pay8 g o d z (ix2 r l) = slope (line o r) (line g 0) (line z r) (line d r) l := by
  pointwise [k0_pay8, k0_pay7, k0_pay6, k0_pay4, k0_pay2]
  rfl

theorem pay9_at (g : Vec Ideal S1x128 .f32) (d z : Vec Ideal S512x128 .f32) (r : Fin 512) (l : Fin 128) :
    k0_pay9 g d z (ix2 r l) = scaled (line d r) (line g 0) (line z r) l := by
  pointwise [k0_pay9, k0_pay5, k0_pay4, k0_pay2]
  exact mul_right_comm _ _ _

theorem pay11_at (g : Vec Ideal S1x128 .f32) (o d z : Vec Ideal S512x128 .f32) (r : Fin 512) (l : Fin 128) :
    k0_pay11 (k0_pay6 o) (k0_pay9 g d z) (k0_pay10 g o d z) (ix2 r l)
      = Cert.Norm.byProjection 0x43000000#32 (line o r) (scaled (line d r) (line g 0) (line z r)) 0 l := by
  rw [Cert.Norm.byProjection, zero_add]
  pointwise [k0_pay11, k0_pay10, k0_pay7, k0_pay6]
  simp only [pay9_at]
  rfl

theorem pay12_at (a : Vec Ideal S1x128 .f32) (o d z : Vec Ideal S512x128 .f32) (j : S1x128.Idx) :
    k0_pay12 a d (k0_pay5 z) (k0_pay7 o) j = a j + ∑ r : Fin 512, gain (line o r) (line z r) (line d r) (j 1) := by
  pointwise [k0_pay12, k0_pay7, k0_pay6, k0_pay5, k0_pay4]
  rfl

theorem pay1_at (a b : Vec Ideal S1x128 .f32) (j : S1x128.Idx) : k0_pay1 a b j = b j + a j := by
  pointwise [k0_pay1]

theorem i0 (c : Dev nD) (t : Fin cfg0.N) (r : Fin 512) (k : Fin 1024) : iblk m c 0 t (ix2 r k) = m ((c : Thread nD τ).loc main_arg0) (ix2 (row t r) k) := by
  blk_point [iblk, V, idx_val t]
theorem i1 (c : Dev nD) (t : Fin cfg0.N) (r : Fin 512) (k : Fin 1024) : X0_1 m c t (ix2 r k) = m ((c : Thread nD τ).loc main_arg1) (ix2 (row t r) (zcol k)) := by
  rw [X0_1, Pipeline.Window.fill, dif_pos (moved0_1 t _)]
  blk_point [iblk, V, idx_val t]
theorem i2 (c : Dev nD) (t : Fin cfg0.N) (k : Fin 128) : iblk m c 2 t (ix2 (0 : Fin 1) k) = m ((c : Thread nD τ).loc main_arg2) (ix1 k) := by
  blk_point [iblk, V, idx_val t]
theorem i3 (c : Dev nD) (t : Fin cfg0.N) (r : Fin 512) (k : Fin 1024) : iblk m c 3 t (ix2 r k) = m ((c : Thread nD τ).loc main_arg3) (ix2 (row t r) k) := by
  blk_point [iblk, V, idx_val t]

/-- The slices of the blocks that one head reads. -/
structure Slices (c : Dev nD) (t : Fin cfg0.N) (h : Fin 8) (o d z : Vec Ideal S512x128 .f32) : Prop where
  o_eq : ∀ r x, o (ix2 r x) = m ((c : Thread nD τ).loc main_arg0) (ix2 (row t r) (col h x))
  d_eq : ∀ r x, d (ix2 r x) = m ((c : Thread nD τ).loc main_arg3) (ix2 (row t r) (col h x))
  z_eq : ∀ r x, z (ix2 r x) = m ((c : Thread nD τ).loc main_arg1) (ix2 (row t r) (zcol (col h x)))

section
variable {m} {c : Dev nD} {t : Fin cfg0.N} {h : Fin 8} {o d z : Vec Ideal S512x128 .f32} (H : Slices m c t h o d z)
include H

theorem line_o (r : Fin 512) : line o r = part (m ((c : Thread nD τ).loc main_arg0)) h (row t r) := funext (H.o_eq r)
theorem line_d (r : Fin 512) : line d r = part (m ((c : Thread nD τ).loc main_arg3)) h (row t r) := funext (H.d_eq r)
theorem line_z (r : Fin 512) : line z r = gate (m ((c : Thread nD τ).loc main_arg1)) h (row t r) := funext (H.z_eq r)
end

/-- One row's share of the gain's gradient from one head. -/
abbrev share (c : Dev nD) (l : Fin 128) (r : Fin 16384) (h : Fin 8) : EReal :=
  gain (part (m ((c : Thread nD τ).loc main_arg0)) h r) (gate (m ((c : Thread nD τ).loc main_arg1)) h r) (part (m ((c : Thread nD τ).loc main_arg3)) h r) l

theorem step_at {c : Dev nD} {t : Fin cfg0.N} {h : Fin 8} {o d z : Vec Ideal S512x128 .f32} (H : Slices m c t h o d z) (a : Vec Ideal S1x128 .f32) (j : S1x128.Idx) :
    k0_pay12 a d (k0_pay5 z) (k0_pay7 o) j = a j + ∑ r : Fin 512, share m c (j 1) (row t r) h := by
  rw [pay12_at]
  simp only [line_o H, line_d H, line_z H]

/-- The eight heads' steps, one after the other, give the block's share. -/
theorem chain {c : Dev nD} {t : Fin cfg0.N} {o0 o1 o2 o3 o4 o5 o6 o7 d0 d1 d2 d3 d4 d5 d6 d7 z0 z1 z2 z3 z4 z5 z6 z7 : Vec Ideal S512x128 .f32}
    (H0 : Slices m c t ⟨0, by decide⟩ o0 d0 z0) (H1 : Slices m c t ⟨1, by decide⟩ o1 d1 z1) (H2 : Slices m c t ⟨2, by decide⟩ o2 d2 z2) (H3 : Slices m c t ⟨3, by decide⟩ o3 d3 z3)
    (H4 : Slices m c t ⟨4, by decide⟩ o4 d4 z4) (H5 : Slices m c t ⟨5, by decide⟩ o5 d5 z5) (H6 : Slices m c t ⟨6, by decide⟩ o6 d6 z6) (H7 : Slices m c t ⟨7, by decide⟩ o7 d7 z7) (j : S1x128.Idx) :
    k0_pay12 (k0_pay12 (k0_pay12 (k0_pay12 (k0_pay12 (k0_pay12 (k0_pay12 (k0_pay12 (k0_pay3)
      d0 (k0_pay5 z0) (k0_pay7 o0)) d1 (k0_pay5 z1) (k0_pay7 o1)) d2 (k0_pay5 z2) (k0_pay7 o2)) d3 (k0_pay5 z3) (k0_pay7 o3))
      d4 (k0_pay5 z4) (k0_pay7 o4)) d5 (k0_pay5 z5) (k0_pay7 o5)) d6 (k0_pay5 z6) (k0_pay7 o6)) d7 (k0_pay5 z7) (k0_pay7 o7) j
      = ∑ r : Fin 512, ∑ h : Fin 8, share m c (j 1) (row t r) h := by
  rw [step_at m H7, step_at m H6, step_at m H5, step_at m H4, step_at m H3, step_at m H2, step_at m H1, step_at m H0,
    show k0_pay3 (F := Ideal) j = 0 by pointwise [k0_pay3], zero_add]
  simp only [Fin.sum_univ_eight, Finset.sum_add_distrib]
  rfl

theorem pieceX {c : Dev nD} {t : Fin cfg0.N} {o d z : Vec Ideal S512x128 .f32} {g : Vec Ideal S1x128 .f32} {y : Fin 1024} (H : Slices m c t (hd y) o d z)
    (hg : ∀ r x, g (ix2 r x) = m ((c : Thread nD τ).loc main_arg2) (ix1 x)) (x : S512x128.Idx) (r : Fin 512) (e0 : r.val = (x 0).val) (e1 : y.val % 128 = (x 1).val) :
    k0_pay11 (k0_pay6 o) (k0_pay9 g d z) (k0_pay10 g o d z) x = outX (m ((c : Thread nD τ).loc main_arg0)) (m ((c : Thread nD τ).loc main_arg3))
      (m ((c : Thread nD τ).loc main_arg1)) (m ((c : Thread nD τ).loc main_arg2)) (row t r) y := by
  idx_vars x
  obtain rfl : r = x0 := Fin.ext e0
  obtain rfl : ln y = x1 := Fin.ext e1
  rw [pay11_at, outX, line_o H, line_d H, line_z H, show line g 0 = fun x => _ from funext (hg 0)]
  exact Cert.Norm.byProjection_eq (by norm_num) Cert.Norm.head_lit _ _ _ _

theorem pieceZ {c : Dev nD} {t : Fin cfg0.N} {o d z : Vec Ideal S512x128 .f32} {g : Vec Ideal S1x128 .f32} {y : Fin 1024} (H : Slices m c t (hd y) o d z)
    (f2 : ∀ i, ∃ r : ℝ, m ((c : Thread nD τ).loc main_arg2) i = (r : EReal)) (f3 : ∀ i, ∃ r : ℝ, m ((c : Thread nD τ).loc main_arg3) i = (r : EReal))
    (hg : ∀ r x, g (ix2 r x) = m ((c : Thread nD τ).loc main_arg2) (ix1 x)) (x : S512x128.Idx) (r : Fin 512) (e0 : r.val = (x 0).val) (e1 : y.val % 128 = (x 1).val) :
    k0_pay8 g o d z x = outZ (m ((c : Thread nD τ).loc main_arg0)) (m ((c : Thread nD τ).loc main_arg3))
      (m ((c : Thread nD τ).loc main_arg1)) (m ((c : Thread nD τ).loc main_arg2)) (row t r) y := by
  idx_vars x
  obtain rfl : r = x0 := Fin.ext e0
  obtain rfl : ln y = x1 := Fin.ext e1
  rw [pay8_at, outZ, line_o H, line_d H, line_z H, show line g 0 = fun x => _ from funext (hg 0)]
  exact slope_eq _ _ _ _ _ (f2 _) (f3 _)

set_option maxHeartbeats 1600000 in
/-- The first grid point, and the later ones, leave the same in the two large results. -/
theorem pointX (c : Dev nD) (t : Fin cfg0.N) (y0 : Fin 512) (y1 : Fin 1024) : (outsAt0 m c t.val t.isLt).1 (ix2 y0 y1)
    = outX (m ((c : Thread nD τ).loc main_arg0)) (m ((c : Thread nD τ).loc main_arg3)) (m ((c : Thread nD τ).loc main_arg1)) (m ((c : Thread nD τ).loc main_arg2)) (row t y0) y1 := by
  have i1 := i1 m c t
  by_cases h0 : t.val % 32 = 0
  on_goal 1 => rw [outsAt0_A m c t h0 (by have := lt32 t; omega)]
  on_goal 2 => rw [outsAt0_B m c t h0 (by have := lt32 t; omega)]
  all_goals
    generalize X0_1 m c t = Z at i1 ⊢
    frame_out
    canon_tiles x h
    all_goals
      change y1.val = _ at h1
      refine pieceX m (y := y1) ⟨?_, ?_, ?_⟩ ?_ x y0 h0 (by omega)
      all_goals
        intro r z
        pointwise
        first | (obtain rfl := Subsingleton.elim r (0 : Fin 1); blk_point [i0, i1, i2, i3]) | blk_point [i0, i1, i2, i3]

set_option maxHeartbeats 1600000 in
theorem pointZ (c : Dev nD) (t : Fin cfg0.N) (f2 : ∀ i, ∃ r : ℝ, m ((c : Thread nD τ).loc main_arg2) i = (r : EReal)) (f3 : ∀ i, ∃ r : ℝ, m ((c : Thread nD τ).loc main_arg3) i = (r : EReal))
    (y0 : Fin 512) (y1 : Fin 1024) : (outsAt0 m c t.val t.isLt).2.1 (ix2 y0 y1)
    = outZ (m ((c : Thread nD τ).loc main_arg0)) (m ((c : Thread nD τ).loc main_arg3)) (m ((c : Thread nD τ).loc main_arg1)) (m ((c : Thread nD τ).loc main_arg2)) (row t y0) y1 := by
  have i1 := i1 m c t
  by_cases h0 : t.val % 32 = 0
  on_goal 1 => rw [outsAt0_A m c t h0 (by have := lt32 t; omega)]
  on_goal 2 => rw [outsAt0_B m c t h0 (by have := lt32 t; omega)]
  all_goals
    generalize X0_1 m c t = Z at i1 ⊢
    frame_out
    canon_tiles x h
    all_goals
      change y1.val = _ at h1
      refine pieceZ m (y := y1) ⟨?_, ?_, ?_⟩ f2 f3 ?_ x y0 h0 (by omega)
      all_goals
        intro r z
        pointwise
        first | (obtain rfl := Subsingleton.elim r (0 : Fin 1); blk_point [i0, i1, i2, i3]) | blk_point [i0, i1, i2, i3]

theorem resetG (c : Dev nD) (t : Fin cfg0.N) (h0 : t.val % 32 = 0) (j : S1x128.Idx) :
    (outsAt0 m c t.val t.isLt).2.2 j = ∑ r : Fin 512, ∑ h : Fin 8, share m c (j 1) (row t r) h := by
  have i1 := i1 m c t
  rw [outsAt0_A m c t h0 (by have := lt32 t; omega)]
  generalize X0_1 m c t = Z at i1 ⊢
  frame_out
  refine chain m ⟨?_, ?_, ?_⟩ ⟨?_, ?_, ?_⟩ ⟨?_, ?_, ?_⟩ ⟨?_, ?_, ?_⟩ ⟨?_, ?_, ?_⟩ ⟨?_, ?_, ?_⟩ ⟨?_, ?_, ?_⟩ ⟨?_, ?_, ?_⟩ j
  all_goals
    intro r z
    pointwise
    blk_point [i0, i1, i2, i3]

theorem stepG (c : Dev nD) (t : Fin cfg0.N) (h0 : ¬t.val % 32 = 0) (j : S1x128.Idx) :
    (outsAt0 m c t.val t.isLt).2.2 j = (outsAt0 m c (t.val - 1) (Nat.lt_of_le_of_lt (Nat.sub_le _ _) t.isLt)).2.2 j
      + ∑ r : Fin 512, ∑ h : Fin 8, share m c (j 1) (row t r) h := by
  have i1 := i1 m c t
  rw [outsAt0_B m c t h0 (by have := lt32 t; omega)]
  generalize X0_1 m c t = Z at i1 ⊢
  frame_out
  rw [pay1_at]
  refine congrArg (_ + ·) (chain m ⟨?_, ?_, ?_⟩ ⟨?_, ?_, ?_⟩ ⟨?_, ?_, ?_⟩ ⟨?_, ?_, ?_⟩ ⟨?_, ?_, ?_⟩ ⟨?_, ?_, ?_⟩ ⟨?_, ?_, ?_⟩ ⟨?_, ?_, ?_⟩ j)
  all_goals
    intro r z
    pointwise
    blk_point [i0, i1, i2, i3]

theorem finalX (c : Dev nD) (X : FVec Ideal S16384x1024 .f32) (hX : ∀ r y, X (ix2 r y) = outX (m ((c : Thread nD τ).loc main_arg0)) (m ((c : Thread nD τ).loc main_arg3))
      (m ((c : Thread nD τ).loc main_arg1)) (m ((c : Thread nD τ).loc main_arg2)) r y) : (dats m 0 c).arrAt 4 (cfgs 0).N = X := by
  refine (dats m 0 c).arrAt_eq_of_covers 4 _ (by decide +kernel) fun t hf y => ?_
  have ht := lt32 t
  blk_simp
  rw [after0_4]
  idx_vars y
  have hy : ((cfg0.win 4).blk t).view.emb (ix2 y0 y1) = ix2 (row t y0) y1 := by
    blk_ext [idx_val t]
  rw [hy, hX]
  exact pointX m c t y0 y1

theorem finalZ (c : Dev nD) (f2 : ∀ i, ∃ r : ℝ, m ((c : Thread nD τ).loc main_arg2) i = (r : EReal)) (f3 : ∀ i, ∃ r : ℝ, m ((c : Thread nD τ).loc main_arg3) i = (r : EReal))
    (X : FVec Ideal S16384x1024 .bf16) (hX : ∀ r y, X (ix2 r y) = outZ (m ((c : Thread nD τ).loc main_arg0)) (m ((c : Thread nD τ).loc main_arg3))
      (m ((c : Thread nD τ).loc main_arg1)) (m ((c : Thread nD τ).loc main_arg2)) r y) : (dats m 0 c).arrAt 5 (cfgs 0).N = X := by
  refine (dats m 0 c).arrAt_eq_of_covers 5 _ (by decide +kernel) fun t hf y => ?_
  have ht := lt32 t
  blk_simp
  rw [after0_5]
  idx_vars y
  have hy : ((cfg0.win 5).blk t).view.emb (ix2 y0 y1) = ix2 (row t y0) y1 := by
    blk_ext [idx_val t]
  rw [hy, hX]
  exact pointZ m c t f2 f3 y0 y1

theorem finalG (c : Dev nD) (X : FVec Ideal S1x128 .f32) (hX : ∀ l, X (ix2 0 l) = outG (m ((c : Thread nD τ).loc main_arg0)) (m ((c : Thread nD τ).loc main_arg3))
      (m ((c : Thread nD τ).loc main_arg1)) l) : (dats m 0 c).arrAt 6 (cfgs 0).N = X := by
  refine (dats m 0 c).arrAt_eq_of_covers 6 _ (by decide +kernel) fun t hf y => ?_
  blk_simp
  have h7 : t.val % 32 = 31 := (flush0_6 t).mp hf
  rw [after0_6, Pipeline.eq_sum_fin_of_reset_step_apply_of_flush (fun n h => (outsAt0 m c n h).2.2) 32 (fun _ => 0) _
    (fun t h j => by rw [resetG m c t h, zero_add]) (fun t h j => stepG m c t h j) t h7 _, zero_add]
  idx_vars y
  have hy : ((cfg0.win 6).blk t).view.emb (ix2 y0 y1) = ix2 (0 : Fin 1) y1 := by
    blk_ext [idx_val t]
  rw [hy, hX, outG]
  refine Fin.sum_mul_add_congr fun s k hl => ?_
  have hr : row ⟨32 * (t.val / 32) + s.val, Pipeline.run_point_lt_of_flush t h7 s⟩ k = ⟨s.val * 512 + k.val, hl⟩ :=
    Fin.ext (by have := lt32 t; show 512 * (32 * (t.val / 32) + s.val) + k.val = s.val * 512 + k.val; omega)
  rw [hr]

end Cert.KernelDgateIdeal.Hand

end
-- ==== Proof.Abin.lean ====
/- The input projection of the mixer with attention and linear recurrence: a product in column blocks. -/
module

public import proofs.«01_k».proof.Proof.Gen.KernelAbinIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelAbinIdeal.Hand

open Cert.KernelAbinIdeal Cert.KernelAbinIdeal.Gen

variable (m : (ℓ : Loc nD τ sig) → Buf (Elt Ideal) ℓ)

theorem idx_val : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- One entry of the product. -/
abbrev dot (f g : Fin 1024 → EReal) : EReal := ∑ k, f k * g k

theorem pay1_at (v0 : Vec Ideal S1024x1024 .bf16) (v2 : Vec Ideal S1280x1024 .bf16) (r : Fin 1024) (k : Fin 1280) :
    k0_pay1 v0 v2 (ix2 r k) = dot (fun x => v0 (ix2 r x)) (fun x => v2 (ix2 k x)) := by
  pointwise [k0_pay1]

theorem below (t : Fin cfg0.N) : t.val < 32 := lt_of_lt_of_eq t.isLt (show cfg0.N = 32 from N_0)

/-- The row and the column of the whole result that row `r` and column `k` of the block at a grid point are. -/
abbrev row (t : Fin cfg0.N) (r : Fin 1024) : Fin 16384 := ⟨1024 * (t.val / 2) + r.val, by have := below t; omega⟩
abbrev col (t : Fin cfg0.N) (k : Fin 1280) : Fin 2560 := ⟨1280 * (t.val % 2) + k.val, by have := below t; omega⟩

theorem i0 (c : Dev nD) (t : Fin cfg0.N) (r : Fin 1024) (k : Fin 1024) : iblk m c 0 t (ix2 r k) = m ((c : Thread nD τ).loc main_arg0) (ix2 (row t r) k) := by
  blk_point [iblk, V, idx_val t]
theorem i1 (c : Dev nD) (t : Fin cfg0.N) (r : Fin 1280) (k : Fin 1024) : iblk m c 1 t (ix2 r k) = m ((c : Thread nD τ).loc main_arg1) (ix2 (col t r) k) := by
  blk_point [iblk, V, idx_val t]

theorem final (c : Dev nD) (X : FVec Ideal S16384x2560 .f32)
    (hX : ∀ r k, X (ix2 r k) = dot (fun x => m ((c : Thread nD τ).loc main_arg0) (ix2 r x)) (fun x => m ((c : Thread nD τ).loc main_arg1) (ix2 k x))) :
    (dats m 0 c).arrAt 2 (cfgs 0).N = X := by
  refine (dats m 0 c).arrAt_eq_of_covers 2 _ (by decide +kernel) fun t hf y => ?_
  have ht := below t
  blk_simp
  rw [after0_2]
  have e : out0_2 (iblk m c 0 t) (iblk m c 1 t) y = k0_pay1 (iblk m c 0 t) (iblk m c 1 t) y := by
    frame_out
  rw [e]
  idx_vars y
  have hy : ((cfg0.win 2).blk t).view.emb (ix2 y0 y1) = ix2 (row t y0) (col t y1) := by
    blk_ext [idx_val t]
  rw [hy, hX, pay1_at]
  simp only [i0, i1]

end Cert.KernelAbinIdeal.Hand

end
-- ==== Proof.Dnin.lean ====
/- The delta mixer's input projection, with its padding columns: a product in column blocks. -/
module

public import proofs.«01_k».proof.Proof.Gen.KernelDninIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDninIdeal.Hand

open Cert.KernelDninIdeal Cert.KernelDninIdeal.Gen

variable (m : (ℓ : Loc nD τ sig) → Buf (Elt Ideal) ℓ)

theorem idx_val : ∀ t : Fin cfg0.N, win0_0.index t = ![t.val / 3, 0]
    ∧ win0_1.index t = ![t.val % 3, 0]
    ∧ win0_2.index t = ![t.val / 3, t.val % 3] :=
  (by decide +kernel : ∀ t : Fin grid0.N, _)

/-- One entry of the product. -/
abbrev dot (f g : Fin 1024 → EReal) : EReal := ∑ k, f k * g k

theorem pay1_at (v0 : Vec Ideal S1024x1024 .bf16) (v2 : Vec Ideal S1408x1024 .bf16) (r : Fin 1024) (k : Fin 1408) :
    k0_pay1 v0 v2 (ix2 r k) = dot (fun x => v0 (ix2 r x)) (fun x => v2 (ix2 k x)) := by
  pointwise [k0_pay1]

theorem below (t : Fin cfg0.N) : t.val < 48 := lt_of_lt_of_eq t.isLt (show cfg0.N = 48 from N_0)

/-- The row and the column of the whole result that row `r` and column `k` of the block at a grid point are. -/
abbrev row (t : Fin cfg0.N) (r : Fin 1024) : Fin 16384 := ⟨1024 * (t.val / 3) + r.val, by have := below t; omega⟩
abbrev col (t : Fin cfg0.N) (k : Fin 1408) : Fin 4224 := ⟨1408 * (t.val % 3) + k.val, by have := below t; omega⟩

theorem i0 (c : Dev nD) (t : Fin cfg0.N) (r : Fin 1024) (k : Fin 1024) : iblk m c 0 t (ix2 r k) = m ((c : Thread nD τ).loc main_arg0) (ix2 (row t r) k) := by
  blk_point [iblk, V, idx_val t]
theorem i1 (c : Dev nD) (t : Fin cfg0.N) (r : Fin 1408) (k : Fin 1024) : iblk m c 1 t (ix2 r k) = m ((c : Thread nD τ).loc main_arg1) (ix2 (col t r) k) := by
  blk_point [iblk, V, idx_val t]

theorem final (c : Dev nD) (X : FVec Ideal S16384x4224 .f32)
    (hX : ∀ r k, X (ix2 r k) = dot (fun x => m ((c : Thread nD τ).loc main_arg0) (ix2 r x)) (fun x => m ((c : Thread nD τ).loc main_arg1) (ix2 k x))) :
    (dats m 0 c).arrAt 2 (cfgs 0).N = X := by
  refine (dats m 0 c).arrAt_eq_of_covers 2 _ (by decide +kernel) fun t hf y => ?_
  have ht := below t
  blk_simp
  rw [after0_2]
  have e : out0_2 (iblk m c 0 t) (iblk m c 1 t) y = k0_pay1 (iblk m c 0 t) (iblk m c 1 t) y := by
    frame_out
  rw [e]
  idx_vars y
  have hy : ((cfg0.win 2).blk t).view.emb (ix2 y0 y1) = ix2 (row t y0) (col t y1) := by
    blk_ext [idx_val t]
  rw [hy, hX, pay1_at]
  simp only [i0, i1]

end Cert.KernelDninIdeal.Hand

end
-- ==== Proof.Q.lean ====
/- The cross-attention's queries: a product in row blocks. -/
module

public import proofs.«01_k».proof.Proof.Gen.KernelQIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelQIdeal.Hand

open Cert.KernelQIdeal Cert.KernelQIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0] :=
  (by decide +kernel : ∀ t : Fin grid0.N, _)

/-- One entry of the product. -/
abbrev dot (f g : Fin 1024 → EReal) : EReal := ∑ k, f k * g k

theorem pay1_at (v0 : Vec Ideal S1024x1024 .bf16) (v2 : Vec Ideal S1024x1024 .bf16) (r : Fin 1024) (k : Fin 1024) :
    k0_pay1 v0 v2 (ix2 r k) = dot (fun x => v0 (ix2 r x)) (fun x => v2 (ix2 x k)) := by
  pointwise [k0_pay1]

theorem below (t : Fin cfg0.N) : t.val < 16 := lt_of_lt_of_eq t.isLt (show cfg0.N = 16 from N_0)

/-- The row and the column of the whole result that row `r` and column `k` of the block at a grid point are. -/
abbrev row (t : Fin cfg0.N) (r : Fin 1024) : Fin 16384 := ⟨1024 * (t.val) + r.val, by have := below t; omega⟩
abbrev col (t : Fin cfg0.N) (k : Fin 1024) : Fin 1024 := ⟨1024 * (0) + k.val, by have := below t; omega⟩

theorem i0 (c : Dev nD) (t : Fin cfg0.N) (r : Fin 1024) (k : Fin 1024) : iblk m c 0 t (ix2 r k) = m ((c : Thread nD τ).loc main_arg0) (ix2 (row t r) k) := by
  blk_point [iblk, V, idx_val t]
theorem i1 (c : Dev nD) (t : Fin cfg0.N) (r : Fin 1024) (k : Fin 1024) : iblk m c 1 t (ix2 r k) = m ((c : Thread nD τ).loc main_arg1) (ix2 r (col t k)) := by
  blk_point [iblk, V, idx_val t]

theorem final (c : Dev nD) (X : FVec Ideal S16384x1024 .f32)
    (hX : ∀ r k, X (ix2 r k) = dot (fun x => m ((c : Thread nD τ).loc main_arg0) (ix2 r x)) (fun x => m ((c : Thread nD τ).loc main_arg1) (ix2 x k))) :
    (dats m 0 c).arrAt 2 (cfgs 0).N = X := by
  refine (dats m 0 c).arrAt_eq_of_covers 2 _ (by decide +kernel) fun t hf y => ?_
  have ht := below t
  blk_simp
  rw [after0_2]
  have e : out0_2 (iblk m c 0 t) (iblk m c 1 t) y = k0_pay1 (iblk m c 0 t) (iblk m c 1 t) y := by
    frame_out
  rw [e]
  idx_vars y
  have hy : ((cfg0.win 2).blk t).view.emb (ix2 y0 y1) = ix2 (row t y0) (col t y1) := by
    blk_ext [idx_val t]
  rw [hy, hX, pay1_at]
  simp only [i0, i1]

end Cert.KernelQIdeal.Hand

end
-- ==== Proof.Kv.lean ====
/- The cross-attention's keys and values: a product in column blocks. -/
module

public import proofs.«01_k».proof.Proof.Gen.KernelKvIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelKvIdeal.Hand

open Cert.KernelKvIdeal Cert.KernelKvIdeal.Gen

variable (m : (ℓ : Loc nD τ sig) → Buf (Elt Ideal) ℓ)

theorem idx_val : ∀ t : Fin cfg0.N, win0_0.index t = ![0, 0]
    ∧ win0_1.index t = ![t.val, 0]
    ∧ win0_2.index t = ![0, t.val] :=
  (by decide +kernel : ∀ t : Fin grid0.N, _)

/-- One entry of the product. -/
abbrev dot (f g : Fin 1024 → EReal) : EReal := ∑ k, f k * g k

theorem pay1_at (v0 : Vec Ideal S256x1024 .bf16) (v2 : Vec Ideal S1024x1024 .bf16) (r : Fin 256) (k : Fin 1024) :
    k0_pay1 v0 v2 (ix2 r k) = dot (fun x => v0 (ix2 r x)) (fun x => v2 (ix2 k x)) := by
  pointwise [k0_pay1]

theorem below (t : Fin cfg0.N) : t.val < 2 := lt_of_lt_of_eq t.isLt (show cfg0.N = 2 from N_0)

/-- The row and the column of the whole result that row `r` and column `k` of the block at a grid point are. -/
abbrev row (t : Fin cfg0.N) (r : Fin 256) : Fin 256 := ⟨256 * (0) + r.val, by have := below t; omega⟩
abbrev col (t : Fin cfg0.N) (k : Fin 1024) : Fin 2048 := ⟨1024 * (t.val) + k.val, by have := below t; omega⟩

theorem i0 (c : Dev nD) (t : Fin cfg0.N) (r : Fin 256) (k : Fin 1024) : iblk m c 0 t (ix2 r k) = m ((c : Thread nD τ).loc main_arg0) (ix2 (row t r) k) := by
  blk_point [iblk, V, idx_val t]
theorem i1 (c : Dev nD) (t : Fin cfg0.N) (r : Fin 1024) (k : Fin 1024) : iblk m c 1 t (ix2 r k) = m ((c : Thread nD τ).loc main_arg1) (ix2 (col t r) k) := by
  blk_point [iblk, V, idx_val t]

theorem final (c : Dev nD) (X : FVec Ideal S256x2048 .f32)
    (hX : ∀ r k, X (ix2 r k) = dot (fun x => m ((c : Thread nD τ).loc main_arg0) (ix2 r x)) (fun x => m ((c : Thread nD τ).loc main_arg1) (ix2 k x))) :
    (dats m 0 c).arrAt 2 (cfgs 0).N = X := by
  refine (dats m 0 c).arrAt_eq_of_covers 2 _ (by decide +kernel) fun t hf y => ?_
  have ht := below t
  blk_simp
  rw [after0_2]
  have e : out0_2 (iblk m c 0 t) (iblk m c 1 t) y = k0_pay1 (iblk m c 0 t) (iblk m c 1 t) y := by
    frame_out
  rw [e]
  idx_vars y
  have hy : ((cfg0.win 2).blk t).view.emb (ix2 y0 y1) = ix2 (row t y0) (col t y1) := by
    blk_ext [idx_val t]
  rw [hy, hX, pay1_at]
  simp only [i0, i1]

end Cert.KernelKvIdeal.Hand

end
-- ==== Proof.Abdwin.lean ====
/- The gradient of the input projection of the mixer with attention and linear recurrence, accumulated over sixteen blocks of tokens. -/
module

public import proofs.«01_k».proof.Proof.Gen.KernelAbdwinIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelAbdwinIdeal.Hand

open Cert.KernelAbdwinIdeal Cert.KernelAbdwinIdeal.Gen

variable (m : (ℓ : Loc nD τ sig) → Buf (Elt Ideal) ℓ)

theorem idx_val : ∀ t : Fin cfg0.N, win0_0.index t = ![t.val % 16, t.val / 16]
    ∧ win0_1.index t = ![t.val % 16, 0]
    ∧ win0_2.index t = ![t.val / 16, 0] :=
  (by decide +kernel : ∀ t : Fin grid0.N, _)

/-- One entry of the whole product. -/
abbrev dot (f g : Fin 16384 → EReal) : EReal := ∑ k, f k * g k

/-- The part one grid point adds. -/
theorem pay1_at (v0 : Vec Ideal S1024x1280 .bf16) (v2 : Vec Ideal S1024x1024 .bf16) (j : S1280x1024.Idx) :
    k0_pay1 v0 v2 j = ∑ k : Fin 1024, v0 (ix2 k (j 0)) * v2 (ix2 k (j 1)) := by
  pointwise [k0_pay1]

theorem pay2_at (v0 : Vec Ideal S1024x1280 .bf16) (v2 : Vec Ideal S1024x1024 .bf16) (j : S1280x1024.Idx) :
    k0_pay2 v0 v2 j = ∑ k : Fin 1024, v0 (ix2 k (j 0)) * v2 (ix2 k (j 1)) := by
  pointwise [k0_pay2, k0_pay1]

theorem pay3_at (v0 : Vec Ideal S1024x1280 .bf16) (v2 : Vec Ideal S1024x1024 .bf16) (acc : Vec Ideal S1280x1024 .f32) (j : S1280x1024.Idx) :
    k0_pay3 v0 v2 acc j = acc j + ∑ k : Fin 1024, v0 (ix2 k (j 0)) * v2 (ix2 k (j 1)) := by
  pointwise [k0_pay3, k0_pay1]

/-- At a run's last point the block written back is the accumulated sum. -/
theorem last (c : Dev nD) (t : Fin cfg0.N) (h2 : t.val % 16 = 15) (y : S1280x1024.Idx) :
    (outsAt0 m c t.val t.isLt).1 y = (outsAt0 m c t.val t.isLt).2 y := by
  rw [outsAt0_C m c t (by omega) (by omega) h2]
  frame_out

theorem below (t : Fin cfg0.N) : t.val < 32 := lt_of_lt_of_eq t.isLt (show cfg0.N = 32 from N_0)

/-- The row of the result, and the place in the sum, that row `r` and place `k` of the blocks at a grid point are. -/
abbrev row (t : Fin cfg0.N) (r : Fin 1280) : Fin 2560 := ⟨1280 * (t.val / 16) + r.val, by have := below t; omega⟩
abbrev place (t : Fin cfg0.N) (k : Fin 1024) : Fin 16384 := ⟨1024 * (t.val % 16) + k.val, by have := below t; omega⟩

theorem i0 (c : Dev nD) (t : Fin cfg0.N) (k : Fin 1024) (r : Fin 1280) : iblk m c 0 t (ix2 k r) = m ((c : Thread nD τ).loc main_arg0) (ix2 (place t k) (row t r)) := by
  blk_point [iblk, V, idx_val t]
theorem i1 (c : Dev nD) (t : Fin cfg0.N) (k : Fin 1024) (b : Fin 1024) : iblk m c 1 t (ix2 k b) = m ((c : Thread nD τ).loc main_arg1) (ix2 (place t k) b) := by
  blk_point [iblk, V, idx_val t]

theorem final (c : Dev nD) (X : FVec Ideal S2560x1024 .f32)
    (hX : ∀ a b, X (ix2 a b) = dot (fun x => m ((c : Thread nD τ).loc main_arg0) (ix2 x a)) (fun x => m ((c : Thread nD τ).loc main_arg1) (ix2 x b))) :
    (dats m 0 c).arrAt 2 (cfgs 0).N = X := by
  refine (dats m 0 c).arrAt_eq_of_covers 2 _ (by decide +kernel) fun t hf y => ?_
  have ht := below t
  blk_simp
  have h7 : t.val % 16 = 15 := (flush0_2 t).mp hf
  rw [after0_2, last m c t h7, Pipeline.eq_sum_fin_of_reset_step_apply_of_flush (fun n h => (outsAt0 m c n h).2) 16 (fun _ => 0) _
    (fun t h j => by have ht := below t; rw [outsAt0_A m c t h (by omega) (by omega)]; frame_out; rw [pay2_at, zero_add])
    (fun t h j => by
      have ht := below t
      by_cases h2 : t.val % 16 = 15
      · rw [outsAt0_C m c t h (by omega) h2]; frame_out; rw [pay3_at, read_unread_whole]
      · rw [outsAt0_B m c t h (by omega) h2]; frame_out; rw [pay3_at, read_unread_whole])
    t h7 _, zero_add]
  idx_vars y
  have hy : ((cfg0.win 2).blk t).view.emb (ix2 y0 y1) = ix2 (row t y0) y1 := by
    blk_ext [idx_val t]
  rw [hy, hX]
  refine Fin.sum_mul_add_congr fun s k hl => ?_
  have hs := s.isLt
  have hlt := Pipeline.run_point_lt_of_flush t h7 s
  have hk : place ⟨16 * (t.val / 16) + s.val, hlt⟩ k = ⟨s.val * 1024 + k.val, hl⟩ :=
    Fin.ext (by show 1024 * ((16 * (t.val / 16) + s.val) % 16) + k.val = s.val * 1024 + k.val; omega)
  have hr : row ⟨16 * (t.val / 16) + s.val, hlt⟩ y0 = row t y0 :=
    Fin.ext (by show 1280 * ((16 * (t.val / 16) + s.val) / 16) + y0.val = 1280 * (t.val / 16) + y0.val; omega)
  have e0 := i0 m c ⟨16 * (t.val / 16) + s.val, hlt⟩ k y0
  have e1 := i1 m c ⟨16 * (t.val / 16) + s.val, hlt⟩ k y1
  rw [hk] at e0 e1
  rw [hr] at e0
  exact congrArg₂ (· * ·) e0 e1

end Cert.KernelAbdwinIdeal.Hand

end
-- ==== Proof.Dndwin1.lean ====
/- The gradient of the query, key and value rows of the delta mixer's input projection, accumulated over eight blocks of tokens. -/
module

public import proofs.«01_k».proof.Proof.Gen.KernelDndwin1Ideal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDndwin1Ideal.Hand

open Cert.KernelDndwin1Ideal Cert.KernelDndwin1Ideal.Gen

variable (m : (ℓ : Loc nD τ sig) → Buf (Elt Ideal) ℓ)

theorem idx_val : ∀ t : Fin cfg0.N, win0_0.index t = ![t.val % 8, t.val / 8]
    ∧ win0_1.index t = ![t.val % 8, 0]
    ∧ win0_2.index t = ![t.val / 8, 0] :=
  (by decide +kernel : ∀ t : Fin grid0.N, _)

/-- One entry of the whole product. -/
abbrev dot (f g : Fin 16384 → EReal) : EReal := ∑ k, f k * g k

/-- The part one grid point adds. -/
theorem pay1_at (v0 : Vec Ideal S2048x1536 .bf16) (v2 : Vec Ideal S2048x1024 .bf16) (j : S1536x1024.Idx) :
    k0_pay1 v0 v2 j = ∑ k : Fin 2048, v0 (ix2 k (j 0)) * v2 (ix2 k (j 1)) := by
  pointwise [k0_pay1]

theorem pay2_at (v0 : Vec Ideal S2048x1536 .bf16) (v2 : Vec Ideal S2048x1024 .bf16) (j : S1536x1024.Idx) :
    k0_pay2 v0 v2 j = ∑ k : Fin 2048, v0 (ix2 k (j 0)) * v2 (ix2 k (j 1)) := by
  pointwise [k0_pay2, k0_pay1]

theorem pay3_at (v0 : Vec Ideal S2048x1536 .bf16) (v2 : Vec Ideal S2048x1024 .bf16) (acc : Vec Ideal S1536x1024 .f32) (j : S1536x1024.Idx) :
    k0_pay3 v0 v2 acc j = acc j + ∑ k : Fin 2048, v0 (ix2 k (j 0)) * v2 (ix2 k (j 1)) := by
  pointwise [k0_pay3, k0_pay1]

/-- At a run's last point the block written back is the accumulated sum. -/
theorem last (c : Dev nD) (t : Fin cfg0.N) (h2 : t.val % 8 = 7) (y : S1536x1024.Idx) :
    (outsAt0 m c t.val t.isLt).1 y = (outsAt0 m c t.val t.isLt).2 y := by
  rw [outsAt0_C m c t (by omega) (by omega) h2]
  frame_out

theorem below (t : Fin cfg0.N) : t.val < 16 := lt_of_lt_of_eq t.isLt (show cfg0.N = 16 from N_0)

/-- The row of the result, and the place in the sum, that row `r` and place `k` of the blocks at a grid point are. -/
abbrev row (t : Fin cfg0.N) (r : Fin 1536) : Fin 3072 := ⟨1536 * (t.val / 8) + r.val, by have := below t; omega⟩
abbrev place (t : Fin cfg0.N) (k : Fin 2048) : Fin 16384 := ⟨2048 * (t.val % 8) + k.val, by have := below t; omega⟩

theorem i0 (c : Dev nD) (t : Fin cfg0.N) (k : Fin 2048) (r : Fin 1536) : iblk m c 0 t (ix2 k r) = m ((c : Thread nD τ).loc main_arg0) (ix2 (place t k) (row t r)) := by
  blk_point [iblk, V, idx_val t]
theorem i1 (c : Dev nD) (t : Fin cfg0.N) (k : Fin 2048) (b : Fin 1024) : iblk m c 1 t (ix2 k b) = m ((c : Thread nD τ).loc main_arg1) (ix2 (place t k) b) := by
  blk_point [iblk, V, idx_val t]

theorem final (c : Dev nD) (X : FVec Ideal S3072x1024 .f32)
    (hX : ∀ a b, X (ix2 a b) = dot (fun x => m ((c : Thread nD τ).loc main_arg0) (ix2 x a)) (fun x => m ((c : Thread nD τ).loc main_arg1) (ix2 x b))) :
    (dats m 0 c).arrAt 2 (cfgs 0).N = X := by
  refine (dats m 0 c).arrAt_eq_of_covers 2 _ (by decide +kernel) fun t hf y => ?_
  have ht := below t
  blk_simp
  have h7 : t.val % 8 = 7 := (flush0_2 t).mp hf
  rw [after0_2, last m c t h7, Pipeline.eq_sum_fin_of_reset_step_apply_of_flush (fun n h => (outsAt0 m c n h).2) 8 (fun _ => 0) _
    (fun t h j => by have ht := below t; rw [outsAt0_A m c t h (by omega) (by omega)]; frame_out; rw [pay2_at, zero_add])
    (fun t h j => by
      have ht := below t
      by_cases h2 : t.val % 8 = 7
      · rw [outsAt0_C m c t h (by omega) h2]; frame_out; rw [pay3_at, read_unread_whole]
      · rw [outsAt0_B m c t h (by omega) h2]; frame_out; rw [pay3_at, read_unread_whole])
    t h7 _, zero_add]
  idx_vars y
  have hy : ((cfg0.win 2).blk t).view.emb (ix2 y0 y1) = ix2 (row t y0) y1 := by
    blk_ext [idx_val t]
  rw [hy, hX]
  refine Fin.sum_mul_add_congr fun s k hl => ?_
  have hs := s.isLt
  have hlt := Pipeline.run_point_lt_of_flush t h7 s
  have hk : place ⟨8 * (t.val / 8) + s.val, hlt⟩ k = ⟨s.val * 2048 + k.val, hl⟩ :=
    Fin.ext (by show 2048 * ((8 * (t.val / 8) + s.val) % 8) + k.val = s.val * 2048 + k.val; omega)
  have hr : row ⟨8 * (t.val / 8) + s.val, hlt⟩ y0 = row t y0 :=
    Fin.ext (by show 1536 * ((8 * (t.val / 8) + s.val) / 8) + y0.val = 1536 * (t.val / 8) + y0.val; omega)
  have e0 := i0 m c ⟨8 * (t.val / 8) + s.val, hlt⟩ k y0
  have e1 := i1 m c ⟨8 * (t.val / 8) + s.val, hlt⟩ k y1
  rw [hk] at e0 e1
  rw [hr] at e0
  exact congrArg₂ (· * ·) e0 e1

end Cert.KernelDndwin1Ideal.Hand

end
-- ==== Proof.Dndwin2.lean ====
/- The gradient of the gate rows of the delta mixer's input projection, accumulated over eight blocks of tokens. -/
module

public import proofs.«01_k».proof.Proof.Gen.KernelDndwin2Ideal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDndwin2Ideal.Hand

open Cert.KernelDndwin2Ideal Cert.KernelDndwin2Ideal.Gen

variable (m : (ℓ : Loc nD τ sig) → Buf (Elt Ideal) ℓ)

theorem idx_val : ∀ t : Fin cfg0.N, win0_0.index t = ![t.val % 8, t.val / 8]
    ∧ win0_1.index t = ![t.val % 8, 0]
    ∧ win0_2.index t = ![t.val / 8, 0] :=
  (by decide +kernel : ∀ t : Fin grid0.N, _)

/-- One entry of the whole product. -/
abbrev dot (f g : Fin 16384 → EReal) : EReal := ∑ k, f k * g k

/-- The part one grid point adds. -/
theorem pay1_at (v0 : Vec Ideal S2048x1024 .bf16) (v2 : Vec Ideal S2048x1024 .bf16) (j : S1024x1024.Idx) :
    k0_pay1 v0 v2 j = ∑ k : Fin 2048, v0 (ix2 k (j 0)) * v2 (ix2 k (j 1)) := by
  pointwise [k0_pay1]

theorem pay2_at (v0 : Vec Ideal S2048x1024 .bf16) (v2 : Vec Ideal S2048x1024 .bf16) (j : S1024x1024.Idx) :
    k0_pay2 v0 v2 j = ∑ k : Fin 2048, v0 (ix2 k (j 0)) * v2 (ix2 k (j 1)) := by
  pointwise [k0_pay2, k0_pay1]

theorem pay3_at (v0 : Vec Ideal S2048x1024 .bf16) (v2 : Vec Ideal S2048x1024 .bf16) (acc : Vec Ideal S1024x1024 .f32) (j : S1024x1024.Idx) :
    k0_pay3 v0 v2 acc j = acc j + ∑ k : Fin 2048, v0 (ix2 k (j 0)) * v2 (ix2 k (j 1)) := by
  pointwise [k0_pay3, k0_pay1]

/-- At a run's last point the block written back is the accumulated sum. -/
theorem last (c : Dev nD) (t : Fin cfg0.N) (h2 : t.val % 8 = 7) (y : S1024x1024.Idx) :
    (outsAt0 m c t.val t.isLt).1 y = (outsAt0 m c t.val t.isLt).2 y := by
  rw [outsAt0_C m c t (by omega) (by omega) h2]
  frame_out

theorem below (t : Fin cfg0.N) : t.val < 8 := lt_of_lt_of_eq t.isLt (show cfg0.N = 8 from N_0)

/-- The row of the result, and the place in the sum, that row `r` and place `k` of the blocks at a grid point are. -/
abbrev row (t : Fin cfg0.N) (r : Fin 1024) : Fin 1024 := ⟨1024 * (t.val / 8) + r.val, by have := below t; omega⟩
abbrev place (t : Fin cfg0.N) (k : Fin 2048) : Fin 16384 := ⟨2048 * (t.val % 8) + k.val, by have := below t; omega⟩

theorem i0 (c : Dev nD) (t : Fin cfg0.N) (k : Fin 2048) (r : Fin 1024) : iblk m c 0 t (ix2 k r) = m ((c : Thread nD τ).loc main_arg0) (ix2 (place t k) (row t r)) := by
  blk_point [iblk, V, idx_val t]
theorem i1 (c : Dev nD) (t : Fin cfg0.N) (k : Fin 2048) (b : Fin 1024) : iblk m c 1 t (ix2 k b) = m ((c : Thread nD τ).loc main_arg1) (ix2 (place t k) b) := by
  blk_point [iblk, V, idx_val t]

theorem final (c : Dev nD) (X : FVec Ideal S1024x1024 .f32)
    (hX : ∀ a b, X (ix2 a b) = dot (fun x => m ((c : Thread nD τ).loc main_arg0) (ix2 x a)) (fun x => m ((c : Thread nD τ).loc main_arg1) (ix2 x b))) :
    (dats m 0 c).arrAt 2 (cfgs 0).N = X := by
  refine (dats m 0 c).arrAt_eq_of_covers 2 _ (by decide +kernel) fun t hf y => ?_
  have ht := below t
  blk_simp
  have h7 : t.val % 8 = 7 := (flush0_2 t).mp hf
  rw [after0_2, last m c t h7, Pipeline.eq_sum_fin_of_reset_step_apply_of_flush (fun n h => (outsAt0 m c n h).2) 8 (fun _ => 0) _
    (fun t h j => by have ht := below t; rw [outsAt0_A m c t h (by omega) (by omega)]; frame_out; rw [pay2_at, zero_add])
    (fun t h j => by
      have ht := below t
      by_cases h2 : t.val % 8 = 7
      · rw [outsAt0_C m c t h (by omega) h2]; frame_out; rw [pay3_at, read_unread_whole]
      · rw [outsAt0_B m c t h (by omega) h2]; frame_out; rw [pay3_at, read_unread_whole])
    t h7 _, zero_add]
  idx_vars y
  have hy : ((cfg0.win 2).blk t).view.emb (ix2 y0 y1) = ix2 (row t y0) y1 := by
    blk_ext [idx_val t]
  rw [hy, hX]
  refine Fin.sum_mul_add_congr fun s k hl => ?_
  have hs := s.isLt
  have hlt := Pipeline.run_point_lt_of_flush t h7 s
  have hk : place ⟨8 * (t.val / 8) + s.val, hlt⟩ k = ⟨s.val * 2048 + k.val, hl⟩ :=
    Fin.ext (by show 2048 * ((8 * (t.val / 8) + s.val) % 8) + k.val = s.val * 2048 + k.val; omega)
  have hr : row ⟨8 * (t.val / 8) + s.val, hlt⟩ y0 = row t y0 :=
    Fin.ext (by show 1024 * ((8 * (t.val / 8) + s.val) / 8) + y0.val = 1024 * (t.val / 8) + y0.val; omega)
  have e0 := i0 m c ⟨8 * (t.val / 8) + s.val, hlt⟩ k y0
  have e1 := i1 m c ⟨8 * (t.val / 8) + s.val, hlt⟩ k y1
  rw [hk] at e0 e1
  rw [hr] at e0
  exact congrArg₂ (· * ·) e0 e1

end Cert.KernelDndwin2Ideal.Hand

end
-- ==== Proof.Dndwin3.lean ====
/- The gradient of the decay rows of the delta mixer's input projection, accumulated over eight blocks of tokens. -/
module

public import proofs.«01_k».proof.Proof.Gen.KernelDndwin3Ideal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDndwin3Ideal.Hand

open Cert.KernelDndwin3Ideal Cert.KernelDndwin3Ideal.Gen

variable (m : (ℓ : Loc nD τ sig) → Buf (Elt Ideal) ℓ)

theorem idx_val : ∀ t : Fin cfg0.N, win0_0.index t = ![t.val % 8, t.val / 8]
    ∧ win0_1.index t = ![t.val % 8, 0]
    ∧ win0_2.index t = ![t.val / 8, 0] :=
  (by decide +kernel : ∀ t : Fin grid0.N, _)

/-- One entry of the whole product. -/
abbrev dot (f g : Fin 16384 → EReal) : EReal := ∑ k, f k * g k

/-- The part one grid point adds. -/
theorem pay1_at (v0 : Vec Ideal S2048x128 .bf16) (v2 : Vec Ideal S2048x1024 .bf16) (j : S128x1024.Idx) :
    k0_pay1 v0 v2 j = ∑ k : Fin 2048, v0 (ix2 k (j 0)) * v2 (ix2 k (j 1)) := by
  pointwise [k0_pay1]

theorem pay2_at (v0 : Vec Ideal S2048x128 .bf16) (v2 : Vec Ideal S2048x1024 .bf16) (j : S128x1024.Idx) :
    k0_pay2 v0 v2 j = ∑ k : Fin 2048, v0 (ix2 k (j 0)) * v2 (ix2 k (j 1)) := by
  pointwise [k0_pay2, k0_pay1]

theorem pay3_at (v0 : Vec Ideal S2048x128 .bf16) (v2 : Vec Ideal S2048x1024 .bf16) (acc : Vec Ideal S128x1024 .f32) (j : S128x1024.Idx) :
    k0_pay3 v0 v2 acc j = acc j + ∑ k : Fin 2048, v0 (ix2 k (j 0)) * v2 (ix2 k (j 1)) := by
  pointwise [k0_pay3, k0_pay1]

/-- At a run's last point the block written back is the accumulated sum. -/
theorem last (c : Dev nD) (t : Fin cfg0.N) (h2 : t.val % 8 = 7) (y : S128x1024.Idx) :
    (outsAt0 m c t.val t.isLt).1 y = (outsAt0 m c t.val t.isLt).2 y := by
  rw [outsAt0_C m c t (by omega) (by omega) h2]
  frame_out

theorem below (t : Fin cfg0.N) : t.val < 8 := lt_of_lt_of_eq t.isLt (show cfg0.N = 8 from N_0)

/-- The row of the result, and the place in the sum, that row `r` and place `k` of the blocks at a grid point are. -/
abbrev row (t : Fin cfg0.N) (r : Fin 128) : Fin 128 := ⟨128 * (t.val / 8) + r.val, by have := below t; omega⟩
abbrev place (t : Fin cfg0.N) (k : Fin 2048) : Fin 16384 := ⟨2048 * (t.val % 8) + k.val, by have := below t; omega⟩

theorem i0 (c : Dev nD) (t : Fin cfg0.N) (k : Fin 2048) (r : Fin 128) : iblk m c 0 t (ix2 k r) = m ((c : Thread nD τ).loc main_arg0) (ix2 (place t k) (row t r)) := by
  blk_point [iblk, V, idx_val t]
theorem i1 (c : Dev nD) (t : Fin cfg0.N) (k : Fin 2048) (b : Fin 1024) : iblk m c 1 t (ix2 k b) = m ((c : Thread nD τ).loc main_arg1) (ix2 (place t k) b) := by
  blk_point [iblk, V, idx_val t]

theorem final (c : Dev nD) (X : FVec Ideal S128x1024 .f32)
    (hX : ∀ a b, X (ix2 a b) = dot (fun x => m ((c : Thread nD τ).loc main_arg0) (ix2 x a)) (fun x => m ((c : Thread nD τ).loc main_arg1) (ix2 x b))) :
    (dats m 0 c).arrAt 2 (cfgs 0).N = X := by
  refine (dats m 0 c).arrAt_eq_of_covers 2 _ (by decide +kernel) fun t hf y => ?_
  have ht := below t
  blk_simp
  have h7 : t.val % 8 = 7 := (flush0_2 t).mp hf
  rw [after0_2, last m c t h7, Pipeline.eq_sum_fin_of_reset_step_apply_of_flush (fun n h => (outsAt0 m c n h).2) 8 (fun _ => 0) _
    (fun t h j => by have ht := below t; rw [outsAt0_A m c t h (by omega) (by omega)]; frame_out; rw [pay2_at, zero_add])
    (fun t h j => by
      have ht := below t
      by_cases h2 : t.val % 8 = 7
      · rw [outsAt0_C m c t h (by omega) h2]; frame_out; rw [pay3_at, read_unread_whole]
      · rw [outsAt0_B m c t h (by omega) h2]; frame_out; rw [pay3_at, read_unread_whole])
    t h7 _, zero_add]
  idx_vars y
  have hy : ((cfg0.win 2).blk t).view.emb (ix2 y0 y1) = ix2 (row t y0) y1 := by
    blk_ext [idx_val t]
  rw [hy, hX]
  refine Fin.sum_mul_add_congr fun s k hl => ?_
  have hs := s.isLt
  have hlt := Pipeline.run_point_lt_of_flush t h7 s
  have hk : place ⟨8 * (t.val / 8) + s.val, hlt⟩ k = ⟨s.val * 2048 + k.val, hl⟩ :=
    Fin.ext (by show 2048 * ((8 * (t.val / 8) + s.val) % 8) + k.val = s.val * 2048 + k.val; omega)
  have hr : row ⟨8 * (t.val / 8) + s.val, hlt⟩ y0 = row t y0 :=
    Fin.ext (by show 128 * ((8 * (t.val / 8) + s.val) / 8) + y0.val = 128 * (t.val / 8) + y0.val; omega)
  have e0 := i0 m c ⟨8 * (t.val / 8) + s.val, hlt⟩ k y0
  have e1 := i1 m c ⟨8 * (t.val / 8) + s.val, hlt⟩ k y1
  rw [hk] at e0 e1
  rw [hr] at e0
  exact congrArg₂ (· * ·) e0 e1

end Cert.KernelDndwin3Ideal.Hand

end
-- ==== Proof.Dwkv.lean ====
/- The gradient of the cross-attention's key and value projection: a product over the memory rows. -/
module

public import proofs.«01_k».proof.Proof.Gen.KernelDwkvIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDwkvIdeal.Hand

open Cert.KernelDwkvIdeal Cert.KernelDwkvIdeal.Gen

variable (m : (ℓ : Loc nD τ sig) → Buf (Elt Ideal) ℓ)

theorem idx_val : ∀ t : Fin cfg0.N, win0_0.index t = ![0, t.val]
    ∧ win0_1.index t = ![0, 0]
    ∧ win0_2.index t = ![t.val, 0] :=
  (by decide +kernel : ∀ t : Fin grid0.N, _)

/-- One entry of the product. -/
abbrev dot (f g : Fin 256 → EReal) : EReal := ∑ k, f k * g k

theorem pay1_at (v0 : Vec Ideal S256x1024 .bf16) (v2 : Vec Ideal S256x1024 .bf16) (r : Fin 1024) (k : Fin 1024) :
    k0_pay1 v0 v2 (ix2 r k) = dot (fun x => v0 (ix2 x r)) (fun x => v2 (ix2 x k)) := by
  pointwise [k0_pay1]

theorem below (t : Fin cfg0.N) : t.val < 2 := lt_of_lt_of_eq t.isLt (show cfg0.N = 2 from N_0)

/-- The row and the column of the whole result that row `r` and column `k` of the block at a grid point are. -/
abbrev row (t : Fin cfg0.N) (r : Fin 1024) : Fin 2048 := ⟨1024 * (t.val) + r.val, by have := below t; omega⟩
abbrev col (t : Fin cfg0.N) (k : Fin 1024) : Fin 1024 := ⟨1024 * (0) + k.val, by have := below t; omega⟩

theorem i0 (c : Dev nD) (t : Fin cfg0.N) (r : Fin 256) (k : Fin 1024) : iblk m c 0 t (ix2 r k) = m ((c : Thread nD τ).loc main_arg0) (ix2 r (row t k)) := by
  blk_point [iblk, V, idx_val t]
theorem i1 (c : Dev nD) (t : Fin cfg0.N) (r : Fin 256) (k : Fin 1024) : iblk m c 1 t (ix2 r k) = m ((c : Thread nD τ).loc main_arg1) (ix2 r (col t k)) := by
  blk_point [iblk, V, idx_val t]

theorem final (c : Dev nD) (X : FVec Ideal S2048x1024 .f32)
    (hX : ∀ r k, X (ix2 r k) = dot (fun x => m ((c : Thread nD τ).loc main_arg0) (ix2 x r)) (fun x => m ((c : Thread nD τ).loc main_arg1) (ix2 x k))) :
    (dats m 0 c).arrAt 2 (cfgs 0).N = X := by
  refine (dats m 0 c).arrAt_eq_of_covers 2 _ (by decide +kernel) fun t hf y => ?_
  have ht := below t
  blk_simp
  rw [after0_2]
  have e : out0_2 (iblk m c 0 t) (iblk m c 1 t) y = k0_pay1 (iblk m c 0 t) (iblk m c 1 t) y := by
    frame_out
  rw [e]
  idx_vars y
  have hy : ((cfg0.win 2).blk t).view.emb (ix2 y0 y1) = ix2 (row t y0) (col t y1) := by
    blk_ext [idx_val t]
  rw [hy, hX, pay1_at]
  simp only [i0, i1]

end Cert.KernelDwkvIdeal.Hand

end
-- ==== Proof.Dmh.lean ====
/- The gradient that the cross-attention's keys and values send back to the normalised memory, accumulated over two blocks. -/
module

public import proofs.«01_k».proof.Proof.Gen.KernelDmhIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDmhIdeal.Hand

open Cert.KernelDmhIdeal Cert.KernelDmhIdeal.Gen

variable (m : (ℓ : Loc nD τ sig) → Buf (Elt Ideal) ℓ)

theorem idx_val : ∀ t : Fin cfg0.N, win0_0.index t = ![t.val / 2, t.val % 2]
    ∧ win0_1.index t = ![t.val % 2, 0]
    ∧ win0_2.index t = ![t.val / 2, 0] :=
  (by decide +kernel : ∀ t : Fin grid0.N, _)

/-- One entry of the whole product. -/
abbrev dot (f g : Fin 2048 → EReal) : EReal := ∑ k, f k * g k

/-- The part one grid point adds. -/
theorem pay1_at (v0 : Vec Ideal S256x1024 .bf16) (v2 : Vec Ideal S1024x1024 .bf16) (j : S256x1024.Idx) :
    k0_pay1 v0 v2 j = ∑ k : Fin 1024, v0 (ix2 (j 0) k) * v2 (ix2 k (j 1)) := by
  pointwise [k0_pay1]

theorem pay2_at (v0 : Vec Ideal S256x1024 .bf16) (v2 : Vec Ideal S1024x1024 .bf16) (j : S256x1024.Idx) :
    k0_pay2 v0 v2 j = ∑ k : Fin 1024, v0 (ix2 (j 0) k) * v2 (ix2 k (j 1)) := by
  pointwise [k0_pay2, k0_pay1]

theorem pay3_at (v0 : Vec Ideal S256x1024 .bf16) (v2 : Vec Ideal S1024x1024 .bf16) (acc : Vec Ideal S256x1024 .f32) (j : S256x1024.Idx) :
    k0_pay3 v0 v2 acc j = acc j + ∑ k : Fin 1024, v0 (ix2 (j 0) k) * v2 (ix2 k (j 1)) := by
  pointwise [k0_pay3, k0_pay1]

/-- At a run's last point the block written back is the accumulated sum. -/
theorem last (c : Dev nD) (t : Fin cfg0.N) (h2 : t.val % 2 = 1) (y : S256x1024.Idx) :
    (outsAt0 m c t.val t.isLt).1 y = (outsAt0 m c t.val t.isLt).2 y := by
  rw [outsAt0_B m c t (by omega) (by omega) h2]
  frame_out

theorem below (t : Fin cfg0.N) : t.val < 2 := lt_of_lt_of_eq t.isLt (show cfg0.N = 2 from N_0)

/-- The row of the result, and the place in the sum, that row `r` and place `k` of the blocks at a grid point are. -/
abbrev row (t : Fin cfg0.N) (r : Fin 256) : Fin 256 := ⟨256 * (t.val / 2) + r.val, by have := below t; omega⟩
abbrev place (t : Fin cfg0.N) (k : Fin 1024) : Fin 2048 := ⟨1024 * (t.val % 2) + k.val, by have := below t; omega⟩

theorem i0 (c : Dev nD) (t : Fin cfg0.N) (r : Fin 256) (k : Fin 1024) : iblk m c 0 t (ix2 r k) = m ((c : Thread nD τ).loc main_arg0) (ix2 (row t r) (place t k)) := by
  blk_point [iblk, V, idx_val t]
theorem i1 (c : Dev nD) (t : Fin cfg0.N) (k : Fin 1024) (b : Fin 1024) : iblk m c 1 t (ix2 k b) = m ((c : Thread nD τ).loc main_arg1) (ix2 (place t k) b) := by
  blk_point [iblk, V, idx_val t]

theorem final (c : Dev nD) (X : FVec Ideal S256x1024 .f32)
    (hX : ∀ a b, X (ix2 a b) = dot (fun x => m ((c : Thread nD τ).loc main_arg0) (ix2 a x)) (fun x => m ((c : Thread nD τ).loc main_arg1) (ix2 x b))) :
    (dats m 0 c).arrAt 2 (cfgs 0).N = X := by
  refine (dats m 0 c).arrAt_eq_of_covers 2 _ (by decide +kernel) fun t hf y => ?_
  have ht := below t
  blk_simp
  have h7 : t.val % 2 = 1 := (flush0_2 t).mp hf
  rw [after0_2, last m c t h7, Pipeline.eq_sum_fin_of_reset_step_apply_of_flush (fun n h => (outsAt0 m c n h).2) 2 (fun _ => 0) _
    (fun t h j => by have ht := below t; rw [outsAt0_A m c t h (by omega) (by omega)]; frame_out; rw [pay2_at, zero_add])
    (fun t h j => by rw [outsAt0_B m c t h (by omega) (by omega)]; frame_out; rw [pay3_at, read_unread_whole])
    t h7 _, zero_add]
  idx_vars y
  have hy : ((cfg0.win 2).blk t).view.emb (ix2 y0 y1) = ix2 (row t y0) y1 := by
    blk_ext [idx_val t]
  rw [hy, hX]
  refine Fin.sum_mul_add_congr fun s k hl => ?_
  have hs := s.isLt
  have hlt := Pipeline.run_point_lt_of_flush t h7 s
  have hk : place ⟨2 * (t.val / 2) + s.val, hlt⟩ k = ⟨s.val * 1024 + k.val, hl⟩ :=
    Fin.ext (by show 1024 * ((2 * (t.val / 2) + s.val) % 2) + k.val = s.val * 1024 + k.val; omega)
  have hr : row ⟨2 * (t.val / 2) + s.val, hlt⟩ y0 = row t y0 :=
    Fin.ext (by show 256 * ((2 * (t.val / 2) + s.val) / 2) + y0.val = 256 * (t.val / 2) + y0.val; omega)
  have e0 := i0 m c ⟨2 * (t.val / 2) + s.val, hlt⟩ y0 k
  have e1 := i1 m c ⟨2 * (t.val / 2) + s.val, hlt⟩ k y1
  rw [hk] at e0 e1
  rw [hr] at e0
  exact congrArg₂ (· * ·) e0 e1

end Cert.KernelDmhIdeal.Hand

end
-- ==== Proof.Abdh.lean ====
/- The gradient that the input projection of the mixer with attention and linear recurrence sends back, taken
   through the norm and added to the residual's, with the gain's gradient. -/
module

public import proofs.«01_k».proof.Proof.Gen.KernelAbdhIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelAbdhIdeal.Hand

open Cert.KernelAbdhIdeal Cert.KernelAbdhIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- The gradient reaching the norm's output, one entry. -/
abbrev dot (f g : Fin 2560 → EReal) : EReal := ∑ k, f k * g k

theorem pay6_at (v0 : Vec Ideal S512x2560 .bf16) (v2 : Vec Ideal S2560x1024 .bf16) (v6 : Vec Ideal S512x1024 .f32) (v17 : Vec Ideal S1x1024 .f32) (v24 : Vec Ideal S512x1024 .f32) (r : Fin 512) (k : Fin 1024) :
    k0_pay6 v0 v2 v6 v17 v24 (ix2 r k) = Cert.Norm.byProjection 0x44800000#32 (fun j => v6 (ix2 r j))
      (fun j => dot (fun x => v0 (ix2 r x)) (fun x => v2 (ix2 x j)) * v17 (ix2 0 j)) (v24 (ix2 r k)) k := by
  pointwise [k0_pay6, k0_pay4, k0_pay3, k0_pay2]
  rfl

theorem pay5_at (v0 : Vec Ideal S512x2560 .bf16) (v2 : Vec Ideal S2560x1024 .bf16) (v6 : Vec Ideal S512x1024 .f32) (j : S1x1024.Idx) :
    k0_pay5 v0 v2 v6 j = ∑ r : Fin 512, Cert.Norm.gain 0x44800000#32 (fun j => v6 (ix2 r j)) (dot (fun x => v0 (ix2 r x)) (fun x => v2 (ix2 x (j 1)))) (j 1) := by
  pointwise [k0_pay5, k0_pay4, k0_pay3, k0_pay2]
  rfl

theorem pay1_at (v23 v42 : Vec Ideal S1x1024 .f32) (j : S1x1024.Idx) : k0_pay1 v23 v42 j = v42 j + v23 j := by
  pointwise [k0_pay1]

section
variable (A0 : FVec Ideal S16384x2560 .f32) (A1 : FVec Ideal S2560x1024 .f32) (A2 A4 : FVec Ideal S16384x1024 .f32) (A3 : FVec Ideal S1024 .f32)

/-- The two results, entry by entry, in the reference's form. -/
def outX (r : Fin 16384) (k : Fin 1024) : EReal :=
  Cert.Norm.byChain 0x44800000#32 (fun j => A2 (ix2 r j)) (fun j => dot (fun x => A0 (ix2 r x)) (fun x => A1 (ix2 x j)) * A3 (ix1 j)) (A4 (ix2 r k)) k

def outG (k : Fin 1024) : EReal :=
  ∑ r : Fin 16384, Cert.Norm.gain 0x44800000#32 (fun j => A2 (ix2 r j)) (dot (fun x => A0 (ix2 r x)) (fun x => A1 (ix2 x k))) k
end

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

theorem i0 (c : Dev nD) (t : Fin cfg0.N) (r : Fin 512) (k : Fin 2560) : iblk m c 0 t (ix2 r k) = m ((c : Thread nD τ).loc main_arg0) (ix2 (row t r) k) := by
  blk_point [iblk, V, idx_val t]
theorem i1 (c : Dev nD) (t : Fin cfg0.N) (r : Fin 2560) (k : Fin 1024) : iblk m c 1 t (ix2 r k) = m ((c : Thread nD τ).loc main_arg1) (ix2 r k) := by
  blk_point [iblk, V, idx_val t]
theorem i2 (c : Dev nD) (t : Fin cfg0.N) (r : Fin 512) (k : Fin 1024) : iblk m c 2 t (ix2 r k) = m ((c : Thread nD τ).loc main_arg2) (ix2 (row t r) k) := by
  blk_point [iblk, V, idx_val t]
theorem i3 (c : Dev nD) (t : Fin cfg0.N) (k : Fin 1024) : iblk m c 3 t (ix2 (0 : Fin 1) k) = m ((c : Thread nD τ).loc main_arg3) (ix1 k) := by
  blk_point [iblk, V, idx_val t]
theorem i4 (c : Dev nD) (t : Fin cfg0.N) (r : Fin 512) (k : Fin 1024) : iblk m c 4 t (ix2 r k) = m ((c : Thread nD τ).loc main_arg4) (ix2 (row t r) k) := by
  blk_point [iblk, V, idx_val t]

theorem final0 (c : Dev nD)
    (X : FVec Ideal S16384x1024 .f32) (hX : ∀ r k, X (ix2 r k) = outX (m ((c : Thread nD τ).loc main_arg0)) (m ((c : Thread nD τ).loc main_arg1))
      (m ((c : Thread nD τ).loc main_arg2)) (m ((c : Thread nD τ).loc main_arg4)) (m ((c : Thread nD τ).loc main_arg3)) r k) :
    (dats m 0 c).arrAt 5 (cfgs 0).N = X := by
  refine (dats m 0 c).arrAt_eq_of_covers 5 _ (by decide +kernel) fun t hf y => ?_
  have ht : t.val < 32 := lt_of_lt_of_eq t.isLt (show cfg0.N = 32 from N_0)
  blk_simp
  rw [after0_5]
  have e : (outsAt0 m c t.val t.isLt).1 y = k0_pay6 (iblk m c 0 t) (iblk m c 1 t) (iblk m c 2 t) (iblk m c 3 t) (iblk m c 4 t) y := by
    by_cases h0 : t.val % 32 = 0
    · rw [outsAt0_A m c t h0 (by omega)]
      frame_out
    · rw [outsAt0_B m c t h0 (by omega)]
      frame_out
  rw [e]
  idx_vars y
  have hy : ((cfg0.win 5).blk t).view.emb (ix2 y0 y1) = ix2 (row t y0) y1 := by
    blk_ext [idx_val t]
  rw [hy, hX, pay6_at]
  simp only [i0, i1, i2, i3, i4]
  exact Cert.Norm.byProjection_eq (by norm_num) Cert.Norm.n_lit _ _ _ _

theorem final1 (c : Dev nD) (X : FVec Ideal S1x1024 .f32) (hX : ∀ k, X (ix2 0 k) = outG (m ((c : Thread nD τ).loc main_arg0)) (m ((c : Thread nD τ).loc main_arg1))
      (m ((c : Thread nD τ).loc main_arg2)) k) : (dats m 0 c).arrAt 6 (cfgs 0).N = X := by
  refine (dats m 0 c).arrAt_eq_of_covers 6 _ (by decide +kernel) fun t hf y => ?_
  blk_simp
  have h7 : t.val % 32 = 31 := (flush0_6 t).mp hf
  rw [after0_6, Pipeline.eq_sum_fin_of_reset_step_apply_of_flush (fun n h => (outsAt0 m c n h).2) 32 (fun _ => 0) _
    (fun t h j => by rw [outsAt0_A m c t h (by have := lt32 t; omega)]; frame_out; rw [pay5_at, zero_add])
    (fun t h j => by rw [outsAt0_B m c t h (by have := lt32 t; omega)]; frame_out; rw [pay1_at, pay5_at])
    t h7 _, zero_add]
  idx_vars y
  have hy : ((cfg0.win 6).blk t).view.emb (ix2 y0 y1) = ix2 (0 : Fin 1) y1 := by
    blk_ext [idx_val t]
  rw [hy, hX, outG]
  refine Fin.sum_mul_add_congr fun s k hl => ?_
  simp only [i0, i1, i2]
  have hr : row ⟨32 * (t.val / 32) + s.val, Pipeline.run_point_lt_of_flush t h7 s⟩ k = ⟨s.val * 512 + k.val, hl⟩ :=
    Fin.ext (by have := lt32 t; show 512 * (32 * (t.val / 32) + s.val) + k.val = s.val * 512 + k.val; omega)
  rw [hr]

end Cert.KernelAbdhIdeal.Hand

end
-- ==== Proof.Xdh.lean ====
/- The gradient that the cross-attention's queries send back, taken through the norm and added to the residual's,
   with the gain's gradient. -/
module

public import proofs.«01_k».proof.Proof.Gen.KernelXdhIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelXdhIdeal.Hand

open Cert.KernelXdhIdeal Cert.KernelXdhIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- The gradient reaching the norm's output, one entry. -/
abbrev dot (f g : Fin 1024 → EReal) : EReal := ∑ k, f k * g k

theorem pay6_at (v0 : Vec Ideal S512x1024 .bf16) (v2 : Vec Ideal S1024x1024 .bf16) (v6 : Vec Ideal S512x1024 .f32) (v17 : Vec Ideal S1x1024 .f32) (v24 : Vec Ideal S512x1024 .f32) (r : Fin 512) (k : Fin 1024) :
    k0_pay6 v0 v2 v6 v17 v24 (ix2 r k) = Cert.Norm.byProjection 0x44800000#32 (fun j => v6 (ix2 r j))
      (fun j => dot (fun x => v0 (ix2 r x)) (fun x => v2 (ix2 j x)) * v17 (ix2 0 j)) (v24 (ix2 r k)) k := by
  pointwise [k0_pay6, k0_pay4, k0_pay3, k0_pay2]
  rfl

theorem pay5_at (v0 : Vec Ideal S512x1024 .bf16) (v2 : Vec Ideal S1024x1024 .bf16) (v6 : Vec Ideal S512x1024 .f32) (j : S1x1024.Idx) :
    k0_pay5 v0 v2 v6 j = ∑ r : Fin 512, Cert.Norm.gain 0x44800000#32 (fun j => v6 (ix2 r j)) (dot (fun x => v0 (ix2 r x)) (fun x => v2 (ix2 (j 1) x))) (j 1) := by
  pointwise [k0_pay5, k0_pay4, k0_pay3, k0_pay2]
  rfl

theorem pay1_at (v23 v42 : Vec Ideal S1x1024 .f32) (j : S1x1024.Idx) : k0_pay1 v23 v42 j = v42 j + v23 j := by
  pointwise [k0_pay1]

section
variable (A0 : FVec Ideal S16384x1024 .f32) (A1 : FVec Ideal S1024x1024 .f32) (A2 A4 : FVec Ideal S16384x1024 .f32) (A3 : FVec Ideal S1024 .f32)

/-- The two results, entry by entry, in the reference's form. -/
def outX (r : Fin 16384) (k : Fin 1024) : EReal :=
  Cert.Norm.byChain 0x44800000#32 (fun j => A2 (ix2 r j)) (fun j => dot (fun x => A0 (ix2 r x)) (fun x => A1 (ix2 j x)) * A3 (ix1 j)) (A4 (ix2 r k)) k

def outG (k : Fin 1024) : EReal :=
  ∑ r : Fin 16384, Cert.Norm.gain 0x44800000#32 (fun j => A2 (ix2 r j)) (dot (fun x => A0 (ix2 r x)) (fun x => A1 (ix2 k x))) k
end

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

theorem i0 (c : Dev nD) (t : Fin cfg0.N) (r : Fin 512) (k : Fin 1024) : iblk m c 0 t (ix2 r k) = m ((c : Thread nD τ).loc main_arg0) (ix2 (row t r) k) := by
  blk_point [iblk, V, idx_val t]
theorem i1 (c : Dev nD) (t : Fin cfg0.N) (r : Fin 1024) (k : Fin 1024) : iblk m c 1 t (ix2 r k) = m ((c : Thread nD τ).loc main_arg1) (ix2 r k) := by
  blk_point [iblk, V, idx_val t]
theorem i2 (c : Dev nD) (t : Fin cfg0.N) (r : Fin 512) (k : Fin 1024) : iblk m c 2 t (ix2 r k) = m ((c : Thread nD τ).loc main_arg2) (ix2 (row t r) k) := by
  blk_point [iblk, V, idx_val t]
theorem i3 (c : Dev nD) (t : Fin cfg0.N) (k : Fin 1024) : iblk m c 3 t (ix2 (0 : Fin 1) k) = m ((c : Thread nD τ).loc main_arg3) (ix1 k) := by
  blk_point [iblk, V, idx_val t]
theorem i4 (c : Dev nD) (t : Fin cfg0.N) (r : Fin 512) (k : Fin 1024) : iblk m c 4 t (ix2 r k) = m ((c : Thread nD τ).loc main_arg4) (ix2 (row t r) k) := by
  blk_point [iblk, V, idx_val t]

theorem final0 (c : Dev nD)
    (X : FVec Ideal S16384x1024 .f32) (hX : ∀ r k, X (ix2 r k) = outX (m ((c : Thread nD τ).loc main_arg0)) (m ((c : Thread nD τ).loc main_arg1))
      (m ((c : Thread nD τ).loc main_arg2)) (m ((c : Thread nD τ).loc main_arg4)) (m ((c : Thread nD τ).loc main_arg3)) r k) :
    (dats m 0 c).arrAt 5 (cfgs 0).N = X := by
  refine (dats m 0 c).arrAt_eq_of_covers 5 _ (by decide +kernel) fun t hf y => ?_
  have ht : t.val < 32 := lt_of_lt_of_eq t.isLt (show cfg0.N = 32 from N_0)
  blk_simp
  rw [after0_5]
  have e : (outsAt0 m c t.val t.isLt).1 y = k0_pay6 (iblk m c 0 t) (iblk m c 1 t) (iblk m c 2 t) (iblk m c 3 t) (iblk m c 4 t) y := by
    by_cases h0 : t.val % 32 = 0
    · rw [outsAt0_A m c t h0 (by omega)]
      frame_out
    · rw [outsAt0_B m c t h0 (by omega)]
      frame_out
  rw [e]
  idx_vars y
  have hy : ((cfg0.win 5).blk t).view.emb (ix2 y0 y1) = ix2 (row t y0) y1 := by
    blk_ext [idx_val t]
  rw [hy, hX, pay6_at]
  simp only [i0, i1, i2, i3, i4]
  exact Cert.Norm.byProjection_eq (by norm_num) Cert.Norm.n_lit _ _ _ _

theorem final1 (c : Dev nD) (X : FVec Ideal S1x1024 .f32) (hX : ∀ k, X (ix2 0 k) = outG (m ((c : Thread nD τ).loc main_arg0)) (m ((c : Thread nD τ).loc main_arg1))
      (m ((c : Thread nD τ).loc main_arg2)) k) : (dats m 0 c).arrAt 6 (cfgs 0).N = X := by
  refine (dats m 0 c).arrAt_eq_of_covers 6 _ (by decide +kernel) fun t hf y => ?_
  blk_simp
  have h7 : t.val % 32 = 31 := (flush0_6 t).mp hf
  rw [after0_6, Pipeline.eq_sum_fin_of_reset_step_apply_of_flush (fun n h => (outsAt0 m c n h).2) 32 (fun _ => 0) _
    (fun t h j => by rw [outsAt0_A m c t h (by have := lt32 t; omega)]; frame_out; rw [pay5_at, zero_add])
    (fun t h j => by rw [outsAt0_B m c t h (by have := lt32 t; omega)]; frame_out; rw [pay1_at, pay5_at])
    t h7 _, zero_add]
  idx_vars y
  have hy : ((cfg0.win 6).blk t).view.emb (ix2 y0 y1) = ix2 (0 : Fin 1) y1 := by
    blk_ext [idx_val t]
  rw [hy, hX, outG]
  refine Fin.sum_mul_add_congr fun s k hl => ?_
  simp only [i0, i1, i2]
  have hr : row ⟨32 * (t.val / 32) + s.val, Pipeline.run_point_lt_of_flush t h7 s⟩ k = ⟨s.val * 512 + k.val, hl⟩ :=
    Fin.ext (by have := lt32 t; show 512 * (32 * (t.val / 32) + s.val) + k.val = s.val * 512 + k.val; omega)
  rw [hr]

end Cert.KernelXdhIdeal.Hand

end
-- ==== Proof.Dndh1.lean ====
/- The gradient that the queries, keys and values of the delta mixer send back, accumulated over two blocks. -/
module

public import proofs.«01_k».proof.Proof.Gen.KernelDndh1Ideal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDndh1Ideal.Hand

open Cert.KernelDndh1Ideal Cert.KernelDndh1Ideal.Gen

variable (m : (ℓ : Loc nD τ sig) → Buf (Elt Ideal) ℓ)

theorem idx_val : ∀ t : Fin cfg0.N, win0_0.index t = ![t.val / 2, t.val % 2]
    ∧ win0_1.index t = ![t.val % 2, 0]
    ∧ win0_2.index t = ![t.val / 2, 0] :=
  (by decide +kernel : ∀ t : Fin grid0.N, _)

/-- One entry of the whole product. -/
abbrev dot (f g : Fin 3072 → EReal) : EReal := ∑ k, f k * g k

/-- The part one grid point adds. -/
theorem pay1_at (v0 : Vec Ideal S1024x1536 .bf16) (v2 : Vec Ideal S1536x1024 .bf16) (j : S1024x1024.Idx) :
    k0_pay1 v0 v2 j = ∑ k : Fin 1536, v0 (ix2 (j 0) k) * v2 (ix2 k (j 1)) := by
  pointwise [k0_pay1]

theorem pay2_at (v0 : Vec Ideal S1024x1536 .bf16) (v2 : Vec Ideal S1536x1024 .bf16) (j : S1024x1024.Idx) :
    k0_pay2 v0 v2 j = ∑ k : Fin 1536, v0 (ix2 (j 0) k) * v2 (ix2 k (j 1)) := by
  pointwise [k0_pay2, k0_pay1]

theorem pay3_at (v0 : Vec Ideal S1024x1536 .bf16) (v2 : Vec Ideal S1536x1024 .bf16) (acc : Vec Ideal S1024x1024 .f32) (j : S1024x1024.Idx) :
    k0_pay3 v0 v2 acc j = acc j + ∑ k : Fin 1536, v0 (ix2 (j 0) k) * v2 (ix2 k (j 1)) := by
  pointwise [k0_pay3, k0_pay1]

/-- At a run's last point the block written back is the accumulated sum. -/
theorem last (c : Dev nD) (t : Fin cfg0.N) (h2 : t.val % 2 = 1) (y : S1024x1024.Idx) :
    (outsAt0 m c t.val t.isLt).1 y = (outsAt0 m c t.val t.isLt).2 y := by
  rw [outsAt0_B m c t (by omega) (by omega) h2]
  frame_out

theorem below (t : Fin cfg0.N) : t.val < 32 := lt_of_lt_of_eq t.isLt (show cfg0.N = 32 from N_0)

/-- The row of the result, and the place in the sum, that row `r` and place `k` of the blocks at a grid point are. -/
abbrev row (t : Fin cfg0.N) (r : Fin 1024) : Fin 16384 := ⟨1024 * (t.val / 2) + r.val, by have := below t; omega⟩
abbrev place (t : Fin cfg0.N) (k : Fin 1536) : Fin 3072 := ⟨1536 * (t.val % 2) + k.val, by have := below t; omega⟩

theorem i0 (c : Dev nD) (t : Fin cfg0.N) (r : Fin 1024) (k : Fin 1536) : iblk m c 0 t (ix2 r k) = m ((c : Thread nD τ).loc main_arg0) (ix2 (row t r) (place t k)) := by
  blk_point [iblk, V, idx_val t]
theorem i1 (c : Dev nD) (t : Fin cfg0.N) (k : Fin 1536) (b : Fin 1024) : iblk m c 1 t (ix2 k b) = m ((c : Thread nD τ).loc main_arg1) (ix2 (place t k) b) := by
  blk_point [iblk, V, idx_val t]

theorem final (c : Dev nD) (X : FVec Ideal S16384x1024 .f32)
    (hX : ∀ a b, X (ix2 a b) = dot (fun x => m ((c : Thread nD τ).loc main_arg0) (ix2 a x)) (fun x => m ((c : Thread nD τ).loc main_arg1) (ix2 x b))) :
    (dats m 0 c).arrAt 2 (cfgs 0).N = X := by
  refine (dats m 0 c).arrAt_eq_of_covers 2 _ (by decide +kernel) fun t hf y => ?_
  have ht := below t
  blk_simp
  have h7 : t.val % 2 = 1 := (flush0_2 t).mp hf
  rw [after0_2, last m c t h7, Pipeline.eq_sum_fin_of_reset_step_apply_of_flush (fun n h => (outsAt0 m c n h).2) 2 (fun _ => 0) _
    (fun t h j => by have ht := below t; rw [outsAt0_A m c t h (by omega) (by omega)]; frame_out; rw [pay2_at, zero_add])
    (fun t h j => by rw [outsAt0_B m c t h (by omega) (by omega)]; frame_out; rw [pay3_at, read_unread_whole])
    t h7 _, zero_add]
  idx_vars y
  have hy : ((cfg0.win 2).blk t).view.emb (ix2 y0 y1) = ix2 (row t y0) y1 := by
    blk_ext [idx_val t]
  rw [hy, hX]
  refine Fin.sum_mul_add_congr fun s k hl => ?_
  have hs := s.isLt
  have hlt := Pipeline.run_point_lt_of_flush t h7 s
  have hk : place ⟨2 * (t.val / 2) + s.val, hlt⟩ k = ⟨s.val * 1536 + k.val, hl⟩ :=
    Fin.ext (by show 1536 * ((2 * (t.val / 2) + s.val) % 2) + k.val = s.val * 1536 + k.val; omega)
  have hr : row ⟨2 * (t.val / 2) + s.val, hlt⟩ y0 = row t y0 :=
    Fin.ext (by show 1024 * ((2 * (t.val / 2) + s.val) / 2) + y0.val = 1024 * (t.val / 2) + y0.val; omega)
  have e0 := i0 m c ⟨2 * (t.val / 2) + s.val, hlt⟩ y0 k
  have e1 := i1 m c ⟨2 * (t.val / 2) + s.val, hlt⟩ k y1
  rw [hk] at e0 e1
  rw [hr] at e0
  exact congrArg₂ (· * ·) e0 e1

end Cert.KernelDndh1Ideal.Hand

end
-- ==== Proof.Dndh2.lean ====
/- The gate's share of the gradient that the delta mixer's input projection sends back, added to the share before it. -/
module

public import proofs.«01_k».proof.Proof.Gen.KernelDndh2Ideal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDndh2Ideal.Hand

open Cert.KernelDndh2Ideal Cert.KernelDndh2Ideal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- One entry of the product. -/
abbrev dot (f g : Fin 1024 → EReal) : EReal := ∑ k, f k * g k

theorem pay1_at (v0 : Vec Ideal S1024x1024 .bf16) (v2 : Vec Ideal S1024x1024 .bf16) (v5 : Vec Ideal S1024x1024 .f32) (r : Fin 1024) (k : Fin 1024) :
    k0_pay1 v0 v2 v5 (ix2 r k) = dot (fun x => v0 (ix2 r x)) (fun x => v2 (ix2 x k)) + v5 (ix2 r k) := by
  pointwise [k0_pay1]

theorem below (t : Fin cfg0.N) : t.val < 16 := lt_of_lt_of_eq t.isLt (show cfg0.N = 16 from N_0)

/-- The row and the column of the whole result that row `r` and column `k` of the block at a grid point are. -/
abbrev row (t : Fin cfg0.N) (r : Fin 1024) : Fin 16384 := ⟨1024 * (t.val) + r.val, by have := below t; omega⟩
abbrev col (t : Fin cfg0.N) (k : Fin 1024) : Fin 1024 := ⟨1024 * (0) + k.val, by have := below t; omega⟩

theorem i0 (c : Dev nD) (t : Fin cfg0.N) (r : Fin 1024) (k : Fin 1024) : iblk m c 0 t (ix2 r k) = m ((c : Thread nD τ).loc main_arg0) (ix2 (row t r) k) := by
  blk_point [iblk, V, idx_val t]
theorem i1 (c : Dev nD) (t : Fin cfg0.N) (r : Fin 1024) (k : Fin 1024) : iblk m c 1 t (ix2 r k) = m ((c : Thread nD τ).loc main_arg1) (ix2 r (col t k)) := by
  blk_point [iblk, V, idx_val t]
theorem i2 (c : Dev nD) (t : Fin cfg0.N) (r : Fin 1024) (k : Fin 1024) : iblk m c 2 t (ix2 r k) = m ((c : Thread nD τ).loc main_arg2) (ix2 (row t r) (col t k)) := by
  blk_point [iblk, V, idx_val t]

theorem final (c : Dev nD) (X : FVec Ideal S16384x1024 .f32)
    (hX : ∀ r k, X (ix2 r k) = dot (fun x => m ((c : Thread nD τ).loc main_arg0) (ix2 r x)) (fun x => m ((c : Thread nD τ).loc main_arg1) (ix2 x k)) + m ((c : Thread nD τ).loc main_arg2) (ix2 r k)) :
    (dats m 0 c).arrAt 3 (cfgs 0).N = X := by
  refine (dats m 0 c).arrAt_eq_of_covers 3 _ (by decide +kernel) fun t hf y => ?_
  have ht := below t
  blk_simp
  rw [after0_3]
  have e : out0_3 (iblk m c 0 t) (iblk m c 1 t) (iblk m c 2 t) y = k0_pay1 (iblk m c 0 t) (iblk m c 1 t) (iblk m c 2 t) y := by
    frame_out
  rw [e]
  idx_vars y
  have hy : ((cfg0.win 3).blk t).view.emb (ix2 y0 y1) = ix2 (row t y0) (col t y1) := by
    blk_ext [idx_val t]
  rw [hy, hX, pay1_at]
  simp only [i0, i1, i2]

end Cert.KernelDndh2Ideal.Hand

end
-- ==== Proof.Dndh3.lean ====
/- The last share of the gradient that the delta mixer's input projection sends back, added to the shares before
   it, taken through the norm and added to the residual's, with the gain's gradient. -/
module

public import proofs.«01_k».proof.Proof.Gen.KernelDndh3Ideal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDndh3Ideal.Hand

open Cert.KernelDndh3Ideal Cert.KernelDndh3Ideal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0] :=
  (by decide +kernel : ∀ t : Fin grid0.N, _)

/-- The gradient reaching the norm's output, one entry. -/
abbrev dot (f g : Fin 128 → EReal) : EReal := ∑ k, f k * g k

theorem pay7_at (v0 : Vec Ideal S512x128 .bf16) (v2 : Vec Ideal S128x1024 .bf16) (v6 v8 : Vec Ideal S512x1024 .f32) (v19 : Vec Ideal S1x1024 .f32) (v26 : Vec Ideal S512x1024 .f32) (r : Fin 512) (k : Fin 1024) :
    k0_pay1 v26 (k0_pay7 v0 v2 v6 v8 v19) (ix2 r k) = Cert.Norm.byProjection 0x44800000#32 (fun j => v8 (ix2 r j))
      (fun j => (v6 (ix2 r j) + dot (fun x => v0 (ix2 r x)) (fun x => v2 (ix2 x j))) * v19 (ix2 0 j)) (v26 (ix2 r k)) k := by
  pointwise [k0_pay1, k0_pay7, k0_pay5, k0_pay4, k0_pay3]
  simp only [add_comm (∑ _, _) (v6 _)]
  rfl

theorem pay6_at (v0 : Vec Ideal S512x128 .bf16) (v2 : Vec Ideal S128x1024 .bf16) (v6 v8 : Vec Ideal S512x1024 .f32) (j : S1x1024.Idx) :
    k0_pay6 v0 v2 v6 v8 j = ∑ r : Fin 512, Cert.Norm.gain 0x44800000#32 (fun j => v8 (ix2 r j)) (v6 (ix2 r (j 1)) + dot (fun x => v0 (ix2 r x)) (fun x => v2 (ix2 x (j 1)))) (j 1) := by
  pointwise [k0_pay6, k0_pay5, k0_pay4, k0_pay3]
  simp only [add_comm (∑ _, _) (v6 _)]
  rfl

theorem pay2_at (v25 v44 : Vec Ideal S1x1024 .f32) (j : S1x1024.Idx) : k0_pay2 v25 v44 j = v44 j + v25 j := by
  pointwise [k0_pay2]

section
variable (A0 : FVec Ideal S16384x128 .f32) (A1 : FVec Ideal S128x1024 .f32) (A2 A3 A5 : FVec Ideal S16384x1024 .f32) (A4 : FVec Ideal S1024 .f32)

/-- The gradient reaching the norm's output: the shares before it and this one. -/
abbrev dh (r : Fin 16384) (k : Fin 1024) : EReal := A2 (ix2 r k) + dot (fun x => A0 (ix2 r x)) (fun x => A1 (ix2 x k))

/-- The two results, entry by entry, in the reference's form. -/
def outX (r : Fin 16384) (k : Fin 1024) : EReal :=
  Cert.Norm.byChain 0x44800000#32 (fun j => A3 (ix2 r j)) (fun j => dh A0 A1 A2 r j * A4 (ix1 j)) (A5 (ix2 r k)) k

def outG (k : Fin 1024) : EReal :=
  ∑ r : Fin 16384, Cert.Norm.gain 0x44800000#32 (fun j => A3 (ix2 r j)) (dh A0 A1 A2 r k) k
end

theorem lt32 (t : Fin cfg0.N) : t.val < 32 := lt_of_lt_of_eq t.isLt (show cfg0.N = 32 from N_0)

/-- The whole-array row that row `r` of the block at grid point `t` is. -/
abbrev row (t : Fin cfg0.N) (r : Fin 512) : Fin 16384 := ⟨512 * t.val + r.val, by have := lt32 t; omega⟩

theorem i0 (c : Dev nD) (t : Fin cfg0.N) (r : Fin 512) (k : Fin 128) : iblk m c 0 t (ix2 r k) = m ((c : Thread nD τ).loc main_arg0) (ix2 (row t r) k) := by
  blk_point [iblk, V, idx_val t]
theorem i1 (c : Dev nD) (t : Fin cfg0.N) (r : Fin 128) (k : Fin 1024) : iblk m c 1 t (ix2 r k) = m ((c : Thread nD τ).loc main_arg1) (ix2 r k) := by
  blk_point [iblk, V, idx_val t]
theorem i2 (c : Dev nD) (t : Fin cfg0.N) (r : Fin 512) (k : Fin 1024) : iblk m c 2 t (ix2 r k) = m ((c : Thread nD τ).loc main_arg2) (ix2 (row t r) k) := by
  blk_point [iblk, V, idx_val t]
theorem i3 (c : Dev nD) (t : Fin cfg0.N) (r : Fin 512) (k : Fin 1024) : iblk m c 3 t (ix2 r k) = m ((c : Thread nD τ).loc main_arg3) (ix2 (row t r) k) := by
  blk_point [iblk, V, idx_val t]
theorem i4 (c : Dev nD) (t : Fin cfg0.N) (k : Fin 1024) : iblk m c 4 t (ix2 (0 : Fin 1) k) = m ((c : Thread nD τ).loc main_arg4) (ix1 k) := by
  blk_point [iblk, V, idx_val t]
theorem i5 (c : Dev nD) (t : Fin cfg0.N) (r : Fin 512) (k : Fin 1024) : iblk m c 5 t (ix2 r k) = m ((c : Thread nD τ).loc main_arg5) (ix2 (row t r) k) := by
  blk_point [iblk, V, idx_val t]

theorem final0 (c : Dev nD)
    (X : FVec Ideal S16384x1024 .f32) (hX : ∀ r k, X (ix2 r k) = outX (m ((c : Thread nD τ).loc main_arg0)) (m ((c : Thread nD τ).loc main_arg1))
      (m ((c : Thread nD τ).loc main_arg2)) (m ((c : Thread nD τ).loc main_arg3)) (m ((c : Thread nD τ).loc main_arg5)) (m ((c : Thread nD τ).loc main_arg4)) r k) :
    (dats m 0 c).arrAt 6 (cfgs 0).N = X := by
  refine (dats m 0 c).arrAt_eq_of_covers 6 _ (by decide +kernel) fun t hf y => ?_
  have ht : t.val < 32 := lt_of_lt_of_eq t.isLt (show cfg0.N = 32 from N_0)
  blk_simp
  rw [after0_6]
  have e : (outsAt0 m c t.val t.isLt).1 y = k0_pay1 (iblk m c 5 t) (k0_pay7 (iblk m c 0 t) (iblk m c 1 t) (iblk m c 2 t) (iblk m c 3 t) (iblk m c 4 t)) y := by
    by_cases h0 : t.val % 32 = 0
    · rw [outsAt0_A m c t h0 (by omega)]
      frame_out
    · rw [outsAt0_B m c t h0 (by omega)]
      frame_out
  rw [e]
  idx_vars y
  have hy : ((cfg0.win 6).blk t).view.emb (ix2 y0 y1) = ix2 (row t y0) y1 := by
    blk_ext [idx_val t]
  rw [hy, hX, pay7_at]
  simp only [i0, i1, i2, i3, i4, i5]
  exact Cert.Norm.byProjection_eq (by norm_num) Cert.Norm.n_lit _ _ _ _

theorem final1 (c : Dev nD) (X : FVec Ideal S1x1024 .f32) (hX : ∀ k, X (ix2 0 k) = outG (m ((c : Thread nD τ).loc main_arg0)) (m ((c : Thread nD τ).loc main_arg1))
      (m ((c : Thread nD τ).loc main_arg2)) (m ((c : Thread nD τ).loc main_arg3)) k) : (dats m 0 c).arrAt 7 (cfgs 0).N = X := by
  refine (dats m 0 c).arrAt_eq_of_covers 7 _ (by decide +kernel) fun t hf y => ?_
  blk_simp
  have h7 : t.val % 32 = 31 := (flush0_7 t).mp hf
  rw [after0_7, Pipeline.eq_sum_fin_of_reset_step_apply_of_flush (fun n h => (outsAt0 m c n h).2) 32 (fun _ => 0) _
    (fun t h j => by rw [outsAt0_A m c t h (by have := lt32 t; omega)]; frame_out; rw [pay6_at, zero_add])
    (fun t h j => by rw [outsAt0_B m c t h (by have := lt32 t; omega)]; frame_out; rw [pay2_at, pay6_at])
    t h7 _, zero_add]
  idx_vars y
  have hy : ((cfg0.win 7).blk t).view.emb (ix2 y0 y1) = ix2 (0 : Fin 1) y1 := by
    blk_ext [idx_val t]
  rw [hy, hX, outG]
  refine Fin.sum_mul_add_congr fun s k hl => ?_
  simp only [i0, i1, i2, i3]
  have hr : row ⟨32 * (t.val / 32) + s.val, Pipeline.run_point_lt_of_flush t h7 s⟩ k = ⟨s.val * 512 + k.val, hl⟩ :=
    Fin.ext (by have := lt32 t; show 512 * (32 * (t.val / 32) + s.val) + k.val = s.val * 512 + k.val; omega)
  rw [hr]

end Cert.KernelDndh3Ideal.Hand

end
-- ==== Proof.Mnorm.lean ====
/- The norm of the memory: one block, each row normalised and scaled by the gain. -/
module

public import proofs.«01_k».proof.Proof.Gen.KernelMnormIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelMnormIdeal.Hand

open Cert.KernelMnormIdeal Cert.KernelMnormIdeal.Gen

variable (m : (ℓ : Loc nD τ sig) → Buf (Elt Ideal) ℓ)

theorem idx_val : ∀ t : Fin cfg0.N, win0_0.index t = ![0, 0]
    ∧ win0_1.index t = ![0, 0]
    ∧ win0_2.index t = ![0, 0] :=
  (by decide +kernel : ∀ t : Fin grid0.N, _)

/-- One entry of a row normalised and scaled by the gain. -/
def normed (y g : Fin 1024 → EReal) (k : Fin 1024) : EReal := y k * Ideal.rsqrt (Cert.Norm.V 0x44800000#32 y) * g k

theorem pay1_at (v0 : Vec Ideal S256x1024 .f32) (v11 : Vec Ideal S1x1024 .f32) (r : Fin 256) (k : Fin 1024) :
    k0_pay1 v0 v11 (ix2 r k) = normed (fun j => v0 (ix2 r j)) (fun j => v11 (ix2 0 j)) k := by
  pointwise [k0_pay1]
  rfl

theorem i0 (c : Dev nD) (t : Fin cfg0.N) (r : Fin 256) (k : Fin 1024) : iblk m c 0 t (ix2 r k) = m ((c : Thread nD τ).loc main_arg0) (ix2 r k) := by
  blk_point [iblk, V, idx_val t]
theorem i1 (c : Dev nD) (t : Fin cfg0.N) (k : Fin 1024) : iblk m c 1 t (ix2 (0 : Fin 1) k) = m ((c : Thread nD τ).loc main_arg1) (ix1 k) := by
  blk_point [iblk, V, idx_val t]

theorem final (c : Dev nD) (X : FVec Ideal S256x1024 .bf16)
    (hX : ∀ r k, X (ix2 r k) = normed (fun j => m ((c : Thread nD τ).loc main_arg0) (ix2 r j)) (fun j => m ((c : Thread nD τ).loc main_arg1) (ix1 j)) k) :
    (dats m 0 c).arrAt 2 (cfgs 0).N = X := by
  refine (dats m 0 c).arrAt_eq_of_covers 2 _ (by decide +kernel) fun t hf y => ?_
  blk_simp
  rw [after0_2]
  have e : out0_2 (iblk m c 0 t) (iblk m c 1 t) y = k0_pay1 (iblk m c 0 t) (iblk m c 1 t) y := by
    frame_out
  rw [e]
  idx_vars y
  have hy : ((cfg0.win 2).blk t).view.emb (ix2 y0 y1) = ix2 y0 y1 := by
    blk_ext [idx_val t]
  rw [hy, hX, pay1_at]
  simp only [i0, i1]

end Cert.KernelMnormIdeal.Hand

end
-- ==== Proof.Dmnorm.lean ====
/- The gradient of the memory's norm at the memory and at the gain, one block. -/
module

public import proofs.«01_k».proof.Proof.Gen.KernelDmnormIdeal.Frame
public import Idealize.ShloMosaic.Lib.Pipeline.ValueKit
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.KernelDmnormIdeal.Hand

open Cert.KernelDmnormIdeal Cert.KernelDmnormIdeal.Gen

variable (m : (ℓ : Loc nD τ sig) → Buf (Elt Ideal) ℓ)

theorem idx_val : ∀ t : Fin cfg0.N, win0_0.index t = ![0, 0]
    ∧ win0_1.index t = ![0, 0]
    ∧ win0_2.index t = ![0, 0]
    ∧ win0_3.index t = ![0, 0]
    ∧ win0_4.index t = ![0, 0] :=
  (by decide +kernel : ∀ t : Fin grid0.N, _)

theorem pay3_at (v0 v11 : Vec Ideal S256x1024 .f32) (v12 : Vec Ideal S1x1024 .f32) (r : Fin 256) (k : Fin 1024) :
    k0_pay3 v0 v11 v12 (ix2 r k) = Cert.Norm.byProjection 0x44800000#32 (fun j => v0 (ix2 r j))
      (fun j => v11 (ix2 r j) * v12 (ix2 0 j)) 0 k := by
  pointwise [k0_pay3, k0_pay2, k0_pay1]
  exact (zero_add _).symm

theorem pay4_at (v0 v11 : Vec Ideal S256x1024 .f32) (j : S1x1024.Idx) :
    k0_pay4 v0 v11 j = ∑ r : Fin 256, Cert.Norm.gain 0x44800000#32 (fun j => v0 (ix2 r j)) (v11 (ix2 r (j 1))) (j 1) := by
  pointwise [k0_pay4, k0_pay2, k0_pay1]
  rfl

section
variable (A0 A2 : FVec Ideal S256x1024 .f32) (A1 : FVec Ideal S1024 .f32)

/-- The two results, entry by entry, in the reference's form. -/
def outX (r : Fin 256) (k : Fin 1024) : EReal :=
  Cert.Norm.byChain 0x44800000#32 (fun j => A0 (ix2 r j)) (fun j => A2 (ix2 r j) * A1 (ix1 j)) 0 k

def outG (k : Fin 1024) : EReal := ∑ r : Fin 256, Cert.Norm.gain 0x44800000#32 (fun j => A0 (ix2 r j)) (A2 (ix2 r k)) k
end

theorem i0 (c : Dev nD) (t : Fin cfg0.N) (r : Fin 256) (k : Fin 1024) : iblk m c 0 t (ix2 r k) = m ((c : Thread nD τ).loc main_arg0) (ix2 r k) := by
  blk_point [iblk, V, idx_val t]
theorem i1 (c : Dev nD) (t : Fin cfg0.N) (k : Fin 1024) : iblk m c 1 t (ix2 (0 : Fin 1) k) = m ((c : Thread nD τ).loc main_arg1) (ix1 k) := by
  blk_point [iblk, V, idx_val t]
theorem i2 (c : Dev nD) (t : Fin cfg0.N) (r : Fin 256) (k : Fin 1024) : iblk m c 2 t (ix2 r k) = m ((c : Thread nD τ).loc main_arg2) (ix2 r k) := by
  blk_point [iblk, V, idx_val t]

theorem final0 (c : Dev nD) (X : FVec Ideal S256x1024 .f32)
    (hX : ∀ r k, X (ix2 r k) = outX (m ((c : Thread nD τ).loc main_arg0)) (m ((c : Thread nD τ).loc main_arg2)) (m ((c : Thread nD τ).loc main_arg1)) r k) :
    (dats m 0 c).arrAt 3 (cfgs 0).N = X := by
  refine (dats m 0 c).arrAt_eq_of_covers 3 _ (by decide +kernel) fun t hf y => ?_
  blk_simp
  rw [after0_3]
  have e : (outsAt0 m c t).1 y = k0_pay3 (iblk m c 0 t) (iblk m c 2 t) (iblk m c 1 t) y := by
    rw [outsAt0]
    frame_out
  rw [e]
  idx_vars y
  have hy : ((cfg0.win 3).blk t).view.emb (ix2 y0 y1) = ix2 y0 y1 := by
    blk_ext [idx_val t]
  rw [hy, hX, pay3_at]
  simp only [i0, i1, i2]
  exact Cert.Norm.byProjection_eq (by norm_num) Cert.Norm.n_lit _ _ _ _

/-- The block's sum over its rows is the whole sum. -/
theorem sums (c : Dev nD) (t : Fin cfg0.N) (k : Fin 1024) :
    (∑ r : Fin 256, Cert.Norm.gain 0x44800000#32 (fun j => iblk m c 0 t (ix2 r j)) (iblk m c 2 t (ix2 r k)) k) = outG (m ((c : Thread nD τ).loc main_arg0)) (m ((c : Thread nD τ).loc main_arg2)) k := by
  simp only [i0, i2, outG]

theorem final1 (c : Dev nD) (X : FVec Ideal S1x1024 .f32)
    (hX : ∀ k, X (ix2 0 k) = outG (m ((c : Thread nD τ).loc main_arg0)) (m ((c : Thread nD τ).loc main_arg2)) k) :
    (dats m 0 c).arrAt 4 (cfgs 0).N = X := by
  refine (dats m 0 c).arrAt_eq_of_covers 4 _ (by decide +kernel) fun t hf y => ?_
  blk_simp
  rw [after0_4]
  have e : (outsAt0 m c t).2 y = k0_pay4 (iblk m c 0 t) (iblk m c 2 t) y := by
    rw [outsAt0]
    frame_out
  rw [e]
  idx_vars y
  have hy : ((cfg0.win 4).blk t).view.emb (ix2 y0 y1) = ix2 (0 : Fin 1) y1 := by
    blk_ext [idx_val t]
  rw [hy, hX, pay4_at]
  exact sums m c t y1

end Cert.KernelDmnormIdeal.Hand

end
-- ==== Proof.lean ====
/- The proof of the claim: the frames of every program, and for each pair the equality of the results. -/
module

public import proofs.«01_k».proof.Defs
public import proofs.«01_k».proof.Proof.Gen.KernelDa.Frame
public import proofs.«01_k».proof.Proof.Gen.KernelDaIdeal.Frame
public import proofs.«01_k».proof.Proof.Gen.ReferenceDaIdeal.Run
public import proofs.«01_k».proof.Proof.Gen.KernelDwout.Frame
public import proofs.«01_k».proof.Proof.Gen.KernelDwoutIdeal.Frame
public import proofs.«01_k».proof.Proof.Gen.ReferenceDwoutIdeal.Run
public import proofs.«01_k».proof.Proof.Gen.KernelDwin.Frame
public import proofs.«01_k».proof.Proof.Gen.KernelDwinIdeal.Frame
public import proofs.«01_k».proof.Proof.Gen.ReferenceDwinIdeal.Run
public import proofs.«01_k».proof.Proof.Gen.KernelDh.Frame
public import proofs.«01_k».proof.Proof.Gen.KernelDhIdeal.Frame
public import proofs.«01_k».proof.Proof.Gen.ReferenceDhIdeal.Run
public import proofs.«01_k».proof.Proof.Gen.KernelSwiglu.Frame
public import proofs.«01_k».proof.Proof.Gen.KernelSwigluIdeal.Frame
public import proofs.«01_k».proof.Proof.Gen.ReferenceSwigluIdeal.Run
public import proofs.«01_k».proof.Proof.Gen.KernelOut.Frame
public import proofs.«01_k».proof.Proof.Gen.KernelOutIdeal.Frame
public import proofs.«01_k».proof.Proof.Gen.ReferenceOutIdeal.Run
public import proofs.«01_k».proof.Proof.Gen.KernelProj.Frame
public import proofs.«01_k».proof.Proof.Gen.KernelProjIdeal.Frame
public import proofs.«01_k».proof.Proof.Gen.ReferenceProjIdeal.Run
public import proofs.«01_k».proof.Proof.Gen.KernelDwo.Frame
public import proofs.«01_k».proof.Proof.Gen.KernelDwoIdeal.Frame
public import proofs.«01_k».proof.Proof.Gen.ReferenceDwoIdeal.Run
public import proofs.«01_k».proof.Proof.Gen.KernelDo.Frame
public import proofs.«01_k».proof.Proof.Gen.KernelDoIdeal.Frame
public import proofs.«01_k».proof.Proof.Gen.ReferenceDoIdeal.Run
public import proofs.«01_k».proof.Proof.Gen.KernelXa.Frame
public import proofs.«01_k».proof.Proof.Gen.KernelXaIdeal.Frame
public import proofs.«01_k».proof.Proof.Gen.ReferenceXaIdeal.Run
public import proofs.«01_k».proof.Proof.Gen.KernelXf.Frame
public import proofs.«01_k».proof.Proof.Gen.KernelXfIdeal.Frame
public import proofs.«01_k».proof.Proof.Gen.ReferenceXfIdeal.Run
public import proofs.«01_k».proof.Proof.Gen.KernelLoss.Frame
public import proofs.«01_k».proof.Proof.Gen.KernelLossIdeal.Frame
public import proofs.«01_k».proof.Proof.Gen.ReferenceLossIdeal.Run
public import proofs.«01_k».proof.Proof.Gen.KernelGate.Frame
public import proofs.«01_k».proof.Proof.Gen.KernelGateIdeal.Frame
public import proofs.«01_k».proof.Proof.Gen.ReferenceGateIdeal.Run
public import proofs.«01_k».proof.Proof.Gen.KernelDgate.Frame
public import proofs.«01_k».proof.Proof.Gen.KernelDgateIdeal.Frame
public import proofs.«01_k».proof.Proof.Gen.ReferenceDgateIdeal.Run
public import proofs.«01_k».proof.Proof.Gen.KernelAbin.Frame
public import proofs.«01_k».proof.Proof.Gen.KernelAbinIdeal.Frame
public import proofs.«01_k».proof.Proof.Gen.ReferenceAbinIdeal.Run
public import proofs.«01_k».proof.Proof.Gen.KernelDnin.Frame
public import proofs.«01_k».proof.Proof.Gen.KernelDninIdeal.Frame
public import proofs.«01_k».proof.Proof.Gen.ReferenceDninIdeal.Run
public import proofs.«01_k».proof.Proof.Gen.KernelQ.Frame
public import proofs.«01_k».proof.Proof.Gen.KernelQIdeal.Frame
public import proofs.«01_k».proof.Proof.Gen.ReferenceQIdeal.Run
public import proofs.«01_k».proof.Proof.Gen.KernelKv.Frame
public import proofs.«01_k».proof.Proof.Gen.KernelKvIdeal.Frame
public import proofs.«01_k».proof.Proof.Gen.ReferenceKvIdeal.Run
public import proofs.«01_k».proof.Proof.Gen.KernelAbdwin.Frame
public import proofs.«01_k».proof.Proof.Gen.KernelAbdwinIdeal.Frame
public import proofs.«01_k».proof.Proof.Gen.ReferenceAbdwinIdeal.Run
public import proofs.«01_k».proof.Proof.Gen.KernelDndwin1.Frame
public import proofs.«01_k».proof.Proof.Gen.KernelDndwin1Ideal.Frame
public import proofs.«01_k».proof.Proof.Gen.ReferenceDndwin1Ideal.Run
public import proofs.«01_k».proof.Proof.Gen.KernelDndwin2.Frame
public import proofs.«01_k».proof.Proof.Gen.KernelDndwin2Ideal.Frame
public import proofs.«01_k».proof.Proof.Gen.ReferenceDndwin2Ideal.Run
public import proofs.«01_k».proof.Proof.Gen.KernelDndwin3.Frame
public import proofs.«01_k».proof.Proof.Gen.KernelDndwin3Ideal.Frame
public import proofs.«01_k».proof.Proof.Gen.ReferenceDndwin3Ideal.Run
public import proofs.«01_k».proof.Proof.Gen.KernelDwkv.Frame
public import proofs.«01_k».proof.Proof.Gen.KernelDwkvIdeal.Frame
public import proofs.«01_k».proof.Proof.Gen.ReferenceDwkvIdeal.Run
public import proofs.«01_k».proof.Proof.Gen.KernelDmh.Frame
public import proofs.«01_k».proof.Proof.Gen.KernelDmhIdeal.Frame
public import proofs.«01_k».proof.Proof.Gen.ReferenceDmhIdeal.Run
public import proofs.«01_k».proof.Proof.Gen.KernelAbdh.Frame
public import proofs.«01_k».proof.Proof.Gen.KernelAbdhIdeal.Frame
public import proofs.«01_k».proof.Proof.Gen.ReferenceAbdhIdeal.Run
public import proofs.«01_k».proof.Proof.Gen.KernelXdh.Frame
public import proofs.«01_k».proof.Proof.Gen.KernelXdhIdeal.Frame
public import proofs.«01_k».proof.Proof.Gen.ReferenceXdhIdeal.Run
public import proofs.«01_k».proof.Proof.Gen.KernelDndh1.Frame
public import proofs.«01_k».proof.Proof.Gen.KernelDndh1Ideal.Frame
public import proofs.«01_k».proof.Proof.Gen.ReferenceDndh1Ideal.Run
public import proofs.«01_k».proof.Proof.Gen.KernelDndh2.Frame
public import proofs.«01_k».proof.Proof.Gen.KernelDndh2Ideal.Frame
public import proofs.«01_k».proof.Proof.Gen.ReferenceDndh2Ideal.Run
public import proofs.«01_k».proof.Proof.Gen.KernelDndh3.Frame
public import proofs.«01_k».proof.Proof.Gen.KernelDndh3Ideal.Frame
public import proofs.«01_k».proof.Proof.Gen.ReferenceDndh3Ideal.Run
public import proofs.«01_k».proof.Proof.Gen.KernelMnorm.Frame
public import proofs.«01_k».proof.Proof.Gen.KernelMnormIdeal.Frame
public import proofs.«01_k».proof.Proof.Gen.ReferenceMnormIdeal.Run
public import proofs.«01_k».proof.Proof.Gen.KernelDmnorm.Frame
public import proofs.«01_k».proof.Proof.Gen.KernelDmnormIdeal.Frame
public import proofs.«01_k».proof.Proof.Gen.ReferenceDmnormIdeal.Run
public import proofs.«01_k».proof.Proof.Da
public import proofs.«01_k».proof.Proof.Dwout
public import proofs.«01_k».proof.Proof.Dwin
public import proofs.«01_k».proof.Proof.Dh
public import proofs.«01_k».proof.Proof.Swiglu
public import proofs.«01_k».proof.Proof.Out
public import proofs.«01_k».proof.Proof.Proj
public import proofs.«01_k».proof.Proof.Dwo
public import proofs.«01_k».proof.Proof.Do
public import proofs.«01_k».proof.Proof.Softmax
public import proofs.«01_k».proof.Proof.Xa
public import proofs.«01_k».proof.Proof.Xf
public import proofs.«01_k».proof.Proof.Loss
public import proofs.«01_k».proof.Proof.Gate
public import proofs.«01_k».proof.Proof.Dgate
public import proofs.«01_k».proof.Proof.Abin
public import proofs.«01_k».proof.Proof.Dnin
public import proofs.«01_k».proof.Proof.Q
public import proofs.«01_k».proof.Proof.Kv
public import proofs.«01_k».proof.Proof.Abdwin
public import proofs.«01_k».proof.Proof.Dndwin1
public import proofs.«01_k».proof.Proof.Dndwin2
public import proofs.«01_k».proof.Proof.Dndwin3
public import proofs.«01_k».proof.Proof.Dwkv
public import proofs.«01_k».proof.Proof.Dmh
public import proofs.«01_k».proof.Proof.Abdh
public import proofs.«01_k».proof.Proof.Xdh
public import proofs.«01_k».proof.Proof.Dndh1
public import proofs.«01_k».proof.Proof.Dndh2
public import proofs.«01_k».proof.Proof.Dndh3
public import proofs.«01_k».proof.Proof.Mnorm
public import proofs.«01_k».proof.Proof.Dmnorm
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem pre_finite_da : Cert.Pre_finite_da.Facts := by constructor <;> decide

theorem pre_finite_xa : Cert.Pre_finite_xa.Facts := by constructor <;> decide

theorem pre_finite_dgate : Cert.Pre_finite_dgate.Facts := by constructor <;> decide

theorem frameRefDa : Cert.quiescent_ReferenceDaIdeal := fun m ρ _ =>
  (θ_run Cert.ReferenceDaIdeal.defs _ _).mono
    (fun r h => ⟨fun c => (h c).2, Idealize.ShloMosaic.sem_eq_zero_of_no_sems (by decide) r.2⟩)
    (Cert.ReferenceDaIdeal.Value.run m ρ)

theorem frameRefDwout : Cert.quiescent_ReferenceDwoutIdeal := fun m ρ _ =>
  (θ_run Cert.ReferenceDwoutIdeal.defs _ _).mono
    (fun r h => ⟨fun c => (h c).2, Idealize.ShloMosaic.sem_eq_zero_of_no_sems (by decide) r.2⟩)
    (Cert.ReferenceDwoutIdeal.Value.run m ρ)

theorem frameRefDwin : Cert.quiescent_ReferenceDwinIdeal := fun m ρ _ =>
  (θ_run Cert.ReferenceDwinIdeal.defs _ _).mono
    (fun r h => ⟨fun c => (h c).2, Idealize.ShloMosaic.sem_eq_zero_of_no_sems (by decide) r.2⟩)
    (Cert.ReferenceDwinIdeal.Value.run m ρ)

theorem frameRefDh : Cert.quiescent_ReferenceDhIdeal := fun m ρ _ =>
  (θ_run Cert.ReferenceDhIdeal.defs _ _).mono
    (fun r h => ⟨fun c => (h c).2.2, Idealize.ShloMosaic.sem_eq_zero_of_no_sems (by decide) r.2⟩)
    (Cert.ReferenceDhIdeal.Value.run m ρ)

theorem frameRefSwiglu : Cert.quiescent_ReferenceSwigluIdeal := fun m ρ _ =>
  (θ_run Cert.ReferenceSwigluIdeal.defs _ _).mono
    (fun r h => ⟨fun c => (h c).2.2.2, Idealize.ShloMosaic.sem_eq_zero_of_no_sems (by decide) r.2⟩)
    (Cert.ReferenceSwigluIdeal.Value.run m ρ)

theorem frameRefOut : Cert.quiescent_ReferenceOutIdeal := fun m ρ _ =>
  (θ_run Cert.ReferenceOutIdeal.defs _ _).mono
    (fun r h => ⟨fun c => (h c).2.2, Idealize.ShloMosaic.sem_eq_zero_of_no_sems (by decide) r.2⟩)
    (Cert.ReferenceOutIdeal.Value.run m ρ)

theorem frameRefProj : Cert.quiescent_ReferenceProjIdeal := fun m ρ _ =>
  (θ_run Cert.ReferenceProjIdeal.defs _ _).mono
    (fun r h => ⟨fun c => (h c).2.2, Idealize.ShloMosaic.sem_eq_zero_of_no_sems (by decide) r.2⟩)
    (Cert.ReferenceProjIdeal.Value.run m ρ)

theorem frameRefDwo : Cert.quiescent_ReferenceDwoIdeal := fun m ρ _ =>
  (θ_run Cert.ReferenceDwoIdeal.defs _ _).mono
    (fun r h => ⟨fun c => (h c).2, Idealize.ShloMosaic.sem_eq_zero_of_no_sems (by decide) r.2⟩)
    (Cert.ReferenceDwoIdeal.Value.run m ρ)

theorem frameRefDo : Cert.quiescent_ReferenceDoIdeal := fun m ρ _ =>
  (θ_run Cert.ReferenceDoIdeal.defs _ _).mono
    (fun r h => ⟨fun c => (h c).2, Idealize.ShloMosaic.sem_eq_zero_of_no_sems (by decide) r.2⟩)
    (Cert.ReferenceDoIdeal.Value.run m ρ)

theorem frameRefXa : Cert.quiescent_ReferenceXaIdeal := fun m ρ _ =>
  (θ_run Cert.ReferenceXaIdeal.defs _ _).mono
    (fun r h => ⟨fun c => (h c).2.2.2, Idealize.ShloMosaic.sem_eq_zero_of_no_sems (by decide) r.2⟩)
    (Cert.ReferenceXaIdeal.Value.run m ρ)

theorem frameRefXf : Cert.quiescent_ReferenceXfIdeal := fun m ρ _ =>
  (θ_run Cert.ReferenceXfIdeal.defs _ _).mono
    (fun r h => ⟨fun c => (h c).2, Idealize.ShloMosaic.sem_eq_zero_of_no_sems (by decide) r.2⟩)
    (Cert.ReferenceXfIdeal.Value.run m ρ)

theorem frameRefLoss : Cert.quiescent_ReferenceLossIdeal := fun m ρ _ =>
  (θ_run Cert.ReferenceLossIdeal.defs _ _).mono
    (fun r h => ⟨fun c => (h c).2.2.2, Idealize.ShloMosaic.sem_eq_zero_of_no_sems (by decide) r.2⟩)
    (Cert.ReferenceLossIdeal.Value.run m ρ)

theorem frameRefGate : Cert.quiescent_ReferenceGateIdeal := fun m ρ _ =>
  (θ_run Cert.ReferenceGateIdeal.defs _ _).mono
    (fun r h => ⟨fun c => (h c).2, Idealize.ShloMosaic.sem_eq_zero_of_no_sems (by decide) r.2⟩)
    (Cert.ReferenceGateIdeal.Value.run m ρ)

theorem frameRefDgate : Cert.quiescent_ReferenceDgateIdeal := fun m ρ _ =>
  (θ_run Cert.ReferenceDgateIdeal.defs _ _).mono
    (fun r h => ⟨fun c => (h c).2.2.2, Idealize.ShloMosaic.sem_eq_zero_of_no_sems (by decide) r.2⟩)
    (Cert.ReferenceDgateIdeal.Value.run m ρ)

theorem frameRefAbin : Cert.quiescent_ReferenceAbinIdeal := fun m ρ _ =>
  (θ_run Cert.ReferenceAbinIdeal.defs _ _).mono
    (fun r h => ⟨fun c => (h c).2, Idealize.ShloMosaic.sem_eq_zero_of_no_sems (by decide) r.2⟩)
    (Cert.ReferenceAbinIdeal.Value.run m ρ)

theorem frameRefDnin : Cert.quiescent_ReferenceDninIdeal := fun m ρ _ =>
  (θ_run Cert.ReferenceDninIdeal.defs _ _).mono
    (fun r h => ⟨fun c => (h c).2, Idealize.ShloMosaic.sem_eq_zero_of_no_sems (by decide) r.2⟩)
    (Cert.ReferenceDninIdeal.Value.run m ρ)

theorem frameRefQ : Cert.quiescent_ReferenceQIdeal := fun m ρ _ =>
  (θ_run Cert.ReferenceQIdeal.defs _ _).mono
    (fun r h => ⟨fun c => (h c).2, Idealize.ShloMosaic.sem_eq_zero_of_no_sems (by decide) r.2⟩)
    (Cert.ReferenceQIdeal.Value.run m ρ)

theorem frameRefKv : Cert.quiescent_ReferenceKvIdeal := fun m ρ _ =>
  (θ_run Cert.ReferenceKvIdeal.defs _ _).mono
    (fun r h => ⟨fun c => (h c).2, Idealize.ShloMosaic.sem_eq_zero_of_no_sems (by decide) r.2⟩)
    (Cert.ReferenceKvIdeal.Value.run m ρ)

theorem frameRefAbdwin : Cert.quiescent_ReferenceAbdwinIdeal := fun m ρ _ =>
  (θ_run Cert.ReferenceAbdwinIdeal.defs _ _).mono
    (fun r h => ⟨fun c => (h c).2, Idealize.ShloMosaic.sem_eq_zero_of_no_sems (by decide) r.2⟩)
    (Cert.ReferenceAbdwinIdeal.Value.run m ρ)

theorem frameRefDndwin1 : Cert.quiescent_ReferenceDndwin1Ideal := fun m ρ _ =>
  (θ_run Cert.ReferenceDndwin1Ideal.defs _ _).mono
    (fun r h => ⟨fun c => (h c).2, Idealize.ShloMosaic.sem_eq_zero_of_no_sems (by decide) r.2⟩)
    (Cert.ReferenceDndwin1Ideal.Value.run m ρ)

theorem frameRefDndwin2 : Cert.quiescent_ReferenceDndwin2Ideal := fun m ρ _ =>
  (θ_run Cert.ReferenceDndwin2Ideal.defs _ _).mono
    (fun r h => ⟨fun c => (h c).2, Idealize.ShloMosaic.sem_eq_zero_of_no_sems (by decide) r.2⟩)
    (Cert.ReferenceDndwin2Ideal.Value.run m ρ)

theorem frameRefDndwin3 : Cert.quiescent_ReferenceDndwin3Ideal := fun m ρ _ =>
  (θ_run Cert.ReferenceDndwin3Ideal.defs _ _).mono
    (fun r h => ⟨fun c => (h c).2, Idealize.ShloMosaic.sem_eq_zero_of_no_sems (by decide) r.2⟩)
    (Cert.ReferenceDndwin3Ideal.Value.run m ρ)

theorem frameRefDwkv : Cert.quiescent_ReferenceDwkvIdeal := fun m ρ _ =>
  (θ_run Cert.ReferenceDwkvIdeal.defs _ _).mono
    (fun r h => ⟨fun c => (h c).2, Idealize.ShloMosaic.sem_eq_zero_of_no_sems (by decide) r.2⟩)
    (Cert.ReferenceDwkvIdeal.Value.run m ρ)

theorem frameRefDmh : Cert.quiescent_ReferenceDmhIdeal := fun m ρ _ =>
  (θ_run Cert.ReferenceDmhIdeal.defs _ _).mono
    (fun r h => ⟨fun c => (h c).2, Idealize.ShloMosaic.sem_eq_zero_of_no_sems (by decide) r.2⟩)
    (Cert.ReferenceDmhIdeal.Value.run m ρ)

theorem frameRefAbdh : Cert.quiescent_ReferenceAbdhIdeal := fun m ρ _ =>
  (θ_run Cert.ReferenceAbdhIdeal.defs _ _).mono
    (fun r h => ⟨fun c => (h c).2.2, Idealize.ShloMosaic.sem_eq_zero_of_no_sems (by decide) r.2⟩)
    (Cert.ReferenceAbdhIdeal.Value.run m ρ)

theorem frameRefXdh : Cert.quiescent_ReferenceXdhIdeal := fun m ρ _ =>
  (θ_run Cert.ReferenceXdhIdeal.defs _ _).mono
    (fun r h => ⟨fun c => (h c).2.2, Idealize.ShloMosaic.sem_eq_zero_of_no_sems (by decide) r.2⟩)
    (Cert.ReferenceXdhIdeal.Value.run m ρ)

theorem frameRefDndh1 : Cert.quiescent_ReferenceDndh1Ideal := fun m ρ _ =>
  (θ_run Cert.ReferenceDndh1Ideal.defs _ _).mono
    (fun r h => ⟨fun c => (h c).2, Idealize.ShloMosaic.sem_eq_zero_of_no_sems (by decide) r.2⟩)
    (Cert.ReferenceDndh1Ideal.Value.run m ρ)

theorem frameRefDndh2 : Cert.quiescent_ReferenceDndh2Ideal := fun m ρ _ =>
  (θ_run Cert.ReferenceDndh2Ideal.defs _ _).mono
    (fun r h => ⟨fun c => (h c).2, Idealize.ShloMosaic.sem_eq_zero_of_no_sems (by decide) r.2⟩)
    (Cert.ReferenceDndh2Ideal.Value.run m ρ)

theorem frameRefDndh3 : Cert.quiescent_ReferenceDndh3Ideal := fun m ρ _ =>
  (θ_run Cert.ReferenceDndh3Ideal.defs _ _).mono
    (fun r h => ⟨fun c => (h c).2.2, Idealize.ShloMosaic.sem_eq_zero_of_no_sems (by decide) r.2⟩)
    (Cert.ReferenceDndh3Ideal.Value.run m ρ)

theorem frameRefMnorm : Cert.quiescent_ReferenceMnormIdeal := fun m ρ _ =>
  (θ_run Cert.ReferenceMnormIdeal.defs _ _).mono
    (fun r h => ⟨fun c => (h c).2, Idealize.ShloMosaic.sem_eq_zero_of_no_sems (by decide) r.2⟩)
    (Cert.ReferenceMnormIdeal.Value.run m ρ)

theorem frameRefDmnorm : Cert.quiescent_ReferenceDmnormIdeal := fun m ρ _ =>
  (θ_run Cert.ReferenceDmnormIdeal.defs _ _).mono
    (fun r h => ⟨fun c => (h c).2.2, Idealize.ShloMosaic.sem_eq_zero_of_no_sems (by decide) r.2⟩)
    (Cert.ReferenceDmnormIdeal.Value.run m ρ)

theorem algDa : letI := pre_finite_da; Cert.algebraic_KernelDaIdeal_ReferenceDaIdeal_pre_finite_da := by
  letI := pre_finite_da
  pair_intro
  · run_from Cert.KernelDaIdeal.Gen.run_main m g
  · run_from Cert.ReferenceDaIdeal.Value.run m' g'
    rw [(hagree c).2.2.2]
    have h := congrFun (hpre c) (fun k => k.elim0)
    obtain ⟨h, h3⟩ := IntOp.andi_eq_one.1 h
    obtain ⟨h0, h1⟩ := IntOp.andi_eq_one.1 h
    exact (Cert.KernelDaIdeal.Hand.final m c (Cert.Reals.reals_of_all _ _ _ _ _ h0) (Cert.Reals.reals_of_all _ _ _ _ _ h1)
      (Cert.Reals.reals_of_all _ _ _ _ _ h3)).symm

theorem algDwout : Cert.algebraic_KernelDwoutIdeal_ReferenceDwoutIdeal := by
  pair_intro
  · run_from Cert.KernelDwoutIdeal.Gen.run_main m g
  · hlo_run
    exact (Cert.KernelDwoutIdeal.Hand.final m c).symm

theorem algDwin : Cert.algebraic_KernelDwinIdeal_ReferenceDwinIdeal := by
  pair_intro
  · run_from Cert.KernelDwinIdeal.Gen.run_main m g
  · hlo_run
    exact (Cert.KernelDwinIdeal.Hand.final m c).symm

set_option maxHeartbeats 1600000 in
theorem algDh : Cert.algebraic_KernelDhIdeal_ReferenceDhIdeal := by
  pair_intro
  · run_from Cert.KernelDhIdeal.Gen.run_main m g
  · hlo_run
    · refine (Cert.KernelDhIdeal.Hand.final0 m c _ fun r k => ?_).symm
      pointwise []
      simp only [Finset.univ_unique, Finset.sum_singleton]
      rfl
    · refine (Cert.KernelDhIdeal.Hand.final1 m c _ fun k => ?_).symm
      pointwise []
      simp only [Finset.univ_unique, Finset.sum_singleton]
      exact Finset.sum_congr rfl fun x _ => mul_comm _ _

set_option maxHeartbeats 1600000 in
theorem algSwiglu : Cert.algebraic_KernelSwigluIdeal_ReferenceSwigluIdeal := by
  pair_intro
  · run_from Cert.KernelSwigluIdeal.Gen.run_main m g
  · run_from Cert.ReferenceSwigluIdeal.Value.run m' g'
    · refine (Cert.KernelSwigluIdeal.Hand.final0 m c _ fun r k => ?_).symm
      pointwise [Cert.KernelSwigluIdeal.Hand.prod]
    · refine (Cert.KernelSwigluIdeal.Hand.final1 m c _ fun r k => ?_).symm
      pointwise [Cert.KernelSwigluIdeal.Hand.prod]
    · refine (Cert.KernelSwigluIdeal.Hand.final2 m c _ fun r k => ?_).symm
      pointwise [Cert.KernelSwigluIdeal.Hand.prod, Cert.KernelSwigluIdeal.Hand.gated]

set_option maxHeartbeats 1600000 in
theorem algOut : Cert.algebraic_KernelOutIdeal_ReferenceOutIdeal := by
  pair_intro
  · run_from Cert.KernelOutIdeal.Gen.run_main m g
  · hlo_run
    · refine (Cert.KernelOutIdeal.Hand.final0 m c _ fun r k => ?_).symm
      pointwise [Cert.KernelOutIdeal.Hand.xo, Cert.KernelOutIdeal.Hand.stream]
    · refine (Cert.KernelOutIdeal.Hand.final1 m c _ fun r k => ?_).symm
      pointwise [Cert.KernelOutIdeal.Hand.normed, Cert.KernelOutIdeal.Hand.xo, Cert.KernelOutIdeal.Hand.stream, Cert.Norm.V]

set_option maxHeartbeats 1600000 in
theorem algProj : Cert.algebraic_KernelProjIdeal_ReferenceProjIdeal := by
  pair_intro
  · run_from Cert.KernelProjIdeal.Gen.run_main m g
  · hlo_run
    · refine (Cert.KernelProjIdeal.Hand.final0 m c _ fun r k => ?_).symm
      pointwise [Cert.KernelProjIdeal.Hand.xo, Cert.KernelProjIdeal.Hand.stream]
    · refine (Cert.KernelProjIdeal.Hand.final1 m c _ fun r k => ?_).symm
      pointwise [Cert.KernelProjIdeal.Hand.normed, Cert.KernelProjIdeal.Hand.xo, Cert.KernelProjIdeal.Hand.stream, Cert.Norm.V]

set_option maxHeartbeats 1600000 in
theorem algDwo : Cert.algebraic_KernelDwoIdeal_ReferenceDwoIdeal := by
  pair_intro
  · run_from Cert.KernelDwoIdeal.Gen.run_main m g
  · hlo_run
    refine (Cert.KernelDwoIdeal.Hand.final m c _ fun a b => ?_).symm
    pointwise []
    exact Finset.sum_congr rfl fun x _ => mul_comm _ _

set_option maxHeartbeats 1600000 in
theorem algDo : Cert.algebraic_KernelDoIdeal_ReferenceDoIdeal := by
  pair_intro
  · run_from Cert.KernelDoIdeal.Gen.run_main m g
  · hlo_run
    refine (Cert.KernelDoIdeal.Hand.final m c _ fun r k => ?_).symm
    pointwise []

set_option maxHeartbeats 1600000 in
theorem algXa : letI := pre_finite_xa; Cert.algebraic_KernelXaIdeal_ReferenceXaIdeal_pre_finite_xa := by
  letI := pre_finite_xa
  pair_intro
  · run_from Cert.KernelXaIdeal.Gen.run_main m g
  · hlo_run
    all_goals
      have h := congrFun (hpre c) (fun k => k.elim0)
      obtain ⟨h0, h1⟩ := IntOp.andi_eq_one.1 h
    · exact (Cert.KernelXaIdeal.Hand.final0 m c (Cert.Reals.reals_of_all _ _ _ _ _ h0) (Cert.Reals.reals_of_all _ _ _ _ _ h1)
        _ (Cert.XaSpec.rq_at _ _ _ _)).symm
    · exact (Cert.KernelXaIdeal.Hand.final1 m c (Cert.Reals.reals_of_all _ _ _ _ _ h0) (Cert.Reals.reals_of_all _ _ _ _ _ h1)
        _ (Cert.XaSpec.rk_at _ _ _ _)).symm
    · exact (Cert.KernelXaIdeal.Hand.final2 m c _ (Cert.XaSpec.rv_at _ _ _)).symm

set_option maxHeartbeats 1600000 in
theorem algXf : Cert.algebraic_KernelXfIdeal_ReferenceXfIdeal := by
  pair_intro
  · run_from Cert.KernelXfIdeal.Gen.run_main m g
  · hlo_run
    exact (Cert.KernelXfIdeal.Hand.final m c _ (Cert.XfSpec.ro_at _ _ _)).symm

set_option maxHeartbeats 1600000 in
theorem algLoss : Cert.algebraic_KernelLossIdeal_ReferenceLossIdeal := by
  pair_intro
  · run_from Cert.KernelLossIdeal.Gen.run_main m g
  · hlo_run
    · refine (Cert.KernelLossIdeal.Hand.finalS m c _ fun k => ?_).symm
      pointwise []
      rfl
    · refine (Cert.KernelLossIdeal.Hand.finalX m c _ fun r k => ?_).symm
      rw [Cert.KernelLossIdeal.Hand.outX, Cert.Norm.byChain, zero_add]
      pointwise []
      simp only [Finset.univ_unique, Finset.sum_singleton]
      rfl
    · refine (Cert.KernelLossIdeal.Hand.finalG m c _ fun k => ?_).symm
      pointwise []
      simp only [Finset.univ_unique, Finset.sum_singleton]
      rfl

set_option maxHeartbeats 1600000 in
theorem algGate : Cert.algebraic_KernelGateIdeal_ReferenceGateIdeal := by
  pair_intro
  · run_from Cert.KernelGateIdeal.Gen.run_main m g
  · run_from Cert.ReferenceGateIdeal.Value.run m' g'
    exact (Cert.KernelGateIdeal.Hand.final m c _ (Cert.GateSpec.ro_at _ _ _)).symm

set_option maxHeartbeats 1600000 in
theorem algDgate : letI := pre_finite_dgate; Cert.algebraic_KernelDgateIdeal_ReferenceDgateIdeal_pre_finite_dgate := by
  letI := pre_finite_dgate
  pair_intro
  · run_from Cert.KernelDgateIdeal.Gen.run_main m g
  · run_from Cert.ReferenceDgateIdeal.Value.run m' g'
    · refine (Cert.KernelDgateIdeal.Hand.finalX m c _ fun r y => ?_).symm
      rw [← (hagree c).1, ← (hagree c).2.1, ← (hagree c).2.2.1, ← (hagree c).2.2.2]
      exact Cert.DgateSpec.rx_at (m' (c.tc.loc Cert.ReferenceDgateIdeal.main_arg0)) (m' (c.tc.loc Cert.ReferenceDgateIdeal.main_arg3))
        (m' (c.tc.loc Cert.ReferenceDgateIdeal.main_arg1)) (m' (c.tc.loc Cert.ReferenceDgateIdeal.main_arg2)) r y
    · have h := congrFun (hpre c) (fun k => k.elim0)
      obtain ⟨h0, h1⟩ := IntOp.andi_eq_one.1 h
      exact (Cert.KernelDgateIdeal.Hand.finalZ m c (Cert.Reals.reals_of_all _ _ _ _ _ h0) (Cert.Reals.reals_of_all _ _ _ _ _ h1) _ (Cert.DgateSpec.rz_at _ _ _ _)).symm
    · exact (Cert.KernelDgateIdeal.Hand.finalG m c _ (Cert.DgateSpec.rg_at _ _ _)).symm

set_option maxHeartbeats 1600000 in
theorem algAbin : Cert.algebraic_KernelAbinIdeal_ReferenceAbinIdeal := by
  pair_intro
  · run_from Cert.KernelAbinIdeal.Gen.run_main m g
  · hlo_run
    refine (Cert.KernelAbinIdeal.Hand.final m c _ fun r k => ?_).symm
    pointwise []

set_option maxHeartbeats 1600000 in
theorem algDnin : Cert.algebraic_KernelDninIdeal_ReferenceDninIdeal := by
  pair_intro
  · run_from Cert.KernelDninIdeal.Gen.run_main m g
  · hlo_run
    refine (Cert.KernelDninIdeal.Hand.final m c _ fun r k => ?_).symm
    pointwise []

set_option maxHeartbeats 1600000 in
theorem algQ : Cert.algebraic_KernelQIdeal_ReferenceQIdeal := by
  pair_intro
  · run_from Cert.KernelQIdeal.Gen.run_main m g
  · hlo_run
    refine (Cert.KernelQIdeal.Hand.final m c _ fun r k => ?_).symm
    pointwise []

set_option maxHeartbeats 1600000 in
theorem algKv : Cert.algebraic_KernelKvIdeal_ReferenceKvIdeal := by
  pair_intro
  · run_from Cert.KernelKvIdeal.Gen.run_main m g
  · hlo_run
    refine (Cert.KernelKvIdeal.Hand.final m c _ fun r k => ?_).symm
    pointwise []

set_option maxHeartbeats 1600000 in
theorem algAbdwin : Cert.algebraic_KernelAbdwinIdeal_ReferenceAbdwinIdeal := by
  pair_intro
  · run_from Cert.KernelAbdwinIdeal.Gen.run_main m g
  · hlo_run
    refine (Cert.KernelAbdwinIdeal.Hand.final m c _ fun r k => ?_).symm
    pointwise []

set_option maxHeartbeats 1600000 in
theorem algDndwin1 : Cert.algebraic_KernelDndwin1Ideal_ReferenceDndwin1Ideal := by
  pair_intro
  · run_from Cert.KernelDndwin1Ideal.Gen.run_main m g
  · hlo_run
    refine (Cert.KernelDndwin1Ideal.Hand.final m c _ fun r k => ?_).symm
    pointwise []

set_option maxHeartbeats 1600000 in
theorem algDndwin2 : Cert.algebraic_KernelDndwin2Ideal_ReferenceDndwin2Ideal := by
  pair_intro
  · run_from Cert.KernelDndwin2Ideal.Gen.run_main m g
  · hlo_run
    refine (Cert.KernelDndwin2Ideal.Hand.final m c _ fun r k => ?_).symm
    pointwise []

set_option maxHeartbeats 1600000 in
theorem algDndwin3 : Cert.algebraic_KernelDndwin3Ideal_ReferenceDndwin3Ideal := by
  pair_intro
  · run_from Cert.KernelDndwin3Ideal.Gen.run_main m g
  · hlo_run
    refine (Cert.KernelDndwin3Ideal.Hand.final m c _ fun r k => ?_).symm
    pointwise []

set_option maxHeartbeats 1600000 in
theorem algDwkv : Cert.algebraic_KernelDwkvIdeal_ReferenceDwkvIdeal := by
  pair_intro
  · run_from Cert.KernelDwkvIdeal.Gen.run_main m g
  · hlo_run
    refine (Cert.KernelDwkvIdeal.Hand.final m c _ fun r k => ?_).symm
    pointwise []

set_option maxHeartbeats 1600000 in
theorem algDmh : Cert.algebraic_KernelDmhIdeal_ReferenceDmhIdeal := by
  pair_intro
  · run_from Cert.KernelDmhIdeal.Gen.run_main m g
  · hlo_run
    refine (Cert.KernelDmhIdeal.Hand.final m c _ fun r k => ?_).symm
    pointwise []

set_option maxHeartbeats 1600000 in
theorem algAbdh : Cert.algebraic_KernelAbdhIdeal_ReferenceAbdhIdeal := by
  pair_intro
  · run_from Cert.KernelAbdhIdeal.Gen.run_main m g
  · hlo_run
    · refine (Cert.KernelAbdhIdeal.Hand.final0 m c _ fun r k => ?_).symm
      pointwise []
      simp only [Finset.univ_unique, Finset.sum_singleton]
      rfl
    · refine (Cert.KernelAbdhIdeal.Hand.final1 m c _ fun k => ?_).symm
      pointwise []
      simp only [Finset.univ_unique, Finset.sum_singleton]
      exact Finset.sum_congr rfl fun x _ => mul_comm _ _

set_option maxHeartbeats 1600000 in
theorem algXdh : Cert.algebraic_KernelXdhIdeal_ReferenceXdhIdeal := by
  pair_intro
  · run_from Cert.KernelXdhIdeal.Gen.run_main m g
  · hlo_run
    · refine (Cert.KernelXdhIdeal.Hand.final0 m c _ fun r k => ?_).symm
      pointwise []
      simp only [Finset.univ_unique, Finset.sum_singleton]
      rfl
    · refine (Cert.KernelXdhIdeal.Hand.final1 m c _ fun k => ?_).symm
      pointwise []
      simp only [Finset.univ_unique, Finset.sum_singleton]
      exact Finset.sum_congr rfl fun x _ => mul_comm _ _

set_option maxHeartbeats 1600000 in
theorem algDndh1 : Cert.algebraic_KernelDndh1Ideal_ReferenceDndh1Ideal := by
  pair_intro
  · run_from Cert.KernelDndh1Ideal.Gen.run_main m g
  · hlo_run
    refine (Cert.KernelDndh1Ideal.Hand.final m c _ fun r k => ?_).symm
    pointwise []

set_option maxHeartbeats 1600000 in
theorem algDndh2 : Cert.algebraic_KernelDndh2Ideal_ReferenceDndh2Ideal := by
  pair_intro
  · run_from Cert.KernelDndh2Ideal.Gen.run_main m g
  · hlo_run
    refine (Cert.KernelDndh2Ideal.Hand.final m c _ fun r k => ?_).symm
    pointwise []
    exact add_comm _ _

set_option maxHeartbeats 1600000 in
theorem algDndh3 : Cert.algebraic_KernelDndh3Ideal_ReferenceDndh3Ideal := by
  pair_intro
  · run_from Cert.KernelDndh3Ideal.Gen.run_main m g
  · hlo_run
    · refine (Cert.KernelDndh3Ideal.Hand.final0 m c _ fun r k => ?_).symm
      pointwise []
      simp only [Finset.univ_unique, Finset.sum_singleton]
      rfl
    · refine (Cert.KernelDndh3Ideal.Hand.final1 m c _ fun k => ?_).symm
      pointwise []
      simp only [Finset.univ_unique, Finset.sum_singleton]
      exact Finset.sum_congr rfl fun x _ => mul_comm _ _

set_option maxHeartbeats 1600000 in
theorem algMnorm : Cert.algebraic_KernelMnormIdeal_ReferenceMnormIdeal := by
  pair_intro
  · run_from Cert.KernelMnormIdeal.Gen.run_main m g
  · hlo_run
    refine (Cert.KernelMnormIdeal.Hand.final m c _ fun r k => ?_).symm
    pointwise [Cert.KernelMnormIdeal.Hand.normed, Cert.Norm.V]

set_option maxHeartbeats 1600000 in
theorem algDmnorm : Cert.algebraic_KernelDmnormIdeal_ReferenceDmnormIdeal := by
  pair_intro
  · run_from Cert.KernelDmnormIdeal.Gen.run_main m g
  · hlo_run
    · refine (Cert.KernelDmnormIdeal.Hand.final0 m c _ fun r k => ?_).symm
      pointwise []
      simp only [Finset.univ_unique, Finset.sum_singleton]
      exact (zero_add _).symm
    · refine (Cert.KernelDmnormIdeal.Hand.final1 m c _ fun k => ?_).symm
      pointwise []
      simp only [Finset.univ_unique, Finset.sum_singleton]
      exact Finset.sum_congr rfl fun x _ => mul_comm _ _

theorem claim : Cert.Claim :=
  ⟨Cert.KernelDa.Gen.facts,
    Cert.KernelDaIdeal.Gen.facts,
    Cert.ReferenceDaIdeal.Gen.facts,
    Cert.KernelDwout.Gen.facts,
    Cert.KernelDwoutIdeal.Gen.facts,
    Cert.ReferenceDwoutIdeal.Gen.facts,
    Cert.KernelDwin.Gen.facts,
    Cert.KernelDwinIdeal.Gen.facts,
    Cert.ReferenceDwinIdeal.Gen.facts,
    Cert.KernelDh.Gen.facts,
    Cert.KernelDhIdeal.Gen.facts,
    Cert.ReferenceDhIdeal.Gen.facts,
    Cert.KernelSwiglu.Gen.facts,
    Cert.KernelSwigluIdeal.Gen.facts,
    Cert.ReferenceSwigluIdeal.Gen.facts,
    Cert.KernelOut.Gen.facts,
    Cert.KernelOutIdeal.Gen.facts,
    Cert.ReferenceOutIdeal.Gen.facts,
    Cert.KernelProj.Gen.facts,
    Cert.KernelProjIdeal.Gen.facts,
    Cert.ReferenceProjIdeal.Gen.facts,
    Cert.KernelDwo.Gen.facts,
    Cert.KernelDwoIdeal.Gen.facts,
    Cert.ReferenceDwoIdeal.Gen.facts,
    Cert.KernelDo.Gen.facts,
    Cert.KernelDoIdeal.Gen.facts,
    Cert.ReferenceDoIdeal.Gen.facts,
    Cert.KernelXa.Gen.facts,
    Cert.KernelXaIdeal.Gen.facts,
    Cert.ReferenceXaIdeal.Gen.facts,
    Cert.KernelXf.Gen.facts,
    Cert.KernelXfIdeal.Gen.facts,
    Cert.ReferenceXfIdeal.Gen.facts,
    Cert.KernelLoss.Gen.facts,
    Cert.KernelLossIdeal.Gen.facts,
    Cert.ReferenceLossIdeal.Gen.facts,
    Cert.KernelGate.Gen.facts,
    Cert.KernelGateIdeal.Gen.facts,
    Cert.ReferenceGateIdeal.Gen.facts,
    Cert.KernelDgate.Gen.facts,
    Cert.KernelDgateIdeal.Gen.facts,
    Cert.ReferenceDgateIdeal.Gen.facts,
    Cert.KernelAbin.Gen.facts,
    Cert.KernelAbinIdeal.Gen.facts,
    Cert.ReferenceAbinIdeal.Gen.facts,
    Cert.KernelDnin.Gen.facts,
    Cert.KernelDninIdeal.Gen.facts,
    Cert.ReferenceDninIdeal.Gen.facts,
    Cert.KernelQ.Gen.facts,
    Cert.KernelQIdeal.Gen.facts,
    Cert.ReferenceQIdeal.Gen.facts,
    Cert.KernelKv.Gen.facts,
    Cert.KernelKvIdeal.Gen.facts,
    Cert.ReferenceKvIdeal.Gen.facts,
    Cert.KernelAbdwin.Gen.facts,
    Cert.KernelAbdwinIdeal.Gen.facts,
    Cert.ReferenceAbdwinIdeal.Gen.facts,
    Cert.KernelDndwin1.Gen.facts,
    Cert.KernelDndwin1Ideal.Gen.facts,
    Cert.ReferenceDndwin1Ideal.Gen.facts,
    Cert.KernelDndwin2.Gen.facts,
    Cert.KernelDndwin2Ideal.Gen.facts,
    Cert.ReferenceDndwin2Ideal.Gen.facts,
    Cert.KernelDndwin3.Gen.facts,
    Cert.KernelDndwin3Ideal.Gen.facts,
    Cert.ReferenceDndwin3Ideal.Gen.facts,
    Cert.KernelDwkv.Gen.facts,
    Cert.KernelDwkvIdeal.Gen.facts,
    Cert.ReferenceDwkvIdeal.Gen.facts,
    Cert.KernelDmh.Gen.facts,
    Cert.KernelDmhIdeal.Gen.facts,
    Cert.ReferenceDmhIdeal.Gen.facts,
    Cert.KernelAbdh.Gen.facts,
    Cert.KernelAbdhIdeal.Gen.facts,
    Cert.ReferenceAbdhIdeal.Gen.facts,
    Cert.KernelXdh.Gen.facts,
    Cert.KernelXdhIdeal.Gen.facts,
    Cert.ReferenceXdhIdeal.Gen.facts,
    Cert.KernelDndh1.Gen.facts,
    Cert.KernelDndh1Ideal.Gen.facts,
    Cert.ReferenceDndh1Ideal.Gen.facts,
    Cert.KernelDndh2.Gen.facts,
    Cert.KernelDndh2Ideal.Gen.facts,
    Cert.ReferenceDndh2Ideal.Gen.facts,
    Cert.KernelDndh3.Gen.facts,
    Cert.KernelDndh3Ideal.Gen.facts,
    Cert.ReferenceDndh3Ideal.Gen.facts,
    Cert.KernelMnorm.Gen.facts,
    Cert.KernelMnormIdeal.Gen.facts,
    Cert.ReferenceMnormIdeal.Gen.facts,
    Cert.KernelDmnorm.Gen.facts,
    Cert.KernelDmnormIdeal.Gen.facts,
    Cert.ReferenceDmnormIdeal.Gen.facts,
    pre_finite_da,
    pre_finite_xa,
    pre_finite_dgate,
    fun m ρ _ => Cert.KernelDa.Gen.frame m ρ,
    fun m ρ _ => Cert.KernelDaIdeal.Gen.frame m ρ,
    fun m ρ _ => Cert.KernelDaIdeal.Gen.frame m ρ,
    frameRefDa,
    fun m ρ _ => frameRefDa m ρ True.intro,
    fun m ρ _ => Cert.KernelDwout.Gen.frame m ρ,
    fun m ρ _ => Cert.KernelDwoutIdeal.Gen.frame m ρ,
    frameRefDwout,
    fun m ρ _ => Cert.KernelDwin.Gen.frame m ρ,
    fun m ρ _ => Cert.KernelDwinIdeal.Gen.frame m ρ,
    frameRefDwin,
    fun m ρ _ => Cert.KernelDh.Gen.frame m ρ,
    fun m ρ _ => Cert.KernelDhIdeal.Gen.frame m ρ,
    frameRefDh,
    fun m ρ _ => Cert.KernelSwiglu.Gen.frame m ρ,
    fun m ρ _ => Cert.KernelSwigluIdeal.Gen.frame m ρ,
    frameRefSwiglu,
    fun m ρ _ => Cert.KernelOut.Gen.frame m ρ,
    fun m ρ _ => Cert.KernelOutIdeal.Gen.frame m ρ,
    frameRefOut,
    fun m ρ _ => Cert.KernelProj.Gen.frame m ρ,
    fun m ρ _ => Cert.KernelProjIdeal.Gen.frame m ρ,
    frameRefProj,
    fun m ρ _ => Cert.KernelDwo.Gen.frame m ρ,
    fun m ρ _ => Cert.KernelDwoIdeal.Gen.frame m ρ,
    frameRefDwo,
    fun m ρ _ => Cert.KernelDo.Gen.frame m ρ,
    fun m ρ _ => Cert.KernelDoIdeal.Gen.frame m ρ,
    frameRefDo,
    fun m ρ _ => Cert.KernelXa.Gen.frame m ρ,
    fun m ρ _ => Cert.KernelXaIdeal.Gen.frame m ρ,
    fun m ρ _ => Cert.KernelXaIdeal.Gen.frame m ρ,
    frameRefXa,
    fun m ρ _ => frameRefXa m ρ True.intro,
    fun m ρ _ => Cert.KernelXf.Gen.frame m ρ,
    fun m ρ _ => Cert.KernelXfIdeal.Gen.frame m ρ,
    frameRefXf,
    fun m ρ _ => Cert.KernelLoss.Gen.frame m ρ,
    fun m ρ _ => Cert.KernelLossIdeal.Gen.frame m ρ,
    frameRefLoss,
    fun m ρ _ => Cert.KernelGate.Gen.frame m ρ,
    fun m ρ _ => Cert.KernelGateIdeal.Gen.frame m ρ,
    frameRefGate,
    fun m ρ _ => Cert.KernelDgate.Gen.frame m ρ,
    fun m ρ _ => Cert.KernelDgateIdeal.Gen.frame m ρ,
    fun m ρ _ => Cert.KernelDgateIdeal.Gen.frame m ρ,
    frameRefDgate,
    fun m ρ _ => frameRefDgate m ρ True.intro,
    fun m ρ _ => Cert.KernelAbin.Gen.frame m ρ,
    fun m ρ _ => Cert.KernelAbinIdeal.Gen.frame m ρ,
    frameRefAbin,
    fun m ρ _ => Cert.KernelDnin.Gen.frame m ρ,
    fun m ρ _ => Cert.KernelDninIdeal.Gen.frame m ρ,
    frameRefDnin,
    fun m ρ _ => Cert.KernelQ.Gen.frame m ρ,
    fun m ρ _ => Cert.KernelQIdeal.Gen.frame m ρ,
    frameRefQ,
    fun m ρ _ => Cert.KernelKv.Gen.frame m ρ,
    fun m ρ _ => Cert.KernelKvIdeal.Gen.frame m ρ,
    frameRefKv,
    fun m ρ _ => Cert.KernelAbdwin.Gen.frame m ρ,
    fun m ρ _ => Cert.KernelAbdwinIdeal.Gen.frame m ρ,
    frameRefAbdwin,
    fun m ρ _ => Cert.KernelDndwin1.Gen.frame m ρ,
    fun m ρ _ => Cert.KernelDndwin1Ideal.Gen.frame m ρ,
    frameRefDndwin1,
    fun m ρ _ => Cert.KernelDndwin2.Gen.frame m ρ,
    fun m ρ _ => Cert.KernelDndwin2Ideal.Gen.frame m ρ,
    frameRefDndwin2,
    fun m ρ _ => Cert.KernelDndwin3.Gen.frame m ρ,
    fun m ρ _ => Cert.KernelDndwin3Ideal.Gen.frame m ρ,
    frameRefDndwin3,
    fun m ρ _ => Cert.KernelDwkv.Gen.frame m ρ,
    fun m ρ _ => Cert.KernelDwkvIdeal.Gen.frame m ρ,
    frameRefDwkv,
    fun m ρ _ => Cert.KernelDmh.Gen.frame m ρ,
    fun m ρ _ => Cert.KernelDmhIdeal.Gen.frame m ρ,
    frameRefDmh,
    fun m ρ _ => Cert.KernelAbdh.Gen.frame m ρ,
    fun m ρ _ => Cert.KernelAbdhIdeal.Gen.frame m ρ,
    frameRefAbdh,
    fun m ρ _ => Cert.KernelXdh.Gen.frame m ρ,
    fun m ρ _ => Cert.KernelXdhIdeal.Gen.frame m ρ,
    frameRefXdh,
    fun m ρ _ => Cert.KernelDndh1.Gen.frame m ρ,
    fun m ρ _ => Cert.KernelDndh1Ideal.Gen.frame m ρ,
    frameRefDndh1,
    fun m ρ _ => Cert.KernelDndh2.Gen.frame m ρ,
    fun m ρ _ => Cert.KernelDndh2Ideal.Gen.frame m ρ,
    frameRefDndh2,
    fun m ρ _ => Cert.KernelDndh3.Gen.frame m ρ,
    fun m ρ _ => Cert.KernelDndh3Ideal.Gen.frame m ρ,
    frameRefDndh3,
    fun m ρ _ => Cert.KernelMnorm.Gen.frame m ρ,
    fun m ρ _ => Cert.KernelMnormIdeal.Gen.frame m ρ,
    frameRefMnorm,
    fun m ρ _ => Cert.KernelDmnorm.Gen.frame m ρ,
    fun m ρ _ => Cert.KernelDmnormIdeal.Gen.frame m ρ,
    frameRefDmnorm,
    trivial,
    algDa,
    trivial,
    algDwout,
    trivial,
    algDwin,
    trivial,
    algDh,
    trivial,
    algSwiglu,
    trivial,
    algOut,
    trivial,
    algProj,
    trivial,
    algDwo,
    trivial,
    algDo,
    trivial,
    algXa,
    trivial,
    algXf,
    trivial,
    algLoss,
    trivial,
    algGate,
    trivial,
    algDgate,
    trivial,
    algAbin,
    trivial,
    algDnin,
    trivial,
    algQ,
    trivial,
    algKv,
    trivial,
    algAbdwin,
    trivial,
    algDndwin1,
    trivial,
    algDndwin2,
    trivial,
    algDndwin3,
    trivial,
    algDwkv,
    trivial,
    algDmh,
    trivial,
    algAbdh,
    trivial,
    algXdh,
    trivial,
    algDndh1,
    trivial,
    algDndh2,
    trivial,
    algDndh3,
    trivial,
    algMnorm,
    trivial,
    algDmnorm⟩

end Cert.Proof

end
